-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_AllWeightsIdeal (m : (ℓ : Loc Cert.AllWeightsIdeal.nD Cert.AllWeightsIdeal.τ Cert.AllWeightsIdeal.sig) → Buf (Elt Ideal) ℓ) : Prop :=
  True

def Pre_AllWeights (m : (ℓ : Loc Cert.AllWeights.nD Cert.AllWeights.τ Cert.AllWeights.sig) → Buf (Elt Bits) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_AllConvIdeal (m : (ℓ : Loc Cert.AllConvIdeal.nD Cert.AllConvIdeal.τ Cert.AllConvIdeal.sig) → Buf (Elt Ideal) ℓ) : Prop :=
  True

def Pre_AllConv (m : (ℓ : Loc Cert.AllConv.nD Cert.AllConv.τ Cert.AllConv.sig) → Buf (Elt Bits) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInPlainIdeal (m : (ℓ : Loc Cert.GradInPlainIdeal.nD Cert.GradInPlainIdeal.τ Cert.GradInPlainIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossPlainIdeal (m : (ℓ : Loc Cert.LossPlainIdeal.nD Cert.LossPlainIdeal.τ Cert.LossPlainIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedPlainIdeal (m : (ℓ : Loc Cert.GatedPlainIdeal.nD Cert.GatedPlainIdeal.τ Cert.GatedPlainIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownPlainIdeal (m : (ℓ : Loc Cert.DownPlainIdeal.nD Cert.DownPlainIdeal.τ Cert.DownPlainIdeal.sig) → Buf (Elt Ideal) ℓ) : Prop :=
  True

def Pre_GatedBack (m : (ℓ : Loc Cert.GatedBack.nD Cert.GatedBack.τ Cert.GatedBack.sig) → Buf (Elt Bits) ℓ) : Prop :=
  True

def Pre_GatedBackIdeal (m : (ℓ : Loc Cert.GatedBackIdeal.nD Cert.GatedBackIdeal.τ Cert.GatedBackIdeal.sig) → Buf (Elt Ideal) ℓ) : Prop :=
  True

def Pre_GatedBackPlainIdeal (m : (ℓ : Loc Cert.GatedBackPlainIdeal.nD Cert.GatedBackPlainIdeal.τ Cert.GatedBackPlainIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGatePlainIdeal (m : (ℓ : Loc Cert.GradGatePlainIdeal.nD Cert.GradGatePlainIdeal.τ Cert.GradGatePlainIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_real_scores [hPre_real_scores : Cert.Pre_real_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_real_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionPlainIdeal (m : (ℓ : Loc Cert.AttentionPlainIdeal.nD Cert.AttentionPlainIdeal.τ Cert.AttentionPlainIdeal.sig) → Buf (Elt Ideal) ℓ) : Prop :=
  True

def Pre_AttentionPlainIdeal_real_scores [hPre_real_scores : Cert.Pre_real_scores.Facts] (m : (ℓ : Loc Cert.AttentionPlainIdeal.nD Cert.AttentionPlainIdeal.τ Cert.AttentionPlainIdeal.sig) → Buf (Elt Ideal) ℓ) : Prop :=
  ∀ c : Dev Cert.AttentionPlainIdeal.nD,
    (Cert.Pre_real_scores.fn (F := Ideal) (m ((c.tc : Thread Cert.AttentionPlainIdeal.nD Cert.AttentionPlainIdeal.τ).loc Cert.AttentionPlainIdeal.main_arg0)) (m ((c.tc : Thread Cert.AttentionPlainIdeal.nD Cert.AttentionPlainIdeal.τ).loc Cert.AttentionPlainIdeal.main_arg1)) (m ((c.tc : Thread Cert.AttentionPlainIdeal.nD Cert.AttentionPlainIdeal.τ).loc Cert.AttentionPlainIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectPlainIdeal (m : (ℓ : Loc Cert.ProjectPlainIdeal.nD Cert.ProjectPlainIdeal.τ Cert.ProjectPlainIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedPlainIdeal (m : (ℓ : Loc Cert.MixedPlainIdeal.nD Cert.MixedPlainIdeal.τ Cert.MixedPlainIdeal.sig) → Buf (Elt Ideal) ℓ) : Prop :=
  True

def Pre_Embedded (m : (ℓ : Loc Cert.Embedded.nD Cert.Embedded.τ Cert.Embedded.sig) → Buf (Elt Bits) ℓ) : Prop :=
  True

def Pre_EmbeddedIdeal (m : (ℓ : Loc Cert.EmbeddedIdeal.nD Cert.EmbeddedIdeal.τ Cert.EmbeddedIdeal.sig) → Buf (Elt Ideal) ℓ) : Prop :=
  True

def Pre_EmbeddedPlainIdeal (m : (ℓ : Loc Cert.EmbeddedPlainIdeal.nD Cert.EmbeddedPlainIdeal.τ Cert.EmbeddedPlainIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortPlainIdeal (m : (ℓ : Loc Cert.ShortPlainIdeal.nD Cert.ShortPlainIdeal.τ Cert.ShortPlainIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownPlainIdeal (m : (ℓ : Loc Cert.GradDownPlainIdeal.nD Cert.GradDownPlainIdeal.τ Cert.GradDownPlainIdeal.sig) → Buf (Elt Ideal) ℓ) : Prop :=
  True

def Pre_GradProj (m : (ℓ : Loc Cert.GradProj.nD Cert.GradProj.τ Cert.GradProj.sig) → Buf (Elt Bits) ℓ) : Prop :=
  True

def Pre_GradProjIdeal (m : (ℓ : Loc Cert.GradProjIdeal.nD Cert.GradProjIdeal.τ Cert.GradProjIdeal.sig) → Buf (Elt Ideal) ℓ) : Prop :=
  True

def Pre_GradProjPlainIdeal (m : (ℓ : Loc Cert.GradProjPlainIdeal.nD Cert.GradProjPlainIdeal.τ Cert.GradProjPlainIdeal.sig) → Buf (Elt Ideal) ℓ) : Prop :=
  True

def Pre_GradPart (m : (ℓ : Loc Cert.GradPart.nD Cert.GradPart.τ Cert.GradPart.sig) → Buf (Elt Bits) ℓ) : Prop :=
  True

def Pre_GradPartIdeal (m : (ℓ : Loc Cert.GradPartIdeal.nD Cert.GradPartIdeal.τ Cert.GradPartIdeal.sig) → Buf (Elt Ideal) ℓ) : Prop :=
  True

def Pre_GradPartPlainIdeal (m : (ℓ : Loc Cert.GradPartPlainIdeal.nD Cert.GradPartPlainIdeal.τ Cert.GradPartPlainIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentPlainIdeal (m : (ℓ : Loc Cert.LatentPlainIdeal.nD Cert.LatentPlainIdeal.τ Cert.LatentPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_AllWeightsIdeal [hAllWeightsIdeal : Cert.AllWeightsIdeal.Facts] : Prop :=
  ∀ (m : (ℓ : Loc Cert.AllWeightsIdeal.nD Cert.AllWeightsIdeal.τ Cert.AllWeightsIdeal.sig) → Buf (Elt Ideal) ℓ) (g : Dev Cert.AllWeightsIdeal.nD → PrngReg), Pre_AllWeightsIdeal m →
    θ_run (Cert.AllWeightsIdeal.defs (F := Ideal)) (onTc (τ := Cert.AllWeightsIdeal.τ) (Cert.AllWeightsIdeal.main (F := Ideal))) ⟨m, fun _ => 0, g⟩ (fun r => (∀ c : Dev Cert.AllWeightsIdeal.nD,
      r.2.mem ((c.tc : Thread Cert.AllWeightsIdeal.nD Cert.AllWeightsIdeal.τ).loc Cert.AllWeightsIdeal.main_arg0) = m ((c.tc : Thread Cert.AllWeightsIdeal.nD Cert.AllWeightsIdeal.τ).loc Cert.AllWeightsIdeal.main_arg0))
      ∧ r.2.sem = fun _ => 0)

def quiescent_AllWeights [hAllWeights : Cert.AllWeights.Facts] : Prop :=
  ∀ (m : (ℓ : Loc Cert.AllWeights.nD Cert.AllWeights.τ Cert.AllWeights.sig) → Buf (Elt Bits) ℓ) (g : Dev Cert.AllWeights.nD → PrngReg), Pre_AllWeights m →
    θ_run (Cert.AllWeights.defs (F := Bits)) (onTc (τ := Cert.AllWeights.τ) (Cert.AllWeights.main (F := Bits))) ⟨m, fun _ => 0, g⟩ (fun r => (∀ c : Dev Cert.AllWeights.nD,
      r.2.mem ((c.tc : Thread Cert.AllWeights.nD Cert.AllWeights.τ).loc Cert.AllWeights.main_arg0) = m ((c.tc : Thread Cert.AllWeights.nD Cert.AllWeights.τ).loc Cert.AllWeights.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0))
      ∧ r.2.sem = fun _ => 0)

def quiescent_AllConvIdeal [hAllConvIdeal : Cert.AllConvIdeal.Facts] : Prop :=
  ∀ (m : (ℓ : Loc Cert.AllConvIdeal.nD Cert.AllConvIdeal.τ Cert.AllConvIdeal.sig) → Buf (Elt Ideal) ℓ) (g : Dev Cert.AllConvIdeal.nD → PrngReg), Pre_AllConvIdeal m →
    θ_run (Cert.AllConvIdeal.defs (F := Ideal)) (onTc (τ := Cert.AllConvIdeal.τ) (Cert.AllConvIdeal.main (F := Ideal))) ⟨m, fun _ => 0, g⟩ (fun r => (∀ c : Dev Cert.AllConvIdeal.nD,
      r.2.mem ((c.tc : Thread Cert.AllConvIdeal.nD Cert.AllConvIdeal.τ).loc Cert.AllConvIdeal.main_arg0) = m ((c.tc : Thread Cert.AllConvIdeal.nD Cert.AllConvIdeal.τ).loc Cert.AllConvIdeal.main_arg0))
      ∧ r.2.sem = fun _ => 0)

def quiescent_AllConv [hAllConv : Cert.AllConv.Facts] : Prop :=
  ∀ (m : (ℓ : Loc Cert.AllConv.nD Cert.AllConv.τ Cert.AllConv.sig) → Buf (Elt Bits) ℓ) (g : Dev Cert.AllConv.nD → PrngReg), Pre_AllConv m →
    θ_run (Cert.AllConv.defs (F := Bits)) (onTc (τ := Cert.AllConv.τ) (Cert.AllConv.main (F := Bits))) ⟨m, fun _ => 0, g⟩ (fun r => (∀ c : Dev Cert.AllConv.nD,
      r.2.mem ((c.tc : Thread Cert.AllConv.nD Cert.AllConv.τ).loc Cert.AllConv.main_arg0) = m ((c.tc : Thread Cert.AllConv.nD Cert.AllConv.τ).loc Cert.AllConv.main_arg0))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ r.2.sem = fun _ => 0)

def quiescent_GradInPlainIdeal [hGradInPlainIdeal : Cert.GradInPlainIdeal.Facts] : Prop :=
  ∀ (m : (ℓ : Loc Cert.GradInPlainIdeal.nD Cert.GradInPlainIdeal.τ Cert.GradInPlainIdeal.sig) → Buf (Elt Ideal) ℓ) (g : Dev Cert.GradInPlainIdeal.nD → PrngReg), Pre_GradInPlainIdeal m →
    θ_run (Cert.GradInPlainIdeal.defs (F := Ideal)) (onTc (τ := Cert.GradInPlainIdeal.τ) (Cert.GradInPlainIdeal.main (F := Ideal))) ⟨m, fun _ => 0, g⟩ (fun r => (∀ c : Dev Cert.GradInPlainIdeal.nD,
      r.2.mem ((c.tc : Thread Cert.GradInPlainIdeal.nD Cert.GradInPlainIdeal.τ).loc Cert.GradInPlainIdeal.main_arg0) = m ((c.tc : Thread Cert.GradInPlainIdeal.nD Cert.GradInPlainIdeal.τ).loc Cert.GradInPlainIdeal.main_arg0)
      ∧ r.2.mem ((c.tc : Thread Cert.GradInPlainIdeal.nD Cert.GradInPlainIdeal.τ).loc Cert.GradInPlainIdeal.main_arg1) = m ((c.tc : Thread Cert.GradInPlainIdeal.nD Cert.GradInPlainIdeal.τ).loc Cert.GradInPlainIdeal.main_arg1)
      ∧ r.2.mem ((c.tc : Thread Cert.GradInPlainIdeal.nD Cert.GradInPlainIdeal.τ).loc Cert.GradInPlainIdeal.main_arg2) = m ((c.tc : Thread Cert.GradInPlainIdeal.nD Cert.GradInPlainIdeal.τ).loc Cert.GradInPlainIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossPlainIdeal [hLossPlainIdeal : Cert.LossPlainIdeal.Facts] : Prop :=
  ∀ (m : (ℓ : Loc Cert.LossPlainIdeal.nD Cert.LossPlainIdeal.τ Cert.LossPlainIdeal.sig) → Buf (Elt Ideal) ℓ) (g : Dev Cert.LossPlainIdeal.nD → PrngReg), Pre_LossPlainIdeal m →
    θ_run (Cert.LossPlainIdeal.defs (F := Ideal)) (onTc (τ := Cert.LossPlainIdeal.τ) (Cert.LossPlainIdeal.main (F := Ideal))) ⟨m, fun _ => 0, g⟩ (fun r => (∀ c : Dev Cert.LossPlainIdeal.nD,
      r.2.mem ((c.tc : Thread Cert.LossPlainIdeal.nD Cert.LossPlainIdeal.τ).loc Cert.LossPlainIdeal.main_arg0) = m ((c.tc : Thread Cert.LossPlainIdeal.nD Cert.LossPlainIdeal.τ).loc Cert.LossPlainIdeal.main_arg0)
      ∧ r.2.mem ((c.tc : Thread Cert.LossPlainIdeal.nD Cert.LossPlainIdeal.τ).loc Cert.LossPlainIdeal.main_arg1) = m ((c.tc : Thread Cert.LossPlainIdeal.nD Cert.LossPlainIdeal.τ).loc Cert.LossPlainIdeal.main_arg1))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ r.2.sem = fun _ => 0)

def quiescent_GatedPlainIdeal [hGatedPlainIdeal : Cert.GatedPlainIdeal.Facts] : Prop :=
  ∀ (m : (ℓ : Loc Cert.GatedPlainIdeal.nD Cert.GatedPlainIdeal.τ Cert.GatedPlainIdeal.sig) → Buf (Elt Ideal) ℓ) (g : Dev Cert.GatedPlainIdeal.nD → PrngReg), Pre_GatedPlainIdeal m →
    θ_run (Cert.GatedPlainIdeal.defs (F := Ideal)) (onTc (τ := Cert.GatedPlainIdeal.τ) (Cert.GatedPlainIdeal.main (F := Ideal))) ⟨m, fun _ => 0, g⟩ (fun r => (∀ c : Dev Cert.GatedPlainIdeal.nD,
      r.2.mem ((c.tc : Thread Cert.GatedPlainIdeal.nD Cert.GatedPlainIdeal.τ).loc Cert.GatedPlainIdeal.main_arg0) = m ((c.tc : Thread Cert.GatedPlainIdeal.nD Cert.GatedPlainIdeal.τ).loc Cert.GatedPlainIdeal.main_arg0)
      ∧ r.2.mem ((c.tc : Thread Cert.GatedPlainIdeal.nD Cert.GatedPlainIdeal.τ).loc Cert.GatedPlainIdeal.main_arg1) = m ((c.tc : Thread Cert.GatedPlainIdeal.nD Cert.GatedPlainIdeal.τ).loc Cert.GatedPlainIdeal.main_arg1)
      ∧ r.2.mem ((c.tc : Thread Cert.GatedPlainIdeal.nD Cert.GatedPlainIdeal.τ).loc Cert.GatedPlainIdeal.main_arg2) = m ((c.tc : Thread Cert.GatedPlainIdeal.nD Cert.GatedPlainIdeal.τ).loc Cert.GatedPlainIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownPlainIdeal [hDownPlainIdeal : Cert.DownPlainIdeal.Facts] : Prop :=
  ∀ (m : (ℓ : Loc Cert.DownPlainIdeal.nD Cert.DownPlainIdeal.τ Cert.DownPlainIdeal.sig) → Buf (Elt Ideal) ℓ) (g : Dev Cert.DownPlainIdeal.nD → PrngReg), Pre_DownPlainIdeal m →
    θ_run (Cert.DownPlainIdeal.defs (F := Ideal)) (onTc (τ := Cert.DownPlainIdeal.τ) (Cert.DownPlainIdeal.main (F := Ideal))) ⟨m, fun _ => 0, g⟩ (fun r => (∀ c : Dev Cert.DownPlainIdeal.nD,
      r.2.mem ((c.tc : Thread Cert.DownPlainIdeal.nD Cert.DownPlainIdeal.τ).loc Cert.DownPlainIdeal.main_arg0) = m ((c.tc : Thread Cert.DownPlainIdeal.nD Cert.DownPlainIdeal.τ).loc Cert.DownPlainIdeal.main_arg0)
      ∧ r.2.mem ((c.tc : Thread Cert.DownPlainIdeal.nD Cert.DownPlainIdeal.τ).loc Cert.DownPlainIdeal.main_arg1) = m ((c.tc : Thread Cert.DownPlainIdeal.nD Cert.DownPlainIdeal.τ).loc Cert.DownPlainIdeal.main_arg1))
      ∧ r.2.sem = fun _ => 0)

def quiescent_GatedBack [hGatedBack : Cert.GatedBack.Facts] : Prop :=
  ∀ (m : (ℓ : Loc Cert.GatedBack.nD Cert.GatedBack.τ Cert.GatedBack.sig) → Buf (Elt Bits) ℓ) (g : Dev Cert.GatedBack.nD → PrngReg), Pre_GatedBack m →
    θ_run (Cert.GatedBack.defs (F := Bits)) (onTc (τ := Cert.GatedBack.τ) (Cert.GatedBack.main (F := Bits))) ⟨m, fun _ => 0, g⟩ (fun r => (∀ c : Dev Cert.GatedBack.nD,
      r.2.mem ((c.tc : Thread Cert.GatedBack.nD Cert.GatedBack.τ).loc Cert.GatedBack.main_arg0) = m ((c.tc : Thread Cert.GatedBack.nD Cert.GatedBack.τ).loc Cert.GatedBack.main_arg0)
      ∧ r.2.mem ((c.tc : Thread Cert.GatedBack.nD Cert.GatedBack.τ).loc Cert.GatedBack.main_arg1) = m ((c.tc : Thread Cert.GatedBack.nD Cert.GatedBack.τ).loc Cert.GatedBack.main_arg1)
      ∧ r.2.mem ((c.tc : Thread Cert.GatedBack.nD Cert.GatedBack.τ).loc Cert.GatedBack.main_arg2) = m ((c.tc : Thread Cert.GatedBack.nD Cert.GatedBack.τ).loc Cert.GatedBack.main_arg2)
      ∧ r.2.mem ((c.tc : Thread Cert.GatedBack.nD Cert.GatedBack.τ).loc Cert.GatedBack.main_arg3) = m ((c.tc : Thread Cert.GatedBack.nD Cert.GatedBack.τ).loc Cert.GatedBack.main_arg3))
      ∧ r.2.sem = fun _ => 0)

def quiescent_GatedBackIdeal [hGatedBackIdeal : Cert.GatedBackIdeal.Facts] : Prop :=
  ∀ (m : (ℓ : Loc Cert.GatedBackIdeal.nD Cert.GatedBackIdeal.τ Cert.GatedBackIdeal.sig) → Buf (Elt Ideal) ℓ) (g : Dev Cert.GatedBackIdeal.nD → PrngReg), Pre_GatedBackIdeal m →
    θ_run (Cert.GatedBackIdeal.defs (F := Ideal)) (onTc (τ := Cert.GatedBackIdeal.τ) (Cert.GatedBackIdeal.main (F := Ideal))) ⟨m, fun _ => 0, g⟩ (fun r => (∀ c : Dev Cert.GatedBackIdeal.nD,
      r.2.mem ((c.tc : Thread Cert.GatedBackIdeal.nD Cert.GatedBackIdeal.τ).loc Cert.GatedBackIdeal.main_arg0) = m ((c.tc : Thread Cert.GatedBackIdeal.nD Cert.GatedBackIdeal.τ).loc Cert.GatedBackIdeal.main_arg0)
      ∧ r.2.mem ((c.tc : Thread Cert.GatedBackIdeal.nD Cert.GatedBackIdeal.τ).loc Cert.GatedBackIdeal.main_arg1) = m ((c.tc : Thread Cert.GatedBackIdeal.nD Cert.GatedBackIdeal.τ).loc Cert.GatedBackIdeal.main_arg1)
      ∧ r.2.mem ((c.tc : Thread Cert.GatedBackIdeal.nD Cert.GatedBackIdeal.τ).loc Cert.GatedBackIdeal.main_arg2) = m ((c.tc : Thread Cert.GatedBackIdeal.nD Cert.GatedBackIdeal.τ).loc Cert.GatedBackIdeal.main_arg2)
      ∧ r.2.mem ((c.tc : Thread Cert.GatedBackIdeal.nD Cert.GatedBackIdeal.τ).loc Cert.GatedBackIdeal.main_arg3) = m ((c.tc : Thread Cert.GatedBackIdeal.nD Cert.GatedBackIdeal.τ).loc Cert.GatedBackIdeal.main_arg3))
      ∧ r.2.sem = fun _ => 0)

def quiescent_GatedBackPlainIdeal [hGatedBackPlainIdeal : Cert.GatedBackPlainIdeal.Facts] : Prop :=
  ∀ (m : (ℓ : Loc Cert.GatedBackPlainIdeal.nD Cert.GatedBackPlainIdeal.τ Cert.GatedBackPlainIdeal.sig) → Buf (Elt Ideal) ℓ) (g : Dev Cert.GatedBackPlainIdeal.nD → PrngReg), Pre_GatedBackPlainIdeal m →
    θ_run (Cert.GatedBackPlainIdeal.defs (F := Ideal)) (onTc (τ := Cert.GatedBackPlainIdeal.τ) (Cert.GatedBackPlainIdeal.main (F := Ideal))) ⟨m, fun _ => 0, g⟩ (fun r => (∀ c : Dev Cert.GatedBackPlainIdeal.nD,
      r.2.mem ((c.tc : Thread Cert.GatedBackPlainIdeal.nD Cert.GatedBackPlainIdeal.τ).loc Cert.GatedBackPlainIdeal.main_arg0) = m ((c.tc : Thread Cert.GatedBackPlainIdeal.nD Cert.GatedBackPlainIdeal.τ).loc Cert.GatedBackPlainIdeal.main_arg0)
      ∧ r.2.mem ((c.tc : Thread Cert.GatedBackPlainIdeal.nD Cert.GatedBackPlainIdeal.τ).loc Cert.GatedBackPlainIdeal.main_arg1) = m ((c.tc : Thread Cert.GatedBackPlainIdeal.nD Cert.GatedBackPlainIdeal.τ).loc Cert.GatedBackPlainIdeal.main_arg1)
      ∧ r.2.mem ((c.tc : Thread Cert.GatedBackPlainIdeal.nD Cert.GatedBackPlainIdeal.τ).loc Cert.GatedBackPlainIdeal.main_arg2) = m ((c.tc : Thread Cert.GatedBackPlainIdeal.nD Cert.GatedBackPlainIdeal.τ).loc Cert.GatedBackPlainIdeal.main_arg2)
      ∧ r.2.mem ((c.tc : Thread Cert.GatedBackPlainIdeal.nD Cert.GatedBackPlainIdeal.τ).loc Cert.GatedBackPlainIdeal.main_arg3) = m ((c.tc : Thread Cert.GatedBackPlainIdeal.nD Cert.GatedBackPlainIdeal.τ).loc Cert.GatedBackPlainIdeal.main_arg3))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGatePlainIdeal [hGradGatePlainIdeal : Cert.GradGatePlainIdeal.Facts] : Prop :=
  ∀ (m : (ℓ : Loc Cert.GradGatePlainIdeal.nD Cert.GradGatePlainIdeal.τ Cert.GradGatePlainIdeal.sig) → Buf (Elt Ideal) ℓ) (g : Dev Cert.GradGatePlainIdeal.nD → PrngReg), Pre_GradGatePlainIdeal m →
    θ_run (Cert.GradGatePlainIdeal.defs (F := Ideal)) (onTc (τ := Cert.GradGatePlainIdeal.τ) (Cert.GradGatePlainIdeal.main (F := Ideal))) ⟨m, fun _ => 0, g⟩ (fun r => (∀ c : Dev Cert.GradGatePlainIdeal.nD,
      r.2.mem ((c.tc : Thread Cert.GradGatePlainIdeal.nD Cert.GradGatePlainIdeal.τ).loc Cert.GradGatePlainIdeal.main_arg0) = m ((c.tc : Thread Cert.GradGatePlainIdeal.nD Cert.GradGatePlainIdeal.τ).loc Cert.GradGatePlainIdeal.main_arg0)
      ∧ r.2.mem ((c.tc : Thread Cert.GradGatePlainIdeal.nD Cert.GradGatePlainIdeal.τ).loc Cert.GradGatePlainIdeal.main_arg1) = m ((c.tc : Thread Cert.GradGatePlainIdeal.nD Cert.GradGatePlainIdeal.τ).loc Cert.GradGatePlainIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_real_scores [hAttentionIdeal : Cert.AttentionIdeal.Facts] [hPre_real_scores : Cert.Pre_real_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_real_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionPlainIdeal [hAttentionPlainIdeal : Cert.AttentionPlainIdeal.Facts] : Prop :=
  ∀ (m : (ℓ : Loc Cert.AttentionPlainIdeal.nD Cert.AttentionPlainIdeal.τ Cert.AttentionPlainIdeal.sig) → Buf (Elt Ideal) ℓ) (g : Dev Cert.AttentionPlainIdeal.nD → PrngReg), Pre_AttentionPlainIdeal m →
    θ_run (Cert.AttentionPlainIdeal.defs (F := Ideal)) (onTc (τ := Cert.AttentionPlainIdeal.τ) (Cert.AttentionPlainIdeal.main (F := Ideal))) ⟨m, fun _ => 0, g⟩ (fun r => (∀ c : Dev Cert.AttentionPlainIdeal.nD,
      r.2.mem ((c.tc : Thread Cert.AttentionPlainIdeal.nD Cert.AttentionPlainIdeal.τ).loc Cert.AttentionPlainIdeal.main_arg0) = m ((c.tc : Thread Cert.AttentionPlainIdeal.nD Cert.AttentionPlainIdeal.τ).loc Cert.AttentionPlainIdeal.main_arg0)
      ∧ r.2.mem ((c.tc : Thread Cert.AttentionPlainIdeal.nD Cert.AttentionPlainIdeal.τ).loc Cert.AttentionPlainIdeal.main_arg1) = m ((c.tc : Thread Cert.AttentionPlainIdeal.nD Cert.AttentionPlainIdeal.τ).loc Cert.AttentionPlainIdeal.main_arg1)
      ∧ r.2.mem ((c.tc : Thread Cert.AttentionPlainIdeal.nD Cert.AttentionPlainIdeal.τ).loc Cert.AttentionPlainIdeal.main_arg2) = m ((c.tc : Thread Cert.AttentionPlainIdeal.nD Cert.AttentionPlainIdeal.τ).loc Cert.AttentionPlainIdeal.main_arg2))
      ∧ r.2.sem = fun _ => 0)

def quiescent_AttentionPlainIdeal_pre_real_scores [hAttentionPlainIdeal : Cert.AttentionPlainIdeal.Facts] [hPre_real_scores : Cert.Pre_real_scores.Facts] : Prop :=
  ∀ (m : (ℓ : Loc Cert.AttentionPlainIdeal.nD Cert.AttentionPlainIdeal.τ Cert.AttentionPlainIdeal.sig) → Buf (Elt Ideal) ℓ) (g : Dev Cert.AttentionPlainIdeal.nD → PrngReg), Pre_AttentionPlainIdeal_real_scores m →
    θ_run (Cert.AttentionPlainIdeal.defs (F := Ideal)) (onTc (τ := Cert.AttentionPlainIdeal.τ) (Cert.AttentionPlainIdeal.main (F := Ideal))) ⟨m, fun _ => 0, g⟩ (fun r => (∀ c : Dev Cert.AttentionPlainIdeal.nD,
      r.2.mem ((c.tc : Thread Cert.AttentionPlainIdeal.nD Cert.AttentionPlainIdeal.τ).loc Cert.AttentionPlainIdeal.main_arg0) = m ((c.tc : Thread Cert.AttentionPlainIdeal.nD Cert.AttentionPlainIdeal.τ).loc Cert.AttentionPlainIdeal.main_arg0)
      ∧ r.2.mem ((c.tc : Thread Cert.AttentionPlainIdeal.nD Cert.AttentionPlainIdeal.τ).loc Cert.AttentionPlainIdeal.main_arg1) = m ((c.tc : Thread Cert.AttentionPlainIdeal.nD Cert.AttentionPlainIdeal.τ).loc Cert.AttentionPlainIdeal.main_arg1)
      ∧ r.2.mem ((c.tc : Thread Cert.AttentionPlainIdeal.nD Cert.AttentionPlainIdeal.τ).loc Cert.AttentionPlainIdeal.main_arg2) = m ((c.tc : Thread Cert.AttentionPlainIdeal.nD Cert.AttentionPlainIdeal.τ).loc Cert.AttentionPlainIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectPlainIdeal [hProjectPlainIdeal : Cert.ProjectPlainIdeal.Facts] : Prop :=
  ∀ (m : (ℓ : Loc Cert.ProjectPlainIdeal.nD Cert.ProjectPlainIdeal.τ Cert.ProjectPlainIdeal.sig) → Buf (Elt Ideal) ℓ) (g : Dev Cert.ProjectPlainIdeal.nD → PrngReg), Pre_ProjectPlainIdeal m →
    θ_run (Cert.ProjectPlainIdeal.defs (F := Ideal)) (onTc (τ := Cert.ProjectPlainIdeal.τ) (Cert.ProjectPlainIdeal.main (F := Ideal))) ⟨m, fun _ => 0, g⟩ (fun r => (∀ c : Dev Cert.ProjectPlainIdeal.nD,
      r.2.mem ((c.tc : Thread Cert.ProjectPlainIdeal.nD Cert.ProjectPlainIdeal.τ).loc Cert.ProjectPlainIdeal.main_arg0) = m ((c.tc : Thread Cert.ProjectPlainIdeal.nD Cert.ProjectPlainIdeal.τ).loc Cert.ProjectPlainIdeal.main_arg0)
      ∧ r.2.mem ((c.tc : Thread Cert.ProjectPlainIdeal.nD Cert.ProjectPlainIdeal.τ).loc Cert.ProjectPlainIdeal.main_arg1) = m ((c.tc : Thread Cert.ProjectPlainIdeal.nD Cert.ProjectPlainIdeal.τ).loc Cert.ProjectPlainIdeal.main_arg1))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7))
      ∧ r.2.sem = fun _ => 0)

def quiescent_MixedPlainIdeal [hMixedPlainIdeal : Cert.MixedPlainIdeal.Facts] : Prop :=
  ∀ (m : (ℓ : Loc Cert.MixedPlainIdeal.nD Cert.MixedPlainIdeal.τ Cert.MixedPlainIdeal.sig) → Buf (Elt Ideal) ℓ) (g : Dev Cert.MixedPlainIdeal.nD → PrngReg), Pre_MixedPlainIdeal m →
    θ_run (Cert.MixedPlainIdeal.defs (F := Ideal)) (onTc (τ := Cert.MixedPlainIdeal.τ) (Cert.MixedPlainIdeal.main (F := Ideal))) ⟨m, fun _ => 0, g⟩ (fun r => (∀ c : Dev Cert.MixedPlainIdeal.nD,
      r.2.mem ((c.tc : Thread Cert.MixedPlainIdeal.nD Cert.MixedPlainIdeal.τ).loc Cert.MixedPlainIdeal.main_arg0) = m ((c.tc : Thread Cert.MixedPlainIdeal.nD Cert.MixedPlainIdeal.τ).loc Cert.MixedPlainIdeal.main_arg0)
      ∧ r.2.mem ((c.tc : Thread Cert.MixedPlainIdeal.nD Cert.MixedPlainIdeal.τ).loc Cert.MixedPlainIdeal.main_arg1) = m ((c.tc : Thread Cert.MixedPlainIdeal.nD Cert.MixedPlainIdeal.τ).loc Cert.MixedPlainIdeal.main_arg1)
      ∧ r.2.mem ((c.tc : Thread Cert.MixedPlainIdeal.nD Cert.MixedPlainIdeal.τ).loc Cert.MixedPlainIdeal.main_arg2) = m ((c.tc : Thread Cert.MixedPlainIdeal.nD Cert.MixedPlainIdeal.τ).loc Cert.MixedPlainIdeal.main_arg2)
      ∧ r.2.mem ((c.tc : Thread Cert.MixedPlainIdeal.nD Cert.MixedPlainIdeal.τ).loc Cert.MixedPlainIdeal.main_arg3) = m ((c.tc : Thread Cert.MixedPlainIdeal.nD Cert.MixedPlainIdeal.τ).loc Cert.MixedPlainIdeal.main_arg3)
      ∧ r.2.mem ((c.tc : Thread Cert.MixedPlainIdeal.nD Cert.MixedPlainIdeal.τ).loc Cert.MixedPlainIdeal.main_arg4) = m ((c.tc : Thread Cert.MixedPlainIdeal.nD Cert.MixedPlainIdeal.τ).loc Cert.MixedPlainIdeal.main_arg4)
      ∧ r.2.mem ((c.tc : Thread Cert.MixedPlainIdeal.nD Cert.MixedPlainIdeal.τ).loc Cert.MixedPlainIdeal.main_arg5) = m ((c.tc : Thread Cert.MixedPlainIdeal.nD Cert.MixedPlainIdeal.τ).loc Cert.MixedPlainIdeal.main_arg5)
      ∧ r.2.mem ((c.tc : Thread Cert.MixedPlainIdeal.nD Cert.MixedPlainIdeal.τ).loc Cert.MixedPlainIdeal.main_arg6) = m ((c.tc : Thread Cert.MixedPlainIdeal.nD Cert.MixedPlainIdeal.τ).loc Cert.MixedPlainIdeal.main_arg6)
      ∧ r.2.mem ((c.tc : Thread Cert.MixedPlainIdeal.nD Cert.MixedPlainIdeal.τ).loc Cert.MixedPlainIdeal.main_arg7) = m ((c.tc : Thread Cert.MixedPlainIdeal.nD Cert.MixedPlainIdeal.τ).loc Cert.MixedPlainIdeal.main_arg7))
      ∧ r.2.sem = fun _ => 0)

def quiescent_Embedded [hEmbedded : Cert.Embedded.Facts] : Prop :=
  ∀ (m : (ℓ : Loc Cert.Embedded.nD Cert.Embedded.τ Cert.Embedded.sig) → Buf (Elt Bits) ℓ) (g : Dev Cert.Embedded.nD → PrngReg), Pre_Embedded m →
    θ_run (Cert.Embedded.defs (F := Bits)) (onTc (τ := Cert.Embedded.τ) (Cert.Embedded.main (F := Bits))) ⟨m, fun _ => 0, g⟩ (fun r => (∀ c : Dev Cert.Embedded.nD,
      r.2.mem ((c.tc : Thread Cert.Embedded.nD Cert.Embedded.τ).loc Cert.Embedded.main_arg0) = m ((c.tc : Thread Cert.Embedded.nD Cert.Embedded.τ).loc Cert.Embedded.main_arg0)
      ∧ r.2.mem ((c.tc : Thread Cert.Embedded.nD Cert.Embedded.τ).loc Cert.Embedded.main_arg1) = m ((c.tc : Thread Cert.Embedded.nD Cert.Embedded.τ).loc Cert.Embedded.main_arg1)
      ∧ r.2.mem ((c.tc : Thread Cert.Embedded.nD Cert.Embedded.τ).loc Cert.Embedded.main_arg2) = m ((c.tc : Thread Cert.Embedded.nD Cert.Embedded.τ).loc Cert.Embedded.main_arg2)
      ∧ r.2.mem ((c.tc : Thread Cert.Embedded.nD Cert.Embedded.τ).loc Cert.Embedded.main_arg3) = m ((c.tc : Thread Cert.Embedded.nD Cert.Embedded.τ).loc Cert.Embedded.main_arg3)
      ∧ r.2.mem ((c.tc : Thread Cert.Embedded.nD Cert.Embedded.τ).loc Cert.Embedded.main_arg4) = m ((c.tc : Thread Cert.Embedded.nD Cert.Embedded.τ).loc Cert.Embedded.main_arg4)
      ∧ r.2.mem ((c.tc : Thread Cert.Embedded.nD Cert.Embedded.τ).loc Cert.Embedded.main_arg5) = m ((c.tc : Thread Cert.Embedded.nD Cert.Embedded.τ).loc Cert.Embedded.main_arg5)
      ∧ r.2.mem ((c.tc : Thread Cert.Embedded.nD Cert.Embedded.τ).loc Cert.Embedded.main_arg6) = m ((c.tc : Thread Cert.Embedded.nD Cert.Embedded.τ).loc Cert.Embedded.main_arg6))
      ∧ r.2.sem = fun _ => 0)

def quiescent_EmbeddedIdeal [hEmbeddedIdeal : Cert.EmbeddedIdeal.Facts] : Prop :=
  ∀ (m : (ℓ : Loc Cert.EmbeddedIdeal.nD Cert.EmbeddedIdeal.τ Cert.EmbeddedIdeal.sig) → Buf (Elt Ideal) ℓ) (g : Dev Cert.EmbeddedIdeal.nD → PrngReg), Pre_EmbeddedIdeal m →
    θ_run (Cert.EmbeddedIdeal.defs (F := Ideal)) (onTc (τ := Cert.EmbeddedIdeal.τ) (Cert.EmbeddedIdeal.main (F := Ideal))) ⟨m, fun _ => 0, g⟩ (fun r => (∀ c : Dev Cert.EmbeddedIdeal.nD,
      r.2.mem ((c.tc : Thread Cert.EmbeddedIdeal.nD Cert.EmbeddedIdeal.τ).loc Cert.EmbeddedIdeal.main_arg0) = m ((c.tc : Thread Cert.EmbeddedIdeal.nD Cert.EmbeddedIdeal.τ).loc Cert.EmbeddedIdeal.main_arg0)
      ∧ r.2.mem ((c.tc : Thread Cert.EmbeddedIdeal.nD Cert.EmbeddedIdeal.τ).loc Cert.EmbeddedIdeal.main_arg1) = m ((c.tc : Thread Cert.EmbeddedIdeal.nD Cert.EmbeddedIdeal.τ).loc Cert.EmbeddedIdeal.main_arg1)
      ∧ r.2.mem ((c.tc : Thread Cert.EmbeddedIdeal.nD Cert.EmbeddedIdeal.τ).loc Cert.EmbeddedIdeal.main_arg2) = m ((c.tc : Thread Cert.EmbeddedIdeal.nD Cert.EmbeddedIdeal.τ).loc Cert.EmbeddedIdeal.main_arg2)
      ∧ r.2.mem ((c.tc : Thread Cert.EmbeddedIdeal.nD Cert.EmbeddedIdeal.τ).loc Cert.EmbeddedIdeal.main_arg3) = m ((c.tc : Thread Cert.EmbeddedIdeal.nD Cert.EmbeddedIdeal.τ).loc Cert.EmbeddedIdeal.main_arg3)
      ∧ r.2.mem ((c.tc : Thread Cert.EmbeddedIdeal.nD Cert.EmbeddedIdeal.τ).loc Cert.EmbeddedIdeal.main_arg4) = m ((c.tc : Thread Cert.EmbeddedIdeal.nD Cert.EmbeddedIdeal.τ).loc Cert.EmbeddedIdeal.main_arg4)
      ∧ r.2.mem ((c.tc : Thread Cert.EmbeddedIdeal.nD Cert.EmbeddedIdeal.τ).loc Cert.EmbeddedIdeal.main_arg5) = m ((c.tc : Thread Cert.EmbeddedIdeal.nD Cert.EmbeddedIdeal.τ).loc Cert.EmbeddedIdeal.main_arg5)
      ∧ r.2.mem ((c.tc : Thread Cert.EmbeddedIdeal.nD Cert.EmbeddedIdeal.τ).loc Cert.EmbeddedIdeal.main_arg6) = m ((c.tc : Thread Cert.EmbeddedIdeal.nD Cert.EmbeddedIdeal.τ).loc Cert.EmbeddedIdeal.main_arg6))
      ∧ r.2.sem = fun _ => 0)

def quiescent_EmbeddedPlainIdeal [hEmbeddedPlainIdeal : Cert.EmbeddedPlainIdeal.Facts] : Prop :=
  ∀ (m : (ℓ : Loc Cert.EmbeddedPlainIdeal.nD Cert.EmbeddedPlainIdeal.τ Cert.EmbeddedPlainIdeal.sig) → Buf (Elt Ideal) ℓ) (g : Dev Cert.EmbeddedPlainIdeal.nD → PrngReg), Pre_EmbeddedPlainIdeal m →
    θ_run (Cert.EmbeddedPlainIdeal.defs (F := Ideal)) (onTc (τ := Cert.EmbeddedPlainIdeal.τ) (Cert.EmbeddedPlainIdeal.main (F := Ideal))) ⟨m, fun _ => 0, g⟩ (fun r => (∀ c : Dev Cert.EmbeddedPlainIdeal.nD,
      r.2.mem ((c.tc : Thread Cert.EmbeddedPlainIdeal.nD Cert.EmbeddedPlainIdeal.τ).loc Cert.EmbeddedPlainIdeal.main_arg0) = m ((c.tc : Thread Cert.EmbeddedPlainIdeal.nD Cert.EmbeddedPlainIdeal.τ).loc Cert.EmbeddedPlainIdeal.main_arg0)
      ∧ r.2.mem ((c.tc : Thread Cert.EmbeddedPlainIdeal.nD Cert.EmbeddedPlainIdeal.τ).loc Cert.EmbeddedPlainIdeal.main_arg1) = m ((c.tc : Thread Cert.EmbeddedPlainIdeal.nD Cert.EmbeddedPlainIdeal.τ).loc Cert.EmbeddedPlainIdeal.main_arg1)
      ∧ r.2.mem ((c.tc : Thread Cert.EmbeddedPlainIdeal.nD Cert.EmbeddedPlainIdeal.τ).loc Cert.EmbeddedPlainIdeal.main_arg2) = m ((c.tc : Thread Cert.EmbeddedPlainIdeal.nD Cert.EmbeddedPlainIdeal.τ).loc Cert.EmbeddedPlainIdeal.main_arg2)
      ∧ r.2.mem ((c.tc : Thread Cert.EmbeddedPlainIdeal.nD Cert.EmbeddedPlainIdeal.τ).loc Cert.EmbeddedPlainIdeal.main_arg3) = m ((c.tc : Thread Cert.EmbeddedPlainIdeal.nD Cert.EmbeddedPlainIdeal.τ).loc Cert.EmbeddedPlainIdeal.main_arg3)
      ∧ r.2.mem ((c.tc : Thread Cert.EmbeddedPlainIdeal.nD Cert.EmbeddedPlainIdeal.τ).loc Cert.EmbeddedPlainIdeal.main_arg4) = m ((c.tc : Thread Cert.EmbeddedPlainIdeal.nD Cert.EmbeddedPlainIdeal.τ).loc Cert.EmbeddedPlainIdeal.main_arg4)
      ∧ r.2.mem ((c.tc : Thread Cert.EmbeddedPlainIdeal.nD Cert.EmbeddedPlainIdeal.τ).loc Cert.EmbeddedPlainIdeal.main_arg5) = m ((c.tc : Thread Cert.EmbeddedPlainIdeal.nD Cert.EmbeddedPlainIdeal.τ).loc Cert.EmbeddedPlainIdeal.main_arg5)
      ∧ r.2.mem ((c.tc : Thread Cert.EmbeddedPlainIdeal.nD Cert.EmbeddedPlainIdeal.τ).loc Cert.EmbeddedPlainIdeal.main_arg6) = m ((c.tc : Thread Cert.EmbeddedPlainIdeal.nD Cert.EmbeddedPlainIdeal.τ).loc Cert.EmbeddedPlainIdeal.main_arg6))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2)
      ∧ r.2.mem ((c.tc : Thread Cert.Short.nD Cert.Short.τ).loc Cert.Short.main_arg3) = m ((c.tc : Thread Cert.Short.nD Cert.Short.τ).loc Cert.Short.main_arg3))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
      ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3))
      ∧ r.2.sem = fun _ => 0)

def quiescent_ShortPlainIdeal [hShortPlainIdeal : Cert.ShortPlainIdeal.Facts] : Prop :=
  ∀ (m : (ℓ : Loc Cert.ShortPlainIdeal.nD Cert.ShortPlainIdeal.τ Cert.ShortPlainIdeal.sig) → Buf (Elt Ideal) ℓ) (g : Dev Cert.ShortPlainIdeal.nD → PrngReg), Pre_ShortPlainIdeal m →
    θ_run (Cert.ShortPlainIdeal.defs (F := Ideal)) (onTc (τ := Cert.ShortPlainIdeal.τ) (Cert.ShortPlainIdeal.main (F := Ideal))) ⟨m, fun _ => 0, g⟩ (fun r => (∀ c : Dev Cert.ShortPlainIdeal.nD,
      r.2.mem ((c.tc : Thread Cert.ShortPlainIdeal.nD Cert.ShortPlainIdeal.τ).loc Cert.ShortPlainIdeal.main_arg0) = m ((c.tc : Thread Cert.ShortPlainIdeal.nD Cert.ShortPlainIdeal.τ).loc Cert.ShortPlainIdeal.main_arg0)
      ∧ r.2.mem ((c.tc : Thread Cert.ShortPlainIdeal.nD Cert.ShortPlainIdeal.τ).loc Cert.ShortPlainIdeal.main_arg1) = m ((c.tc : Thread Cert.ShortPlainIdeal.nD Cert.ShortPlainIdeal.τ).loc Cert.ShortPlainIdeal.main_arg1)
      ∧ r.2.mem ((c.tc : Thread Cert.ShortPlainIdeal.nD Cert.ShortPlainIdeal.τ).loc Cert.ShortPlainIdeal.main_arg2) = m ((c.tc : Thread Cert.ShortPlainIdeal.nD Cert.ShortPlainIdeal.τ).loc Cert.ShortPlainIdeal.main_arg2)
      ∧ r.2.mem ((c.tc : Thread Cert.ShortPlainIdeal.nD Cert.ShortPlainIdeal.τ).loc Cert.ShortPlainIdeal.main_arg3) = m ((c.tc : Thread Cert.ShortPlainIdeal.nD Cert.ShortPlainIdeal.τ).loc Cert.ShortPlainIdeal.main_arg3))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownPlainIdeal [hGradDownPlainIdeal : Cert.GradDownPlainIdeal.Facts] : Prop :=
  ∀ (m : (ℓ : Loc Cert.GradDownPlainIdeal.nD Cert.GradDownPlainIdeal.τ Cert.GradDownPlainIdeal.sig) → Buf (Elt Ideal) ℓ) (g : Dev Cert.GradDownPlainIdeal.nD → PrngReg), Pre_GradDownPlainIdeal m →
    θ_run (Cert.GradDownPlainIdeal.defs (F := Ideal)) (onTc (τ := Cert.GradDownPlainIdeal.τ) (Cert.GradDownPlainIdeal.main (F := Ideal))) ⟨m, fun _ => 0, g⟩ (fun r => (∀ c : Dev Cert.GradDownPlainIdeal.nD,
      r.2.mem ((c.tc : Thread Cert.GradDownPlainIdeal.nD Cert.GradDownPlainIdeal.τ).loc Cert.GradDownPlainIdeal.main_arg0) = m ((c.tc : Thread Cert.GradDownPlainIdeal.nD Cert.GradDownPlainIdeal.τ).loc Cert.GradDownPlainIdeal.main_arg0)
      ∧ r.2.mem ((c.tc : Thread Cert.GradDownPlainIdeal.nD Cert.GradDownPlainIdeal.τ).loc Cert.GradDownPlainIdeal.main_arg1) = m ((c.tc : Thread Cert.GradDownPlainIdeal.nD Cert.GradDownPlainIdeal.τ).loc Cert.GradDownPlainIdeal.main_arg1))
      ∧ r.2.sem = fun _ => 0)

def quiescent_GradProj [hGradProj : Cert.GradProj.Facts] : Prop :=
  ∀ (m : (ℓ : Loc Cert.GradProj.nD Cert.GradProj.τ Cert.GradProj.sig) → Buf (Elt Bits) ℓ) (g : Dev Cert.GradProj.nD → PrngReg), Pre_GradProj m →
    θ_run (Cert.GradProj.defs (F := Bits)) (onTc (τ := Cert.GradProj.τ) (Cert.GradProj.main (F := Bits))) ⟨m, fun _ => 0, g⟩ (fun r => (∀ c : Dev Cert.GradProj.nD,
      r.2.mem ((c.tc : Thread Cert.GradProj.nD Cert.GradProj.τ).loc Cert.GradProj.main_arg0) = m ((c.tc : Thread Cert.GradProj.nD Cert.GradProj.τ).loc Cert.GradProj.main_arg0)
      ∧ r.2.mem ((c.tc : Thread Cert.GradProj.nD Cert.GradProj.τ).loc Cert.GradProj.main_arg1) = m ((c.tc : Thread Cert.GradProj.nD Cert.GradProj.τ).loc Cert.GradProj.main_arg1))
      ∧ r.2.sem = fun _ => 0)

def quiescent_GradProjIdeal [hGradProjIdeal : Cert.GradProjIdeal.Facts] : Prop :=
  ∀ (m : (ℓ : Loc Cert.GradProjIdeal.nD Cert.GradProjIdeal.τ Cert.GradProjIdeal.sig) → Buf (Elt Ideal) ℓ) (g : Dev Cert.GradProjIdeal.nD → PrngReg), Pre_GradProjIdeal m →
    θ_run (Cert.GradProjIdeal.defs (F := Ideal)) (onTc (τ := Cert.GradProjIdeal.τ) (Cert.GradProjIdeal.main (F := Ideal))) ⟨m, fun _ => 0, g⟩ (fun r => (∀ c : Dev Cert.GradProjIdeal.nD,
      r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
      ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ r.2.sem = fun _ => 0)

def quiescent_GradProjPlainIdeal [hGradProjPlainIdeal : Cert.GradProjPlainIdeal.Facts] : Prop :=
  ∀ (m : (ℓ : Loc Cert.GradProjPlainIdeal.nD Cert.GradProjPlainIdeal.τ Cert.GradProjPlainIdeal.sig) → Buf (Elt Ideal) ℓ) (g : Dev Cert.GradProjPlainIdeal.nD → PrngReg), Pre_GradProjPlainIdeal m →
    θ_run (Cert.GradProjPlainIdeal.defs (F := Ideal)) (onTc (τ := Cert.GradProjPlainIdeal.τ) (Cert.GradProjPlainIdeal.main (F := Ideal))) ⟨m, fun _ => 0, g⟩ (fun r => (∀ c : Dev Cert.GradProjPlainIdeal.nD,
      r.2.mem ((c.tc : Thread Cert.GradProjPlainIdeal.nD Cert.GradProjPlainIdeal.τ).loc Cert.GradProjPlainIdeal.main_arg0) = m ((c.tc : Thread Cert.GradProjPlainIdeal.nD Cert.GradProjPlainIdeal.τ).loc Cert.GradProjPlainIdeal.main_arg0)
      ∧ r.2.mem ((c.tc : Thread Cert.GradProjPlainIdeal.nD Cert.GradProjPlainIdeal.τ).loc Cert.GradProjPlainIdeal.main_arg1) = m ((c.tc : Thread Cert.GradProjPlainIdeal.nD Cert.GradProjPlainIdeal.τ).loc Cert.GradProjPlainIdeal.main_arg1))
      ∧ r.2.sem = fun _ => 0)

def quiescent_GradPart [hGradPart : Cert.GradPart.Facts] : Prop :=
  ∀ (m : (ℓ : Loc Cert.GradPart.nD Cert.GradPart.τ Cert.GradPart.sig) → Buf (Elt Bits) ℓ) (g : Dev Cert.GradPart.nD → PrngReg), Pre_GradPart m →
    θ_run (Cert.GradPart.defs (F := Bits)) (onTc (τ := Cert.GradPart.τ) (Cert.GradPart.main (F := Bits))) ⟨m, fun _ => 0, g⟩ (fun r => (∀ c : Dev Cert.GradPart.nD,
      r.2.mem ((c.tc : Thread Cert.GradPart.nD Cert.GradPart.τ).loc Cert.GradPart.main_arg0) = m ((c.tc : Thread Cert.GradPart.nD Cert.GradPart.τ).loc Cert.GradPart.main_arg0)
      ∧ r.2.mem ((c.tc : Thread Cert.GradPart.nD Cert.GradPart.τ).loc Cert.GradPart.main_arg1) = m ((c.tc : Thread Cert.GradPart.nD Cert.GradPart.τ).loc Cert.GradPart.main_arg1)
      ∧ r.2.mem ((c.tc : Thread Cert.GradPart.nD Cert.GradPart.τ).loc Cert.GradPart.main_arg2) = m ((c.tc : Thread Cert.GradPart.nD Cert.GradPart.τ).loc Cert.GradPart.main_arg2))
      ∧ r.2.sem = fun _ => 0)

def quiescent_GradPartIdeal [hGradPartIdeal : Cert.GradPartIdeal.Facts] : Prop :=
  ∀ (m : (ℓ : Loc Cert.GradPartIdeal.nD Cert.GradPartIdeal.τ Cert.GradPartIdeal.sig) → Buf (Elt Ideal) ℓ) (g : Dev Cert.GradPartIdeal.nD → PrngReg), Pre_GradPartIdeal m →
    θ_run (Cert.GradPartIdeal.defs (F := Ideal)) (onTc (τ := Cert.GradPartIdeal.τ) (Cert.GradPartIdeal.main (F := Ideal))) ⟨m, fun _ => 0, g⟩ (fun r => (∀ c : Dev Cert.GradPartIdeal.nD,
      r.2.mem ((c.tc : Thread Cert.GradPartIdeal.nD Cert.GradPartIdeal.τ).loc Cert.GradPartIdeal.main_arg0) = m ((c.tc : Thread Cert.GradPartIdeal.nD Cert.GradPartIdeal.τ).loc Cert.GradPartIdeal.main_arg0)
      ∧ r.2.mem ((c.tc : Thread Cert.GradPartIdeal.nD Cert.GradPartIdeal.τ).loc Cert.GradPartIdeal.main_arg1) = m ((c.tc : Thread Cert.GradPartIdeal.nD Cert.GradPartIdeal.τ).loc Cert.GradPartIdeal.main_arg1)
      ∧ r.2.mem ((c.tc : Thread Cert.GradPartIdeal.nD Cert.GradPartIdeal.τ).loc Cert.GradPartIdeal.main_arg2) = m ((c.tc : Thread Cert.GradPartIdeal.nD Cert.GradPartIdeal.τ).loc Cert.GradPartIdeal.main_arg2))
      ∧ r.2.sem = fun _ => 0)

def quiescent_GradPartPlainIdeal [hGradPartPlainIdeal : Cert.GradPartPlainIdeal.Facts] : Prop :=
  ∀ (m : (ℓ : Loc Cert.GradPartPlainIdeal.nD Cert.GradPartPlainIdeal.τ Cert.GradPartPlainIdeal.sig) → Buf (Elt Ideal) ℓ) (g : Dev Cert.GradPartPlainIdeal.nD → PrngReg), Pre_GradPartPlainIdeal m →
    θ_run (Cert.GradPartPlainIdeal.defs (F := Ideal)) (onTc (τ := Cert.GradPartPlainIdeal.τ) (Cert.GradPartPlainIdeal.main (F := Ideal))) ⟨m, fun _ => 0, g⟩ (fun r => (∀ c : Dev Cert.GradPartPlainIdeal.nD,
      r.2.mem ((c.tc : Thread Cert.GradPartPlainIdeal.nD Cert.GradPartPlainIdeal.τ).loc Cert.GradPartPlainIdeal.main_arg0) = m ((c.tc : Thread Cert.GradPartPlainIdeal.nD Cert.GradPartPlainIdeal.τ).loc Cert.GradPartPlainIdeal.main_arg0)
      ∧ r.2.mem ((c.tc : Thread Cert.GradPartPlainIdeal.nD Cert.GradPartPlainIdeal.τ).loc Cert.GradPartPlainIdeal.main_arg1) = m ((c.tc : Thread Cert.GradPartPlainIdeal.nD Cert.GradPartPlainIdeal.τ).loc Cert.GradPartPlainIdeal.main_arg1)
      ∧ r.2.mem ((c.tc : Thread Cert.GradPartPlainIdeal.nD Cert.GradPartPlainIdeal.τ).loc Cert.GradPartPlainIdeal.main_arg2) = m ((c.tc : Thread Cert.GradPartPlainIdeal.nD Cert.GradPartPlainIdeal.τ).loc Cert.GradPartPlainIdeal.main_arg2))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentPlainIdeal [hLatentPlainIdeal : Cert.LatentPlainIdeal.Facts] : Prop :=
  ∀ (m : (ℓ : Loc Cert.LatentPlainIdeal.nD Cert.LatentPlainIdeal.τ Cert.LatentPlainIdeal.sig) → Buf (Elt Ideal) ℓ) (g : Dev Cert.LatentPlainIdeal.nD → PrngReg), Pre_LatentPlainIdeal m →
    θ_run (Cert.LatentPlainIdeal.defs (F := Ideal)) (onTc (τ := Cert.LatentPlainIdeal.τ) (Cert.LatentPlainIdeal.main (F := Ideal))) ⟨m, fun _ => 0, g⟩ (fun r => (∀ c : Dev Cert.LatentPlainIdeal.nD,
      r.2.mem ((c.tc : Thread Cert.LatentPlainIdeal.nD Cert.LatentPlainIdeal.τ).loc Cert.LatentPlainIdeal.main_arg0) = m ((c.tc : Thread Cert.LatentPlainIdeal.nD Cert.LatentPlainIdeal.τ).loc Cert.LatentPlainIdeal.main_arg0)
      ∧ r.2.mem ((c.tc : Thread Cert.LatentPlainIdeal.nD Cert.LatentPlainIdeal.τ).loc Cert.LatentPlainIdeal.main_arg1) = m ((c.tc : Thread Cert.LatentPlainIdeal.nD Cert.LatentPlainIdeal.τ).loc Cert.LatentPlainIdeal.main_arg1)
      ∧ r.2.mem ((c.tc : Thread Cert.LatentPlainIdeal.nD Cert.LatentPlainIdeal.τ).loc Cert.LatentPlainIdeal.main_arg2) = m ((c.tc : Thread Cert.LatentPlainIdeal.nD Cert.LatentPlainIdeal.τ).loc Cert.LatentPlainIdeal.main_arg2)
      ∧ r.2.mem ((c.tc : Thread Cert.LatentPlainIdeal.nD Cert.LatentPlainIdeal.τ).loc Cert.LatentPlainIdeal.main_arg3) = m ((c.tc : Thread Cert.LatentPlainIdeal.nD Cert.LatentPlainIdeal.τ).loc Cert.LatentPlainIdeal.main_arg3)
      ∧ r.2.mem ((c.tc : Thread Cert.LatentPlainIdeal.nD Cert.LatentPlainIdeal.τ).loc Cert.LatentPlainIdeal.main_arg4) = m ((c.tc : Thread Cert.LatentPlainIdeal.nD Cert.LatentPlainIdeal.τ).loc Cert.LatentPlainIdeal.main_arg4)
      ∧ r.2.mem ((c.tc : Thread Cert.LatentPlainIdeal.nD Cert.LatentPlainIdeal.τ).loc Cert.LatentPlainIdeal.main_arg5) = m ((c.tc : Thread Cert.LatentPlainIdeal.nD Cert.LatentPlainIdeal.τ).loc Cert.LatentPlainIdeal.main_arg5)
      ∧ r.2.mem ((c.tc : Thread Cert.LatentPlainIdeal.nD Cert.LatentPlainIdeal.τ).loc Cert.LatentPlainIdeal.main_arg6) = m ((c.tc : Thread Cert.LatentPlainIdeal.nD Cert.LatentPlainIdeal.τ).loc Cert.LatentPlainIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 7168, 1024]⟩ ⟨3, ![64, 7168, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![7168, 1024]⟩ ⟨2, ![57344, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![7168, 1024]⟩ ⟨2, ![57344, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![7168, 1024]⟩ ⟨2, ![57344, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v25)) (v2 : Buf (Elt Ideal) (((0 : Dev Cert.ReferenceIdeal.nD).tc : Thread Cert.ReferenceIdeal.nD Cert.ReferenceIdeal.τ).loc Cert.ReferenceIdeal.main_v6)) (v3 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![7168, 1024]⟩ ⟨2, ![57344, 1024]⟩ 0 8 c v0
          ∧ r.2.mem ((c.tc : Thread Cert.KernelIdeal.nD Cert.KernelIdeal.τ).loc Cert.KernelIdeal.main_v2_1) = Layout.block ⟨2, ![7168, 1024]⟩ ⟨2, ![57344, 1024]⟩ 0 8 c v1
          ∧ r.2.mem ((c.tc : Thread Cert.KernelIdeal.nD Cert.KernelIdeal.τ).loc Cert.KernelIdeal.main_v2_2) = Layout.block ⟨2, ![7168, 1024]⟩ ⟨2, ![57344, 1024]⟩ 0 8 c v2
          ∧ r.2.mem ((c.tc : Thread Cert.KernelIdeal.nD Cert.KernelIdeal.τ).loc Cert.KernelIdeal.main_v2_3) = Layout.block ⟨2, ![7168, 1024]⟩ ⟨2, ![57344, 1024]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v25) = v1
          ∧ r.2.mem (((0 : Dev Cert.ReferenceIdeal.nD).tc : Thread Cert.ReferenceIdeal.nD Cert.ReferenceIdeal.τ).loc Cert.ReferenceIdeal.main_v6) = v2
          ∧ r.2.mem (((0 : Dev Cert.ReferenceIdeal.nD).tc : Thread Cert.ReferenceIdeal.nD Cert.ReferenceIdeal.τ).loc Cert.ReferenceIdeal.main_v12) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Weights_WeightsIdeal : Prop :=
  True

def algebraic_WeightsIdeal_AllWeightsIdeal [hWeightsIdeal : Cert.WeightsIdeal.Facts] [hAllWeightsIdeal : Cert.AllWeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.AllWeightsIdeal.nD Cert.AllWeightsIdeal.τ Cert.AllWeightsIdeal.sig) → Buf (Elt Ideal) ℓ) (g' : Dev Cert.AllWeightsIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![7104, 1024]⟩ ⟨2, ![56832, 1024]⟩ 0 8 c (m' (((0 : Dev Cert.AllWeightsIdeal.nD).tc : Thread Cert.AllWeightsIdeal.nD Cert.AllWeightsIdeal.τ).loc Cert.AllWeightsIdeal.main_arg0))) →
    ∃ (v0 : Buf (Elt Ideal) (((0 : Dev Cert.AllWeightsIdeal.nD).tc : Thread Cert.AllWeightsIdeal.nD Cert.AllWeightsIdeal.τ).loc Cert.AllWeightsIdeal.main_v0)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.AllWeightsIdeal.defs (F := Ideal)) (onTc (τ := Cert.AllWeightsIdeal.τ) (Cert.AllWeightsIdeal.main (F := Ideal))) ⟨m', fun _ => 0, g'⟩ (fun r =>
          r.2.mem (((0 : Dev Cert.AllWeightsIdeal.nD).tc : Thread Cert.AllWeightsIdeal.nD Cert.AllWeightsIdeal.τ).loc Cert.AllWeightsIdeal.main_v0) = v0
          ∧ r.2.mem (((0 : Dev Cert.AllWeightsIdeal.nD).tc : Thread Cert.AllWeightsIdeal.nD Cert.AllWeightsIdeal.τ).loc Cert.AllWeightsIdeal.main_arg0) = m' (((0 : Dev Cert.AllWeightsIdeal.nD).tc : Thread Cert.AllWeightsIdeal.nD Cert.AllWeightsIdeal.τ).loc Cert.AllWeightsIdeal.main_arg0))

def bitexact_Weights_AllWeights [hWeights : Cert.Weights.Facts] [hAllWeights : Cert.AllWeights.Facts] : Prop :=
  ∀ (m : (ℓ : Loc Cert.Weights.nD Cert.Weights.τ Cert.Weights.sig) → Buf (Elt Bits) ℓ) (g : Dev Cert.Weights.nD → PrngReg)
    (m' : (ℓ : Loc Cert.AllWeights.nD Cert.AllWeights.τ Cert.AllWeights.sig) → Buf (Elt Bits) ℓ) (g' : Dev Cert.AllWeights.nD → PrngReg), Pre_Weights m →
    (∀ c : Dev Cert.Weights.nD,
      m ((c.tc : Thread Cert.Weights.nD Cert.Weights.τ).loc Cert.Weights.main_arg0) = Layout.block ⟨2, ![7104, 1024]⟩ ⟨2, ![56832, 1024]⟩ 0 8 c (m' (((0 : Dev Cert.AllWeights.nD).tc : Thread Cert.AllWeights.nD Cert.AllWeights.τ).loc Cert.AllWeights.main_arg0))) →
    ∃ (v0 : Buf (Elt Bits) (((0 : Dev Cert.AllWeights.nD).tc : Thread Cert.AllWeights.nD Cert.AllWeights.τ).loc Cert.AllWeights.main_v0)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1) = v0
          ∧ r.2.mem ((c.tc : Thread Cert.Weights.nD Cert.Weights.τ).loc Cert.Weights.main_arg0) = m ((c.tc : Thread Cert.Weights.nD Cert.Weights.τ).loc Cert.Weights.main_arg0))
      ∧ θ_run (Cert.AllWeights.defs (F := Bits)) (onTc (τ := Cert.AllWeights.τ) (Cert.AllWeights.main (F := Bits))) ⟨m', fun _ => 0, g'⟩ (fun r =>
          r.2.mem (((0 : Dev Cert.AllWeights.nD).tc : Thread Cert.AllWeights.nD Cert.AllWeights.τ).loc Cert.AllWeights.main_v0) = v0
          ∧ r.2.mem (((0 : Dev Cert.AllWeights.nD).tc : Thread Cert.AllWeights.nD Cert.AllWeights.τ).loc Cert.AllWeights.main_arg0) = m' (((0 : Dev Cert.AllWeights.nD).tc : Thread Cert.AllWeights.nD Cert.AllWeights.τ).loc Cert.AllWeights.main_arg0))

def preserves_Conv_ConvIdeal : Prop :=
  True

def algebraic_ConvIdeal_AllConvIdeal [hConvIdeal : Cert.ConvIdeal.Facts] [hAllConvIdeal : Cert.AllConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.AllConvIdeal.nD Cert.AllConvIdeal.τ Cert.AllConvIdeal.sig) → Buf (Elt Ideal) ℓ) (g' : Dev Cert.AllConvIdeal.nD → PrngReg), Pre_ConvIdeal m →
    (∀ c : Dev Cert.ConvIdeal.nD,
      m ((c.tc : Thread Cert.ConvIdeal.nD Cert.ConvIdeal.τ).loc Cert.ConvIdeal.main_arg0) = Layout.block ⟨2, ![8, 1024]⟩ ⟨2, ![64, 1024]⟩ 0 8 c (m' (((0 : Dev Cert.AllConvIdeal.nD).tc : Thread Cert.AllConvIdeal.nD Cert.AllConvIdeal.τ).loc Cert.AllConvIdeal.main_arg0))) →
    ∃ (v0 : Buf (Elt Ideal) (((0 : Dev Cert.AllConvIdeal.nD).tc : Thread Cert.AllConvIdeal.nD Cert.AllConvIdeal.τ).loc Cert.AllConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0))
      ∧ θ_run (Cert.AllConvIdeal.defs (F := Ideal)) (onTc (τ := Cert.AllConvIdeal.τ) (Cert.AllConvIdeal.main (F := Ideal))) ⟨m', fun _ => 0, g'⟩ (fun r =>
          r.2.mem (((0 : Dev Cert.AllConvIdeal.nD).tc : Thread Cert.AllConvIdeal.nD Cert.AllConvIdeal.τ).loc Cert.AllConvIdeal.main_v0) = v0
          ∧ r.2.mem (((0 : Dev Cert.AllConvIdeal.nD).tc : Thread Cert.AllConvIdeal.nD Cert.AllConvIdeal.τ).loc Cert.AllConvIdeal.main_arg0) = m' (((0 : Dev Cert.AllConvIdeal.nD).tc : Thread Cert.AllConvIdeal.nD Cert.AllConvIdeal.τ).loc Cert.AllConvIdeal.main_arg0))

def bitexact_Conv_AllConv [hConv : Cert.Conv.Facts] [hAllConv : Cert.AllConv.Facts] : Prop :=
  ∀ (m : (ℓ : Loc Cert.Conv.nD Cert.Conv.τ Cert.Conv.sig) → Buf (Elt Bits) ℓ) (g : Dev Cert.Conv.nD → PrngReg)
    (m' : (ℓ : Loc Cert.AllConv.nD Cert.AllConv.τ Cert.AllConv.sig) → Buf (Elt Bits) ℓ) (g' : Dev Cert.AllConv.nD → PrngReg), Pre_Conv m →
    (∀ c : Dev Cert.Conv.nD,
      m ((c.tc : Thread Cert.Conv.nD Cert.Conv.τ).loc Cert.Conv.main_arg0) = Layout.block ⟨2, ![8, 1024]⟩ ⟨2, ![64, 1024]⟩ 0 8 c (m' (((0 : Dev Cert.AllConv.nD).tc : Thread Cert.AllConv.nD Cert.AllConv.τ).loc Cert.AllConv.main_arg0))) →
    ∃ (v0 : Buf (Elt Bits) (((0 : Dev Cert.AllConv.nD).tc : Thread Cert.AllConv.nD Cert.AllConv.τ).loc Cert.AllConv.main_v0)),
      θ_run (Cert.Conv.defs (F := Bits)) (onTc (τ := Cert.Conv.τ) (Cert.Conv.main (F := Bits))) ⟨m, fun _ => 0, g⟩ (fun r => ∀ c : Dev Cert.Conv.nD,
          r.2.mem ((c.tc : Thread Cert.Conv.nD Cert.Conv.τ).loc Cert.Conv.main_v1) = v0
          ∧ r.2.mem ((c.tc : Thread Cert.Conv.nD Cert.Conv.τ).loc Cert.Conv.main_arg0) = m ((c.tc : Thread Cert.Conv.nD Cert.Conv.τ).loc Cert.Conv.main_arg0))
      ∧ θ_run (Cert.AllConv.defs (F := Bits)) (onTc (τ := Cert.AllConv.τ) (Cert.AllConv.main (F := Bits))) ⟨m', fun _ => 0, g'⟩ (fun r =>
          r.2.mem (((0 : Dev Cert.AllConv.nD).tc : Thread Cert.AllConv.nD Cert.AllConv.τ).loc Cert.AllConv.main_v0) = v0
          ∧ r.2.mem (((0 : Dev Cert.AllConv.nD).tc : Thread Cert.AllConv.nD Cert.AllConv.τ).loc Cert.AllConv.main_arg0) = m' (((0 : Dev Cert.AllConv.nD).tc : Thread Cert.AllConv.nD Cert.AllConv.τ).loc Cert.AllConv.main_arg0))

def preserves_GradIn_GradInIdeal : Prop :=
  True

def algebraic_GradInIdeal_GradInPlainIdeal [hGradInIdeal : Cert.GradInIdeal.Facts] [hGradInPlainIdeal : Cert.GradInPlainIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInPlainIdeal.nD Cert.GradInPlainIdeal.τ Cert.GradInPlainIdeal.sig) → Buf (Elt Ideal) ℓ) (g' : Dev Cert.GradInPlainIdeal.nD → PrngReg), Pre_GradInIdeal m →
    (∀ c : Dev Cert.GradInIdeal.nD,
      m' ((c.tc : Thread Cert.GradInPlainIdeal.nD Cert.GradInPlainIdeal.τ).loc Cert.GradInPlainIdeal.main_arg0) = m ((c.tc : Thread Cert.GradInIdeal.nD Cert.GradInIdeal.τ).loc Cert.GradInIdeal.main_arg0)
      ∧ m' ((c.tc : Thread Cert.GradInPlainIdeal.nD Cert.GradInPlainIdeal.τ).loc Cert.GradInPlainIdeal.main_arg1) = m ((c.tc : Thread Cert.GradInIdeal.nD Cert.GradInIdeal.τ).loc Cert.GradInIdeal.main_arg1)
      ∧ m' ((c.tc : Thread Cert.GradInPlainIdeal.nD Cert.GradInPlainIdeal.τ).loc Cert.GradInPlainIdeal.main_arg2) = m ((c.tc : Thread Cert.GradInIdeal.nD Cert.GradInIdeal.τ).loc Cert.GradInIdeal.main_arg2)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ θ_run (Cert.GradInPlainIdeal.defs (F := Ideal)) (onTc (τ := Cert.GradInPlainIdeal.τ) (Cert.GradInPlainIdeal.main (F := Ideal))) ⟨m', fun _ => 0, g'⟩ (fun r => ∀ c : Dev Cert.GradInPlainIdeal.nD,
          r.2.mem ((c.tc : Thread Cert.GradInPlainIdeal.nD Cert.GradInPlainIdeal.τ).loc Cert.GradInPlainIdeal.main_v4) = v0 c
          ∧ r.2.mem ((c.tc : Thread Cert.GradInPlainIdeal.nD Cert.GradInPlainIdeal.τ).loc Cert.GradInPlainIdeal.main_arg0) = m' ((c.tc : Thread Cert.GradInPlainIdeal.nD Cert.GradInPlainIdeal.τ).loc Cert.GradInPlainIdeal.main_arg0)
          ∧ r.2.mem ((c.tc : Thread Cert.GradInPlainIdeal.nD Cert.GradInPlainIdeal.τ).loc Cert.GradInPlainIdeal.main_arg1) = m' ((c.tc : Thread Cert.GradInPlainIdeal.nD Cert.GradInPlainIdeal.τ).loc Cert.GradInPlainIdeal.main_arg1)
          ∧ r.2.mem ((c.tc : Thread Cert.GradInPlainIdeal.nD Cert.GradInPlainIdeal.τ).loc Cert.GradInPlainIdeal.main_arg2) = m' ((c.tc : Thread Cert.GradInPlainIdeal.nD Cert.GradInPlainIdeal.τ).loc Cert.GradInPlainIdeal.main_arg2))

def preserves_Loss_LossIdeal : Prop :=
  True

def algebraic_LossIdeal_LossPlainIdeal [hLossIdeal : Cert.LossIdeal.Facts] [hLossPlainIdeal : Cert.LossPlainIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossPlainIdeal.nD Cert.LossPlainIdeal.τ Cert.LossPlainIdeal.sig) → Buf (Elt Ideal) ℓ) (g' : Dev Cert.LossPlainIdeal.nD → PrngReg), Pre_LossIdeal m →
    (∀ c : Dev Cert.LossIdeal.nD,
      m' ((c.tc : Thread Cert.LossPlainIdeal.nD Cert.LossPlainIdeal.τ).loc Cert.LossPlainIdeal.main_arg0) = m ((c.tc : Thread Cert.LossIdeal.nD Cert.LossIdeal.τ).loc Cert.LossIdeal.main_arg0)
      ∧ m' ((c.tc : Thread Cert.LossPlainIdeal.nD Cert.LossPlainIdeal.τ).loc Cert.LossPlainIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossPlainIdeal.defs (F := Ideal)) (onTc (τ := Cert.LossPlainIdeal.τ) (Cert.LossPlainIdeal.main (F := Ideal))) ⟨m', fun _ => 0, g'⟩ (fun r => ∀ c : Dev Cert.LossPlainIdeal.nD,
          r.2.mem ((c.tc : Thread Cert.LossPlainIdeal.nD Cert.LossPlainIdeal.τ).loc Cert.LossPlainIdeal.main_v14) = v0 c
          ∧ r.2.mem ((c.tc : Thread Cert.LossPlainIdeal.nD Cert.LossPlainIdeal.τ).loc Cert.LossPlainIdeal.main_v15) = v1 c
          ∧ r.2.mem ((c.tc : Thread Cert.LossPlainIdeal.nD Cert.LossPlainIdeal.τ).loc Cert.LossPlainIdeal.main_arg0) = m' ((c.tc : Thread Cert.LossPlainIdeal.nD Cert.LossPlainIdeal.τ).loc Cert.LossPlainIdeal.main_arg0)
          ∧ r.2.mem ((c.tc : Thread Cert.LossPlainIdeal.nD Cert.LossPlainIdeal.τ).loc Cert.LossPlainIdeal.main_arg1) = m' ((c.tc : Thread Cert.LossPlainIdeal.nD Cert.LossPlainIdeal.τ).loc Cert.LossPlainIdeal.main_arg1))

def preserves_Gated_GatedIdeal : Prop :=
  True

def algebraic_GatedIdeal_GatedPlainIdeal [hGatedIdeal : Cert.GatedIdeal.Facts] [hGatedPlainIdeal : Cert.GatedPlainIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedPlainIdeal.nD Cert.GatedPlainIdeal.τ Cert.GatedPlainIdeal.sig) → Buf (Elt Ideal) ℓ) (g' : Dev Cert.GatedPlainIdeal.nD → PrngReg), Pre_GatedIdeal m →
    (∀ c : Dev Cert.GatedIdeal.nD,
      m' ((c.tc : Thread Cert.GatedPlainIdeal.nD Cert.GatedPlainIdeal.τ).loc Cert.GatedPlainIdeal.main_arg0) = m ((c.tc : Thread Cert.GatedIdeal.nD Cert.GatedIdeal.τ).loc Cert.GatedIdeal.main_arg0)
      ∧ m' ((c.tc : Thread Cert.GatedPlainIdeal.nD Cert.GatedPlainIdeal.τ).loc Cert.GatedPlainIdeal.main_arg1) = m ((c.tc : Thread Cert.GatedIdeal.nD Cert.GatedIdeal.τ).loc Cert.GatedIdeal.main_arg1)
      ∧ m' ((c.tc : Thread Cert.GatedPlainIdeal.nD Cert.GatedPlainIdeal.τ).loc Cert.GatedPlainIdeal.main_arg2) = m ((c.tc : Thread Cert.GatedIdeal.nD Cert.GatedIdeal.τ).loc Cert.GatedIdeal.main_arg2)) →
    ∃ (v0 : (c : Dev Cert.GatedIdeal.nD) → Buf (Elt Ideal) ((c.tc : Thread Cert.GatedIdeal.nD Cert.GatedIdeal.τ).loc Cert.GatedIdeal.main_v0_0)) (v1 : (c : Dev Cert.GatedIdeal.nD) → Buf (Elt Ideal) ((c.tc : Thread Cert.GatedIdeal.nD Cert.GatedIdeal.τ).loc Cert.GatedIdeal.main_v0_1)) (v2 : (c : Dev Cert.GatedIdeal.nD) → Buf (Elt Ideal) ((c.tc : Thread Cert.GatedIdeal.nD Cert.GatedIdeal.τ).loc Cert.GatedIdeal.main_v0_2)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0_0) = v0 c
          ∧ r.2.mem ((c.tc : Thread Cert.GatedIdeal.nD Cert.GatedIdeal.τ).loc Cert.GatedIdeal.main_v0_1) = v1 c
          ∧ r.2.mem ((c.tc : Thread Cert.GatedIdeal.nD Cert.GatedIdeal.τ).loc Cert.GatedIdeal.main_v0_2) = v2 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ θ_run (Cert.GatedPlainIdeal.defs (F := Ideal)) (onTc (τ := Cert.GatedPlainIdeal.τ) (Cert.GatedPlainIdeal.main (F := Ideal))) ⟨m', fun _ => 0, g'⟩ (fun r => ∀ c : Dev Cert.GatedPlainIdeal.nD,
          r.2.mem ((c.tc : Thread Cert.GatedPlainIdeal.nD Cert.GatedPlainIdeal.τ).loc Cert.GatedPlainIdeal.main_v4) = v0 c
          ∧ r.2.mem ((c.tc : Thread Cert.GatedPlainIdeal.nD Cert.GatedPlainIdeal.τ).loc Cert.GatedPlainIdeal.main_v5) = v1 c
          ∧ r.2.mem ((c.tc : Thread Cert.GatedPlainIdeal.nD Cert.GatedPlainIdeal.τ).loc Cert.GatedPlainIdeal.main_v8) = v2 c
          ∧ r.2.mem ((c.tc : Thread Cert.GatedPlainIdeal.nD Cert.GatedPlainIdeal.τ).loc Cert.GatedPlainIdeal.main_arg0) = m' ((c.tc : Thread Cert.GatedPlainIdeal.nD Cert.GatedPlainIdeal.τ).loc Cert.GatedPlainIdeal.main_arg0)
          ∧ r.2.mem ((c.tc : Thread Cert.GatedPlainIdeal.nD Cert.GatedPlainIdeal.τ).loc Cert.GatedPlainIdeal.main_arg1) = m' ((c.tc : Thread Cert.GatedPlainIdeal.nD Cert.GatedPlainIdeal.τ).loc Cert.GatedPlainIdeal.main_arg1)
          ∧ r.2.mem ((c.tc : Thread Cert.GatedPlainIdeal.nD Cert.GatedPlainIdeal.τ).loc Cert.GatedPlainIdeal.main_arg2) = m' ((c.tc : Thread Cert.GatedPlainIdeal.nD Cert.GatedPlainIdeal.τ).loc Cert.GatedPlainIdeal.main_arg2))

def preserves_Down_DownIdeal : Prop :=
  True

def algebraic_DownIdeal_DownPlainIdeal [hDownIdeal : Cert.DownIdeal.Facts] [hDownPlainIdeal : Cert.DownPlainIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownPlainIdeal.nD Cert.DownPlainIdeal.τ Cert.DownPlainIdeal.sig) → Buf (Elt Ideal) ℓ) (g' : Dev Cert.DownPlainIdeal.nD → PrngReg), Pre_DownIdeal m →
    (∀ c : Dev Cert.DownIdeal.nD,
      m' ((c.tc : Thread Cert.DownPlainIdeal.nD Cert.DownPlainIdeal.τ).loc Cert.DownPlainIdeal.main_arg0) = m ((c.tc : Thread Cert.DownIdeal.nD Cert.DownIdeal.τ).loc Cert.DownIdeal.main_arg0)
      ∧ m' ((c.tc : Thread Cert.DownPlainIdeal.nD Cert.DownPlainIdeal.τ).loc Cert.DownPlainIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownPlainIdeal.defs (F := Ideal)) (onTc (τ := Cert.DownPlainIdeal.τ) (Cert.DownPlainIdeal.main (F := Ideal))) ⟨m', fun _ => 0, g'⟩ (fun r => ∀ c : Dev Cert.DownPlainIdeal.nD,
          r.2.mem ((c.tc : Thread Cert.DownPlainIdeal.nD Cert.DownPlainIdeal.τ).loc Cert.DownPlainIdeal.main_v2) = v0 c
          ∧ r.2.mem ((c.tc : Thread Cert.DownPlainIdeal.nD Cert.DownPlainIdeal.τ).loc Cert.DownPlainIdeal.main_arg0) = m' ((c.tc : Thread Cert.DownPlainIdeal.nD Cert.DownPlainIdeal.τ).loc Cert.DownPlainIdeal.main_arg0)
          ∧ r.2.mem ((c.tc : Thread Cert.DownPlainIdeal.nD Cert.DownPlainIdeal.τ).loc Cert.DownPlainIdeal.main_arg1) = m' ((c.tc : Thread Cert.DownPlainIdeal.nD Cert.DownPlainIdeal.τ).loc Cert.DownPlainIdeal.main_arg1))

def preserves_GatedBack_GatedBackIdeal : Prop :=
  True

def algebraic_GatedBackIdeal_GatedBackPlainIdeal [hGatedBackIdeal : Cert.GatedBackIdeal.Facts] [hGatedBackPlainIdeal : Cert.GatedBackPlainIdeal.Facts] : Prop :=
  ∀ (m : (ℓ : Loc Cert.GatedBackIdeal.nD Cert.GatedBackIdeal.τ Cert.GatedBackIdeal.sig) → Buf (Elt Ideal) ℓ) (g : Dev Cert.GatedBackIdeal.nD → PrngReg)
    (m' : (ℓ : Loc Cert.GatedBackPlainIdeal.nD Cert.GatedBackPlainIdeal.τ Cert.GatedBackPlainIdeal.sig) → Buf (Elt Ideal) ℓ) (g' : Dev Cert.GatedBackPlainIdeal.nD → PrngReg), Pre_GatedBackIdeal m →
    (∀ c : Dev Cert.GatedBackIdeal.nD,
      m' ((c.tc : Thread Cert.GatedBackPlainIdeal.nD Cert.GatedBackPlainIdeal.τ).loc Cert.GatedBackPlainIdeal.main_arg0) = m ((c.tc : Thread Cert.GatedBackIdeal.nD Cert.GatedBackIdeal.τ).loc Cert.GatedBackIdeal.main_arg0)
      ∧ m' ((c.tc : Thread Cert.GatedBackPlainIdeal.nD Cert.GatedBackPlainIdeal.τ).loc Cert.GatedBackPlainIdeal.main_arg1) = m ((c.tc : Thread Cert.GatedBackIdeal.nD Cert.GatedBackIdeal.τ).loc Cert.GatedBackIdeal.main_arg1)
      ∧ m' ((c.tc : Thread Cert.GatedBackPlainIdeal.nD Cert.GatedBackPlainIdeal.τ).loc Cert.GatedBackPlainIdeal.main_arg2) = m ((c.tc : Thread Cert.GatedBackIdeal.nD Cert.GatedBackIdeal.τ).loc Cert.GatedBackIdeal.main_arg2)
      ∧ m' ((c.tc : Thread Cert.GatedBackPlainIdeal.nD Cert.GatedBackPlainIdeal.τ).loc Cert.GatedBackPlainIdeal.main_arg3) = m ((c.tc : Thread Cert.GatedBackIdeal.nD Cert.GatedBackIdeal.τ).loc Cert.GatedBackIdeal.main_arg3)) →
    ∃ (v0 : (c : Dev Cert.GatedBackIdeal.nD) → Buf (Elt Ideal) ((c.tc : Thread Cert.GatedBackIdeal.nD Cert.GatedBackIdeal.τ).loc Cert.GatedBackIdeal.main_v0_0)) (v1 : (c : Dev Cert.GatedBackIdeal.nD) → Buf (Elt Ideal) ((c.tc : Thread Cert.GatedBackIdeal.nD Cert.GatedBackIdeal.τ).loc Cert.GatedBackIdeal.main_v0_1)),
      θ_run (Cert.GatedBackIdeal.defs (F := Ideal)) (onTc (τ := Cert.GatedBackIdeal.τ) (Cert.GatedBackIdeal.main (F := Ideal))) ⟨m, fun _ => 0, g⟩ (fun r => ∀ c : Dev Cert.GatedBackIdeal.nD,
          r.2.mem ((c.tc : Thread Cert.GatedBackIdeal.nD Cert.GatedBackIdeal.τ).loc Cert.GatedBackIdeal.main_v0_0) = v0 c
          ∧ r.2.mem ((c.tc : Thread Cert.GatedBackIdeal.nD Cert.GatedBackIdeal.τ).loc Cert.GatedBackIdeal.main_v0_1) = v1 c
          ∧ r.2.mem ((c.tc : Thread Cert.GatedBackIdeal.nD Cert.GatedBackIdeal.τ).loc Cert.GatedBackIdeal.main_arg0) = m ((c.tc : Thread Cert.GatedBackIdeal.nD Cert.GatedBackIdeal.τ).loc Cert.GatedBackIdeal.main_arg0)
          ∧ r.2.mem ((c.tc : Thread Cert.GatedBackIdeal.nD Cert.GatedBackIdeal.τ).loc Cert.GatedBackIdeal.main_arg1) = m ((c.tc : Thread Cert.GatedBackIdeal.nD Cert.GatedBackIdeal.τ).loc Cert.GatedBackIdeal.main_arg1)
          ∧ r.2.mem ((c.tc : Thread Cert.GatedBackIdeal.nD Cert.GatedBackIdeal.τ).loc Cert.GatedBackIdeal.main_arg2) = m ((c.tc : Thread Cert.GatedBackIdeal.nD Cert.GatedBackIdeal.τ).loc Cert.GatedBackIdeal.main_arg2)
          ∧ r.2.mem ((c.tc : Thread Cert.GatedBackIdeal.nD Cert.GatedBackIdeal.τ).loc Cert.GatedBackIdeal.main_arg3) = m ((c.tc : Thread Cert.GatedBackIdeal.nD Cert.GatedBackIdeal.τ).loc Cert.GatedBackIdeal.main_arg3))
      ∧ θ_run (Cert.GatedBackPlainIdeal.defs (F := Ideal)) (onTc (τ := Cert.GatedBackPlainIdeal.τ) (Cert.GatedBackPlainIdeal.main (F := Ideal))) ⟨m', fun _ => 0, g'⟩ (fun r => ∀ c : Dev Cert.GatedBackPlainIdeal.nD,
          r.2.mem ((c.tc : Thread Cert.GatedBackPlainIdeal.nD Cert.GatedBackPlainIdeal.τ).loc Cert.GatedBackPlainIdeal.main_v9) = v0 c
          ∧ r.2.mem ((c.tc : Thread Cert.GatedBackPlainIdeal.nD Cert.GatedBackPlainIdeal.τ).loc Cert.GatedBackPlainIdeal.main_v11) = v1 c
          ∧ r.2.mem ((c.tc : Thread Cert.GatedBackPlainIdeal.nD Cert.GatedBackPlainIdeal.τ).loc Cert.GatedBackPlainIdeal.main_arg0) = m' ((c.tc : Thread Cert.GatedBackPlainIdeal.nD Cert.GatedBackPlainIdeal.τ).loc Cert.GatedBackPlainIdeal.main_arg0)
          ∧ r.2.mem ((c.tc : Thread Cert.GatedBackPlainIdeal.nD Cert.GatedBackPlainIdeal.τ).loc Cert.GatedBackPlainIdeal.main_arg1) = m' ((c.tc : Thread Cert.GatedBackPlainIdeal.nD Cert.GatedBackPlainIdeal.τ).loc Cert.GatedBackPlainIdeal.main_arg1)
          ∧ r.2.mem ((c.tc : Thread Cert.GatedBackPlainIdeal.nD Cert.GatedBackPlainIdeal.τ).loc Cert.GatedBackPlainIdeal.main_arg2) = m' ((c.tc : Thread Cert.GatedBackPlainIdeal.nD Cert.GatedBackPlainIdeal.τ).loc Cert.GatedBackPlainIdeal.main_arg2)
          ∧ r.2.mem ((c.tc : Thread Cert.GatedBackPlainIdeal.nD Cert.GatedBackPlainIdeal.τ).loc Cert.GatedBackPlainIdeal.main_arg3) = m' ((c.tc : Thread Cert.GatedBackPlainIdeal.nD Cert.GatedBackPlainIdeal.τ).loc Cert.GatedBackPlainIdeal.main_arg3))

def preserves_GradGate_GradGateIdeal : Prop :=
  True

def algebraic_GradGateIdeal_GradGatePlainIdeal [hGradGateIdeal : Cert.GradGateIdeal.Facts] [hGradGatePlainIdeal : Cert.GradGatePlainIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGatePlainIdeal.nD Cert.GradGatePlainIdeal.τ Cert.GradGatePlainIdeal.sig) → Buf (Elt Ideal) ℓ) (g' : Dev Cert.GradGatePlainIdeal.nD → PrngReg), Pre_GradGateIdeal m →
    (∀ c : Dev Cert.GradGateIdeal.nD,
      m' ((c.tc : Thread Cert.GradGatePlainIdeal.nD Cert.GradGatePlainIdeal.τ).loc Cert.GradGatePlainIdeal.main_arg0) = m ((c.tc : Thread Cert.GradGateIdeal.nD Cert.GradGateIdeal.τ).loc Cert.GradGateIdeal.main_arg0)
      ∧ m' ((c.tc : Thread Cert.GradGatePlainIdeal.nD Cert.GradGatePlainIdeal.τ).loc Cert.GradGatePlainIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGatePlainIdeal.defs (F := Ideal)) (onTc (τ := Cert.GradGatePlainIdeal.τ) (Cert.GradGatePlainIdeal.main (F := Ideal))) ⟨m', fun _ => 0, g'⟩ (fun r => ∀ c : Dev Cert.GradGatePlainIdeal.nD,
          r.2.mem ((c.tc : Thread Cert.GradGatePlainIdeal.nD Cert.GradGatePlainIdeal.τ).loc Cert.GradGatePlainIdeal.main_v2) = v0 c
          ∧ r.2.mem ((c.tc : Thread Cert.GradGatePlainIdeal.nD Cert.GradGatePlainIdeal.τ).loc Cert.GradGatePlainIdeal.main_arg0) = m' ((c.tc : Thread Cert.GradGatePlainIdeal.nD Cert.GradGatePlainIdeal.τ).loc Cert.GradGatePlainIdeal.main_arg0)
          ∧ r.2.mem ((c.tc : Thread Cert.GradGatePlainIdeal.nD Cert.GradGatePlainIdeal.τ).loc Cert.GradGatePlainIdeal.main_arg1) = m' ((c.tc : Thread Cert.GradGatePlainIdeal.nD Cert.GradGatePlainIdeal.τ).loc Cert.GradGatePlainIdeal.main_arg1))

def preserves_Attention_AttentionIdeal : Prop :=
  IdealRules.named_const.Statement Cert.AttentionIdeal.κ "mask" .f32 0xF149F2CA#32 ⊥

def algebraic_AttentionIdeal_AttentionPlainIdeal_pre_real_scores [hAttentionIdeal : Cert.AttentionIdeal.Facts] [hAttentionPlainIdeal : Cert.AttentionPlainIdeal.Facts] [hPre_real_scores : Cert.Pre_real_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionPlainIdeal.nD Cert.AttentionPlainIdeal.τ Cert.AttentionPlainIdeal.sig) → Buf (Elt Ideal) ℓ) (g' : Dev Cert.AttentionPlainIdeal.nD → PrngReg), Pre_AttentionIdeal_real_scores m →
    (∀ c : Dev Cert.AttentionIdeal.nD,
      m' ((c.tc : Thread Cert.AttentionPlainIdeal.nD Cert.AttentionPlainIdeal.τ).loc Cert.AttentionPlainIdeal.main_arg0) = m ((c.tc : Thread Cert.AttentionIdeal.nD Cert.AttentionIdeal.τ).loc Cert.AttentionIdeal.main_arg0)
      ∧ m' ((c.tc : Thread Cert.AttentionPlainIdeal.nD Cert.AttentionPlainIdeal.τ).loc Cert.AttentionPlainIdeal.main_arg1) = m ((c.tc : Thread Cert.AttentionIdeal.nD Cert.AttentionIdeal.τ).loc Cert.AttentionIdeal.main_arg1)
      ∧ m' ((c.tc : Thread Cert.AttentionPlainIdeal.nD Cert.AttentionPlainIdeal.τ).loc Cert.AttentionPlainIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0_0)) (v1 : (c : Dev Cert.AttentionIdeal.nD) → Buf (Elt Ideal) ((c.tc : Thread Cert.AttentionIdeal.nD Cert.AttentionIdeal.τ).loc Cert.AttentionIdeal.main_v0_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0_0) = v0 c
          ∧ r.2.mem ((c.tc : Thread Cert.AttentionIdeal.nD Cert.AttentionIdeal.τ).loc Cert.AttentionIdeal.main_v0_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionPlainIdeal.defs (F := Ideal)) (onTc (τ := Cert.AttentionPlainIdeal.τ) (Cert.AttentionPlainIdeal.main (F := Ideal))) ⟨m', fun _ => 0, g'⟩ (fun r => ∀ c : Dev Cert.AttentionPlainIdeal.nD,
          r.2.mem ((c.tc : Thread Cert.AttentionPlainIdeal.nD Cert.AttentionPlainIdeal.τ).loc Cert.AttentionPlainIdeal.main_v32) = v0 c
          ∧ r.2.mem ((c.tc : Thread Cert.AttentionPlainIdeal.nD Cert.AttentionPlainIdeal.τ).loc Cert.AttentionPlainIdeal.main_v39) = v1 c
          ∧ r.2.mem ((c.tc : Thread Cert.AttentionPlainIdeal.nD Cert.AttentionPlainIdeal.τ).loc Cert.AttentionPlainIdeal.main_arg0) = m' ((c.tc : Thread Cert.AttentionPlainIdeal.nD Cert.AttentionPlainIdeal.τ).loc Cert.AttentionPlainIdeal.main_arg0)
          ∧ r.2.mem ((c.tc : Thread Cert.AttentionPlainIdeal.nD Cert.AttentionPlainIdeal.τ).loc Cert.AttentionPlainIdeal.main_arg1) = m' ((c.tc : Thread Cert.AttentionPlainIdeal.nD Cert.AttentionPlainIdeal.τ).loc Cert.AttentionPlainIdeal.main_arg1)
          ∧ r.2.mem ((c.tc : Thread Cert.AttentionPlainIdeal.nD Cert.AttentionPlainIdeal.τ).loc Cert.AttentionPlainIdeal.main_arg2) = m' ((c.tc : Thread Cert.AttentionPlainIdeal.nD Cert.AttentionPlainIdeal.τ).loc Cert.AttentionPlainIdeal.main_arg2))

def preserves_Project_ProjectIdeal : Prop :=
  True

def algebraic_ProjectIdeal_ProjectPlainIdeal [hProjectIdeal : Cert.ProjectIdeal.Facts] [hProjectPlainIdeal : Cert.ProjectPlainIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectPlainIdeal.nD Cert.ProjectPlainIdeal.τ Cert.ProjectPlainIdeal.sig) → Buf (Elt Ideal) ℓ) (g' : Dev Cert.ProjectPlainIdeal.nD → PrngReg), Pre_ProjectIdeal m →
    (∀ c : Dev Cert.ProjectIdeal.nD,
      m' ((c.tc : Thread Cert.ProjectPlainIdeal.nD Cert.ProjectPlainIdeal.τ).loc Cert.ProjectPlainIdeal.main_arg0) = m ((c.tc : Thread Cert.ProjectIdeal.nD Cert.ProjectIdeal.τ).loc Cert.ProjectIdeal.main_arg0)
      ∧ m' ((c.tc : Thread Cert.ProjectPlainIdeal.nD Cert.ProjectPlainIdeal.τ).loc Cert.ProjectPlainIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectPlainIdeal.defs (F := Ideal)) (onTc (τ := Cert.ProjectPlainIdeal.τ) (Cert.ProjectPlainIdeal.main (F := Ideal))) ⟨m', fun _ => 0, g'⟩ (fun r => ∀ c : Dev Cert.ProjectPlainIdeal.nD,
          r.2.mem ((c.tc : Thread Cert.ProjectPlainIdeal.nD Cert.ProjectPlainIdeal.τ).loc Cert.ProjectPlainIdeal.main_v1) = v0 c
          ∧ r.2.mem ((c.tc : Thread Cert.ProjectPlainIdeal.nD Cert.ProjectPlainIdeal.τ).loc Cert.ProjectPlainIdeal.main_arg0) = m' ((c.tc : Thread Cert.ProjectPlainIdeal.nD Cert.ProjectPlainIdeal.τ).loc Cert.ProjectPlainIdeal.main_arg0)
          ∧ r.2.mem ((c.tc : Thread Cert.ProjectPlainIdeal.nD Cert.ProjectPlainIdeal.τ).loc Cert.ProjectPlainIdeal.main_arg1) = m' ((c.tc : Thread Cert.ProjectPlainIdeal.nD Cert.ProjectPlainIdeal.τ).loc Cert.ProjectPlainIdeal.main_arg1))

def preserves_Mixed_MixedIdeal : Prop :=
  True

def algebraic_MixedIdeal_MixedPlainIdeal [hMixedIdeal : Cert.MixedIdeal.Facts] [hMixedPlainIdeal : Cert.MixedPlainIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedPlainIdeal.nD Cert.MixedPlainIdeal.τ Cert.MixedPlainIdeal.sig) → Buf (Elt Ideal) ℓ) (g' : Dev Cert.MixedPlainIdeal.nD → PrngReg), Pre_MixedIdeal m →
    (∀ c : Dev Cert.MixedIdeal.nD,
      m' ((c.tc : Thread Cert.MixedPlainIdeal.nD Cert.MixedPlainIdeal.τ).loc Cert.MixedPlainIdeal.main_arg0) = m ((c.tc : Thread Cert.MixedIdeal.nD Cert.MixedIdeal.τ).loc Cert.MixedIdeal.main_arg0)
      ∧ m' ((c.tc : Thread Cert.MixedPlainIdeal.nD Cert.MixedPlainIdeal.τ).loc Cert.MixedPlainIdeal.main_arg1) = m ((c.tc : Thread Cert.MixedIdeal.nD Cert.MixedIdeal.τ).loc Cert.MixedIdeal.main_arg1)
      ∧ m' ((c.tc : Thread Cert.MixedPlainIdeal.nD Cert.MixedPlainIdeal.τ).loc Cert.MixedPlainIdeal.main_arg2) = m ((c.tc : Thread Cert.MixedIdeal.nD Cert.MixedIdeal.τ).loc Cert.MixedIdeal.main_arg2)
      ∧ m' ((c.tc : Thread Cert.MixedPlainIdeal.nD Cert.MixedPlainIdeal.τ).loc Cert.MixedPlainIdeal.main_arg3) = m ((c.tc : Thread Cert.MixedIdeal.nD Cert.MixedIdeal.τ).loc Cert.MixedIdeal.main_arg3)
      ∧ m' ((c.tc : Thread Cert.MixedPlainIdeal.nD Cert.MixedPlainIdeal.τ).loc Cert.MixedPlainIdeal.main_arg4) = m ((c.tc : Thread Cert.MixedIdeal.nD Cert.MixedIdeal.τ).loc Cert.MixedIdeal.main_arg4)
      ∧ m' ((c.tc : Thread Cert.MixedPlainIdeal.nD Cert.MixedPlainIdeal.τ).loc Cert.MixedPlainIdeal.main_arg5) = m ((c.tc : Thread Cert.MixedIdeal.nD Cert.MixedIdeal.τ).loc Cert.MixedIdeal.main_arg5)
      ∧ m' ((c.tc : Thread Cert.MixedPlainIdeal.nD Cert.MixedPlainIdeal.τ).loc Cert.MixedPlainIdeal.main_arg6) = m ((c.tc : Thread Cert.MixedIdeal.nD Cert.MixedIdeal.τ).loc Cert.MixedIdeal.main_arg6)
      ∧ m' ((c.tc : Thread Cert.MixedPlainIdeal.nD Cert.MixedPlainIdeal.τ).loc Cert.MixedPlainIdeal.main_arg7) = m ((c.tc : Thread Cert.MixedIdeal.nD Cert.MixedIdeal.τ).loc Cert.MixedIdeal.main_arg7)) →
    ∃ (v0 : (c : Dev Cert.MixedIdeal.nD) → Buf (Elt Ideal) ((c.tc : Thread Cert.MixedIdeal.nD Cert.MixedIdeal.τ).loc Cert.MixedIdeal.main_v0)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7))
      ∧ θ_run (Cert.MixedPlainIdeal.defs (F := Ideal)) (onTc (τ := Cert.MixedPlainIdeal.τ) (Cert.MixedPlainIdeal.main (F := Ideal))) ⟨m', fun _ => 0, g'⟩ (fun r => ∀ c : Dev Cert.MixedPlainIdeal.nD,
          r.2.mem ((c.tc : Thread Cert.MixedPlainIdeal.nD Cert.MixedPlainIdeal.τ).loc Cert.MixedPlainIdeal.main_v47) = v0 c
          ∧ r.2.mem ((c.tc : Thread Cert.MixedPlainIdeal.nD Cert.MixedPlainIdeal.τ).loc Cert.MixedPlainIdeal.main_arg0) = m' ((c.tc : Thread Cert.MixedPlainIdeal.nD Cert.MixedPlainIdeal.τ).loc Cert.MixedPlainIdeal.main_arg0)
          ∧ r.2.mem ((c.tc : Thread Cert.MixedPlainIdeal.nD Cert.MixedPlainIdeal.τ).loc Cert.MixedPlainIdeal.main_arg1) = m' ((c.tc : Thread Cert.MixedPlainIdeal.nD Cert.MixedPlainIdeal.τ).loc Cert.MixedPlainIdeal.main_arg1)
          ∧ r.2.mem ((c.tc : Thread Cert.MixedPlainIdeal.nD Cert.MixedPlainIdeal.τ).loc Cert.MixedPlainIdeal.main_arg2) = m' ((c.tc : Thread Cert.MixedPlainIdeal.nD Cert.MixedPlainIdeal.τ).loc Cert.MixedPlainIdeal.main_arg2)
          ∧ r.2.mem ((c.tc : Thread Cert.MixedPlainIdeal.nD Cert.MixedPlainIdeal.τ).loc Cert.MixedPlainIdeal.main_arg3) = m' ((c.tc : Thread Cert.MixedPlainIdeal.nD Cert.MixedPlainIdeal.τ).loc Cert.MixedPlainIdeal.main_arg3)
          ∧ r.2.mem ((c.tc : Thread Cert.MixedPlainIdeal.nD Cert.MixedPlainIdeal.τ).loc Cert.MixedPlainIdeal.main_arg4) = m' ((c.tc : Thread Cert.MixedPlainIdeal.nD Cert.MixedPlainIdeal.τ).loc Cert.MixedPlainIdeal.main_arg4)
          ∧ r.2.mem ((c.tc : Thread Cert.MixedPlainIdeal.nD Cert.MixedPlainIdeal.τ).loc Cert.MixedPlainIdeal.main_arg5) = m' ((c.tc : Thread Cert.MixedPlainIdeal.nD Cert.MixedPlainIdeal.τ).loc Cert.MixedPlainIdeal.main_arg5)
          ∧ r.2.mem ((c.tc : Thread Cert.MixedPlainIdeal.nD Cert.MixedPlainIdeal.τ).loc Cert.MixedPlainIdeal.main_arg6) = m' ((c.tc : Thread Cert.MixedPlainIdeal.nD Cert.MixedPlainIdeal.τ).loc Cert.MixedPlainIdeal.main_arg6)
          ∧ r.2.mem ((c.tc : Thread Cert.MixedPlainIdeal.nD Cert.MixedPlainIdeal.τ).loc Cert.MixedPlainIdeal.main_arg7) = m' ((c.tc : Thread Cert.MixedPlainIdeal.nD Cert.MixedPlainIdeal.τ).loc Cert.MixedPlainIdeal.main_arg7))

def preserves_Embedded_EmbeddedIdeal : Prop :=
  True

def algebraic_EmbeddedIdeal_EmbeddedPlainIdeal [hEmbeddedIdeal : Cert.EmbeddedIdeal.Facts] [hEmbeddedPlainIdeal : Cert.EmbeddedPlainIdeal.Facts] : Prop :=
  ∀ (m : (ℓ : Loc Cert.EmbeddedIdeal.nD Cert.EmbeddedIdeal.τ Cert.EmbeddedIdeal.sig) → Buf (Elt Ideal) ℓ) (g : Dev Cert.EmbeddedIdeal.nD → PrngReg)
    (m' : (ℓ : Loc Cert.EmbeddedPlainIdeal.nD Cert.EmbeddedPlainIdeal.τ Cert.EmbeddedPlainIdeal.sig) → Buf (Elt Ideal) ℓ) (g' : Dev Cert.EmbeddedPlainIdeal.nD → PrngReg), Pre_EmbeddedIdeal m →
    (∀ c : Dev Cert.EmbeddedIdeal.nD,
      m' ((c.tc : Thread Cert.EmbeddedPlainIdeal.nD Cert.EmbeddedPlainIdeal.τ).loc Cert.EmbeddedPlainIdeal.main_arg0) = m ((c.tc : Thread Cert.EmbeddedIdeal.nD Cert.EmbeddedIdeal.τ).loc Cert.EmbeddedIdeal.main_arg0)
      ∧ m' ((c.tc : Thread Cert.EmbeddedPlainIdeal.nD Cert.EmbeddedPlainIdeal.τ).loc Cert.EmbeddedPlainIdeal.main_arg1) = m ((c.tc : Thread Cert.EmbeddedIdeal.nD Cert.EmbeddedIdeal.τ).loc Cert.EmbeddedIdeal.main_arg1)
      ∧ m' ((c.tc : Thread Cert.EmbeddedPlainIdeal.nD Cert.EmbeddedPlainIdeal.τ).loc Cert.EmbeddedPlainIdeal.main_arg2) = m ((c.tc : Thread Cert.EmbeddedIdeal.nD Cert.EmbeddedIdeal.τ).loc Cert.EmbeddedIdeal.main_arg2)
      ∧ m' ((c.tc : Thread Cert.EmbeddedPlainIdeal.nD Cert.EmbeddedPlainIdeal.τ).loc Cert.EmbeddedPlainIdeal.main_arg3) = m ((c.tc : Thread Cert.EmbeddedIdeal.nD Cert.EmbeddedIdeal.τ).loc Cert.EmbeddedIdeal.main_arg3)
      ∧ m' ((c.tc : Thread Cert.EmbeddedPlainIdeal.nD Cert.EmbeddedPlainIdeal.τ).loc Cert.EmbeddedPlainIdeal.main_arg4) = m ((c.tc : Thread Cert.EmbeddedIdeal.nD Cert.EmbeddedIdeal.τ).loc Cert.EmbeddedIdeal.main_arg4)
      ∧ m' ((c.tc : Thread Cert.EmbeddedPlainIdeal.nD Cert.EmbeddedPlainIdeal.τ).loc Cert.EmbeddedPlainIdeal.main_arg5) = m ((c.tc : Thread Cert.EmbeddedIdeal.nD Cert.EmbeddedIdeal.τ).loc Cert.EmbeddedIdeal.main_arg5)
      ∧ m' ((c.tc : Thread Cert.EmbeddedPlainIdeal.nD Cert.EmbeddedPlainIdeal.τ).loc Cert.EmbeddedPlainIdeal.main_arg6) = m ((c.tc : Thread Cert.EmbeddedIdeal.nD Cert.EmbeddedIdeal.τ).loc Cert.EmbeddedIdeal.main_arg6)) →
    ∃ (v0 : (c : Dev Cert.EmbeddedIdeal.nD) → Buf (Elt Ideal) ((c.tc : Thread Cert.EmbeddedIdeal.nD Cert.EmbeddedIdeal.τ).loc Cert.EmbeddedIdeal.main_v0)),
      θ_run (Cert.EmbeddedIdeal.defs (F := Ideal)) (onTc (τ := Cert.EmbeddedIdeal.τ) (Cert.EmbeddedIdeal.main (F := Ideal))) ⟨m, fun _ => 0, g⟩ (fun r => ∀ c : Dev Cert.EmbeddedIdeal.nD,
          r.2.mem ((c.tc : Thread Cert.EmbeddedIdeal.nD Cert.EmbeddedIdeal.τ).loc Cert.EmbeddedIdeal.main_v0) = v0 c
          ∧ r.2.mem ((c.tc : Thread Cert.EmbeddedIdeal.nD Cert.EmbeddedIdeal.τ).loc Cert.EmbeddedIdeal.main_arg0) = m ((c.tc : Thread Cert.EmbeddedIdeal.nD Cert.EmbeddedIdeal.τ).loc Cert.EmbeddedIdeal.main_arg0)
          ∧ r.2.mem ((c.tc : Thread Cert.EmbeddedIdeal.nD Cert.EmbeddedIdeal.τ).loc Cert.EmbeddedIdeal.main_arg1) = m ((c.tc : Thread Cert.EmbeddedIdeal.nD Cert.EmbeddedIdeal.τ).loc Cert.EmbeddedIdeal.main_arg1)
          ∧ r.2.mem ((c.tc : Thread Cert.EmbeddedIdeal.nD Cert.EmbeddedIdeal.τ).loc Cert.EmbeddedIdeal.main_arg2) = m ((c.tc : Thread Cert.EmbeddedIdeal.nD Cert.EmbeddedIdeal.τ).loc Cert.EmbeddedIdeal.main_arg2)
          ∧ r.2.mem ((c.tc : Thread Cert.EmbeddedIdeal.nD Cert.EmbeddedIdeal.τ).loc Cert.EmbeddedIdeal.main_arg3) = m ((c.tc : Thread Cert.EmbeddedIdeal.nD Cert.EmbeddedIdeal.τ).loc Cert.EmbeddedIdeal.main_arg3)
          ∧ r.2.mem ((c.tc : Thread Cert.EmbeddedIdeal.nD Cert.EmbeddedIdeal.τ).loc Cert.EmbeddedIdeal.main_arg4) = m ((c.tc : Thread Cert.EmbeddedIdeal.nD Cert.EmbeddedIdeal.τ).loc Cert.EmbeddedIdeal.main_arg4)
          ∧ r.2.mem ((c.tc : Thread Cert.EmbeddedIdeal.nD Cert.EmbeddedIdeal.τ).loc Cert.EmbeddedIdeal.main_arg5) = m ((c.tc : Thread Cert.EmbeddedIdeal.nD Cert.EmbeddedIdeal.τ).loc Cert.EmbeddedIdeal.main_arg5)
          ∧ r.2.mem ((c.tc : Thread Cert.EmbeddedIdeal.nD Cert.EmbeddedIdeal.τ).loc Cert.EmbeddedIdeal.main_arg6) = m ((c.tc : Thread Cert.EmbeddedIdeal.nD Cert.EmbeddedIdeal.τ).loc Cert.EmbeddedIdeal.main_arg6))
      ∧ θ_run (Cert.EmbeddedPlainIdeal.defs (F := Ideal)) (onTc (τ := Cert.EmbeddedPlainIdeal.τ) (Cert.EmbeddedPlainIdeal.main (F := Ideal))) ⟨m', fun _ => 0, g'⟩ (fun r => ∀ c : Dev Cert.EmbeddedPlainIdeal.nD,
          r.2.mem ((c.tc : Thread Cert.EmbeddedPlainIdeal.nD Cert.EmbeddedPlainIdeal.τ).loc Cert.EmbeddedPlainIdeal.main_v36) = v0 c
          ∧ r.2.mem ((c.tc : Thread Cert.EmbeddedPlainIdeal.nD Cert.EmbeddedPlainIdeal.τ).loc Cert.EmbeddedPlainIdeal.main_arg0) = m' ((c.tc : Thread Cert.EmbeddedPlainIdeal.nD Cert.EmbeddedPlainIdeal.τ).loc Cert.EmbeddedPlainIdeal.main_arg0)
          ∧ r.2.mem ((c.tc : Thread Cert.EmbeddedPlainIdeal.nD Cert.EmbeddedPlainIdeal.τ).loc Cert.EmbeddedPlainIdeal.main_arg1) = m' ((c.tc : Thread Cert.EmbeddedPlainIdeal.nD Cert.EmbeddedPlainIdeal.τ).loc Cert.EmbeddedPlainIdeal.main_arg1)
          ∧ r.2.mem ((c.tc : Thread Cert.EmbeddedPlainIdeal.nD Cert.EmbeddedPlainIdeal.τ).loc Cert.EmbeddedPlainIdeal.main_arg2) = m' ((c.tc : Thread Cert.EmbeddedPlainIdeal.nD Cert.EmbeddedPlainIdeal.τ).loc Cert.EmbeddedPlainIdeal.main_arg2)
          ∧ r.2.mem ((c.tc : Thread Cert.EmbeddedPlainIdeal.nD Cert.EmbeddedPlainIdeal.τ).loc Cert.EmbeddedPlainIdeal.main_arg3) = m' ((c.tc : Thread Cert.EmbeddedPlainIdeal.nD Cert.EmbeddedPlainIdeal.τ).loc Cert.EmbeddedPlainIdeal.main_arg3)
          ∧ r.2.mem ((c.tc : Thread Cert.EmbeddedPlainIdeal.nD Cert.EmbeddedPlainIdeal.τ).loc Cert.EmbeddedPlainIdeal.main_arg4) = m' ((c.tc : Thread Cert.EmbeddedPlainIdeal.nD Cert.EmbeddedPlainIdeal.τ).loc Cert.EmbeddedPlainIdeal.main_arg4)
          ∧ r.2.mem ((c.tc : Thread Cert.EmbeddedPlainIdeal.nD Cert.EmbeddedPlainIdeal.τ).loc Cert.EmbeddedPlainIdeal.main_arg5) = m' ((c.tc : Thread Cert.EmbeddedPlainIdeal.nD Cert.EmbeddedPlainIdeal.τ).loc Cert.EmbeddedPlainIdeal.main_arg5)
          ∧ r.2.mem ((c.tc : Thread Cert.EmbeddedPlainIdeal.nD Cert.EmbeddedPlainIdeal.τ).loc Cert.EmbeddedPlainIdeal.main_arg6) = m' ((c.tc : Thread Cert.EmbeddedPlainIdeal.nD Cert.EmbeddedPlainIdeal.τ).loc Cert.EmbeddedPlainIdeal.main_arg6))

def preserves_Short_ShortIdeal : Prop :=
  True

def algebraic_ShortIdeal_ShortPlainIdeal [hShortIdeal : Cert.ShortIdeal.Facts] [hShortPlainIdeal : Cert.ShortPlainIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortPlainIdeal.nD Cert.ShortPlainIdeal.τ Cert.ShortPlainIdeal.sig) → Buf (Elt Ideal) ℓ) (g' : Dev Cert.ShortPlainIdeal.nD → PrngReg), Pre_ShortIdeal m →
    (∀ c : Dev Cert.ShortIdeal.nD,
      m' ((c.tc : Thread Cert.ShortPlainIdeal.nD Cert.ShortPlainIdeal.τ).loc Cert.ShortPlainIdeal.main_arg0) = m ((c.tc : Thread Cert.ShortIdeal.nD Cert.ShortIdeal.τ).loc Cert.ShortIdeal.main_arg0)
      ∧ m' ((c.tc : Thread Cert.ShortPlainIdeal.nD Cert.ShortPlainIdeal.τ).loc Cert.ShortPlainIdeal.main_arg1) = m ((c.tc : Thread Cert.ShortIdeal.nD Cert.ShortIdeal.τ).loc Cert.ShortIdeal.main_arg1)
      ∧ m' ((c.tc : Thread Cert.ShortPlainIdeal.nD Cert.ShortPlainIdeal.τ).loc Cert.ShortPlainIdeal.main_arg2) = m ((c.tc : Thread Cert.ShortIdeal.nD Cert.ShortIdeal.τ).loc Cert.ShortIdeal.main_arg2)
      ∧ m' ((c.tc : Thread Cert.ShortPlainIdeal.nD Cert.ShortPlainIdeal.τ).loc Cert.ShortPlainIdeal.main_arg3) = m ((c.tc : Thread Cert.ShortIdeal.nD Cert.ShortIdeal.τ).loc Cert.ShortIdeal.main_arg3)) →
    ∃ (v0 : (c : Dev Cert.ShortIdeal.nD) → Buf (Elt Ideal) ((c.tc : Thread Cert.ShortIdeal.nD Cert.ShortIdeal.τ).loc Cert.ShortIdeal.main_v0_0)) (v1 : (c : Dev Cert.ShortIdeal.nD) → Buf (Elt Ideal) ((c.tc : Thread Cert.ShortIdeal.nD Cert.ShortIdeal.τ).loc Cert.ShortIdeal.main_v0_1)) (v2 : (c : Dev Cert.ShortIdeal.nD) → Buf (Elt Ideal) ((c.tc : Thread Cert.ShortIdeal.nD Cert.ShortIdeal.τ).loc Cert.ShortIdeal.main_v0_2)) (v3 : (c : Dev Cert.ShortIdeal.nD) → Buf (Elt Ideal) ((c.tc : Thread Cert.ShortIdeal.nD Cert.ShortIdeal.τ).loc Cert.ShortIdeal.main_v0_3)) (v4 : (c : Dev Cert.ShortIdeal.nD) → Buf (Elt Ideal) ((c.tc : Thread Cert.ShortIdeal.nD Cert.ShortIdeal.τ).loc Cert.ShortIdeal.main_v0_4)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v0_0) = v0 c
          ∧ r.2.mem ((c.tc : Thread Cert.ShortIdeal.nD Cert.ShortIdeal.τ).loc Cert.ShortIdeal.main_v0_1) = v1 c
          ∧ r.2.mem ((c.tc : Thread Cert.ShortIdeal.nD Cert.ShortIdeal.τ).loc Cert.ShortIdeal.main_v0_2) = v2 c
          ∧ r.2.mem ((c.tc : Thread Cert.ShortIdeal.nD Cert.ShortIdeal.τ).loc Cert.ShortIdeal.main_v0_3) = v3 c
          ∧ r.2.mem ((c.tc : Thread Cert.ShortIdeal.nD Cert.ShortIdeal.τ).loc Cert.ShortIdeal.main_v0_4) = v4 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
          ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3))
      ∧ θ_run (Cert.ShortPlainIdeal.defs (F := Ideal)) (onTc (τ := Cert.ShortPlainIdeal.τ) (Cert.ShortPlainIdeal.main (F := Ideal))) ⟨m', fun _ => 0, g'⟩ (fun r => ∀ c : Dev Cert.ShortPlainIdeal.nD,
          r.2.mem ((c.tc : Thread Cert.ShortPlainIdeal.nD Cert.ShortPlainIdeal.τ).loc Cert.ShortPlainIdeal.main_v50) = v0 c
          ∧ r.2.mem ((c.tc : Thread Cert.ShortPlainIdeal.nD Cert.ShortPlainIdeal.τ).loc Cert.ShortPlainIdeal.main_v60) = v1 c
          ∧ r.2.mem ((c.tc : Thread Cert.ShortPlainIdeal.nD Cert.ShortPlainIdeal.τ).loc Cert.ShortPlainIdeal.main_v34) = v2 c
          ∧ r.2.mem ((c.tc : Thread Cert.ShortPlainIdeal.nD Cert.ShortPlainIdeal.τ).loc Cert.ShortPlainIdeal.main_v66) = v3 c
          ∧ r.2.mem ((c.tc : Thread Cert.ShortPlainIdeal.nD Cert.ShortPlainIdeal.τ).loc Cert.ShortPlainIdeal.main_v73) = v4 c
          ∧ r.2.mem ((c.tc : Thread Cert.ShortPlainIdeal.nD Cert.ShortPlainIdeal.τ).loc Cert.ShortPlainIdeal.main_arg0) = m' ((c.tc : Thread Cert.ShortPlainIdeal.nD Cert.ShortPlainIdeal.τ).loc Cert.ShortPlainIdeal.main_arg0)
          ∧ r.2.mem ((c.tc : Thread Cert.ShortPlainIdeal.nD Cert.ShortPlainIdeal.τ).loc Cert.ShortPlainIdeal.main_arg1) = m' ((c.tc : Thread Cert.ShortPlainIdeal.nD Cert.ShortPlainIdeal.τ).loc Cert.ShortPlainIdeal.main_arg1)
          ∧ r.2.mem ((c.tc : Thread Cert.ShortPlainIdeal.nD Cert.ShortPlainIdeal.τ).loc Cert.ShortPlainIdeal.main_arg2) = m' ((c.tc : Thread Cert.ShortPlainIdeal.nD Cert.ShortPlainIdeal.τ).loc Cert.ShortPlainIdeal.main_arg2)
          ∧ r.2.mem ((c.tc : Thread Cert.ShortPlainIdeal.nD Cert.ShortPlainIdeal.τ).loc Cert.ShortPlainIdeal.main_arg3) = m' ((c.tc : Thread Cert.ShortPlainIdeal.nD Cert.ShortPlainIdeal.τ).loc Cert.ShortPlainIdeal.main_arg3))

def preserves_GradDown_GradDownIdeal : Prop :=
  True

def algebraic_GradDownIdeal_GradDownPlainIdeal [hGradDownIdeal : Cert.GradDownIdeal.Facts] [hGradDownPlainIdeal : Cert.GradDownPlainIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownPlainIdeal.nD Cert.GradDownPlainIdeal.τ Cert.GradDownPlainIdeal.sig) → Buf (Elt Ideal) ℓ) (g' : Dev Cert.GradDownPlainIdeal.nD → PrngReg), Pre_GradDownIdeal m →
    (∀ c : Dev Cert.GradDownIdeal.nD,
      m' ((c.tc : Thread Cert.GradDownPlainIdeal.nD Cert.GradDownPlainIdeal.τ).loc Cert.GradDownPlainIdeal.main_arg0) = m ((c.tc : Thread Cert.GradDownIdeal.nD Cert.GradDownIdeal.τ).loc Cert.GradDownIdeal.main_arg0)
      ∧ m' ((c.tc : Thread Cert.GradDownPlainIdeal.nD Cert.GradDownPlainIdeal.τ).loc Cert.GradDownPlainIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownPlainIdeal.defs (F := Ideal)) (onTc (τ := Cert.GradDownPlainIdeal.τ) (Cert.GradDownPlainIdeal.main (F := Ideal))) ⟨m', fun _ => 0, g'⟩ (fun r => ∀ c : Dev Cert.GradDownPlainIdeal.nD,
          r.2.mem ((c.tc : Thread Cert.GradDownPlainIdeal.nD Cert.GradDownPlainIdeal.τ).loc Cert.GradDownPlainIdeal.main_v2) = v0 c
          ∧ r.2.mem ((c.tc : Thread Cert.GradDownPlainIdeal.nD Cert.GradDownPlainIdeal.τ).loc Cert.GradDownPlainIdeal.main_arg0) = m' ((c.tc : Thread Cert.GradDownPlainIdeal.nD Cert.GradDownPlainIdeal.τ).loc Cert.GradDownPlainIdeal.main_arg0)
          ∧ r.2.mem ((c.tc : Thread Cert.GradDownPlainIdeal.nD Cert.GradDownPlainIdeal.τ).loc Cert.GradDownPlainIdeal.main_arg1) = m' ((c.tc : Thread Cert.GradDownPlainIdeal.nD Cert.GradDownPlainIdeal.τ).loc Cert.GradDownPlainIdeal.main_arg1))

def preserves_GradProj_GradProjIdeal : Prop :=
  True

def algebraic_GradProjIdeal_GradProjPlainIdeal [hGradProjIdeal : Cert.GradProjIdeal.Facts] [hGradProjPlainIdeal : Cert.GradProjPlainIdeal.Facts] : Prop :=
  ∀ (m : (ℓ : Loc Cert.GradProjIdeal.nD Cert.GradProjIdeal.τ Cert.GradProjIdeal.sig) → Buf (Elt Ideal) ℓ) (g : Dev Cert.GradProjIdeal.nD → PrngReg)
    (m' : (ℓ : Loc Cert.GradProjPlainIdeal.nD Cert.GradProjPlainIdeal.τ Cert.GradProjPlainIdeal.sig) → Buf (Elt Ideal) ℓ) (g' : Dev Cert.GradProjPlainIdeal.nD → PrngReg), Pre_GradProjIdeal m →
    (∀ c : Dev Cert.GradProjIdeal.nD,
      m' ((c.tc : Thread Cert.GradProjPlainIdeal.nD Cert.GradProjPlainIdeal.τ).loc Cert.GradProjPlainIdeal.main_arg0) = m ((c.tc : Thread Cert.GradProjIdeal.nD Cert.GradProjIdeal.τ).loc Cert.GradProjIdeal.main_arg0)
      ∧ m' ((c.tc : Thread Cert.GradProjPlainIdeal.nD Cert.GradProjPlainIdeal.τ).loc Cert.GradProjPlainIdeal.main_arg1) = m ((c.tc : Thread Cert.GradProjIdeal.nD Cert.GradProjIdeal.τ).loc Cert.GradProjIdeal.main_arg1)) →
    ∃ (v0 : (c : Dev Cert.GradProjIdeal.nD) → Buf (Elt Ideal) ((c.tc : Thread Cert.GradProjIdeal.nD Cert.GradProjIdeal.τ).loc Cert.GradProjIdeal.main_v0)),
      θ_run (Cert.GradProjIdeal.defs (F := Ideal)) (onTc (τ := Cert.GradProjIdeal.τ) (Cert.GradProjIdeal.main (F := Ideal))) ⟨m, fun _ => 0, g⟩ (fun r => ∀ c : Dev Cert.GradProjIdeal.nD,
          r.2.mem ((c.tc : Thread Cert.GradProjIdeal.nD Cert.GradProjIdeal.τ).loc Cert.GradProjIdeal.main_v0) = v0 c
          ∧ r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
          ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ θ_run (Cert.GradProjPlainIdeal.defs (F := Ideal)) (onTc (τ := Cert.GradProjPlainIdeal.τ) (Cert.GradProjPlainIdeal.main (F := Ideal))) ⟨m', fun _ => 0, g'⟩ (fun r => ∀ c : Dev Cert.GradProjPlainIdeal.nD,
          r.2.mem ((c.tc : Thread Cert.GradProjPlainIdeal.nD Cert.GradProjPlainIdeal.τ).loc Cert.GradProjPlainIdeal.main_v2) = v0 c
          ∧ r.2.mem ((c.tc : Thread Cert.GradProjPlainIdeal.nD Cert.GradProjPlainIdeal.τ).loc Cert.GradProjPlainIdeal.main_arg0) = m' ((c.tc : Thread Cert.GradProjPlainIdeal.nD Cert.GradProjPlainIdeal.τ).loc Cert.GradProjPlainIdeal.main_arg0)
          ∧ r.2.mem ((c.tc : Thread Cert.GradProjPlainIdeal.nD Cert.GradProjPlainIdeal.τ).loc Cert.GradProjPlainIdeal.main_arg1) = m' ((c.tc : Thread Cert.GradProjPlainIdeal.nD Cert.GradProjPlainIdeal.τ).loc Cert.GradProjPlainIdeal.main_arg1))

def preserves_GradPart_GradPartIdeal : Prop :=
  True

def algebraic_GradPartIdeal_GradPartPlainIdeal [hGradPartIdeal : Cert.GradPartIdeal.Facts] [hGradPartPlainIdeal : Cert.GradPartPlainIdeal.Facts] : Prop :=
  ∀ (m : (ℓ : Loc Cert.GradPartIdeal.nD Cert.GradPartIdeal.τ Cert.GradPartIdeal.sig) → Buf (Elt Ideal) ℓ) (g : Dev Cert.GradPartIdeal.nD → PrngReg)
    (m' : (ℓ : Loc Cert.GradPartPlainIdeal.nD Cert.GradPartPlainIdeal.τ Cert.GradPartPlainIdeal.sig) → Buf (Elt Ideal) ℓ) (g' : Dev Cert.GradPartPlainIdeal.nD → PrngReg), Pre_GradPartIdeal m →
    (∀ c : Dev Cert.GradPartIdeal.nD,
      m' ((c.tc : Thread Cert.GradPartPlainIdeal.nD Cert.GradPartPlainIdeal.τ).loc Cert.GradPartPlainIdeal.main_arg0) = m ((c.tc : Thread Cert.GradPartIdeal.nD Cert.GradPartIdeal.τ).loc Cert.GradPartIdeal.main_arg0)
      ∧ m' ((c.tc : Thread Cert.GradPartPlainIdeal.nD Cert.GradPartPlainIdeal.τ).loc Cert.GradPartPlainIdeal.main_arg1) = m ((c.tc : Thread Cert.GradPartIdeal.nD Cert.GradPartIdeal.τ).loc Cert.GradPartIdeal.main_arg1)
      ∧ m' ((c.tc : Thread Cert.GradPartPlainIdeal.nD Cert.GradPartPlainIdeal.τ).loc Cert.GradPartPlainIdeal.main_arg2) = m ((c.tc : Thread Cert.GradPartIdeal.nD Cert.GradPartIdeal.τ).loc Cert.GradPartIdeal.main_arg2)) →
    ∃ (v0 : (c : Dev Cert.GradPartIdeal.nD) → Buf (Elt Ideal) ((c.tc : Thread Cert.GradPartIdeal.nD Cert.GradPartIdeal.τ).loc Cert.GradPartIdeal.main_v0)),
      θ_run (Cert.GradPartIdeal.defs (F := Ideal)) (onTc (τ := Cert.GradPartIdeal.τ) (Cert.GradPartIdeal.main (F := Ideal))) ⟨m, fun _ => 0, g⟩ (fun r => ∀ c : Dev Cert.GradPartIdeal.nD,
          r.2.mem ((c.tc : Thread Cert.GradPartIdeal.nD Cert.GradPartIdeal.τ).loc Cert.GradPartIdeal.main_v0) = v0 c
          ∧ r.2.mem ((c.tc : Thread Cert.GradPartIdeal.nD Cert.GradPartIdeal.τ).loc Cert.GradPartIdeal.main_arg0) = m ((c.tc : Thread Cert.GradPartIdeal.nD Cert.GradPartIdeal.τ).loc Cert.GradPartIdeal.main_arg0)
          ∧ r.2.mem ((c.tc : Thread Cert.GradPartIdeal.nD Cert.GradPartIdeal.τ).loc Cert.GradPartIdeal.main_arg1) = m ((c.tc : Thread Cert.GradPartIdeal.nD Cert.GradPartIdeal.τ).loc Cert.GradPartIdeal.main_arg1)
          ∧ r.2.mem ((c.tc : Thread Cert.GradPartIdeal.nD Cert.GradPartIdeal.τ).loc Cert.GradPartIdeal.main_arg2) = m ((c.tc : Thread Cert.GradPartIdeal.nD Cert.GradPartIdeal.τ).loc Cert.GradPartIdeal.main_arg2))
      ∧ θ_run (Cert.GradPartPlainIdeal.defs (F := Ideal)) (onTc (τ := Cert.GradPartPlainIdeal.τ) (Cert.GradPartPlainIdeal.main (F := Ideal))) ⟨m', fun _ => 0, g'⟩ (fun r => ∀ c : Dev Cert.GradPartPlainIdeal.nD,
          r.2.mem ((c.tc : Thread Cert.GradPartPlainIdeal.nD Cert.GradPartPlainIdeal.τ).loc Cert.GradPartPlainIdeal.main_v4) = v0 c
          ∧ r.2.mem ((c.tc : Thread Cert.GradPartPlainIdeal.nD Cert.GradPartPlainIdeal.τ).loc Cert.GradPartPlainIdeal.main_arg0) = m' ((c.tc : Thread Cert.GradPartPlainIdeal.nD Cert.GradPartPlainIdeal.τ).loc Cert.GradPartPlainIdeal.main_arg0)
          ∧ r.2.mem ((c.tc : Thread Cert.GradPartPlainIdeal.nD Cert.GradPartPlainIdeal.τ).loc Cert.GradPartPlainIdeal.main_arg1) = m' ((c.tc : Thread Cert.GradPartPlainIdeal.nD Cert.GradPartPlainIdeal.τ).loc Cert.GradPartPlainIdeal.main_arg1)
          ∧ r.2.mem ((c.tc : Thread Cert.GradPartPlainIdeal.nD Cert.GradPartPlainIdeal.τ).loc Cert.GradPartPlainIdeal.main_arg2) = m' ((c.tc : Thread Cert.GradPartPlainIdeal.nD Cert.GradPartPlainIdeal.τ).loc Cert.GradPartPlainIdeal.main_arg2))

def preserves_Latent_LatentIdeal : Prop :=
  IdealRules.named_const.Statement Cert.LatentIdeal.κ "share" .f32 0x3B2AAAAB#32 ((1 / 384 : ℝ) : EReal)

def algebraic_LatentIdeal_LatentPlainIdeal [hLatentIdeal : Cert.LatentIdeal.Facts] [hLatentPlainIdeal : Cert.LatentPlainIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentPlainIdeal.nD Cert.LatentPlainIdeal.τ Cert.LatentPlainIdeal.sig) → Buf (Elt Ideal) ℓ) (g' : Dev Cert.LatentPlainIdeal.nD → PrngReg), Pre_LatentIdeal m →
    (∀ c : Dev Cert.LatentIdeal.nD,
      m' ((c.tc : Thread Cert.LatentPlainIdeal.nD Cert.LatentPlainIdeal.τ).loc Cert.LatentPlainIdeal.main_arg0) = m ((c.tc : Thread Cert.LatentIdeal.nD Cert.LatentIdeal.τ).loc Cert.LatentIdeal.main_arg0)
      ∧ m' ((c.tc : Thread Cert.LatentPlainIdeal.nD Cert.LatentPlainIdeal.τ).loc Cert.LatentPlainIdeal.main_arg1) = m ((c.tc : Thread Cert.LatentIdeal.nD Cert.LatentIdeal.τ).loc Cert.LatentIdeal.main_arg1)
      ∧ m' ((c.tc : Thread Cert.LatentPlainIdeal.nD Cert.LatentPlainIdeal.τ).loc Cert.LatentPlainIdeal.main_arg2) = m ((c.tc : Thread Cert.LatentIdeal.nD Cert.LatentIdeal.τ).loc Cert.LatentIdeal.main_arg2)
      ∧ m' ((c.tc : Thread Cert.LatentPlainIdeal.nD Cert.LatentPlainIdeal.τ).loc Cert.LatentPlainIdeal.main_arg3) = m ((c.tc : Thread Cert.LatentIdeal.nD Cert.LatentIdeal.τ).loc Cert.LatentIdeal.main_arg3)
      ∧ m' ((c.tc : Thread Cert.LatentPlainIdeal.nD Cert.LatentPlainIdeal.τ).loc Cert.LatentPlainIdeal.main_arg4) = m ((c.tc : Thread Cert.LatentIdeal.nD Cert.LatentIdeal.τ).loc Cert.LatentIdeal.main_arg4)
      ∧ m' ((c.tc : Thread Cert.LatentPlainIdeal.nD Cert.LatentPlainIdeal.τ).loc Cert.LatentPlainIdeal.main_arg5) = m ((c.tc : Thread Cert.LatentIdeal.nD Cert.LatentIdeal.τ).loc Cert.LatentIdeal.main_arg5)
      ∧ m' ((c.tc : Thread Cert.LatentPlainIdeal.nD Cert.LatentPlainIdeal.τ).loc Cert.LatentPlainIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v0_0)) (v1 : (c : Dev Cert.LatentIdeal.nD) → Buf (Elt Ideal) ((c.tc : Thread Cert.LatentIdeal.nD Cert.LatentIdeal.τ).loc Cert.LatentIdeal.main_v0_1)) (v2 : (c : Dev Cert.LatentIdeal.nD) → Buf (Elt Ideal) ((c.tc : Thread Cert.LatentIdeal.nD Cert.LatentIdeal.τ).loc Cert.LatentIdeal.main_v0_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0_0) = v0 c
          ∧ r.2.mem ((c.tc : Thread Cert.LatentIdeal.nD Cert.LatentIdeal.τ).loc Cert.LatentIdeal.main_v0_1) = v1 c
          ∧ r.2.mem ((c.tc : Thread Cert.LatentIdeal.nD Cert.LatentIdeal.τ).loc Cert.LatentIdeal.main_v0_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.LatentPlainIdeal.defs (F := Ideal)) (onTc (τ := Cert.LatentPlainIdeal.τ) (Cert.LatentPlainIdeal.main (F := Ideal))) ⟨m', fun _ => 0, g'⟩ (fun r => ∀ c : Dev Cert.LatentPlainIdeal.nD,
          r.2.mem ((c.tc : Thread Cert.LatentPlainIdeal.nD Cert.LatentPlainIdeal.τ).loc Cert.LatentPlainIdeal.main_v54) = v0 c
          ∧ r.2.mem ((c.tc : Thread Cert.LatentPlainIdeal.nD Cert.LatentPlainIdeal.τ).loc Cert.LatentPlainIdeal.main_v56) = v1 c
          ∧ r.2.mem ((c.tc : Thread Cert.LatentPlainIdeal.nD Cert.LatentPlainIdeal.τ).loc Cert.LatentPlainIdeal.main_v58) = v2 c
          ∧ r.2.mem ((c.tc : Thread Cert.LatentPlainIdeal.nD Cert.LatentPlainIdeal.τ).loc Cert.LatentPlainIdeal.main_arg0) = m' ((c.tc : Thread Cert.LatentPlainIdeal.nD Cert.LatentPlainIdeal.τ).loc Cert.LatentPlainIdeal.main_arg0)
          ∧ r.2.mem ((c.tc : Thread Cert.LatentPlainIdeal.nD Cert.LatentPlainIdeal.τ).loc Cert.LatentPlainIdeal.main_arg1) = m' ((c.tc : Thread Cert.LatentPlainIdeal.nD Cert.LatentPlainIdeal.τ).loc Cert.LatentPlainIdeal.main_arg1)
          ∧ r.2.mem ((c.tc : Thread Cert.LatentPlainIdeal.nD Cert.LatentPlainIdeal.τ).loc Cert.LatentPlainIdeal.main_arg2) = m' ((c.tc : Thread Cert.LatentPlainIdeal.nD Cert.LatentPlainIdeal.τ).loc Cert.LatentPlainIdeal.main_arg2)
          ∧ r.2.mem ((c.tc : Thread Cert.LatentPlainIdeal.nD Cert.LatentPlainIdeal.τ).loc Cert.LatentPlainIdeal.main_arg3) = m' ((c.tc : Thread Cert.LatentPlainIdeal.nD Cert.LatentPlainIdeal.τ).loc Cert.LatentPlainIdeal.main_arg3)
          ∧ r.2.mem ((c.tc : Thread Cert.LatentPlainIdeal.nD Cert.LatentPlainIdeal.τ).loc Cert.LatentPlainIdeal.main_arg4) = m' ((c.tc : Thread Cert.LatentPlainIdeal.nD Cert.LatentPlainIdeal.τ).loc Cert.LatentPlainIdeal.main_arg4)
          ∧ r.2.mem ((c.tc : Thread Cert.LatentPlainIdeal.nD Cert.LatentPlainIdeal.τ).loc Cert.LatentPlainIdeal.main_arg5) = m' ((c.tc : Thread Cert.LatentPlainIdeal.nD Cert.LatentPlainIdeal.τ).loc Cert.LatentPlainIdeal.main_arg5)
          ∧ r.2.mem ((c.tc : Thread Cert.LatentPlainIdeal.nD Cert.LatentPlainIdeal.τ).loc Cert.LatentPlainIdeal.main_arg6) = m' ((c.tc : Thread Cert.LatentPlainIdeal.nD Cert.LatentPlainIdeal.τ).loc Cert.LatentPlainIdeal.main_arg6))

def Claim : Prop :=
  ∃ (hKernel : Cert.Kernel.Facts) (hKernelIdeal : Cert.KernelIdeal.Facts) (hReferenceIdeal : Cert.ReferenceIdeal.Facts) (hWeights : Cert.Weights.Facts) (hWeightsIdeal : Cert.WeightsIdeal.Facts) (hAllWeightsIdeal : Cert.AllWeightsIdeal.Facts) (hAllWeights : Cert.AllWeights.Facts) (hConv : Cert.Conv.Facts) (hConvIdeal : Cert.ConvIdeal.Facts) (hAllConvIdeal : Cert.AllConvIdeal.Facts) (hAllConv : Cert.AllConv.Facts) (hGradIn : Cert.GradIn.Facts) (hGradInIdeal : Cert.GradInIdeal.Facts) (hGradInPlainIdeal : Cert.GradInPlainIdeal.Facts) (hLoss : Cert.Loss.Facts) (hLossIdeal : Cert.LossIdeal.Facts) (hLossPlainIdeal : Cert.LossPlainIdeal.Facts) (hGated : Cert.Gated.Facts) (hGatedIdeal : Cert.GatedIdeal.Facts) (hGatedPlainIdeal : Cert.GatedPlainIdeal.Facts) (hDown : Cert.Down.Facts) (hDownIdeal : Cert.DownIdeal.Facts) (hDownPlainIdeal : Cert.DownPlainIdeal.Facts) (hGatedBack : Cert.GatedBack.Facts) (hGatedBackIdeal : Cert.GatedBackIdeal.Facts) (hGatedBackPlainIdeal : Cert.GatedBackPlainIdeal.Facts) (hGradGate : Cert.GradGate.Facts) (hGradGateIdeal : Cert.GradGateIdeal.Facts) (hGradGatePlainIdeal : Cert.GradGatePlainIdeal.Facts) (hAttention : Cert.Attention.Facts) (hAttentionIdeal : Cert.AttentionIdeal.Facts) (hAttentionPlainIdeal : Cert.AttentionPlainIdeal.Facts) (hProject : Cert.Project.Facts) (hProjectIdeal : Cert.ProjectIdeal.Facts) (hProjectPlainIdeal : Cert.ProjectPlainIdeal.Facts) (hMixed : Cert.Mixed.Facts) (hMixedIdeal : Cert.MixedIdeal.Facts) (hMixedPlainIdeal : Cert.MixedPlainIdeal.Facts) (hEmbedded : Cert.Embedded.Facts) (hEmbeddedIdeal : Cert.EmbeddedIdeal.Facts) (hEmbeddedPlainIdeal : Cert.EmbeddedPlainIdeal.Facts) (hShort : Cert.Short.Facts) (hShortIdeal : Cert.ShortIdeal.Facts) (hShortPlainIdeal : Cert.ShortPlainIdeal.Facts) (hGradDown : Cert.GradDown.Facts) (hGradDownIdeal : Cert.GradDownIdeal.Facts) (hGradDownPlainIdeal : Cert.GradDownPlainIdeal.Facts) (hGradProj : Cert.GradProj.Facts) (hGradProjIdeal : Cert.GradProjIdeal.Facts) (hGradProjPlainIdeal : Cert.GradProjPlainIdeal.Facts) (hGradPart : Cert.GradPart.Facts) (hGradPartIdeal : Cert.GradPartIdeal.Facts) (hGradPartPlainIdeal : Cert.GradPartPlainIdeal.Facts) (hLatent : Cert.Latent.Facts) (hLatentIdeal : Cert.LatentIdeal.Facts) (hLatentPlainIdeal : Cert.LatentPlainIdeal.Facts) (hPre_real_scores : Cert.Pre_real_scores.Facts),
    quiescent_Kernel (hKernel := hKernel)
    ∧ quiescent_KernelIdeal (hKernelIdeal := hKernelIdeal)
    ∧ quiescent_ReferenceIdeal (hReferenceIdeal := hReferenceIdeal)
    ∧ quiescent_Weights (hWeights := hWeights)
    ∧ quiescent_WeightsIdeal (hWeightsIdeal := hWeightsIdeal)
    ∧ quiescent_AllWeightsIdeal (hAllWeightsIdeal := hAllWeightsIdeal)
    ∧ quiescent_AllWeights (hAllWeights := hAllWeights)
    ∧ quiescent_Conv (hConv := hConv)
    ∧ quiescent_ConvIdeal (hConvIdeal := hConvIdeal)
    ∧ quiescent_AllConvIdeal (hAllConvIdeal := hAllConvIdeal)
    ∧ quiescent_AllConv (hAllConv := hAllConv)
    ∧ quiescent_GradIn (hGradIn := hGradIn)
    ∧ quiescent_GradInIdeal (hGradInIdeal := hGradInIdeal)
    ∧ quiescent_GradInPlainIdeal (hGradInPlainIdeal := hGradInPlainIdeal)
    ∧ quiescent_Loss (hLoss := hLoss)
    ∧ quiescent_LossIdeal (hLossIdeal := hLossIdeal)
    ∧ quiescent_LossPlainIdeal (hLossPlainIdeal := hLossPlainIdeal)
    ∧ quiescent_Gated (hGated := hGated)
    ∧ quiescent_GatedIdeal (hGatedIdeal := hGatedIdeal)
    ∧ quiescent_GatedPlainIdeal (hGatedPlainIdeal := hGatedPlainIdeal)
    ∧ quiescent_Down (hDown := hDown)
    ∧ quiescent_DownIdeal (hDownIdeal := hDownIdeal)
    ∧ quiescent_DownPlainIdeal (hDownPlainIdeal := hDownPlainIdeal)
    ∧ quiescent_GatedBack (hGatedBack := hGatedBack)
    ∧ quiescent_GatedBackIdeal (hGatedBackIdeal := hGatedBackIdeal)
    ∧ quiescent_GatedBackPlainIdeal (hGatedBackPlainIdeal := hGatedBackPlainIdeal)
    ∧ quiescent_GradGate (hGradGate := hGradGate)
    ∧ quiescent_GradGateIdeal (hGradGateIdeal := hGradGateIdeal)
    ∧ quiescent_GradGatePlainIdeal (hGradGatePlainIdeal := hGradGatePlainIdeal)
    ∧ quiescent_Attention (hAttention := hAttention)
    ∧ quiescent_AttentionIdeal (hAttentionIdeal := hAttentionIdeal)
    ∧ quiescent_AttentionIdeal_pre_real_scores (hAttentionIdeal := hAttentionIdeal) (hPre_real_scores := hPre_real_scores)
    ∧ quiescent_AttentionPlainIdeal (hAttentionPlainIdeal := hAttentionPlainIdeal)
    ∧ quiescent_AttentionPlainIdeal_pre_real_scores (hAttentionPlainIdeal := hAttentionPlainIdeal) (hPre_real_scores := hPre_real_scores)
    ∧ quiescent_Project (hProject := hProject)
    ∧ quiescent_ProjectIdeal (hProjectIdeal := hProjectIdeal)
    ∧ quiescent_ProjectPlainIdeal (hProjectPlainIdeal := hProjectPlainIdeal)
    ∧ quiescent_Mixed (hMixed := hMixed)
    ∧ quiescent_MixedIdeal (hMixedIdeal := hMixedIdeal)
    ∧ quiescent_MixedPlainIdeal (hMixedPlainIdeal := hMixedPlainIdeal)
    ∧ quiescent_Embedded (hEmbedded := hEmbedded)
    ∧ quiescent_EmbeddedIdeal (hEmbeddedIdeal := hEmbeddedIdeal)
    ∧ quiescent_EmbeddedPlainIdeal (hEmbeddedPlainIdeal := hEmbeddedPlainIdeal)
    ∧ quiescent_Short (hShort := hShort)
    ∧ quiescent_ShortIdeal (hShortIdeal := hShortIdeal)
    ∧ quiescent_ShortPlainIdeal (hShortPlainIdeal := hShortPlainIdeal)
    ∧ quiescent_GradDown (hGradDown := hGradDown)
    ∧ quiescent_GradDownIdeal (hGradDownIdeal := hGradDownIdeal)
    ∧ quiescent_GradDownPlainIdeal (hGradDownPlainIdeal := hGradDownPlainIdeal)
    ∧ quiescent_GradProj (hGradProj := hGradProj)
    ∧ quiescent_GradProjIdeal (hGradProjIdeal := hGradProjIdeal)
    ∧ quiescent_GradProjPlainIdeal (hGradProjPlainIdeal := hGradProjPlainIdeal)
    ∧ quiescent_GradPart (hGradPart := hGradPart)
    ∧ quiescent_GradPartIdeal (hGradPartIdeal := hGradPartIdeal)
    ∧ quiescent_GradPartPlainIdeal (hGradPartPlainIdeal := hGradPartPlainIdeal)
    ∧ quiescent_Latent (hLatent := hLatent)
    ∧ quiescent_LatentIdeal (hLatentIdeal := hLatentIdeal)
    ∧ quiescent_LatentPlainIdeal (hLatentPlainIdeal := hLatentPlainIdeal)
    ∧ preserves_Kernel_KernelIdeal
    ∧ algebraic_KernelIdeal_ReferenceIdeal (hKernelIdeal := hKernelIdeal) (hReferenceIdeal := hReferenceIdeal)
    ∧ preserves_Weights_WeightsIdeal
    ∧ algebraic_WeightsIdeal_AllWeightsIdeal (hWeightsIdeal := hWeightsIdeal) (hAllWeightsIdeal := hAllWeightsIdeal)
    ∧ bitexact_Weights_AllWeights (hWeights := hWeights) (hAllWeights := hAllWeights)
    ∧ preserves_Conv_ConvIdeal
    ∧ algebraic_ConvIdeal_AllConvIdeal (hConvIdeal := hConvIdeal) (hAllConvIdeal := hAllConvIdeal)
    ∧ bitexact_Conv_AllConv (hConv := hConv) (hAllConv := hAllConv)
    ∧ preserves_GradIn_GradInIdeal
    ∧ algebraic_GradInIdeal_GradInPlainIdeal (hGradInIdeal := hGradInIdeal) (hGradInPlainIdeal := hGradInPlainIdeal)
    ∧ preserves_Loss_LossIdeal
    ∧ algebraic_LossIdeal_LossPlainIdeal (hLossIdeal := hLossIdeal) (hLossPlainIdeal := hLossPlainIdeal)
    ∧ preserves_Gated_GatedIdeal
    ∧ algebraic_GatedIdeal_GatedPlainIdeal (hGatedIdeal := hGatedIdeal) (hGatedPlainIdeal := hGatedPlainIdeal)
    ∧ preserves_Down_DownIdeal
    ∧ algebraic_DownIdeal_DownPlainIdeal (hDownIdeal := hDownIdeal) (hDownPlainIdeal := hDownPlainIdeal)
    ∧ preserves_GatedBack_GatedBackIdeal
    ∧ algebraic_GatedBackIdeal_GatedBackPlainIdeal (hGatedBackIdeal := hGatedBackIdeal) (hGatedBackPlainIdeal := hGatedBackPlainIdeal)
    ∧ preserves_GradGate_GradGateIdeal
    ∧ algebraic_GradGateIdeal_GradGatePlainIdeal (hGradGateIdeal := hGradGateIdeal) (hGradGatePlainIdeal := hGradGatePlainIdeal)
    ∧ preserves_Attention_AttentionIdeal
    ∧ algebraic_AttentionIdeal_AttentionPlainIdeal_pre_real_scores (hAttentionIdeal := hAttentionIdeal) (hAttentionPlainIdeal := hAttentionPlainIdeal) (hPre_real_scores := hPre_real_scores)
    ∧ preserves_Project_ProjectIdeal
    ∧ algebraic_ProjectIdeal_ProjectPlainIdeal (hProjectIdeal := hProjectIdeal) (hProjectPlainIdeal := hProjectPlainIdeal)
    ∧ preserves_Mixed_MixedIdeal
    ∧ algebraic_MixedIdeal_MixedPlainIdeal (hMixedIdeal := hMixedIdeal) (hMixedPlainIdeal := hMixedPlainIdeal)
    ∧ preserves_Embedded_EmbeddedIdeal
    ∧ algebraic_EmbeddedIdeal_EmbeddedPlainIdeal (hEmbeddedIdeal := hEmbeddedIdeal) (hEmbeddedPlainIdeal := hEmbeddedPlainIdeal)
    ∧ preserves_Short_ShortIdeal
    ∧ algebraic_ShortIdeal_ShortPlainIdeal (hShortIdeal := hShortIdeal) (hShortPlainIdeal := hShortPlainIdeal)
    ∧ preserves_GradDown_GradDownIdeal
    ∧ algebraic_GradDownIdeal_GradDownPlainIdeal (hGradDownIdeal := hGradDownIdeal) (hGradDownPlainIdeal := hGradDownPlainIdeal)
    ∧ preserves_GradProj_GradProjIdeal
    ∧ algebraic_GradProjIdeal_GradProjPlainIdeal (hGradProjIdeal := hGradProjIdeal) (hGradProjPlainIdeal := hGradProjPlainIdeal)
    ∧ preserves_GradPart_GradPartIdeal
    ∧ algebraic_GradPartIdeal_GradPartPlainIdeal (hGradPartIdeal := hGradPartIdeal) (hGradPartPlainIdeal := hGradPartPlainIdeal)
    ∧ preserves_Latent_LatentIdeal
    ∧ algebraic_LatentIdeal_LatentPlainIdeal (hLatentIdeal := hLatentIdeal) (hLatentPlainIdeal := hLatentPlainIdeal)
-- ==== Pre_real_scores.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .bf16) (main_arg1 : FVec F S8192x1024 .bf16) (main_arg2 : FVec F S8192x512 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  main_v10
-- ==== Kernel.lean ====
abbrev S8x7168x1024 : Shape := ⟨3, ![8, 7168, 1024]⟩
abbrev S7168x1024 : Shape := ⟨2, ![7168, 1024]⟩
abbrev S7 : Shape := ⟨1, ![7]⟩
abbrev S_ : Shape := ⟨0, ![]⟩
abbrev S1x7168x1024 : Shape := ⟨3, ![1, 7168, 1024]⟩
abbrev S1 : Shape := ⟨1, ![1]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x7168x1024, .f32⟩
  | .hbm, ⟨1, _⟩ => ⟨S7168x1024, .f32⟩
  | .hbm, ⟨2, _⟩ => ⟨S7168x1024, .f32⟩
  | .hbm, ⟨3, _⟩ => ⟨S7168x1024, .f32⟩
  | .hbm, ⟨4, _⟩ => ⟨S8x7168x1024, .f32⟩
  | .hbm, ⟨5, _⟩ => ⟨S7168x1024, .f32⟩
  | .hbm, ⟨6, _⟩ => ⟨S7168x1024, .f32⟩
  | .hbm, ⟨7, _⟩ => ⟨S7168x1024, .f32⟩
  | .hbm, ⟨8, _⟩ => ⟨S7168x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x7168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_31 : BitVec 32 := 0#32
  ![v12.toNat, 0, 0]
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_42 : BitVec 32 := 0#32
  let c0_i32_43 : BitVec 32 := 0#32
  ![v17.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_39 : BitVec 32 := 1#32
  let v61 : BitVec 32 := Scalar.muli v13 c1_i32_39
  let v62 : BitVec 32 := Scalar.addi v60 v61
  v62.toNat
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_52 : BitVec 32 := 0#32
  let c0_i32_53 : BitVec 32 := 0#32
  ![v22.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_48 : BitVec 32 := 2#32
  let v73 : BitVec 32 := Scalar.muli v18 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_62 : BitVec 32 := 0#32
  let c0_i32_63 : BitVec 32 := 0#32
  ![v28.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_58 : BitVec 32 := 2#32
  let v87 : BitVec 32 := Scalar.muli v23 c2_i32_58
  let v88 : BitVec 32 := Scalar.addi v86 v87
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_59 : BitVec 32 := 1#32
  let v89 : BitVec 32 := Scalar.muli v24 c1_i32_59
  let v90 : BitVec 32 := Scalar.addi v88 v89
  v90.toNat
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_71 : BitVec 32 := 0#32
  let c0_i32_72 : BitVec 32 := 0#32
  ![v33.toNat, 0, 0]
def k0_dev4 (d0 : Dev nD) : Nat :=
  let c0_i32_66 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_65 : BitVec 32 := 4#32
  let v99 : BitVec 32 := Scalar.muli v29 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_81 : BitVec 32 := 0#32
  let c0_i32_82 : BitVec 32 := 0#32
  ![v39.toNat, 0, 0]
def k0_dev5 (d0 : Dev nD) : Nat :=
  let c0_i32_76 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_75 : BitVec 32 := 4#32
  let v113 : BitVec 32 := Scalar.muli v34 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_78 : BitVec 32 := 1#32
  let v117 : BitVec 32 := Scalar.muli v35 c1_i32_78
  let v118 : BitVec 32 := Scalar.addi v116 v117
  v118.toNat
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_90 : BitVec 32 := 0#32
  let c0_i32_91 : BitVec 32 := 0#32
  ![v45.toNat, 0, 0]
def k0_dev6 (d0 : Dev nD) : Nat :=
  let c0_i32_85 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_84 : BitVec 32 := 4#32
  let v127 : BitVec 32 := Scalar.muli v40 c4_i32_84
  let v128 : BitVec 32 := Scalar.addi c0_i32_85 v127
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_86 : BitVec 32 := 2#32
  let v129 : BitVec 32 := Scalar.muli v41 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_99 : BitVec 32 := 0#32
  let c0_i32_100 : BitVec 32 := 0#32
  ![v52.toNat, 0, 0]
def k0_dev7 (d0 : Dev nD) : Nat :=
  let c0_i32_94 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_93 : BitVec 32 := 4#32
  let v141 : BitVec 32 := Scalar.muli v46 c4_i32_93
  let v142 : BitVec 32 := Scalar.addi c0_i32_94 v141
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_95 : BitVec 32 := 2#32
  let v143 : BitVec 32 := Scalar.muli v47 c2_i32_95
  let v144 : BitVec 32 := Scalar.addi v142 v143
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_96 : BitVec 32 := 1#32
  let v145 : BitVec 32 := Scalar.muli v48 c1_i32_96
  let v146 : BitVec 32 := Scalar.addi v144 v145
  v146.toNat
abbrev grid1 : Pipeline.Grid := ⟨1, ![28], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S64x7168x1024 : Shape := ⟨3, ![64, 7168, 1024]⟩
abbrev S57344x1024 : Shape := ⟨2, ![57344, 1024]⟩
abbrev S8x57344x1024 : Shape := ⟨3, ![8, 57344, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x7168x1024, .f32⟩
  | .hbm, ⟨1, _⟩ => ⟨S57344x1024, .f32⟩
  | .hbm, ⟨2, _⟩ => ⟨S57344x1024, .f32⟩
  | .hbm, ⟨3, _⟩ => ⟨S57344x1024, .f32⟩
  | .hbm, ⟨4, _⟩ => ⟨S8x57344x1024, .f32⟩
  | .hbm, ⟨5, _⟩ => ⟨S_, .f32⟩
  | .hbm, ⟨6, _⟩ => ⟨S57344x1024, .f32⟩
  | .hbm, ⟨7, _⟩ => ⟨S_, .f32⟩
  | .hbm, ⟨8, _⟩ => ⟨S57344x1024, .f32⟩
  | .hbm, ⟨9, _⟩ => ⟨S57344x1024, .f32⟩
  | .hbm, ⟨10, _⟩ => ⟨S_, .f32⟩
  | .hbm, ⟨11, _⟩ => ⟨S57344x1024, .f32⟩
  | .hbm, ⟨12, _⟩ => ⟨S57344x1024, .f32⟩
  | .hbm, ⟨13, _⟩ => ⟨S57344x1024, .f32⟩
  | .hbm, ⟨14, _⟩ => ⟨S_, .f32⟩
  | .hbm, ⟨15, _⟩ => ⟨S57344x1024, .f32⟩
  | .hbm, ⟨16, _⟩ => ⟨S57344x1024, .f32⟩
  | .hbm, ⟨17, _⟩ => ⟨S57344x1024, .f32⟩
  | .hbm, ⟨18, _⟩ => ⟨S_, .f32⟩
  | .hbm, ⟨19, _⟩ => ⟨S57344x1024, .f32⟩
  | .hbm, ⟨20, _⟩ => ⟨S57344x1024, .f32⟩
  | .hbm, ⟨21, _⟩ => ⟨S57344x1024, .f32⟩
  | .hbm, ⟨22, _⟩ => ⟨S_, .f32⟩
  | .hbm, ⟨23, _⟩ => ⟨S57344x1024, .f32⟩
  | .hbm, ⟨24, _⟩ => ⟨S57344x1024, .f32⟩
  | .hbm, ⟨25, _⟩ => ⟨S_, .f32⟩
  | .hbm, ⟨26, _⟩ => ⟨S57344x1024, .f32⟩
  | .hbm, ⟨27, _⟩ => ⟨S57344x1024, .f32⟩
  | .hbm, ⟨28, _⟩ => ⟨S57344x1024, .f32⟩
  | .hbm, ⟨29, _⟩ => ⟨S_, .f32⟩
  | .hbm, ⟨30, _⟩ => ⟨S57344x1024, .f32⟩
  | .hbm, ⟨31, _⟩ => ⟨S57344x1024, .f32⟩
  | .hbm, ⟨32, _⟩ => ⟨S57344x1024, .f32⟩
  | .hbm, ⟨33, _⟩ => ⟨S_, .f32⟩
  | .hbm, ⟨34, _⟩ => ⟨S57344x1024, .f32⟩
  | .hbm, ⟨35, _⟩ => ⟨S57344x1024, .f32⟩
  | .hbm, ⟨36, _⟩ => ⟨S57344x1024, .f32⟩
  | .hbm, ⟨37, _⟩ => ⟨S_, .f32⟩
  | .hbm, ⟨38, _⟩ => ⟨S57344x1024, .f32⟩
  | .hbm, ⟨39, _⟩ => ⟨S57344x1024, .f32⟩
  | _, _ => ⟨S64x7168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Weights.lean ====
abbrev S7104x1024 : Shape := ⟨2, ![7104, 1024]⟩
abbrev S8x7104x1024 : Shape := ⟨3, ![8, 7104, 1024]⟩
abbrev S7 : Shape := ⟨1, ![7]⟩
abbrev S_ : Shape := ⟨0, ![]⟩
abbrev S1x7104x1024 : Shape := ⟨3, ![1, 7104, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S7104x1024, .bf16⟩
  | .hbm, ⟨1, _⟩ => ⟨S8x7104x1024, .bf16⟩
  | _, _ => ⟨S7104x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_17 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v27 : BitVec 32 := Scalar.muli v2 c4_i32_20
  let v28 : BitVec 32 := Scalar.addi c0_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v29 : BitVec 32 := Scalar.muli v5 c2_i32_22
  let v30 : BitVec 32 := Scalar.addi v28 v29
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_23 : BitVec 32 := 1#32
  let v31 : BitVec 32 := Scalar.muli v13 c1_i32_23
  let v32 : BitVec 32 := Scalar.addi v30 v31
  v32.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_30 : BitVec 32 := 2#32
  let v41 : BitVec 32 := Scalar.muli v14 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v51 : BitVec 32 := Scalar.muli v2 c4_i32_36
  let v52 : BitVec 32 := Scalar.addi c0_i32_37 v51
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_38 : BitVec 32 := 2#32
  let v53 : BitVec 32 := Scalar.muli v15 c2_i32_38
  let v54 : BitVec 32 := Scalar.addi v52 v53
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_39 : BitVec 32 := 1#32
  let v55 : BitVec 32 := Scalar.muli v16 c1_i32_39
  let v56 : BitVec 32 := Scalar.addi v54 v55
  v56.toNat
def k0_dev4 (d0 : Dev nD) : Nat :=
  let c0_i32_44 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_43 : BitVec 32 := 4#32
  let v63 : BitVec 32 := Scalar.muli v17 c4_i32_43
  let v64 : BitVec 32 := Scalar.addi c0_i32_44 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v65 : BitVec 32 := Scalar.muli v5 c2_i32_45
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v67 : BitVec 32 := Scalar.muli v8 c1_i32_46
  let v68 : BitVec 32 := Scalar.addi v66 v67
  v68.toNat
def k0_dev5 (d0 : Dev nD) : Nat :=
  let c0_i32_52 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_51 : BitVec 32 := 4#32
  let v75 : BitVec 32 := Scalar.muli v18 c4_i32_51
  let v76 : BitVec 32 := Scalar.addi c0_i32_52 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v77 : BitVec 32 := Scalar.muli v5 c2_i32_53
  let v78 : BitVec 32 := Scalar.addi v76 v77
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_54 : BitVec 32 := 1#32
  let v79 : BitVec 32 := Scalar.muli v19 c1_i32_54
  let v80 : BitVec 32 := Scalar.addi v78 v79
  v80.toNat
def k0_dev6 (d0 : Dev nD) : Nat :=
  let c0_i32_59 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_58 : BitVec 32 := 4#32
  let v87 : BitVec 32 := Scalar.muli v20 c4_i32_58
  let v88 : BitVec 32 := Scalar.addi c0_i32_59 v87
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_60 : BitVec 32 := 2#32
  let v89 : BitVec 32 := Scalar.muli v21 c2_i32_60
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v91 : BitVec 32 := Scalar.muli v8 c1_i32_61
  let v92 : BitVec 32 := Scalar.addi v90 v91
  v92.toNat
def k0_dev7 (d0 : Dev nD) : Nat :=
  let c0_i32_66 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_65 : BitVec 32 := 4#32
  let v99 : BitVec 32 := Scalar.muli v22 c4_i32_65
  let v100 : BitVec 32 := Scalar.addi c0_i32_66 v99
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_67 : BitVec 32 := 2#32
  let v101 : BitVec 32 := Scalar.muli v23 c2_i32_67
  let v102 : BitVec 32 := Scalar.addi v100 v101
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_68 : BitVec 32 := 1#32
  let v103 : BitVec 32 := Scalar.muli v24 c1_i32_68
  let v104 : BitVec 32 := Scalar.addi v102 v103
  v104.toNat
-- ==== AllWeights.lean ====
abbrev S56832x1024 : Shape := ⟨2, ![56832, 1024]⟩
abbrev S8x7104x1024 : Shape := ⟨3, ![8, 7104, 1024]⟩

abbrev nBuf : Space → Nat
  | .hbm => 2
  | .vmem => 0
  | .smem => 0
  | _ => 0

abbrev bufTy : (tb : Table) → Fin (tcTables nBuf tb) → BufTy
  | .hbm, ⟨0, _⟩ => ⟨S56832x1024, .bf16⟩
  | .hbm, ⟨1, _⟩ => ⟨S8x7104x1024, .bf16⟩
  | _, _ => ⟨S56832x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Conv.lean ====
abbrev S8x1024 : Shape := ⟨2, ![8, 1024]⟩
abbrev S8x8x1024 : Shape := ⟨3, ![8, 8, 1024]⟩
abbrev S7 : Shape := ⟨1, ![7]⟩
abbrev S_ : Shape := ⟨0, ![]⟩
abbrev S1x8x1024 : Shape := ⟨3, ![1, 8, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_17 : BitVec 32 := 0#32
  ![v12.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v27 : BitVec 32 := Scalar.muli v2 c4_i32_20
  let v28 : BitVec 32 := Scalar.addi c0_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v29 : BitVec 32 := Scalar.muli v5 c2_i32_22
  let v30 : BitVec 32 := Scalar.addi v28 v29
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_23 : BitVec 32 := 1#32
  let v31 : BitVec 32 := Scalar.muli v13 c1_i32_23
  let v32 : BitVec 32 := Scalar.addi v30 v31
  v32.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_30 : BitVec 32 := 2#32
  let v41 : BitVec 32 := Scalar.muli v14 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v51 : BitVec 32 := Scalar.muli v2 c4_i32_36
  let v52 : BitVec 32 := Scalar.addi c0_i32_37 v51
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_38 : BitVec 32 := 2#32
  let v53 : BitVec 32 := Scalar.muli v15 c2_i32_38
  let v54 : BitVec 32 := Scalar.addi v52 v53
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_39 : BitVec 32 := 1#32
  let v55 : BitVec 32 := Scalar.muli v16 c1_i32_39
  let v56 : BitVec 32 := Scalar.addi v54 v55
  v56.toNat
def k0_dev4 (d0 : Dev nD) : Nat :=
  let c0_i32_44 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_43 : BitVec 32 := 4#32
  let v63 : BitVec 32 := Scalar.muli v17 c4_i32_43
  let v64 : BitVec 32 := Scalar.addi c0_i32_44 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v65 : BitVec 32 := Scalar.muli v5 c2_i32_45
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v67 : BitVec 32 := Scalar.muli v8 c1_i32_46
  let v68 : BitVec 32 := Scalar.addi v66 v67
  v68.toNat
def k0_dev5 (d0 : Dev nD) : Nat :=
  let c0_i32_52 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_51 : BitVec 32 := 4#32
  let v75 : BitVec 32 := Scalar.muli v18 c4_i32_51
  let v76 : BitVec 32 := Scalar.addi c0_i32_52 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v77 : BitVec 32 := Scalar.muli v5 c2_i32_53
  let v78 : BitVec 32 := Scalar.addi v76 v77
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_54 : BitVec 32 := 1#32
  let v79 : BitVec 32 := Scalar.muli v19 c1_i32_54
  let v80 : BitVec 32 := Scalar.addi v78 v79
  v80.toNat
def k0_dev6 (d0 : Dev nD) : Nat :=
  let c0_i32_59 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_58 : BitVec 32 := 4#32
  let v87 : BitVec 32 := Scalar.muli v20 c4_i32_58
  let v88 : BitVec 32 := Scalar.addi c0_i32_59 v87
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_60 : BitVec 32 := 2#32
  let v89 : BitVec 32 := Scalar.muli v21 c2_i32_60
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v91 : BitVec 32 := Scalar.muli v8 c1_i32_61
  let v92 : BitVec 32 := Scalar.addi v90 v91
  v92.toNat
def k0_dev7 (d0 : Dev nD) : Nat :=
  let c0_i32_66 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_65 : BitVec 32 := 4#32
  let v99 : BitVec 32 := Scalar.muli v22 c4_i32_65
  let v100 : BitVec 32 := Scalar.addi c0_i32_66 v99
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_67 : BitVec 32 := 2#32
  let v101 : BitVec 32 := Scalar.muli v23 c2_i32_67
  let v102 : BitVec 32 := Scalar.addi v100 v101
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_68 : BitVec 32 := 1#32
  let v103 : BitVec 32 := Scalar.muli v24 c1_i32_68
  let v104 : BitVec 32 := Scalar.addi v102 v103
  v104.toNat
-- ==== AllConv.lean ====
abbrev S64x1024 : Shape := ⟨2, ![64, 1024]⟩
abbrev S8x8x1024 : Shape := ⟨3, ![8, 8, 1024]⟩

abbrev nBuf : Space → Nat
  | .hbm => 2
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S8x8x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GradIn.lean ====
abbrev S8192x3072 : Shape := ⟨2, ![8192, 3072]⟩
abbrev S1024x3072 : Shape := ⟨2, ![1024, 3072]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradInPlainIdeal.lean ====
abbrev S8192x3072 : Shape := ⟨2, ![8192, 3072]⟩
abbrev S1024x3072 : Shape := ⟨2, ![1024, 3072]⟩
abbrev S8192x1024 : Shape := ⟨2, ![8192, 1024]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x3072, .f32⟩
  | .hbm, ⟨4, _⟩ => ⟨S1024x3072, .f32⟩
  | .hbm, ⟨5, _⟩ => ⟨S3072x1024, .f32⟩
  | .hbm, ⟨6, _⟩ => ⟨S8192x1024, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Loss.lean ====
abbrev S8192x1024 : Shape := ⟨2, ![8192, 1024]⟩
abbrev S1x1 : Shape := ⟨2, ![1, 1]⟩
abbrev S256x1024 : Shape := ⟨2, ![256, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossPlainIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Gated.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .bf16⟩
  | .hbm, ⟨2, _⟩ => ⟨S1024x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatedPlainIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .bf16⟩
  | .hbm, ⟨2, _⟩ => ⟨S1024x2816, .bf16⟩
  | .hbm, ⟨3, _⟩ => ⟨S1024x2816, .f32⟩
  | .hbm, ⟨4, _⟩ => ⟨S8192x2816, .f32⟩
  | .hbm, ⟨5, _⟩ => ⟨S1024x2816, .f32⟩
  | .hbm, ⟨6, _⟩ => ⟨S8192x2816, .f32⟩
  | .hbm, ⟨7, _⟩ => ⟨S8192x2816, .bf16⟩
  | .hbm, ⟨8, _⟩ => ⟨S8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownPlainIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GatedBack.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatedBackPlainIdeal.lean ====
abbrev S8192x1024 : Shape := ⟨2, ![8192, 1024]⟩
abbrev S2816x1024 : Shape := ⟨2, ![2816, 1024]⟩
abbrev S8192x2816 : Shape := ⟨2, ![8192, 2816]⟩
abbrev S1024x2816 : Shape := ⟨2, ![1024, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S1024x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .f32⟩
  | .hbm, ⟨32, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_v6_0 : Ref sig .tc := ⟨.hbm, 24, rfl⟩
abbrev main_call0_v11 : Ref sig .tc := ⟨.hbm, 25, rfl⟩
abbrev main_call0_v12 : Ref sig .tc := ⟨.hbm, 26, rfl⟩
abbrev main_v6_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩

abbrev nD : Nat := 1
abbrev τ : Topo := Topo.v7x

variable {F : FTy → Type} [FloatOps F]
-- ==== GradGate.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGatePlainIdeal.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S1024x8192, .f32⟩
  | .hbm, ⟨3, _⟩ => ⟨S8192x2816, .f32⟩
  | .hbm, ⟨4, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attention.lean ====
abbrev S8192x1024 : Shape := ⟨2, ![8192, 1024]⟩
abbrev S8192x512 : Shape := ⟨2, ![8192, 512]⟩
abbrev S4x8192x1 : Shape := ⟨3, ![4, 8192, 1]⟩
abbrev S1024x256 : Shape := ⟨2, ![1024, 256]⟩
abbrev S1024x128 : Shape := ⟨2, ![1024, 128]⟩
abbrev S1x1024x1 : Shape := ⟨3, ![1, 1024, 1]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 5
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S4x8192x1, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1024_i32 : BitVec 32 := 1024#32
  let v1 : BitVec 32 := Scalar.muli v0 c1024_i32
  let c1_i32_0 : BitVec 32 := 1#32
  let v2 : BitVec 32 := Scalar.subi v1 c1_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg2 v19
  let c0_i32_7 : BitVec 32 := 0#32
  ![v20.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1024_i32 : BitVec 32 := 1024#32
  let v1 : BitVec 32 := Scalar.muli v0 c1024_i32
  let c1_i32_0 : BitVec 32 := 1#32
  let v2 : BitVec 32 := Scalar.subi v1 c1_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg2 v19
  let c0_i32_7 : BitVec 32 := 0#32
  ![v20.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttentionIdeal.lean ====
variable {F : FTy → Type} [FloatOps F] [Named F]
def κ : String → Option EReal := fun
  | "mask" => some ⊥
  | _ => none
-- ==== AttentionPlainIdeal.lean ====
abbrev S8192x1024 : Shape := ⟨2, ![8192, 1024]⟩
abbrev S8192x512 : Shape := ⟨2, ![8192, 512]⟩
abbrev S8192 : Shape := ⟨1, ![8192]⟩
abbrev S_ : Shape := ⟨0, ![]⟩
abbrev S8192x4x256 : Shape := ⟨3, ![8192, 4, 256]⟩
abbrev S4x8192x8192 : Shape := ⟨3, ![4, 8192, 8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .f32⟩
  | .hbm, ⟨4, _⟩ => ⟨S8192x1024, .f32⟩
  | .hbm, ⟨5, _⟩ => ⟨S8192x512, .f32⟩
  | .hbm, ⟨6, _⟩ => ⟨S8192, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x4x256, .f32⟩
  | .hbm, ⟨26, _⟩ => ⟨S8192x4x256, .f32⟩
  | .hbm, ⟨27, _⟩ => ⟨S4x8192x8192, .f32⟩
  | .hbm, ⟨28, _⟩ => ⟨S_, .f32⟩
  | .hbm, ⟨29, _⟩ => ⟨S4x8192x8192, .f32⟩
  | .hbm, ⟨30, _⟩ => ⟨S4x8192x8192, .f32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S4x8192x8192, .i1⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192x1, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S8192x4x128, .f32⟩
  | .hbm, ⟨56, _⟩ => ⟨S4x128x8192, .f32⟩
  | .hbm, ⟨57, _⟩ => ⟨S8192x4x128, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S8192x512, .f32⟩
  | .hbm, ⟨62, _⟩ => ⟨S4x8192x8192, .f32⟩
  | .hbm, ⟨63, _⟩ => ⟨S4x8192x8192, .f32⟩
  | .hbm, ⟨64, _⟩ => ⟨S4x8192x8192, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x1, .f32⟩
  | .hbm, ⟨69, _⟩ => ⟨S4x8192x1, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩

abbrev nD : Nat := 1
abbrev τ : Topo := Topo.v7x

variable {F : FTy → Type} [FloatOps F]
-- ==== Project.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .bf16⟩
  | .hbm, ⟨2, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectPlainIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .bf16⟩
  | .hbm, ⟨2, _⟩ => ⟨S1024x3072, .f32⟩
  | .hbm, ⟨3, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mixed.lean ====
abbrev S8192x512 : Shape := ⟨2, ![8192, 512]⟩
abbrev S8192x3072 : Shape := ⟨2, ![8192, 3072]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S1x512, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixedPlainIdeal.lean ====
abbrev S8192x512 : Shape := ⟨2, ![8192, 512]⟩
abbrev S8192x3072 : Shape := ⟨2, ![8192, 3072]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S8192x4x128 : Shape := ⟨3, ![8192, 4, 128]⟩
abbrev S4x128 : Shape := ⟨2, ![4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S1x512, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x512, .f32⟩
  | .hbm, ⟨9, _⟩ => ⟨S8192x4x128, .f32⟩
  | .hbm, ⟨10, _⟩ => ⟨S4x128, .f32⟩
  | .hbm, ⟨11, _⟩ => ⟨S8192x4x128, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x128, .f32⟩
  | .hbm, ⟨23, _⟩ => ⟨S8192x4x128, .f32⟩
  | .hbm, ⟨24, _⟩ => ⟨S1x4x128, .f32⟩
  | .hbm, ⟨25, _⟩ => ⟨S8192x4x128, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S8192x4x128, .f32⟩
  | .hbm, ⟨30, _⟩ => ⟨S_, .f32⟩
  | .hbm, ⟨31, _⟩ => ⟨S8192x4x128, .f32⟩
  | .hbm, ⟨32, _⟩ => ⟨S8192x4x128, .f32⟩
  | .hbm, ⟨33, _⟩ => ⟨S_, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S8192x4x128, .f32⟩
  | .hbm, ⟨38, _⟩ => ⟨S8192x512, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Embedded.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EmbeddedPlainIdeal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S256x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Short.lean ====
abbrev S8192x3072 : Shape := ⟨2, ![8192, 3072]⟩
abbrev S8x1536 : Shape := ⟨2, ![8, 1536]⟩
abbrev S1x512 : Shape := ⟨2, ![1, 512]⟩
abbrev S8192x512 : Shape := ⟨2, ![8192, 512]⟩
abbrev S256x1536 : Shape := ⟨2, ![256, 1536]⟩
abbrev S256x128 : Shape := ⟨2, ![256, 128]⟩
abbrev S256x512 : Shape := ⟨2, ![256, 512]⟩
abbrev S264x1536 : Shape := ⟨2, ![264, 1536]⟩
abbrev S1x1536 : Shape := ⟨2, ![1, 1536]⟩
abbrev S256x1 : Shape := ⟨2, ![256, 1]⟩
abbrev S256 : Shape := ⟨1, ![256]⟩

abbrev nBuf : Space → Nat
  | .hbm => 9
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S8x1536, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S256x128, .f32⟩
  | .local _ .vmem, ⟨5, _⟩ => ⟨S256x128, .f32⟩
  | .local _ .vmem, ⟨6, _⟩ => ⟨S8x1536, .f32⟩
  | .local _ .vmem, ⟨7, _⟩ => ⟨S1x512, .f32⟩
  | .local _ .vmem, ⟨8, _⟩ => ⟨S1x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S264x1536, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ShortPlainIdeal.lean ====
abbrev S8192x3072 : Shape := ⟨2, ![8192, 3072]⟩
abbrev S8x1536 : Shape := ⟨2, ![8, 1536]⟩
abbrev S1x512 : Shape := ⟨2, ![1, 512]⟩
abbrev S8192x1536 : Shape := ⟨2, ![8192, 1536]⟩
abbrev S_ : Shape := ⟨0, ![]⟩
abbrev S8195x1536 : Shape := ⟨2, ![8195, 1536]⟩
abbrev S1x1536 : Shape := ⟨2, ![1, 1536]⟩
abbrev S1536 : Shape := ⟨1, ![1536]⟩
abbrev S8192x512 : Shape := ⟨2, ![8192, 512]⟩
abbrev S8192x4 : Shape := ⟨2, ![8192, 4]⟩
abbrev S8192x4x128 : Shape := ⟨3, ![8192, 4, 128]⟩
abbrev S8192x4x1 : Shape := ⟨3, ![8192, 4, 1]⟩

abbrev nBuf : Space → Nat
  | .hbm => 108
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8x1536, .f32⟩
  | .hbm, ⟨2, _⟩ => ⟨S1x512, .f32⟩
  | .hbm, ⟨3, _⟩ => ⟨S1x512, .f32⟩
  | .hbm, ⟨4, _⟩ => ⟨S8192x1536, .f32⟩
  | .hbm, ⟨5, _⟩ => ⟨S_, .i32⟩
  | .hbm, ⟨6, _⟩ => ⟨S_, .f32⟩
  | .hbm, ⟨7, _⟩ => ⟨S8195x1536, .f32⟩
  | .hbm, ⟨8, _⟩ => ⟨S8192x1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S8192x1536, .f32⟩
  | .hbm, ⟨13, _⟩ => ⟨S8192x1536, .f32⟩
  | .hbm, ⟨14, _⟩ => ⟨S_, .f32⟩
  | .hbm, ⟨15, _⟩ => ⟨S8192x1536, .f32⟩
  | .hbm, ⟨16, _⟩ => ⟨S8192x1536, .f32⟩
  | .hbm, ⟨17, _⟩ => ⟨S8192x1536, .f32⟩
  | .hbm, ⟨18, _⟩ => ⟨S1x1536, .f32⟩
  | .hbm, ⟨19, _⟩ => ⟨S1536, .f32⟩
  | .hbm, ⟨20, _⟩ => ⟨S1x1536, .f32⟩
  | .hbm, ⟨21, _⟩ => ⟨S8192x1536, .f32⟩
  | .hbm, ⟨22, _⟩ => ⟨S8192x1536, .f32⟩
  | .hbm, ⟨23, _⟩ => ⟨S8192x1536, .f32⟩
  | .hbm, ⟨24, _⟩ => ⟨S8192x1536, .f32⟩
  | .hbm, ⟨25, _⟩ => ⟨S1x1536, .f32⟩
  | .hbm, ⟨26, _⟩ => ⟨S1536, .f32⟩
  | .hbm, ⟨27, _⟩ => ⟨S1x1536, .f32⟩
  | .hbm, ⟨28, _⟩ => ⟨S8192x1536, .f32⟩
  | .hbm, ⟨29, _⟩ => ⟨S8192x1536, .f32⟩
  | .hbm, ⟨30, _⟩ => ⟨S8192x1536, .f32⟩
  | .hbm, ⟨31, _⟩ => ⟨S8192x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S8192x1536, .f32⟩
  | .hbm, ⟨36, _⟩ => ⟨S8192x1536, .f32⟩
  | .hbm, ⟨37, _⟩ => ⟨S8192x1536, .f32⟩
  | .hbm, ⟨38, _⟩ => ⟨S8192x1536, .f32⟩
  | .hbm, ⟨39, _⟩ => ⟨S8192x1536, .f32⟩
  | .hbm, ⟨40, _⟩ => ⟨S_, .f32⟩
  | .hbm, ⟨41, _⟩ => ⟨S8192x1536, .f32⟩
  | .hbm, ⟨42, _⟩ => ⟨S8192x1536, .f32⟩
  | .hbm, ⟨43, _⟩ => ⟨S_, .f32⟩
  | .hbm, ⟨44, _⟩ => ⟨S8192x1536, .f32⟩
  | .hbm, ⟨45, _⟩ => ⟨S8192x1536, .f32⟩
  | .hbm, ⟨46, _⟩ => ⟨S8192x1536, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x4, .f32⟩
  | .hbm, ⟨51, _⟩ => ⟨S8192x4x128, .f32⟩
  | .hbm, ⟨52, _⟩ => ⟨S8192x512, .f32⟩
  | .hbm, ⟨53, _⟩ => ⟨S8192x4, .f32⟩
  | .hbm, ⟨54, _⟩ => ⟨S8192x4x128, .f32⟩
  | .hbm, ⟨55, _⟩ => ⟨S8192x512, .f32⟩
  | .hbm, ⟨56, _⟩ => ⟨S8192x4x128, .f32⟩
  | .hbm, ⟨57, _⟩ => ⟨S8192x4x128, .f32⟩
  | .hbm, ⟨58, _⟩ => ⟨S_, .f32⟩
  | .hbm, ⟨59, _⟩ => ⟨S8192x4, .f32⟩
  | .hbm, ⟨60, _⟩ => ⟨S8192x4x1, .f32⟩
  | .hbm, ⟨61, _⟩ => ⟨S_, .f32⟩
  | .hbm, ⟨62, _⟩ => ⟨S8192x4x1, .f32⟩
  | .hbm, ⟨63, _⟩ => ⟨S8192x4x1, .f32⟩
  | .hbm, ⟨64, _⟩ => ⟨S8192x4x1, .f32⟩
  | .hbm, ⟨65, _⟩ => ⟨S8192x4x128, .f32⟩
  | .hbm, ⟨66, _⟩ => ⟨S8192x4x128, .f32⟩
  | .hbm, ⟨67, _⟩ => ⟨S8192x512, .f32⟩
  | .hbm, ⟨68, _⟩ => ⟨S8192x4x128, .f32⟩
  | .hbm, ⟨69, _⟩ => ⟨S8192x4x128, .f32⟩
  | .hbm, ⟨70, _⟩ => ⟨S_, .f32⟩
  | .hbm, ⟨71, _⟩ => ⟨S8192x4, .f32⟩
  | .hbm, ⟨72, _⟩ => ⟨S8192x4x1, .f32⟩
  | .hbm, ⟨73, _⟩ => ⟨S_, .f32⟩
  | .hbm, ⟨74, _⟩ => ⟨S8192x4x1, .f32⟩
  | .hbm, ⟨75, _⟩ => ⟨S8192x4x1, .f32⟩
  | .hbm, ⟨76, _⟩ => ⟨S8192x4x1, .f32⟩
  | .hbm, ⟨77, _⟩ => ⟨S8192x4x128, .f32⟩
  | .hbm, ⟨78, _⟩ => ⟨S8192x4x128, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S8192x512, .f32⟩
  | .hbm, ⟨87, _⟩ => ⟨S8192x512, .f32⟩
  | .hbm, ⟨88, _⟩ => ⟨S1x512, .f32⟩
  | .hbm, ⟨89, _⟩ => ⟨S1x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .i1⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S8192x512, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_0 : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_2 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownPlainIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S2816x8192, .f32⟩
  | .hbm, ⟨4, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradProj.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S512x1536 : Shape := ⟨2, ![512, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024x3072, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradProjPlainIdeal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024x8192, .f32⟩
  | .hbm, ⟨3, _⟩ => ⟨S8192x3072, .f32⟩
  | .hbm, ⟨4, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradPart.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradPartPlainIdeal.lean ====
abbrev S8192x2816 : Shape := ⟨2, ![8192, 2816]⟩
abbrev S1024x2816 : Shape := ⟨2, ![1024, 2816]⟩
abbrev S8192x1024 : Shape := ⟨2, ![8192, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Latent.lean ====
abbrev S8192x3072 : Shape := ⟨2, ![8192, 3072]⟩
abbrev S8192x128 : Shape := ⟨2, ![8192, 128]⟩
abbrev S1x512 : Shape := ⟨2, ![1, 512]⟩
abbrev S512x1536 : Shape := ⟨2, ![512, 1536]⟩
abbrev S1x256 : Shape := ⟨2, ![1, 256]⟩
abbrev S256x1024 : Shape := ⟨2, ![256, 1024]⟩
abbrev S8192x1024 : Shape := ⟨2, ![8192, 1024]⟩
abbrev S8192x512 : Shape := ⟨2, ![8192, 512]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x1536 : Shape := ⟨2, ![256, 1536]⟩

abbrev nBuf : Space → Nat
  | .hbm => 10
  | .vmem => 22
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S8192x128, .f32⟩
  | .hbm, ⟨3, _⟩ => ⟨S1x512, .f32⟩
  | .hbm, ⟨4, _⟩ => ⟨S512x1536, .bf16⟩
  | .hbm, ⟨5, _⟩ => ⟨S1x256, .f32⟩
  | .hbm, ⟨6, _⟩ => ⟨S256x1024, .bf16⟩
  | .hbm, ⟨7, _⟩ => ⟨S8192x1024, .bf16⟩
  | .hbm, ⟨8, _⟩ => ⟨S8192x1024, .bf16⟩
  | .hbm, ⟨9, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x512, .f32⟩
  | .local _ .vmem, ⟨13, _⟩ => ⟨S512x1536, .bf16⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x512, .bf16⟩
  | .local _ .vmem, ⟨21, _⟩ => ⟨S256x512, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_3 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LatentIdeal.lean ====
variable {F : FTy → Type} [FloatOps F] [Named F]
def κ : String → Option EReal := fun
  | "share" => some ((1 / 384 : ℝ) : EReal)
  | _ => none
-- ==== LatentPlainIdeal.lean ====
abbrev S8192x3072 : Shape := ⟨2, ![8192, 3072]⟩
abbrev S8192x128 : Shape := ⟨2, ![8192, 128]⟩
abbrev S1x512 : Shape := ⟨2, ![1, 512]⟩
abbrev S512x1536 : Shape := ⟨2, ![512, 1536]⟩
abbrev S1x256 : Shape := ⟨2, ![1, 256]⟩
abbrev S256x1024 : Shape := ⟨2, ![256, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x12x128 : Shape := ⟨3, ![8192, 12, 128]⟩
abbrev S8192x256 : Shape := ⟨2, ![8192, 256]⟩
abbrev S8192x1024 : Shape := ⟨2, ![8192, 1024]⟩
abbrev S8192x4x256 : Shape := ⟨3, ![8192, 4, 256]⟩
abbrev S8192x4x128 : Shape := ⟨3, ![8192, 4, 128]⟩
abbrev S8192x1x128 : Shape := ⟨3, ![8192, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S8192x128, .f32⟩
  | .hbm, ⟨3, _⟩ => ⟨S1x512, .f32⟩
  | .hbm, ⟨4, _⟩ => ⟨S512x1536, .bf16⟩
  | .hbm, ⟨5, _⟩ => ⟨S1x256, .f32⟩
  | .hbm, ⟨6, _⟩ => ⟨S256x1024, .bf16⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S512x1536, .f32⟩
  | .hbm, ⟨24, _⟩ => ⟨S8192x1536, .f32⟩
  | .hbm, ⟨25, _⟩ => ⟨S8192x12x128, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S256x1024, .f32⟩
  | .hbm, ⟨43, _⟩ => ⟨S8192x1024, .f32⟩
  | .hbm, ⟨44, _⟩ => ⟨S8192x4x256, .f32⟩
  | .hbm, ⟨45, _⟩ => ⟨S8192x4x128, .f32⟩
  | .hbm, ⟨46, _⟩ => ⟨S8192x1x128, .f32⟩
  | .hbm, ⟨47, _⟩ => ⟨S8192x4x128, .f32⟩
  | .hbm, ⟨48, _⟩ => ⟨S8192x4x128, .f32⟩
  | .hbm, ⟨49, _⟩ => ⟨S8192x4x128, .f32⟩
  | .hbm, ⟨50, _⟩ => ⟨S8192x1x128, .f32⟩
  | .hbm, ⟨51, _⟩ => ⟨S8192x4x128, .f32⟩
  | .hbm, ⟨52, _⟩ => ⟨S8192x4x128, .f32⟩
  | .hbm, ⟨53, _⟩ => ⟨S8192x4x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x4x128, .f32⟩
  | .hbm, ⟨60, _⟩ => ⟨S8192x4x256, .f32⟩
  | .hbm, ⟨61, _⟩ => ⟨S8192x4x128, .f32⟩
  | .hbm, ⟨62, _⟩ => ⟨S8192x1x128, .f32⟩
  | .hbm, ⟨63, _⟩ => ⟨S8192x4x128, .f32⟩
  | .hbm, ⟨64, _⟩ => ⟨S8192x4x256, .f32⟩
  | .hbm, ⟨65, _⟩ => ⟨S8192x4x128, .f32⟩
  | .hbm, ⟨66, _⟩ => ⟨S8192x1024, .f32⟩
  | .hbm, ⟨67, _⟩ => ⟨S8192x1024, .bf16⟩
  | .hbm, ⟨68, _⟩ => ⟨S8192x1024, .f32⟩
  | .hbm, ⟨69, _⟩ => ⟨S8192x1024, .bf16⟩
  | .hbm, ⟨70, _⟩ => ⟨S8192x512, .f32⟩
  | .hbm, ⟨71, _⟩ => ⟨S8192x512, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Proof.Gating.lean ====
/-
  The products of the SwiGLU channel mixer by their indices, and the gate's nonlinearity over the extended reals: what the
  statements of its three calls share.
-/
module

public import Idealize.ShloMosaic.Lib.Pipeline.Value
public import Idealize.ShloMosaic.Lib.Pipeline.ValueKit
public import Idealize.ShloMosaic.Lib.ValueIdxCore
public import Idealize.ShloMosaic.Lib.MatmulPlain
public import Idealize.ShloMosaic.Lib.StackMember
public import Idealize.ShloMosaic.Lib.ValueIdx

@[expose] public section

noncomputable section

namespace Cert.Gating

open Idealize.ShloMosaic

theorem hz2 : (![0, 0] : Fin 2 → Nat) = fun _ => 0 := funext fun a => by fin_cases a <;> rfl

/-- The literal one. -/
theorem one_bits : Ideal.ofBits .f32 0x3F800000#32 = (1 : EReal) := by
  simp [Ideal.ofBits, Ideal.ieee, -EReal.coe_mul]; norm_num

/-- Entry `r`, `q` of the product of two arrays. -/
def prod {R K C : Nat} {φ ψ : FTy} (a : FVec Ideal ⟨2, ![R, K]⟩ φ) (w : FVec Ideal ⟨2, ![K, C]⟩ ψ) (r : Fin R) (q : Fin C) : EReal :=
  ∑ k : Fin K, (a (ValueIdx.ix2 r k) : EReal) * w (ValueIdx.ix2 k q)

/-- Entry `r`, `q` of the product with the second array transposed. -/
def prodT {R K C : Nat} {φ ψ : FTy} (a : FVec Ideal ⟨2, ![R, K]⟩ φ) (w : FVec Ideal ⟨2, ![C, K]⟩ ψ) (r : Fin R) (q : Fin C) : EReal :=
  ∑ k : Fin K, (a (ValueIdx.ix2 r k) : EReal) * w (ValueIdx.ix2 q k)

/-- A block's product with accumulator zero. -/
theorem matmul_eq {R K C : Nat} {φ ψ : FTy} (a : FVec Ideal ⟨2, ![R, K]⟩ φ) (w : FVec Ideal ⟨2, ![K, C]⟩ ψ)
    (y : (⟨2, ![R, C]⟩ : Shape).Idx) :
    FloatOps.matmul (F := Ideal) (DotDims.plain R K C) none a w (constant ⟨2, ![R, C]⟩ .f32 0x00000000#32) y = prod a w (y 0) (y 1) := by
  obtain ⟨r, q, rfl⟩ : ∃ (r : Fin R) (q : Fin C), y = ValueIdx.ix2 r q := ⟨y 0, y 1, ValueIdx.eq_ix2 y⟩
  refine (Ideal.matmul_plain_apply _ _ _ _ r q).trans ?_
  exact (congrArg (· + _) Ideal.ofBits_zero_f32).trans (zero_add _)

/-- A block's product with a transposed block, accumulator zero. -/
theorem matmulT_eq {R K C : Nat} {φ ψ : FTy} (a : FVec Ideal ⟨2, ![R, K]⟩ φ) (w : FVec Ideal ⟨2, ![C, K]⟩ ψ)
    (y : (⟨2, ![R, C]⟩ : Shape).Idx) :
    FloatOps.matmul (F := Ideal) (DotDims.transposedRhs R K C) none a w (constant ⟨2, ![R, C]⟩ .f32 0x00000000#32) y
      = prodT a w (y 0) (y 1) := by
  obtain ⟨r, q, rfl⟩ : ∃ (r : Fin R) (q : Fin C), y = ValueIdx.ix2 r q := ⟨y 0, y 1, ValueIdx.eq_ix2 y⟩
  refine (Ideal.matmul_transposedRhs_apply _ _ _ _ r q).trans ?_
  exact (congrArg (· + _) Ideal.ofBits_zero_f32).trans (zero_add _)

/-- The whole product. -/
theorem dot_eq {R K C : Nat} {φ ψ : FTy} (a : FVec Ideal ⟨2, ![R, K]⟩ φ) (w : FVec Ideal ⟨2, ![K, C]⟩ ψ)
    (y : (⟨2, ![R, C]⟩ : Shape).Idx) : Host.dotGeneral (F := Ideal) (DotDims.plain R K C) none a w y = prod a w (y 0) (y 1) := by
  obtain ⟨r, q, rfl⟩ : ∃ (r : Fin R) (q : Fin C), y = ValueIdx.ix2 r q := ⟨y 0, y 1, ValueIdx.eq_ix2 y⟩
  exact StackMember.dotGeneral_plain_apply none _ _ r q

/-- Two products agree at two places where their factors do. -/
theorem prod_congr {R R' K C C' : Nat} {φ ψ φ' ψ' : FTy} {a : FVec Ideal ⟨2, ![R, K]⟩ φ} {w : FVec Ideal ⟨2, ![K, C]⟩ ψ}
    {a' : FVec Ideal ⟨2, ![R', K]⟩ φ'} {w' : FVec Ideal ⟨2, ![K, C']⟩ ψ'} {r : Fin R} {q : Fin C} {r' : Fin R'} {q' : Fin C'}
    (ha : ∀ k, (a (ValueIdx.ix2 r k) : EReal) = a' (ValueIdx.ix2 r' k)) (hw : ∀ k, (w (ValueIdx.ix2 k q) : EReal) = w' (ValueIdx.ix2 k q')) :
    prod a w r q = prod a' w' r' q' :=
  Finset.sum_congr rfl fun k _ => congrArg₂ (α := EReal) (β := EReal) (· * ·) (ha k) (hw k)

theorem prodT_congr {R R' K C C' : Nat} {φ ψ φ' ψ' : FTy} {a : FVec Ideal ⟨2, ![R, K]⟩ φ} {w : FVec Ideal ⟨2, ![C, K]⟩ ψ}
    {a' : FVec Ideal ⟨2, ![R', K]⟩ φ'} {w' : FVec Ideal ⟨2, ![C', K]⟩ ψ'} {r : Fin R} {q : Fin C} {r' : Fin R'} {q' : Fin C'}
    (ha : ∀ k, (a (ValueIdx.ix2 r k) : EReal) = a' (ValueIdx.ix2 r' k)) (hw : ∀ k, (w (ValueIdx.ix2 q k) : EReal) = w' (ValueIdx.ix2 q' k)) :
    prodT a w r q = prodT a' w' r' q' :=
  Finset.sum_congr rfl fun k _ => congrArg₂ (α := EReal) (β := EReal) (· * ·) (ha k) (hw k)

/-- The reference's spelling of the logistic function. -/
theorem logistic_eq (x : EReal) :
    Ideal.div (Ideal.ofBits .f32 0x3F800000#32) (Ideal.ofBits .f32 0x3F800000#32 + Ideal.exp (-x)) = Ideal.logistic x := by
  rw [one_bits]; rfl

/-- The slope of `x ↦ x · logistic x`, factored and as a sum: equal at the infinities too. -/
theorem slope_eq (x : EReal) :
    Ideal.logistic x * (1 + x * (1 - Ideal.logistic x))
      = Ideal.logistic x + x * (Ideal.logistic x * (1 - Ideal.logistic x)) := by
  induction x with
  | bot => simp
  | top =>
    have h : (1 : EReal) - 1 = 0 := by rw [← EReal.coe_one, ← EReal.coe_sub, sub_self, EReal.coe_zero]
    simp [h]
  | coe r =>
    rw [Ideal.logistic_coe, ← EReal.coe_one, ← EReal.coe_sub, ← EReal.coe_mul, ← EReal.coe_mul, ← EReal.coe_mul, ← EReal.coe_add,
      ← EReal.coe_mul, ← EReal.coe_add]
    congr 1; ring

end Cert.Gating

end
-- ==== Proof.RowSums.lean ====
/-
  The product of a transposed array with another, summed over their rows in sixteen blocks of 512: what every gradient of a
  product's weights shares.
-/
module

public import proofs.«01_k».proof.Proof.Gating
public import Idealize.ShloMosaic.Lib.Pointwise

@[expose] public section

noncomputable section

namespace Cert.RowSums

open Idealize.ShloMosaic Idealize.ShloMosaic.TcCoe Cert.Gating

/-- The product of the transposed first array with the second. -/
def plain {R K C : Nat} {φ ψ : FTy} (a : FVec Ideal ⟨2, ![K, R]⟩ φ) (w : FVec Ideal ⟨2, ![K, C]⟩ ψ) : FVec Ideal ⟨2, ![R, C]⟩ .f32 :=
  fun y => (∑ k : Fin K, (a (ValueIdx.ix2 k (y 0)) : EReal) * w (ValueIdx.ix2 k (y 1)) : EReal)

/-- The host's product with a transpose is the plain one. -/
theorem transposed_eq {R K C : Nat} {φ ψ : FTy} (a : FVec Ideal ⟨2, ![K, R]⟩ φ) (w : FVec Ideal ⟨2, ![K, C]⟩ ψ)
    (ht : (⟨2, ![K, R]⟩ : Shape).Transposes [1, 0] ⟨2, ![R, K]⟩) :
    Host.dotGeneral (F := Ideal) (DotDims.plain R K C) none (transpose ⟨2, ![R, K]⟩ [1, 0] a ht) w = plain a w := by
  funext y
  refine (dot_eq _ _ y).trans ?_
  refine Finset.sum_congr rfl fun k _ => congrArg (fun s : EReal => s * (w (ValueIdx.ix2 k (y 1)) : EReal)) ?_
  exact transpose_apply [1, 0] a ht (ValueIdx.ix2 (y 0) k) (ValueIdx.ix2 k (y 0)) (fun b => match b with | ⟨0, _⟩ => rfl | ⟨1, _⟩ => rfl)

section
variable {R C : Nat} {φ ψ : FTy} (a : FVec Ideal ⟨2, ![8192, R]⟩ φ) (w : FVec Ideal ⟨2, ![8192, C]⟩ ψ)

/-- What row `k` of the two arrays adds to entry `r`, `q`; zero past the last row. -/
def term (r : Fin R) (q : Fin C) (k : ℕ) : EReal :=
  if h : k < 8192 then (a (ValueIdx.ix2 ⟨k, h⟩ r) : EReal) * w (ValueIdx.ix2 ⟨k, h⟩ q) else 0

/-- What block `s` of rows adds. -/
def block (r : Fin R) (q : Fin C) (s : ℕ) : EReal := ∑ k ∈ Finset.range 512, term a w r q (s * 512 + k)

/-- The product of two blocks of rows is what that block adds. -/
theorem block_eq {R' C' : Nat} (x : FVec Ideal ⟨2, ![512, R']⟩ φ) (z : FVec Ideal ⟨2, ![512, C']⟩ ψ) (r' : Fin R') (q' : Fin C')
    (r : Fin R) (q : Fin C) (s : ℕ) (hs : s < 16)
    (hx : ∀ (k : Fin 512) (h : s * 512 + k.val < 8192), x (ValueIdx.ix2 k r') = a (ValueIdx.ix2 ⟨s * 512 + k.val, h⟩ r))
    (hz : ∀ (k : Fin 512) (h : s * 512 + k.val < 8192), z (ValueIdx.ix2 k q') = w (ValueIdx.ix2 ⟨s * 512 + k.val, h⟩ q)) :
    (plain x z (ValueIdx.ix2 r' q') : EReal) = block a w r q s := by
  rw [block, ← Fin.sum_univ_eq_sum_range (fun k => term a w r q (s * 512 + k)) 512]
  refine Finset.sum_congr rfl fun k _ => ?_
  have hk : s * 512 + k.val < 8192 := by have := k.isLt; omega
  rw [term, dif_pos hk]
  exact congrArg₂ (α := EReal) (β := EReal) (· * ·) (hx k hk) (hz k hk)

/-- All sixteen blocks of 512 rows are all rows. -/
theorem all_rows (r : Fin R) (q : Fin C) : ∑ s ∈ Finset.range 16, block a w r q s = plain a w (ValueIdx.ix2 r q) := by
  unfold block
  rw [← Finset.sum_range_mul_split 16 512 fun k => term a w r q k, ← Fin.sum_univ_eq_sum_range (fun k => term a w r q k) (16 * 512)]
  refine Finset.sum_congr rfl fun k _ => ?_
  have hk : k.val < 8192 := k.isLt
  rw [term, dif_pos hk]
  rfl

end

/-- An accumulator that starts with the first block of its run, and to which each later point adds its own block, holds, short of
the sixteenth point, the sum of the blocks so far. -/
theorem carried {N : ℕ} (acc : ∀ n, n < N → EReal) (g : ∀ n, n < N → ℕ → EReal)
    (same : ∀ n (h : n + 1 < N), (n + 1) % 16 ≠ 0 → g n (Nat.lt_of_succ_lt h) = g (n + 1) h)
    (first : ∀ n (h : n < N), n % 16 = 0 → acc n h = g n h 0)
    (mid : ∀ n (h : n + 1 < N), (n + 1) % 16 ≠ 0 → (n + 1) % 16 ≠ 15 →
      acc (n + 1) h = acc n (Nat.lt_of_succ_lt h) + g (n + 1) h ((n + 1) % 16)) :
    ∀ n (h : n < N), n % 16 < 15 → acc n h = ∑ s ∈ Finset.range (n % 16 + 1), g n h s
  | 0, h, _ => by rw [first 0 h rfl, Finset.sum_range_one]
  | n + 1, h, hn => by
    by_cases h0 : (n + 1) % 16 = 0
    · rw [first _ h h0, h0, zero_add, Finset.sum_range_one]
    · have e : n % 16 + 1 = (n + 1) % 16 := by omega
      rw [mid n h h0 (by omega), carried acc g same first mid n _ (by omega), same n h h0, e, ← Finset.sum_range_succ]

/-- The sixteenth point of a run adds the last block: all sixteen are summed. -/
theorem whole {N : ℕ} (acc : ∀ n, n < N → EReal) (g : ∀ n, n < N → ℕ → EReal) (out : EReal)
    (same : ∀ n (h : n + 1 < N), (n + 1) % 16 ≠ 0 → g n (Nat.lt_of_succ_lt h) = g (n + 1) h)
    (first : ∀ n (h : n < N), n % 16 = 0 → acc n h = g n h 0)
    (mid : ∀ n (h : n + 1 < N), (n + 1) % 16 ≠ 0 → (n + 1) % 16 ≠ 15 →
      acc (n + 1) h = acc n (Nat.lt_of_succ_lt h) + g (n + 1) h ((n + 1) % 16))
    (n : ℕ) (h : n < N) (hn : n % 16 = 15)
    (last : ∀ hp : n - 1 < N, out = acc (n - 1) hp + g n h 15) : out = ∑ s ∈ Finset.range 16, g n h s := by
  obtain ⟨p, rfl⟩ : ∃ p, n = p + 1 := ⟨n - 1, by omega⟩
  have e : p % 16 + 1 = 15 := by omega
  refine (last (Nat.lt_of_succ_lt h)).trans ?_
  have ep : acc (p + 1 - 1) (Nat.lt_of_succ_lt h) = ∑ s ∈ Finset.range 15, g (p + 1) h s := by
    have hc := carried acc g same first mid p (Nat.lt_of_succ_lt h) (by omega)
    rw [e, same p h (by omega)] at hc
    exact hc
  rw [ep, ← Finset.sum_range_succ]

end Cert.RowSums

end
-- ==== Proof.GradDownValue.lean ====
/-
  The gradient of the down product's weights: the product of the activation, transposed, with the gradient at the layer's output.
  A grid point adds 512 rows' products to an accumulator that sixteen points share, for half of the activation's columns; the
  sixteenth writes it out.
-/
module

public import proofs.«01_k».proof.Defs
public import proofs.«01_k».proof.Proof.RowSums
public import proofs.«01_k».proof.Proof.Gen.GradDownIdeal.Value
public import proofs.«01_k».proof.Proof.Gen.GradDownPlainIdeal.Run

@[expose] public section

noncomputable section

namespace Cert.DownWeights

open Idealize.ShloMosaic Idealize.ShloMosaic.TcCoe Idealize.SL.Sem Cert.Gating Cert.RowSums
open Idealize.ShloMosaic.Pipeline (Dat)

section
open Cert.GradDownIdeal Cert.GradDownIdeal.Gen Cert.GradDownIdeal.Value

/-! ## What a point leaves, by its payloads -/

section
variable (c : Dev nD) (i : grid0.Coords) (a1 : Memref sig .tc .vmem S512x1408 .bf16) (h1 : a1.IsWhole)
  (a2 : Memref sig .tc .vmem S512x1024 .f32) (h2 : a2.IsWhole) (a3 : Memref sig .tc .vmem S1408x1024 .f32) (h3 : a3.IsWhole)
  (a4 : Memref sig .tc .vmem S1408x1024 .f32) (h4 : a4.IsWhole)
  (x0 : Vec Ideal S512x1408 .bf16) (x1 : Vec Ideal S512x1024 .f32) (s : Vec Ideal S1408x1024 .f32)

theorem acc_first (hc0 : cond0_0 i) (hc1 : ¬cond0_1 i) :
    sout0_A_0 c i a1 h1 a2 h2 a3 h3 a4 h4 hc0 hc1 x0 x1 = k0_pay2 (k0_pay1 (F := Ideal)) x0 x1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1408x1024) hz2, View.readCov_unit_zero (S := S1408x1024) _ hz2]
  simp only [View.readAt_eq_ld, h1.read_unread, h2.read_unread, View.ld_unit_zero (S := S512x1408) hz2, View.ld_unit_zero (S := S512x1024) hz2]

theorem acc_mid (hc0 : ¬cond0_0 i) (hc1 : ¬cond0_1 i) :
    sout0_B_0 c i a1 h1 a2 h2 a3 h3 a4 h4 hc0 hc1 x0 x1 s = k0_pay2 s x0 x1 := by
  unfold sout0_B_0
  rw [View.read_writes_eq_canon _ _ _ (scover0_B_0 c i a1 h1 a2 h2 a3 h3 a4 h4 hc0 hc1 x0 x1 s)]
  unfold kernelRun0_B
  dsimp only
  sl_unfold_words
  rw [View.canon_unit_zero hz2]
  simp only [View.readAt_eq_ld, h1.read_unread, h2.read_unread, h4.read_unread, View.ld_unit_zero (S := S512x1408) hz2,
    View.ld_unit_zero (S := S512x1024) hz2, View.ld_unit_zero (S := S1408x1024) hz2]

theorem out_last (hc0 : ¬cond0_0 i) (hc1 : cond0_1 i) :
    out0_C_2 c i a1 h1 a2 h2 a3 h3 a4 h4 hc0 hc1 x0 x1 s = k0_pay2 s x0 x1 := by
  unfold out0_C_2
  rw [View.read_writes_eq_canon _ _ _ (cover0_C_2 c i a1 h1 a2 h2 a3 h3 a4 h4 hc0 hc1 x0 x1 s)]
  unfold kernelRun0_C
  dsimp only
  sl_unfold_words
  rw [View.canon_unit_zero hz2, View.readCov_unit_zero (S := S1408x1024) _ hz2]
  simp only [View.readAt_eq_ld, h1.read_unread, h2.read_unread, h4.read_unread, View.ld_unit_zero (S := S512x1408) hz2,
    View.ld_unit_zero (S := S512x1024) hz2, View.ld_unit_zero (S := S1408x1024) hz2]

end

/-! ## The payloads at an index -/

theorem start_value (y : S1408x1024.Idx) : (k0_pay1 (F := Ideal) y : EReal) = 0 := by
  unfold k0_pay1
  pointwise

theorem step_value (s : Vec Ideal S1408x1024 .f32) (x0 : Vec Ideal S512x1408 .bf16) (x1 : Vec Ideal S512x1024 .f32) (r : Fin 1408) (q : Fin 1024) :
    (k0_pay2 s x0 x1 (ValueIdx.ix2 r q) : EReal) = (s (ValueIdx.ix2 r q) : EReal) + plain (φ := .bf16) (ψ := .f32) x0 x1 (ValueIdx.ix2 r q) := by
  unfold k0_pay2
  pointwise
  rfl

/-! ## The array after the last point -/

theorem index_0 : ∀ t : Fin grid0.N, win0_0.index t = ![t.val % 16, t.val / 16] := by decide +kernel
theorem index_1 : ∀ t : Fin grid0.N, win0_1.index t = ![t.val % 16, 0] := by decide +kernel
theorem index_2 : ∀ t : Fin grid0.N, win0_2.index t = ![t.val / 16, 0] := by decide +kernel
theorem flush_2 : ∀ t : Fin grid0.N, win0_2.flush t = true → t.val % 16 = 15 := by decide +kernel

variable (m : (ℓ : Loc nD τ sig) → Buf (Elt Ideal) ℓ) (c : Dev nD)

abbrev A : FVec Ideal S8192x2816 .bf16 := m ((c : Thread nD τ).loc main_arg0)
abbrev W : FVec Ideal S8192x1024 .f32 := m ((c : Thread nD τ).loc main_arg1)

/-- Where column `r` of the activation's block of point `t` lies in the array. -/
def col (n : ℕ) (h : n < 32) (r : Fin 1408) : Fin 2816 := ⟨n / 16 * 1408 + r.val, by have := r.isLt; omega⟩

theorem emb_2 (t : Fin cfg0.N) (y : S1408x1024.Idx) : (win0_2.blk t).view.emb y = ValueIdx.ix2 (col t.val t.isLt (y 0)) (y 1) := by
  unfold col
  blk_ext [index_2]

theorem blk_a (t : Fin cfg0.N) (k : Fin 512) (r : Fin 1408) (h : t.val % 16 * 512 + k.val < 8192) :
    (iblk m c 0 t : FVec Ideal S512x1408 .bf16) (ValueIdx.ix2 k r) = A m c (ValueIdx.ix2 ⟨t.val % 16 * 512 + k.val, h⟩ (col t.val t.isLt r)) := by
  refine congrArg (A m c) ?_
  unfold col
  blk_ext [index_0]

theorem blk_w (t : Fin cfg0.N) (k : Fin 512) (q : Fin 1024) (h : t.val % 16 * 512 + k.val < 8192) :
    (iblk m c 1 t : FVec Ideal S512x1024 .f32) (ValueIdx.ix2 k q) = W m c (ValueIdx.ix2 ⟨t.val % 16 * 512 + k.val, h⟩ q) := by
  refine congrArg (W m c) ?_
  blk_ext [index_1]

/-- What a point adds. -/
theorem add_point (t : Fin cfg0.N) (r : Fin 1408) (q : Fin 1024) :
    (plain (φ := .bf16) (ψ := .f32) (iblk m c 0 t : FVec Ideal S512x1408 .bf16) (iblk m c 1 t : FVec Ideal S512x1024 .f32) (ValueIdx.ix2 r q) : EReal)
      = block (A m c) (W m c) (col t.val t.isLt r) q (t.val % 16) :=
  block_eq _ _ _ _ _ _ _ _ _ (by omega) (fun k h => blk_a m c t k r h) (fun k h => blk_w m c t k q h)

theorem acc_start (r : Fin 1408) (q : Fin 1024) (n : ℕ) (h : n < cfg0.N) (h0 : n % 16 = 0) :
    ((outsAt0 m c n h).2 (ValueIdx.ix2 r q) : EReal) = block (A m c) (W m c) (col n h r) q 0 := by
  rw [outsAt0_A m c ⟨n, h⟩ h0 (by dsimp only; omega)]
  dsimp only
  rw [acc_first, step_value, start_value, zero_add]
  refine (add_point m c ⟨n, h⟩ r q).trans ?_
  dsimp only
  rw [h0]

theorem acc_next (r : Fin 1408) (q : Fin 1024) (n : ℕ) (h : n + 1 < cfg0.N) (h0 : (n + 1) % 16 ≠ 0) (h1 : (n + 1) % 16 ≠ 15) :
    ((outsAt0 m c (n + 1) h).2 (ValueIdx.ix2 r q) : EReal)
      = (outsAt0 m c n (Nat.lt_of_succ_lt h)).2 (ValueIdx.ix2 r q) + block (A m c) (W m c) (col (n + 1) h r) q ((n + 1) % 16) := by
  rw [outsAt0_B m c ⟨n + 1, h⟩ h0 h1]
  dsimp only
  rw [acc_mid, step_value]
  exact congrArg _ (add_point m c ⟨n + 1, h⟩ r q)

/-- What the sixteenth point of a run writes out. -/
theorem out_point (t : Fin cfg0.N) (h1 : t.val % 16 = 15) (r : Fin 1408) (q : Fin 1024) :
    ((outsAt0 m c t.val t.isLt).1 (ValueIdx.ix2 r q) : EReal) = plain (A m c) (W m c) (ValueIdx.ix2 (col t.val t.isLt r) q) := by
  refine (whole (fun n h => ((outsAt0 m c n h).2 (ValueIdx.ix2 r q) : EReal)) (fun n h => block (A m c) (W m c) (col n h r) q) _
    (fun n h h0 => ?_) (acc_start m c r q) (acc_next m c r q) t.val t.isLt h1 fun hp => ?_).trans (all_rows _ _ _ _)
  · refine congrArg (fun r => block (A m c) (W m c) r q) ?_
    unfold col
    exact Fin.ext (congrArg (fun k => k * 1408 + r.val) (by omega : n / 16 = (n + 1) / 16))
  · rw [outsAt0_C m c t (by omega) h1]
    dsimp only
    rw [out_last, step_value]
    refine congrArg _ ((add_point m c t r q).trans ?_)
    rw [h1]

theorem final : (dats m 0 c).arrAt 2 cfg0.N = plain (A m c) (W m c) := by
  refine (dats m 0 c).arrAt_eq_of_covers 2 _ (by decide +kernel) fun t hf y => ?_
  obtain ⟨r, q, rfl⟩ : ∃ (r : Fin 1408) (q : Fin 1024), y = ValueIdx.ix2 r q := ⟨y 0, y 1, ValueIdx.eq_ix2 y⟩
  refine (congrFun (after0_2 m c t) _).trans ((out_point m c t (flush_2 t hf) r q).trans ?_)
  exact congrArg (plain (A m c) (W m c)) (emb_2 t (ValueIdx.ix2 r q)).symm

end

/-- Kernel and reference, launched on the same arrays: both terminate, and their results agree. -/
theorem agree : Cert.algebraic_GradDownIdeal_GradDownPlainIdeal := by
  intro m g m' g' _ h
  refine ⟨fun c => plain (A m c) (W m c), ?_, ?_⟩
  · exact (θ_run Cert.GradDownIdeal.defs _ _).mono (fun r hr c => ⟨(hr c).1.trans (final m c), (hr c).2⟩)
      (Cert.GradDownIdeal.Value.run_blocks (F := Ideal) m g)
  · refine (θ_run Cert.GradDownPlainIdeal.defs _ _).mono (fun r hr c => ⟨(hr c).1.trans ?_, (hr c).2⟩)
      (Cert.GradDownPlainIdeal.Value.run (F := Ideal) m' g')
    refine (transposed_eq _ _ _).trans ?_
    show plain _ _ = plain _ _
    rw [(h c).1, (h c).2]
    rfl

end Cert.DownWeights

end
-- ==== Proof.GradProjValue.lean ====
/-
  The gradient of the projection's weights: the product of the layer's input, transposed, with the gradient at the packed
  projection. A grid point adds 512 rows' products to an accumulator that sixteen points share, for half of the columns; the
  sixteenth writes it out.
-/
module

public import proofs.«01_k».proof.Defs
public import proofs.«01_k».proof.Proof.RowSums
public import proofs.«01_k».proof.Proof.Gen.GradProjIdeal.Value
public import proofs.«01_k».proof.Proof.Gen.GradProjPlainIdeal.Run

@[expose] public section

noncomputable section

namespace Cert.ProjWeights

open Idealize.ShloMosaic Idealize.ShloMosaic.TcCoe Idealize.SL.Sem Cert.Gating Cert.RowSums
open Idealize.ShloMosaic.Pipeline (Dat)

section
open Cert.GradProjIdeal Cert.GradProjIdeal.Gen Cert.GradProjIdeal.Value

/-! ## What a point leaves, by its payloads -/

section
variable (c : Dev nD) (i : grid0.Coords) (a1 : Memref sig .tc .vmem S512x1024 .f32) (h1 : a1.IsWhole)
  (a2 : Memref sig .tc .vmem S512x1536 .bf16) (h2 : a2.IsWhole) (a3 : Memref sig .tc .vmem S1024x1536 .f32) (h3 : a3.IsWhole)
  (a4 : Memref sig .tc .vmem S1024x1536 .f32) (h4 : a4.IsWhole)
  (x0 : Vec Ideal S512x1024 .f32) (x1 : Vec Ideal S512x1536 .bf16) (s : Vec Ideal S1024x1536 .f32)

theorem acc_first (hc0 : cond0_0 i) (hc1 : ¬cond0_1 i) :
    sout0_A_0 c i a1 h1 a2 h2 a3 h3 a4 h4 hc0 hc1 x0 x1 = k0_pay2 (k0_pay1 (F := Ideal)) x0 x1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1024x1536) hz2, View.readCov_unit_zero (S := S1024x1536) _ hz2]
  simp only [View.readAt_eq_ld, h1.read_unread, h2.read_unread, View.ld_unit_zero (S := S512x1024) hz2, View.ld_unit_zero (S := S512x1536) hz2]

theorem acc_mid (hc0 : ¬cond0_0 i) (hc1 : ¬cond0_1 i) :
    sout0_B_0 c i a1 h1 a2 h2 a3 h3 a4 h4 hc0 hc1 x0 x1 s = k0_pay2 s x0 x1 := by
  unfold sout0_B_0
  rw [View.read_writes_eq_canon _ _ _ (scover0_B_0 c i a1 h1 a2 h2 a3 h3 a4 h4 hc0 hc1 x0 x1 s)]
  unfold kernelRun0_B
  dsimp only
  sl_unfold_words
  rw [View.canon_unit_zero hz2]
  simp only [View.readAt_eq_ld, h1.read_unread, h2.read_unread, h4.read_unread, View.ld_unit_zero (S := S512x1024) hz2,
    View.ld_unit_zero (S := S512x1536) hz2, View.ld_unit_zero (S := S1024x1536) hz2]

theorem out_last (hc0 : ¬cond0_0 i) (hc1 : cond0_1 i) :
    out0_C_2 c i a1 h1 a2 h2 a3 h3 a4 h4 hc0 hc1 x0 x1 s = k0_pay2 s x0 x1 := by
  unfold out0_C_2
  rw [View.read_writes_eq_canon _ _ _ (cover0_C_2 c i a1 h1 a2 h2 a3 h3 a4 h4 hc0 hc1 x0 x1 s)]
  unfold kernelRun0_C
  dsimp only
  sl_unfold_words
  rw [View.canon_unit_zero hz2, View.readCov_unit_zero (S := S1024x1536) _ hz2]
  simp only [View.readAt_eq_ld, h1.read_unread, h2.read_unread, h4.read_unread, View.ld_unit_zero (S := S512x1024) hz2,
    View.ld_unit_zero (S := S512x1536) hz2, View.ld_unit_zero (S := S1024x1536) hz2]

end

/-! ## The payloads at an index -/

theorem start_value (y : S1024x1536.Idx) : (k0_pay1 (F := Ideal) y : EReal) = 0 := by
  unfold k0_pay1
  pointwise

theorem step_value (s : Vec Ideal S1024x1536 .f32) (x0 : Vec Ideal S512x1024 .f32) (x1 : Vec Ideal S512x1536 .bf16) (r : Fin 1024) (q : Fin 1536) :
    (k0_pay2 s x0 x1 (ValueIdx.ix2 r q) : EReal) = (s (ValueIdx.ix2 r q) : EReal) + plain (φ := .f32) (ψ := .bf16) x0 x1 (ValueIdx.ix2 r q) := by
  unfold k0_pay2
  pointwise
  rfl

/-! ## The array after the last point -/

theorem index_0 : ∀ t : Fin grid0.N, win0_0.index t = ![t.val % 16, 0] := by decide +kernel
theorem index_1 : ∀ t : Fin grid0.N, win0_1.index t = ![t.val % 16, t.val / 16] := by decide +kernel
theorem index_2 : ∀ t : Fin grid0.N, win0_2.index t = ![0, t.val / 16] := by decide +kernel
theorem flush_2 : ∀ t : Fin grid0.N, win0_2.flush t = true → t.val % 16 = 15 := by decide +kernel

variable (m : (ℓ : Loc nD τ sig) → Buf (Elt Ideal) ℓ) (c : Dev nD)

abbrev A : FVec Ideal S8192x1024 .f32 := m ((c : Thread nD τ).loc main_arg0)
abbrev W : FVec Ideal S8192x3072 .bf16 := m ((c : Thread nD τ).loc main_arg1)

/-- Where column `q` of the blocks of point `t` lies in the arrays. -/
def col (n : ℕ) (h : n < 32) (q : Fin 1536) : Fin 3072 := ⟨n / 16 * 1536 + q.val, by have := q.isLt; omega⟩

theorem emb_2 (t : Fin cfg0.N) (y : S1024x1536.Idx) : (win0_2.blk t).view.emb y = ValueIdx.ix2 (y 0) (col t.val t.isLt (y 1)) := by
  unfold col
  blk_ext [index_2]

theorem blk_a (t : Fin cfg0.N) (k : Fin 512) (r : Fin 1024) (h : t.val % 16 * 512 + k.val < 8192) :
    (iblk m c 0 t : FVec Ideal S512x1024 .f32) (ValueIdx.ix2 k r) = A m c (ValueIdx.ix2 ⟨t.val % 16 * 512 + k.val, h⟩ r) := by
  refine congrArg (A m c) ?_
  blk_ext [index_0]

theorem blk_w (t : Fin cfg0.N) (k : Fin 512) (q : Fin 1536) (h : t.val % 16 * 512 + k.val < 8192) :
    (iblk m c 1 t : FVec Ideal S512x1536 .bf16) (ValueIdx.ix2 k q) = W m c (ValueIdx.ix2 ⟨t.val % 16 * 512 + k.val, h⟩ (col t.val t.isLt q)) := by
  refine congrArg (W m c) ?_
  unfold col
  blk_ext [index_1]

/-- What a point adds. -/
theorem add_point (t : Fin cfg0.N) (r : Fin 1024) (q : Fin 1536) :
    (plain (φ := .f32) (ψ := .bf16) (iblk m c 0 t : FVec Ideal S512x1024 .f32) (iblk m c 1 t : FVec Ideal S512x1536 .bf16) (ValueIdx.ix2 r q) : EReal)
      = block (A m c) (W m c) r (col t.val t.isLt q) (t.val % 16) :=
  block_eq _ _ _ _ _ _ _ _ _ (by omega) (fun k h => blk_a m c t k r h) (fun k h => blk_w m c t k q h)

theorem acc_start (r : Fin 1024) (q : Fin 1536) (n : ℕ) (h : n < cfg0.N) (h0 : n % 16 = 0) :
    ((outsAt0 m c n h).2 (ValueIdx.ix2 r q) : EReal) = block (A m c) (W m c) r (col n h q) 0 := by
  rw [outsAt0_A m c ⟨n, h⟩ h0 (by dsimp only; omega)]
  dsimp only
  rw [acc_first, step_value, start_value, zero_add]
  refine (add_point m c ⟨n, h⟩ r q).trans ?_
  dsimp only
  rw [h0]

theorem acc_next (r : Fin 1024) (q : Fin 1536) (n : ℕ) (h : n + 1 < cfg0.N) (h0 : (n + 1) % 16 ≠ 0) (h1 : (n + 1) % 16 ≠ 15) :
    ((outsAt0 m c (n + 1) h).2 (ValueIdx.ix2 r q) : EReal)
      = (outsAt0 m c n (Nat.lt_of_succ_lt h)).2 (ValueIdx.ix2 r q) + block (A m c) (W m c) r (col (n + 1) h q) ((n + 1) % 16) := by
  rw [outsAt0_B m c ⟨n + 1, h⟩ h0 h1]
  dsimp only
  rw [acc_mid, step_value]
  exact congrArg _ (add_point m c ⟨n + 1, h⟩ r q)

/-- What the sixteenth point of a run writes out. -/
theorem out_point (t : Fin cfg0.N) (h1 : t.val % 16 = 15) (r : Fin 1024) (q : Fin 1536) :
    ((outsAt0 m c t.val t.isLt).1 (ValueIdx.ix2 r q) : EReal) = plain (A m c) (W m c) (ValueIdx.ix2 r (col t.val t.isLt q)) := by
  refine (whole (fun n h => ((outsAt0 m c n h).2 (ValueIdx.ix2 r q) : EReal)) (fun n h => block (A m c) (W m c) r (col n h q)) _
    (fun n h h0 => ?_) (acc_start m c r q) (acc_next m c r q) t.val t.isLt h1 fun hp => ?_).trans (all_rows _ _ _ _)
  · refine congrArg (block (A m c) (W m c) r) ?_
    unfold col
    exact Fin.ext (congrArg (fun k => k * 1536 + q.val) (by omega : n / 16 = (n + 1) / 16))
  · rw [outsAt0_C m c t (by omega) h1]
    dsimp only
    rw [out_last, step_value]
    refine congrArg _ ((add_point m c t r q).trans ?_)
    rw [h1]

theorem final : (dats m 0 c).arrAt 2 cfg0.N = plain (A m c) (W m c) := by
  refine (dats m 0 c).arrAt_eq_of_covers 2 _ (by decide +kernel) fun t hf y => ?_
  obtain ⟨r, q, rfl⟩ : ∃ (r : Fin 1024) (q : Fin 1536), y = ValueIdx.ix2 r q := ⟨y 0, y 1, ValueIdx.eq_ix2 y⟩
  refine (congrFun (after0_2 m c t) _).trans ((out_point m c t (flush_2 t hf) r q).trans ?_)
  exact congrArg (plain (A m c) (W m c)) (emb_2 t (ValueIdx.ix2 r q)).symm

end

/-- Kernel and reference, launched on the same arrays: both terminate, and their results agree. -/
theorem agree : Cert.algebraic_GradProjIdeal_GradProjPlainIdeal := by
  intro m g m' g' _ h
  refine ⟨fun c => plain (A m c) (W m c), ?_, ?_⟩
  · exact (θ_run Cert.GradProjIdeal.defs _ _).mono (fun r hr c => ⟨(hr c).1.trans (final m c), (hr c).2⟩)
      (Cert.GradProjIdeal.Value.run_blocks (F := Ideal) m g)
  · refine (θ_run Cert.GradProjPlainIdeal.defs _ _).mono (fun r hr c => ⟨(hr c).1.trans ?_, (hr c).2⟩)
      (Cert.GradProjPlainIdeal.Value.run (F := Ideal) m' g')
    refine (transposed_eq _ _ _).trans ?_
    show plain _ _ = plain _ _
    rw [(h c).1, (h c).2]
    rfl

end Cert.ProjWeights

end
-- ==== Proof.GradIn.lean ====
/-
  The gradient at the trunk's input: the product of the projection's gradient with the projection's weights, transposed, added to
  the gradient that came past the projection. A grid point computes 512 rows of it; the sum over the 3072 columns is whole in
  each point, so block by block the array is the plain product.
-/
module

public import Idealize.ShloMosaic.Lib.Pipeline.Value
public import Idealize.ShloMosaic.Lib.Pipeline.ValueKit
public import Idealize.ShloMosaic.Lib.ValueIdxCore
public import Idealize.ShloMosaic.Lib.MatmulPlain
public import Idealize.ShloMosaic.Lib.StackMember
public import Idealize.ShloMosaic.Lib.ValueIdx
public import proofs.«01_k».proof.Defs
public import proofs.«01_k».proof.Proof.Gen.GradInIdeal.Value
public import proofs.«01_k».proof.Proof.Gen.GradInPlainIdeal.Run

@[expose] public section

noncomputable section

namespace Cert.InputGrad

open Idealize.ShloMosaic Idealize.ShloMosaic.TcCoe Idealize.SL.Sem
open Idealize.ShloMosaic.Pipeline (Dat)

/-- The plain product with a transposed right factor, and a summand. -/
def plain {R K C : Nat} (a : FVec Ideal ⟨2, ![R, K]⟩ .bf16) (w : FVec Ideal ⟨2, ![C, K]⟩ .bf16) (d : FVec Ideal ⟨2, ![R, C]⟩ .f32) :
    FVec Ideal ⟨2, ![R, C]⟩ .f32 :=
  fun i => (∑ k : Fin K, (a (ValueIdx.ix2 (i 0) k) : EReal) * w (ValueIdx.ix2 (i 1) k) : EReal) + (d i : EReal)

theorem hz2 : (![0, 0] : Fin 2 → Nat) = fun _ => 0 := funext fun a => by fin_cases a <;> rfl

/-- A block's product on zeros, and the summand, are the plain product of the blocks. -/
theorem payload {R K C : Nat} (a : FVec Ideal ⟨2, ![R, K]⟩ .bf16) (w : FVec Ideal ⟨2, ![C, K]⟩ .bf16) (d : FVec Ideal ⟨2, ![R, C]⟩ .f32) :
    addf (FloatOps.matmul (F := Ideal) (DotDims.transposedRhs R K C) none a w (constant ⟨2, ![R, C]⟩ .f32 0x00000000#32)) d = plain a w d := by
  funext y
  refine congrArg (fun s : EReal => s + (d y : EReal)) ?_
  obtain ⟨r, q, rfl⟩ : ∃ (r : Fin R) (q : Fin C), y = ValueIdx.ix2 r q := ⟨y 0, y 1, ValueIdx.eq_ix2 y⟩
  refine (Ideal.matmul_transposedRhs_apply _ _ _ _ r q).trans ?_
  exact (congrArg (· + _) Ideal.ofBits_zero_f32).trans (zero_add _)

section
open Cert.GradInIdeal Cert.GradInIdeal.Gen Cert.GradInIdeal.Value

theorem out_eq (a : FVec Ideal S512x3072 .bf16) (w : FVec Ideal S1024x3072 .bf16) (d : FVec Ideal S512x1024 .f32) :
    out0_3 (F := Ideal) a w d = plain a w d := by
  unfold out0_3
  rw [View.canon_unit_zero hz2, View.ld_unit_zero hz2, View.ld_unit_zero hz2, View.ld_unit_zero hz2]
  exact payload a w d

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel

variable (m : (ℓ : Loc nD τ sig) → Buf (Elt Ideal) ℓ) (c : Dev nD)

abbrev A : FVec Ideal S8192x3072 .bf16 := m ((c : Thread nD τ).loc main_arg0)
abbrev W : FVec Ideal S1024x3072 .bf16 := m ((c : Thread nD τ).loc main_arg1)
abbrev X : FVec Ideal S8192x1024 .f32 := m ((c : Thread nD τ).loc main_arg2)

variable (t : Fin cfg0.N)

/-- Where element `y` of block `t` lies in the array. -/
def place (y : S512x1024.Idx) : S8192x1024.Idx :=
  ValueIdx.ix2 ⟨t.val * 512 + (y 0).val, by have h : t.val < 16 := t.isLt; have h0 : (y 0).val < 512 := (y 0).isLt; omega⟩ (y 1)

theorem emb_3 (y : S512x1024.Idx) : (win0_3.blk t).view.emb y = place t y := by
  unfold place
  blk_ext [index_3]

/-- What the blocks of point `t` hold, by the array's index. -/
theorem blk_a (y : S512x1024.Idx) (k : Fin 3072) :
    (iblk m c 0 t : FVec Ideal S512x3072 .bf16) (ValueIdx.ix2 (y 0) k) = A m c (ValueIdx.ix2 (place t y 0) k) := by
  refine congrArg (A m c) ?_
  blk_ext [index_0]
  rfl

theorem blk_w (y : S512x1024.Idx) (k : Fin 3072) :
    (iblk m c 1 t : FVec Ideal S1024x3072 .bf16) (ValueIdx.ix2 (y 1) k) = W m c (ValueIdx.ix2 (place t y 1) k) := by
  refine congrArg (W m c) ?_
  blk_ext [index_1]
  rfl

theorem blk_x (y : S512x1024.Idx) : (iblk m c 2 t : FVec Ideal S512x1024 .f32) y = X m c (place t y) := by
  refine congrArg (X m c) ?_
  unfold place
  blk_ext [index_2]

/-- The array after the last point. -/
theorem final : (dats m 0 c).arrAt 3 cfg0.N = plain (A m c) (W m c) (X m c) := by
  refine (dats m 0 c).arrAt_eq_of_covers 3 _ (by decide +kernel) fun t _ y => ?_
  refine (congrFun ((after0_3 m c t).trans (out_eq _ _ _)) y).trans ?_
  refine Eq.trans ?_ (congrArg (plain (A m c) (W m c) (X m c)) (emb_3 t y).symm)
  exact congrArg₂ (α := EReal) (β := EReal) (· + ·)
    (Finset.sum_congr rfl fun k _ => congrArg₂ (α := EReal) (β := EReal) (· * ·) (blk_a m c t y k) (blk_w m c t y k)) (blk_x m c t y)

end

/-- The reference's result is the plain product. -/
theorem reference_eq {R K C : Nat} (a : FVec Ideal ⟨2, ![R, K]⟩ .bf16) (w : FVec Ideal ⟨2, ![C, K]⟩ .bf16) (d : FVec Ideal ⟨2, ![R, C]⟩ .f32)
    (hb : FTy.bits .bf16 < FTy.bits .f32) (ht : (⟨2, ![C, K]⟩ : Shape).Transposes [1, 0] ⟨2, ![K, C]⟩) :
    addf d (Host.dotGeneral (DotDims.plain R K C) none (extf .f32 a hb) (transpose ⟨2, ![K, C]⟩ [1, 0] (extf .f32 w hb) ht)) = plain a w d := by
  funext y
  obtain ⟨r, q, rfl⟩ : ∃ (r : Fin R) (q : Fin C), y = ValueIdx.ix2 r q := ⟨y 0, y 1, ValueIdx.eq_ix2 y⟩
  refine (add_comm (G := EReal) _ _).trans (congrArg (fun s : EReal => s + d (ValueIdx.ix2 r q)) ?_)
  refine (StackMember.dotGeneral_plain_apply none _ _ r q).trans ?_
  refine Finset.sum_congr rfl fun k _ => congrArg (fun s : EReal => (a (ValueIdx.ix2 r k) : EReal) * s) ?_
  exact transpose_apply [1, 0] w ht (ValueIdx.ix2 k q) (ValueIdx.ix2 q k) (fun b => match b with | ⟨0, _⟩ => rfl | ⟨1, _⟩ => rfl)

/-- Kernel and reference, launched on the same arrays: both terminate, and their results agree. -/
theorem agree : Cert.algebraic_GradInIdeal_GradInPlainIdeal := by
  intro m g m' g' _ h
  refine ⟨fun c => plain (A m c) (W m c) (X m c), ?_, ?_⟩
  · exact (θ_run Cert.GradInIdeal.defs _ _).mono (fun r hr c => ⟨(hr c).1.trans (final m c), (hr c).2⟩)
      (Cert.GradInIdeal.Value.run_blocks (F := Ideal) m g)
  · refine (θ_run Cert.GradInPlainIdeal.defs _ _).mono (fun r hr c => ⟨(hr c).1.trans ?_, (hr c).2⟩)
      (Cert.GradInPlainIdeal.Value.run (F := Ideal) m' g')
    obtain ⟨h0, h1, h2⟩ := h c
    refine (reference_eq _ _ _ _ _).trans ?_
    show plain _ _ _ = plain _ _ _
    rw [h0, h1, h2]

end Cert.InputGrad

end
-- ==== Proof.GradPartValue.lean ====
/-
  The gradient at the feed-forward part's input, by way of the gate: the product of the gate's gradient with the gate's weights,
  transposed, added to the gradient that came past the part. A grid point computes 512 rows of it.
-/
module

public import proofs.«01_k».proof.Defs
public import proofs.«01_k».proof.Proof.GradIn
public import proofs.«01_k».proof.Proof.Gen.GradPartIdeal.Value
public import proofs.«01_k».proof.Proof.Gen.GradPartPlainIdeal.Run

@[expose] public section

noncomputable section

namespace Cert.PartGrad

open Idealize.ShloMosaic Idealize.ShloMosaic.TcCoe Idealize.SL.Sem Cert.InputGrad
open Idealize.ShloMosaic.Pipeline (Dat)

section
open Cert.GradPartIdeal Cert.GradPartIdeal.Gen Cert.GradPartIdeal.Value

theorem out_eq (a : FVec Ideal S512x2816 .bf16) (w : FVec Ideal S1024x2816 .bf16) (d : FVec Ideal S512x1024 .f32) :
    out0_3 (F := Ideal) a w d = plain a w d := by
  unfold out0_3
  rw [View.canon_unit_zero hz2, View.ld_unit_zero hz2, View.ld_unit_zero hz2, View.ld_unit_zero hz2]
  exact payload a w d

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel

variable (m : (ℓ : Loc nD τ sig) → Buf (Elt Ideal) ℓ) (c : Dev nD)

abbrev A : FVec Ideal S8192x2816 .bf16 := m ((c : Thread nD τ).loc main_arg0)
abbrev W : FVec Ideal S1024x2816 .bf16 := m ((c : Thread nD τ).loc main_arg1)
abbrev X : FVec Ideal S8192x1024 .f32 := m ((c : Thread nD τ).loc main_arg2)

variable (t : Fin cfg0.N)

/-- Where element `y` of block `t` lies in the array. -/
def place (y : S512x1024.Idx) : S8192x1024.Idx :=
  ValueIdx.ix2 ⟨t.val * 512 + (y 0).val, by have h : t.val < 16 := t.isLt; have h0 : (y 0).val < 512 := (y 0).isLt; omega⟩ (y 1)

theorem emb_3 (y : S512x1024.Idx) : (win0_3.blk t).view.emb y = place t y := by
  unfold place
  blk_ext [index_3]

/-- What the blocks of point `t` hold, by the array's index. -/
theorem blk_a (y : S512x1024.Idx) (k : Fin 2816) :
    (iblk m c 0 t : FVec Ideal S512x2816 .bf16) (ValueIdx.ix2 (y 0) k) = A m c (ValueIdx.ix2 (place t y 0) k) := by
  refine congrArg (A m c) ?_
  blk_ext [index_0]
  rfl

theorem blk_w (y : S512x1024.Idx) (k : Fin 2816) :
    (iblk m c 1 t : FVec Ideal S1024x2816 .bf16) (ValueIdx.ix2 (y 1) k) = W m c (ValueIdx.ix2 (place t y 1) k) := by
  refine congrArg (W m c) ?_
  blk_ext [index_1]
  rfl

theorem blk_x (y : S512x1024.Idx) : (iblk m c 2 t : FVec Ideal S512x1024 .f32) y = X m c (place t y) := by
  refine congrArg (X m c) ?_
  unfold place
  blk_ext [index_2]

/-- The array after the last point. -/
theorem final : (dats m 0 c).arrAt 3 cfg0.N = plain (A m c) (W m c) (X m c) := by
  refine (dats m 0 c).arrAt_eq_of_covers 3 _ (by decide +kernel) fun t _ y => ?_
  refine (congrFun ((after0_3 m c t).trans (out_eq _ _ _)) y).trans ?_
  refine Eq.trans ?_ (congrArg (plain (A m c) (W m c) (X m c)) (emb_3 t y).symm)
  exact congrArg₂ (α := EReal) (β := EReal) (· + ·)
    (Finset.sum_congr rfl fun k _ => congrArg₂ (α := EReal) (β := EReal) (· * ·) (blk_a m c t y k) (blk_w m c t y k)) (blk_x m c t y)

end

/-- Kernel and reference, launched on the same arrays: both terminate, and their results agree. -/
theorem agree : Cert.algebraic_GradPartIdeal_GradPartPlainIdeal := by
  intro m g m' g' _ h
  refine ⟨fun c => plain (A m c) (W m c) (X m c), ?_, ?_⟩
  · exact (θ_run Cert.GradPartIdeal.defs _ _).mono (fun r hr c => ⟨(hr c).1.trans (final m c), (hr c).2⟩)
      (Cert.GradPartIdeal.Value.run_blocks (F := Ideal) m g)
  · refine (θ_run Cert.GradPartPlainIdeal.defs _ _).mono (fun r hr c => ⟨(hr c).1.trans ?_, (hr c).2⟩)
      (Cert.GradPartPlainIdeal.Value.run (F := Ideal) m' g')
    obtain ⟨h0, h1, h2⟩ := h c
    refine (reference_eq _ _ _ _ _).trans ?_
    show plain _ _ _ = plain _ _ _
    rw [h0, h1, h2]

end Cert.PartGrad

end
-- ==== Proof.Norms.lean ====
/-
  The norms of a layer's two residual sums over a row of 1024 features, and the root mean squares of a head's 128.
-/
module

public import proofs.«01_k».proof.Proof.Gating

@[expose] public section

noncomputable section

namespace Cert.Norms

open Idealize.ShloMosaic

/-- The literals: the number of features, the residual's scale, the norm's offset. -/
def width : EReal := Ideal.ofBits .f32 0x44800000#32
def alpha : EReal := Ideal.ofBits .f32 0x3FD744FD#32
def eps : EReal := Ideal.ofBits .f32 0x3727C5AC#32

/-- The mean of a row. -/
def mean (r : Fin 1024 → EReal) : EReal := Ideal.div (∑ k : Fin 1024, r k) width

/-- The row less its mean, over its deviation, with gain and offset. -/
def layerNorm (r g b : Fin 1024 → EReal) (q : Fin 1024) : EReal :=
  (r q - mean r) * Ideal.rsqrt (mean (fun k => (r k - mean r) * (r k - mean r)) + eps) * g q + b q

/-- The literals of a head's norm: its number of features, and its offset. -/
def len : EReal := Ideal.ofBits .f32 0x43000000#32
def tiny : EReal := Ideal.ofBits .f32 0x358637BD#32

/-- Feature `d` of the head that feature `k` lies in. -/
def mate (k : Fin 512) (d : Fin 128) : Fin 512 := ⟨k.val / 128 * 128 + d.val, by have := k.isLt; have := d.isLt; omega⟩

/-- A row of four heads, each over its root mean square. -/
def unit (o : Fin 512 → EReal) (k : Fin 512) : EReal :=
  o k * Ideal.rsqrt (Ideal.div (∑ d : Fin 128, o (mate k d) * o (mate k d)) len + tiny)

end Cert.Norms

end
-- ==== Proof.LatentTerms.lean ====
/-
  The latent attention's queries, keys and values of a block of rows: each latent over its root mean square, its projection up, and
  the rotation, which two products with the tables make of two arrangements of the same features.
-/
module

public import proofs.«01_k».proof.Defs
public import proofs.«01_k».proof.Proof.Norms
public import proofs.«01_k».proof.Proof.Gen.LatentIdeal.Value
public import Idealize.ShloMosaic.Lib.Pointwise

@[expose] public section

noncomputable section

namespace Cert.LatentTerms

open Idealize.ShloMosaic Idealize.ShloMosaic.TcCoe Cert.Gating Cert.Norms

/-- The two latents' numbers of features. -/
def queryLen : EReal := Ideal.ofBits .f32 0x43C00000#32
def keyLen : EReal := Ideal.ofBits .f32 0x43800000#32

/-- A row over its root mean square over `n` features, with gain. -/
def rms {K : Nat} (n : EReal) (x g : Fin K → EReal) (k : Fin K) : EReal :=
  x k * Ideal.rsqrt (Ideal.div (∑ j : Fin K, x j * x j) n + tiny) * g k

/-- A latent row's projection up. -/
def lift {K C : Nat} (n : EReal) (x g : Fin K → EReal) (w : FVec Ideal ⟨2, ![K, C]⟩ .bf16) (j : Fin C) : EReal :=
  ∑ k : Fin K, rms n x g k * w (ValueIdx.ix2 k j)

/-- Feature `k` of the queries: of each head's 256 features the first half is `q`'s own, the second is rotated. -/
def query (q : Fin 1536 → EReal) (cf sf : Fin 128 → EReal) (k : Fin 1024) : EReal :=
  if k.val % 256 < 128 then q ⟨k.val / 256 * 128 + k.val % 128, by have := k.isLt; omega⟩
  else q ⟨512 + (k.val / 256 * 128 + k.val % 128), by have := k.isLt; omega⟩ * cf ⟨k.val % 128, by omega⟩
    + q ⟨1024 + (k.val / 256 * 128 + k.val % 128), by have := k.isLt; omega⟩ * sf ⟨k.val % 128, by omega⟩

/-- Feature `k` of the keys: the first half of each head's is `v`'s own, the second is the same for all heads. -/
def key (v : Fin 1024 → EReal) (p : Fin 128 → EReal) (k : Fin 1024) : EReal :=
  if k.val % 256 < 128 then v k else p ⟨k.val % 128, by omega⟩

/-- Feature `k` of the values. -/
def value (v : Fin 1024 → EReal) (k : Fin 512) : EReal := v ⟨k.val / 128 * 256 + 128 + k.val % 128, by have := k.isLt; omega⟩

theorem query_own {q : Fin 1536 → EReal} {cf sf : Fin 128 → EReal} {k : Fin 1024} {x : EReal} {j : Fin 1536} (h : k.val % 256 < 128)
    (hx : x = q j) (hj : j.val = k.val / 256 * 128 + k.val % 128) : x = query q cf sf k := by
  rw [query, if_pos h, hx]
  exact congrArg q (Fin.ext hj)

theorem query_turned {q : Fin 1536 → EReal} {cf sf : Fin 128 → EReal} {k : Fin 1024} {x : EReal} {i j : Fin 1536} {d : Fin 128}
    (h : ¬k.val % 256 < 128) (hx : x = q i * cf d + q j * sf d) (hi : i.val = 512 + (k.val / 256 * 128 + k.val % 128))
    (hj : j.val = 1024 + (k.val / 256 * 128 + k.val % 128)) (hd : d.val = k.val % 128) : x = query q cf sf k := by
  have ei : i = ⟨512 + (k.val / 256 * 128 + k.val % 128), by have := k.isLt; omega⟩ := Fin.ext hi
  have ej : j = ⟨1024 + (k.val / 256 * 128 + k.val % 128), by have := k.isLt; omega⟩ := Fin.ext hj
  have ed : d = ⟨k.val % 128, by omega⟩ := Fin.ext hd
  rw [query, if_neg h, hx]
  exact congrArg₂ (α := EReal) (β := EReal) (· + ·) (congrArg₂ (α := EReal) (β := EReal) (· * ·) (congrArg q ei) (congrArg cf ed))
    (congrArg₂ (α := EReal) (β := EReal) (· * ·) (congrArg q ej) (congrArg sf ed))

theorem key_own {v : Fin 1024 → EReal} {p : Fin 128 → EReal} {k : Fin 1024} {x : EReal} {j : Fin 1024} (h : k.val % 256 < 128)
    (hx : x = v j) (hj : j.val = k.val) : x = key v p k := by
  rw [key, if_pos h, hx]
  exact congrArg v (Fin.ext hj)

theorem key_turned {v : Fin 1024 → EReal} {p : Fin 128 → EReal} {k : Fin 1024} {x : EReal} {d : Fin 128} (h : ¬k.val % 256 < 128)
    (hx : x = p d) (hd : d.val = k.val % 128) : x = key v p k := by
  rw [key, if_neg h, hx]
  exact congrArg p (Fin.ext hd)

section
open Cert.LatentIdeal Cert.LatentIdeal.Gen

theorem share_value : Named.named (F := Ideal) κ "share" (φ := .f32) 0x3B2AAAAB#32 = ((1 / 384 : ℝ) : EReal) :=
  IdealRules.named_const.ideal_named_scalar _ _ _ _ rfl

/-- Times the share is over the number of features. -/
theorem share_eq (x : EReal) : x * Named.named (F := Ideal) κ "share" (φ := .f32) 0x3B2AAAAB#32 = Ideal.div x queryLen := by
  have h : queryLen = ((384 : ℝ) : EReal) := by
    unfold queryLen
    simp [Ideal.ofBits, Ideal.ieee, -EReal.coe_mul]; norm_num
  rw [share_value, h, Ideal.div_coe (by norm_num)]

/-- The latent of the queries, normed. -/
def normedQ (x : Vec Ideal S256x512 .f32) (g : Vec Ideal S1x512 .f32) : FVec Ideal S256x512 .f32 :=
  mulf (mulf x (broadcastTo S256x512 (rsqrt (addf (mulf (shapeCast S256x1 (multiReduction .add [1] S256 (mulf x x) 0x00000000#32 reduces_S256x512_S256 (.inl rfl) rfl)
    shapeCasts_S256_S256x1) (broadcast S256x1 (Named.named κ "share" 0x3B2AAAAB#32))) (broadcast S256x1 (Scalar.ofBits .f32 0x358637BD#32))))
    broadcasts_S256x1_S256x512)) (broadcastTo S256x512 g broadcasts_S1x512_S256x512)

/-- The latent of the keys and values, normed. -/
def normedK (x : Vec Ideal S256x256 .f32) (g : Vec Ideal S1x256 .f32) : FVec Ideal S256x256 .f32 :=
  mulf (mulf x (broadcastTo S256x256 (k0_pay2 x) broadcasts_S256x1_S256x256)) (broadcastTo S256x256 g broadcasts_S1x256_S256x256)

theorem normedQ_eq (x : Vec Ideal S256x512 .f32) (g : Vec Ideal S1x512 .f32) (r : Fin 256) (k : Fin 512) :
    (normedQ x g (ValueIdx.ix2 r k) : EReal) = rms queryLen (fun k => x (ValueIdx.ix2 r k)) (fun k => g (ValueIdx.ix2 0 k)) k := by
  unfold normedQ rms
  pointwise
  rw [← share_eq]
  rfl

theorem normedK_eq (x : Vec Ideal S256x256 .f32) (g : Vec Ideal S1x256 .f32) (r : Fin 256) (k : Fin 256) :
    (normedK x g (ValueIdx.ix2 r k) : EReal) = rms keyLen (fun k => x (ValueIdx.ix2 r k)) (fun k => g (ValueIdx.ix2 0 k)) k := by
  unfold normedK k0_pay2 rms
  pointwise
  rfl

theorem pay1_eq (x : Vec Ideal S256x512 .f32) (g : Vec Ideal S1x512 .f32) (w : Vec Ideal S512x1536 .bf16) (r : Fin 256) (j : Fin 1536) :
    (k0_pay1 (F := Ideal) x g w (ValueIdx.ix2 r j) : EReal) = lift queryLen (fun k => x (ValueIdx.ix2 r k)) (fun k => g (ValueIdx.ix2 0 k)) w j := by
  refine (matmul_eq (φ := .f32) (ψ := .bf16) (normedQ x g) w (ValueIdx.ix2 r j)).trans ?_
  exact Finset.sum_congr rfl fun k _ => congrArg (fun s : EReal => s * (w (ValueIdx.ix2 k j) : EReal)) (normedQ_eq x g r k)

theorem pay3_eq (x : Vec Ideal S256x256 .f32) (g : Vec Ideal S1x256 .f32) (w : Vec Ideal S256x1024 .bf16) (r : Fin 256) (j : Fin 1024) :
    (k0_pay3 (F := Ideal) x g w (k0_pay2 x) (ValueIdx.ix2 r j) : EReal)
      = lift keyLen (fun k => x (ValueIdx.ix2 r k)) (fun k => g (ValueIdx.ix2 0 k)) w j := by
  refine (matmul_eq (φ := .f32) (ψ := .bf16) (normedK x g) w (ValueIdx.ix2 r j)).trans ?_
  exact Finset.sum_congr rfl fun k _ => congrArg (fun s : EReal => s * (w (ValueIdx.ix2 k j) : EReal)) (normedK_eq x g r k)

theorem pay4_eq (cf sf : Vec Ideal S256x128 .f32) (q : FVec Ideal S256x1536 .f32) (r : Fin 256) (k : Fin 1024) :
    (k0_pay4 (F := Ideal) cf sf q (ValueIdx.ix2 r k) : EReal)
      = query (fun j => q (ValueIdx.ix2 r j)) (fun d => cf (ValueIdx.ix2 r d)) (fun d => sf (ValueIdx.ix2 r d)) k := by
  have hk := k.isLt
  have e0 : (ValueIdx.ix2 r k : S256x1024.Idx) 0 = r := rfl
  have e1 : (ValueIdx.ix2 r k : S256x1024.Idx) 1 = k := rfl
  unfold k0_pay4
  pointwise
  simp only [e0, e1, dite_true]
  split_ifs
  all_goals first | exact absurd rfl ‹¬((1 : Fin 2) : ℕ) = ((1 : Fin 2) : ℕ)› | skip
  all_goals first
    | exact query_own (by omega) rfl (by dsimp only; omega)
    | exact query_turned (by omega) rfl (by dsimp only; omega) (by dsimp only; omega) (by dsimp only; omega)

theorem pay5_eq (x : Vec Ideal S256x256 .f32) (a b cf sf : Vec Ideal S256x128 .f32) (g : Vec Ideal S1x256 .f32) (w : Vec Ideal S256x1024 .bf16)
    (n : FVec Ideal S256x1 .f32) (r : Fin 256) (k : Fin 1024) :
    (k0_pay5 (F := Ideal) x a b cf sf g w n (ValueIdx.ix2 r k) : EReal)
      = key (fun j => k0_pay3 x g w n (ValueIdx.ix2 r j))
          (fun d => (a (ValueIdx.ix2 r d) : EReal) * cf (ValueIdx.ix2 r d) + (b (ValueIdx.ix2 r d) : EReal) * sf (ValueIdx.ix2 r d)) k := by
  have hk := k.isLt
  have e0 : (ValueIdx.ix2 r k : S256x1024.Idx) 0 = r := rfl
  have e1 : (ValueIdx.ix2 r k : S256x1024.Idx) 1 = k := rfl
  unfold k0_pay5
  generalize k0_pay3 x g w n = v
  pointwise
  simp only [e0, e1, dite_true]
  split_ifs
  all_goals first | exact absurd rfl ‹¬((1 : Fin 2) : ℕ) = ((1 : Fin 2) : ℕ)› | skip
  all_goals first
    | exact key_own (by omega) rfl (by first | rfl | (dsimp only; omega))
    | exact key_turned (by omega) rfl (by dsimp only; omega)

theorem pay6_eq (x : Vec Ideal S256x256 .f32) (g : Vec Ideal S1x256 .f32) (w : Vec Ideal S256x1024 .bf16) (n : FVec Ideal S256x1 .f32) (r : Fin 256) (k : Fin 512) :
    (k0_pay6 (F := Ideal) x g w n (ValueIdx.ix2 r k) : EReal) = value (fun j => k0_pay3 x g w n (ValueIdx.ix2 r j)) k := by
  have hk := k.isLt
  have e0 : (ValueIdx.ix2 r k : S256x512.Idx) 0 = r := rfl
  have e1 : (ValueIdx.ix2 r k : S256x512.Idx) 1 = k := rfl
  unfold k0_pay6 value
  generalize k0_pay3 x g w n = v
  pointwise
  simp only [e0, e1, dite_true]
  split_ifs
  all_goals first | exact absurd rfl ‹¬((1 : Fin 2) : ℕ) = ((1 : Fin 2) : ℕ)› | skip
  all_goals exact congrArg (fun j : Fin 1024 => v (ValueIdx.ix2 r j)) (Fin.ext (by dsimp only; omega))

end

end Cert.LatentTerms

end
-- ==== Proof.LatentHost.lean ====
/-
  The latent attention's queries, keys and values as the reference computes them: on whole arrays, the heads an axis of their own.
-/
module

public import proofs.«01_k».proof.Defs
public import proofs.«01_k».proof.Proof.LatentTerms
public import proofs.«01_k».proof.Proof.Gen.LatentPlainIdeal.Run
public import Idealize.ShloMosaic.Lib.Pointwise

@[expose] public section

noncomputable section

namespace Cert.LatentHost

open Idealize.ShloMosaic Idealize.ShloMosaic.TcCoe Cert.Gating Cert.Norms Cert.LatentTerms

/-- Columns of the packed projection: the queries' latent, the keys' and values', and the two arrangements of the shared key. -/
def queryCol (k : Fin 512) : Fin 3072 := ⟨2560 + k.val, by have := k.isLt; omega⟩
def keyCol (k : Fin 256) : Fin 3072 := ⟨2048 + k.val, by have := k.isLt; omega⟩
def sharedCol (k : Fin 128) : Fin 3072 := ⟨2304 + k.val, by have := k.isLt; omega⟩
def swappedCol (k : Fin 128) : Fin 3072 := ⟨2432 + k.val, by have := k.isLt; omega⟩

section
variable (h : FVec Ideal ⟨2, ![8192, 3072]⟩ .f32) (cf sf : FVec Ideal ⟨2, ![8192, 128]⟩ .f32)
  (qg : FVec Ideal ⟨2, ![1, 512]⟩ .f32) (wq : FVec Ideal ⟨2, ![512, 1536]⟩ .bf16)
  (kg : FVec Ideal ⟨2, ![1, 256]⟩ .f32) (wk : FVec Ideal ⟨2, ![256, 1024]⟩ .bf16)

/-- The rows that the latents lift to. -/
def upQ (r : Fin 8192) (j : Fin 1536) : EReal :=
  lift queryLen (fun k => h (ValueIdx.ix2 r (queryCol k))) (fun k => qg (ValueIdx.ix2 0 k)) wq j
def upK (r : Fin 8192) (j : Fin 1024) : EReal :=
  lift keyLen (fun k => h (ValueIdx.ix2 r (keyCol k))) (fun k => kg (ValueIdx.ix2 0 k)) wk j

/-- The key that the heads share, rotated. -/
def shared (r : Fin 8192) (d : Fin 128) : EReal :=
  h (ValueIdx.ix2 r (sharedCol d)) * cf (ValueIdx.ix2 r d) + h (ValueIdx.ix2 r (swappedCol d)) * sf (ValueIdx.ix2 r d)

/-- The three results as arrays. -/
def queries : FVec Ideal ⟨2, ![8192, 1024]⟩ .bf16 := fun y =>
  query (upQ h qg wq (y 0)) (fun d => cf (ValueIdx.ix2 (y 0) d)) (fun d => sf (ValueIdx.ix2 (y 0) d)) (y 1)
def keys : FVec Ideal ⟨2, ![8192, 1024]⟩ .bf16 := fun y => key (upK h kg wk (y 0)) (shared h cf sf (y 0)) (y 1)
def values : FVec Ideal ⟨2, ![8192, 512]⟩ .bf16 := fun y => value (upK h kg wk (y 0)) (y 1)

end

open Cert.LatentPlainIdeal Cert.LatentPlainIdeal.Gen

/-- A column that repeats one word. -/
def column (b : BitVec 32) : FVec Ideal S8192x1 .f32 := broadcastInDim S8192x1 ![] bcast_S_S8192x1 (constant S_ .f32 b)

/-- The latents, normed. -/
def hostNormedQ (x : FVec Ideal S8192x512 .f32) (g : FVec Ideal S1x512 .f32) : FVec Ideal S8192x512 .f32 :=
  mulf (mulf x (broadcastInDim S8192x512 ![0, 1] bcast_S8192x1_S8192x512_0_1 (Host.rsqrt (addf (Host.divf (broadcastInDim S8192x1 ![0] bcast_S8192_S8192x1_0
    (Host.reduceAdd (mulf x x) (constant S_ .f32 0x00000000#32) reducesTo_S8192x512_S8192_d1 h_S_)) (column 0x43C00000#32)) (column 0x358637BD#32)))))
    (broadcastInDim S8192x512 ![0, 1] bcast_S1x512_S8192x512_0_1 g)

def hostNormedK (x : FVec Ideal S8192x256 .f32) (g : FVec Ideal S1x256 .f32) : FVec Ideal S8192x256 .f32 :=
  mulf (mulf x (broadcastInDim S8192x256 ![0, 1] bcast_S8192x1_S8192x256_0_1 (Host.rsqrt (addf (Host.divf (broadcastInDim S8192x1 ![0] bcast_S8192_S8192x1_0
    (Host.reduceAdd (mulf x x) (constant S_ .f32 0x00000000#32) reducesTo_S8192x256_S8192_d1 h_S_)) (column 0x43800000#32)) (column 0x358637BD#32)))))
    (broadcastInDim S8192x256 ![0, 1] bcast_S1x256_S8192x256_0_1 g)

/-- What they lift to. -/
def hostUpQ (h : FVec Ideal S8192x3072 .f32) (g : FVec Ideal S1x512 .f32) (w : FVec Ideal S512x1536 .bf16) : FVec Ideal S8192x1536 .f32 :=
  Host.dotGeneral dot_S8192x512_S512x1536_S8192x1536_1_0_0_1_n_n none
    (hostNormedQ (extractStridedSlice S8192x512 ![0, 2560] h slices_S8192x3072_S8192x512_0_2560) g) (extf .f32 w bitsLt_bf16_f32)

def hostUpK (h : FVec Ideal S8192x3072 .f32) (g : FVec Ideal S1x256 .f32) (w : FVec Ideal S256x1024 .bf16) : FVec Ideal S8192x1024 .f32 :=
  Host.dotGeneral dot_S8192x256_S256x1024_S8192x1024_1_0_0_1_n_n none
    (hostNormedK (extractStridedSlice S8192x256 ![0, 2048] h slices_S8192x3072_S8192x256_0_2048) g) (extf .f32 w bitsLt_bf16_f32)

/-- A table, the same for all heads. -/
def table (t : FVec Ideal S8192x128 .f32) : FVec Ideal S8192x4x128 .f32 :=
  broadcastInDim S8192x4x128 ![0, 1, 2] bcast_S8192x1x128_S8192x4x128_0_1_2 (broadcastInDim S8192x1x128 ![0, 2] bcast_S8192x128_S8192x1x128_0_2 t)

def hostTurned (q : FVec Ideal S8192x12x128 .f32) (cf sf : FVec Ideal S8192x128 .f32) : FVec Ideal S8192x4x128 .f32 :=
  addf (mulf (extractStridedSlice S8192x4x128 ![0, 4, 0] q slices_S8192x12x128_S8192x4x128_0_4_0) (table cf))
    (mulf (extractStridedSlice S8192x4x128 ![0, 8, 0] q slices_S8192x12x128_S8192x4x128_0_8_0) (table sf))

def hostShared (h : FVec Ideal S8192x3072 .f32) (cf sf : FVec Ideal S8192x128 .f32) : FVec Ideal S8192x128 .f32 :=
  addf (mulf (extractStridedSlice S8192x128 ![0, 2304] h slices_S8192x3072_S8192x128_0_2304) cf)
    (mulf (extractStridedSlice S8192x128 ![0, 2432] h slices_S8192x3072_S8192x128_0_2432) sf)

/-- Two halves of every head's features, side by side. -/
def halves (a b : FVec Ideal S8192x4x128 .f32) : FVec Ideal S8192x1024 .bf16 :=
  truncf .bf16 (shapeCast _ (concatenate S8192x4x256 2 [⟨S8192x4x128, a⟩, ⟨S8192x4x128, b⟩] concatenates_S8192x4x128_S8192x4x128_S8192x4x256_d2)
    shapeCasts_S8192x4x256_S8192x1024) bitsLt_bf16_f32

def hostQueries (u : FVec Ideal S8192x1536 .f32) (cf sf : FVec Ideal S8192x128 .f32) : FVec Ideal S8192x1024 .bf16 :=
  halves (extractStridedSlice S8192x4x128 ![0, 0, 0] (shapeCast _ u shapeCasts_S8192x1536_S8192x12x128) slices_S8192x12x128_S8192x4x128_0_0_0)
    (hostTurned (shapeCast _ u shapeCasts_S8192x1536_S8192x12x128) cf sf)

def hostKeys (u : FVec Ideal S8192x1024 .f32) (p : FVec Ideal S8192x128 .f32) : FVec Ideal S8192x1024 .bf16 :=
  halves (extractStridedSlice S8192x4x128 ![0, 0, 0] (shapeCast _ u shapeCasts_S8192x1024_S8192x4x256) slices_S8192x4x256_S8192x4x128_0_0_0) (table p)

def hostValues (u : FVec Ideal S8192x1024 .f32) : FVec Ideal S8192x512 .bf16 :=
  truncf .bf16 (shapeCast _ (extractStridedSlice S8192x4x128 ![0, 0, 128] (shapeCast _ u shapeCasts_S8192x1024_S8192x4x256) slices_S8192x4x256_S8192x4x128_0_0_128)
    shapeCasts_S8192x4x128_S8192x512) bitsLt_bf16_f32

theorem hostNormedQ_eq (x : FVec Ideal S8192x512 .f32) (g : FVec Ideal S1x512 .f32) (r : Fin 8192) (k : Fin 512) :
    (hostNormedQ x g (ValueIdx.ix2 r k) : EReal) = rms queryLen (fun k => x (ValueIdx.ix2 r k)) (fun k => g (ValueIdx.ix2 0 k)) k := by
  unfold hostNormedQ column rms
  pointwise
  rfl

theorem hostNormedK_eq (x : FVec Ideal S8192x256 .f32) (g : FVec Ideal S1x256 .f32) (r : Fin 8192) (k : Fin 256) :
    (hostNormedK x g (ValueIdx.ix2 r k) : EReal) = rms keyLen (fun k => x (ValueIdx.ix2 r k)) (fun k => g (ValueIdx.ix2 0 k)) k := by
  unfold hostNormedK column rms
  pointwise
  rfl

theorem slice_q (h : FVec Ideal S8192x3072 .f32) (r : Fin 8192) (k : Fin 512) :
    extractStridedSlice S8192x512 ![0, 2560] h slices_S8192x3072_S8192x512_0_2560 (ValueIdx.ix2 r k) = h (ValueIdx.ix2 r (queryCol k)) := by
  pointwise
  exact congrArg (fun n : Fin 3072 => h (ValueIdx.ix2 r n)) (Fin.ext (by unfold queryCol; first | rfl | (dsimp only; omega)))

theorem slice_k (h : FVec Ideal S8192x3072 .f32) (r : Fin 8192) (k : Fin 256) :
    extractStridedSlice S8192x256 ![0, 2048] h slices_S8192x3072_S8192x256_0_2048 (ValueIdx.ix2 r k) = h (ValueIdx.ix2 r (keyCol k)) := by
  pointwise
  exact congrArg (fun n : Fin 3072 => h (ValueIdx.ix2 r n)) (Fin.ext (by unfold keyCol; first | rfl | (dsimp only; omega)))

theorem hostUpQ_eq (h : FVec Ideal S8192x3072 .f32) (g : FVec Ideal S1x512 .f32) (w : FVec Ideal S512x1536 .bf16) (r : Fin 8192) (j : Fin 1536) :
    (hostUpQ h g w (ValueIdx.ix2 r j) : EReal) = upQ h g w r j := by
  unfold upQ
  refine (dot_eq _ _ (ValueIdx.ix2 r j)).trans ?_
  refine Finset.sum_congr rfl fun k _ => congrArg (fun s : EReal => s * (w (ValueIdx.ix2 k j) : EReal)) ((hostNormedQ_eq _ g r k).trans ?_)
  simp only [slice_q]

theorem hostUpK_eq (h : FVec Ideal S8192x3072 .f32) (g : FVec Ideal S1x256 .f32) (w : FVec Ideal S256x1024 .bf16) (r : Fin 8192) (j : Fin 1024) :
    (hostUpK h g w (ValueIdx.ix2 r j) : EReal) = upK h g w r j := by
  unfold upK
  refine (dot_eq _ _ (ValueIdx.ix2 r j)).trans ?_
  refine Finset.sum_congr rfl fun k _ => congrArg (fun s : EReal => s * (w (ValueIdx.ix2 k j) : EReal)) ((hostNormedK_eq _ g r k).trans ?_)
  simp only [slice_k]

theorem hostShared_eq (h : FVec Ideal S8192x3072 .f32) (cf sf : FVec Ideal S8192x128 .f32) (r : Fin 8192) (d : Fin 128) :
    (hostShared h cf sf (ValueIdx.ix2 r d) : EReal) = shared h cf sf r d := by
  unfold hostShared shared sharedCol swappedCol
  pointwise
  rfl

/-- Head of a feature, and its place there. -/
def headOf (k : Fin 1024) : Fin 4 := ⟨k.val / 256, by have := k.isLt; omega⟩

theorem halves_eq (a b : FVec Ideal S8192x4x128 .f32) (r : Fin 8192) (k : Fin 1024) :
    (halves a b (ValueIdx.ix2 r k) : EReal) = if k.val % 256 < 128 then (a (ValueIdx.ix3 r (headOf k) ⟨k.val % 128, by omega⟩) : EReal)
      else b (ValueIdx.ix3 r (headOf k) ⟨k.val % 128, by omega⟩) := by
  have hk := k.isLt
  unfold halves
  pointwise
  change (if h : k.val % 256 < 128 then a (ValueIdx.ix3 r (headOf k) ⟨k.val % 256, h⟩)
    else b (ValueIdx.ix3 r (headOf k) ⟨k.val % 256 - 128, by omega⟩)) = _
  split_ifs
  · exact congrArg (fun d : Fin 128 => a (ValueIdx.ix3 r (headOf k) d)) (Fin.ext (show k.val % 256 = k.val % 128 by omega))
  · exact congrArg (fun d : Fin 128 => b (ValueIdx.ix3 r (headOf k) d)) (Fin.ext (show k.val % 256 - 128 = k.val % 128 by omega))

theorem table_eq (t : FVec Ideal S8192x128 .f32) (r : Fin 8192) (n : Fin 4) (d : Fin 128) : (table t (ValueIdx.ix3 r n d) : EReal) = t (ValueIdx.ix2 r d) := by
  unfold table
  pointwise
  rfl

/-- Head `n`'s features begin at `n * 128`. -/
def part (p : ℕ) (n : Fin 4) (d : Fin 128) (h : p ≤ 1024) : Fin 1536 := ⟨p + (n.val * 128 + d.val), by have := n.isLt; have := d.isLt; omega⟩

theorem own_eq (u : FVec Ideal S8192x1536 .f32) (r : Fin 8192) (n : Fin 4) (d : Fin 128) :
    extractStridedSlice S8192x4x128 ![0, 0, 0] (shapeCast _ u shapeCasts_S8192x1536_S8192x12x128) slices_S8192x12x128_S8192x4x128_0_0_0 (ValueIdx.ix3 r n d)
      = u (ValueIdx.ix2 r (part 0 n d (by omega))) := by
  unfold part
  pointwise
  exact congrArg (fun j : Fin 1536 => u (ValueIdx.ix2 r j)) (Fin.ext (by first | rfl | (dsimp only; omega)))

theorem first_eq (u : FVec Ideal S8192x1536 .f32) (r : Fin 8192) (n : Fin 4) (d : Fin 128) :
    extractStridedSlice S8192x4x128 ![0, 4, 0] (shapeCast _ u shapeCasts_S8192x1536_S8192x12x128) slices_S8192x12x128_S8192x4x128_0_4_0 (ValueIdx.ix3 r n d)
      = u (ValueIdx.ix2 r (part 512 n d (by omega))) := by
  unfold part
  pointwise
  exact congrArg (fun j : Fin 1536 => u (ValueIdx.ix2 r j)) (Fin.ext (show (4 + n.val) * 128 + d.val = 512 + (n.val * 128 + d.val) by omega))

theorem second_eq (u : FVec Ideal S8192x1536 .f32) (r : Fin 8192) (n : Fin 4) (d : Fin 128) :
    extractStridedSlice S8192x4x128 ![0, 8, 0] (shapeCast _ u shapeCasts_S8192x1536_S8192x12x128) slices_S8192x12x128_S8192x4x128_0_8_0 (ValueIdx.ix3 r n d)
      = u (ValueIdx.ix2 r (part 1024 n d (by omega))) := by
  unfold part
  pointwise
  exact congrArg (fun j : Fin 1536 => u (ValueIdx.ix2 r j)) (Fin.ext (show (8 + n.val) * 128 + d.val = 1024 + (n.val * 128 + d.val) by omega))

theorem keyOwn_eq (u : FVec Ideal S8192x1024 .f32) (r : Fin 8192) (n : Fin 4) (d : Fin 128) :
    extractStridedSlice S8192x4x128 ![0, 0, 0] (shapeCast _ u shapeCasts_S8192x1024_S8192x4x256) slices_S8192x4x256_S8192x4x128_0_0_0 (ValueIdx.ix3 r n d)
      = u (ValueIdx.ix2 r ⟨n.val * 256 + d.val, by have := n.isLt; have := d.isLt; omega⟩) := by
  pointwise
  exact congrArg (fun j : Fin 1024 => u (ValueIdx.ix2 r j)) (Fin.ext (by first | rfl | (dsimp only; omega)))

theorem hostTurned_eq (u : FVec Ideal S8192x1536 .f32) (cf sf : FVec Ideal S8192x128 .f32) (r : Fin 8192) (n : Fin 4) (d : Fin 128) :
    (hostTurned (shapeCast _ u shapeCasts_S8192x1536_S8192x12x128) cf sf (ValueIdx.ix3 r n d) : EReal)
      = u (ValueIdx.ix2 r (part 512 n d (by omega))) * cf (ValueIdx.ix2 r d) + u (ValueIdx.ix2 r (part 1024 n d (by omega))) * sf (ValueIdx.ix2 r d) :=
  congrArg₂ (α := EReal) (β := EReal) (· + ·)
    (congrArg₂ (α := EReal) (β := EReal) (· * ·) (first_eq u r n d) (table_eq cf r n d))
    (congrArg₂ (α := EReal) (β := EReal) (· * ·) (second_eq u r n d) (table_eq sf r n d))

theorem hostQueries_eq (u : FVec Ideal S8192x1536 .f32) (cf sf : FVec Ideal S8192x128 .f32) (r : Fin 8192) (k : Fin 1024) :
    (hostQueries u cf sf (ValueIdx.ix2 r k) : EReal)
      = query (fun j => u (ValueIdx.ix2 r j)) (fun d => cf (ValueIdx.ix2 r d)) (fun d => sf (ValueIdx.ix2 r d)) k := by
  unfold hostQueries
  rw [halves_eq]
  split_ifs
  · exact query_own (by omega) (own_eq u r _ _) (by unfold part headOf; dsimp only; omega)
  · exact query_turned (by omega) (hostTurned_eq u cf sf r _ _) (by unfold part headOf; dsimp only) (by unfold part headOf; dsimp only) rfl

theorem hostKeys_eq (u : FVec Ideal S8192x1024 .f32) (p : FVec Ideal S8192x128 .f32) (r : Fin 8192) (k : Fin 1024) :
    (hostKeys u p (ValueIdx.ix2 r k) : EReal) = key (fun j => u (ValueIdx.ix2 r j)) (fun d => p (ValueIdx.ix2 r d)) k := by
  unfold hostKeys
  rw [halves_eq]
  split_ifs
  · exact key_own (by omega) (keyOwn_eq u r _ _) (by unfold headOf; dsimp only; omega)
  · exact key_turned (by omega) (table_eq p r _ _) rfl

theorem hostValues_eq (u : FVec Ideal S8192x1024 .f32) (r : Fin 8192) (k : Fin 512) :
    (hostValues u (ValueIdx.ix2 r k) : EReal) = value (fun j => u (ValueIdx.ix2 r j)) k := by
  unfold hostValues value
  pointwise
  exact congrArg (fun j : Fin 1024 => (u (ValueIdx.ix2 r j) : EReal)) (Fin.ext (show k.val / 128 * 256 + (128 + k.val % 128) = k.val / 128 * 256 + 128 + k.val % 128 by omega))

/-- The reference's three results. -/
theorem host_queries (h : FVec Ideal S8192x3072 .f32) (cf sf : FVec Ideal S8192x128 .f32) (g : FVec Ideal S1x512 .f32) (w : FVec Ideal S512x1536 .bf16) :
    hostQueries (hostUpQ h g w) cf sf = queries h cf sf g w := by
  funext y
  obtain ⟨r, k, rfl⟩ : ∃ (r : Fin 8192) (k : Fin 1024), y = ValueIdx.ix2 r k := ⟨y 0, y 1, ValueIdx.eq_ix2 y⟩
  exact (hostQueries_eq _ cf sf r k).trans (congrArg (fun q => query q (fun d => cf (ValueIdx.ix2 r d)) (fun d => sf (ValueIdx.ix2 r d)) k)
    (funext fun j => hostUpQ_eq h g w r j))

theorem host_keys (h : FVec Ideal S8192x3072 .f32) (cf sf : FVec Ideal S8192x128 .f32) (g : FVec Ideal S1x256 .f32) (w : FVec Ideal S256x1024 .bf16) :
    hostKeys (hostUpK h g w) (hostShared h cf sf) = keys h cf sf g w := by
  funext y
  obtain ⟨r, k, rfl⟩ : ∃ (r : Fin 8192) (k : Fin 1024), y = ValueIdx.ix2 r k := ⟨y 0, y 1, ValueIdx.eq_ix2 y⟩
  exact (hostKeys_eq _ _ r k).trans (congrArg₂ (fun v p => key v p k) (funext fun j => hostUpK_eq h g w r j)
    (funext fun d => hostShared_eq h cf sf r d))

theorem host_values (h : FVec Ideal S8192x3072 .f32) (g : FVec Ideal S1x256 .f32) (w : FVec Ideal S256x1024 .bf16) :
    hostValues (hostUpK h g w) = values h g w := by
  funext y
  obtain ⟨r, k, rfl⟩ : ∃ (r : Fin 8192) (k : Fin 512), y = ValueIdx.ix2 r k := ⟨y 0, y 1, ValueIdx.eq_ix2 y⟩
  exact (hostValues_eq _ r k).trans (congrArg (fun v => value v k) (funext fun j => hostUpK_eq h g w r j))

end Cert.LatentHost

end
-- ==== Proof.LatentValue.lean ====
/-
  The latent attention's queries, keys and values: each grid point computes 256 rows of each from the same rows of the packed projection
  and of the two tables, and the reference computes the same rows.
-/
module

public import proofs.«01_k».proof.Defs
public import proofs.«01_k».proof.Proof.LatentHost
public import proofs.«01_k».proof.Proof.Gen.LatentIdeal.Value

@[expose] public section

noncomputable section

namespace Cert.LatentValue

open Idealize.ShloMosaic Idealize.ShloMosaic.TcCoe Idealize.SL.Sem Cert.Gating Cert.Norms Cert.LatentTerms
open Idealize.ShloMosaic.Pipeline (Dat)
open Cert.LatentHost (queryCol keyCol sharedCol swappedCol upQ upK shared queries keys values)

section
open Cert.LatentIdeal Cert.LatentIdeal.Gen Cert.LatentIdeal.Value

theorem index_0 : ∀ t : Fin grid0.N, win0_0.index t = ![t.val, 5] := by decide +kernel
theorem index_1 : ∀ t : Fin grid0.N, win0_1.index t = ![t.val, 8] := by decide +kernel
theorem index_2 : ∀ t : Fin grid0.N, win0_2.index t = ![t.val, 18] := by decide +kernel
theorem index_3 : ∀ t : Fin grid0.N, win0_3.index t = ![t.val, 19] := by decide +kernel
theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![t.val, 0] := by decide +kernel
theorem index_11 : ∀ t : Fin grid0.N, win0_11.index t = ![t.val, 0] := by decide +kernel
theorem index_12 : ∀ t : Fin grid0.N, win0_12.index t = ![t.val, 0] := by decide +kernel

theorem queries_out (q : FVec Ideal S256x512 .f32) (x : FVec Ideal S256x256 .f32) (a b cf sf : FVec Ideal S256x128 .f32) (qg : FVec Ideal S1x512 .f32)
    (wq : FVec Ideal S512x1536 .bf16) (kg : FVec Ideal S1x256 .f32) (wk : FVec Ideal S256x1024 .bf16) :
    out0_10 (F := Ideal) q x a b cf sf qg wq kg wk = k0_pay4 (F := Ideal) cf sf (k0_pay1 q qg wq) := by
  unfold out0_10
  rw [View.canon_unit_zero hz2]
  repeat rw [View.ld_unit_zero hz2]

theorem keys_out (q : FVec Ideal S256x512 .f32) (x : FVec Ideal S256x256 .f32) (a b cf sf : FVec Ideal S256x128 .f32) (qg : FVec Ideal S1x512 .f32)
    (wq : FVec Ideal S512x1536 .bf16) (kg : FVec Ideal S1x256 .f32) (wk : FVec Ideal S256x1024 .bf16) :
    out0_11 (F := Ideal) q x a b cf sf qg wq kg wk = k0_pay5 (F := Ideal) x a b cf sf kg wk (k0_pay2 x) := by
  unfold out0_11 k0_pay7
  rw [View.canon_unit_zero hz2]
  repeat rw [View.ld_unit_zero hz2]

theorem values_out (q : FVec Ideal S256x512 .f32) (x : FVec Ideal S256x256 .f32) (a b cf sf : FVec Ideal S256x128 .f32) (qg : FVec Ideal S1x512 .f32)
    (wq : FVec Ideal S512x1536 .bf16) (kg : FVec Ideal S1x256 .f32) (wk : FVec Ideal S256x1024 .bf16) :
    out0_12 (F := Ideal) q x a b cf sf qg wq kg wk = k0_pay6 (F := Ideal) x kg wk (k0_pay2 x) := by
  unfold out0_12 k0_pay7
  rw [View.canon_unit_zero hz2]
  repeat rw [View.ld_unit_zero hz2]

variable (m : (ℓ : Loc nD τ sig) → Buf (Elt Ideal) ℓ) (c : Dev nD)

abbrev H : FVec Ideal S8192x3072 .f32 := m ((c : Thread nD τ).loc main_arg0)
abbrev Cf : FVec Ideal S8192x128 .f32 := m ((c : Thread nD τ).loc main_arg1)
abbrev Sf : FVec Ideal S8192x128 .f32 := m ((c : Thread nD τ).loc main_arg2)
abbrev Qg : FVec Ideal S1x512 .f32 := m ((c : Thread nD τ).loc main_arg3)
abbrev Wq : FVec Ideal S512x1536 .bf16 := m ((c : Thread nD τ).loc main_arg4)
abbrev Kg : FVec Ideal S1x256 .f32 := m ((c : Thread nD τ).loc main_arg5)
abbrev Wk : FVec Ideal S256x1024 .bf16 := m ((c : Thread nD τ).loc main_arg6)

variable (t : Fin cfg0.N)

/-- Row `r` of block `t`, in the array. -/
def row (r : Fin 256) : Fin 8192 := ⟨t.val * 256 + r.val, by have h : t.val < 32 := t.isLt; have h0 := r.isLt; omega⟩

theorem emb_10 (r : Fin 256) (k : Fin 1024) : (win0_10.blk t).view.emb (ValueIdx.ix2 r k) = ValueIdx.ix2 (row t r) k := by
  unfold row
  blk_ext [index_10]

theorem emb_11 (r : Fin 256) (k : Fin 1024) : (win0_11.blk t).view.emb (ValueIdx.ix2 r k) = ValueIdx.ix2 (row t r) k := by
  unfold row
  blk_ext [index_11]

theorem emb_12 (r : Fin 256) (k : Fin 512) : (win0_12.blk t).view.emb (ValueIdx.ix2 r k) = ValueIdx.ix2 (row t r) k := by
  unfold row
  blk_ext [index_12]

/-- What the blocks of point `t` hold, by the array's index. -/
theorem blk_q (r : Fin 256) (k : Fin 512) : (iblk m c 0 t : FVec Ideal S256x512 .f32) (ValueIdx.ix2 r k) = H m c (ValueIdx.ix2 (row t r) (queryCol k)) := by
  refine congrArg (H m c) ?_
  unfold row queryCol
  blk_ext [index_0]

theorem blk_x (r : Fin 256) (k : Fin 256) : (iblk m c 1 t : FVec Ideal S256x256 .f32) (ValueIdx.ix2 r k) = H m c (ValueIdx.ix2 (row t r) (keyCol k)) := by
  refine congrArg (H m c) ?_
  unfold row keyCol
  blk_ext [index_1]

theorem blk_a (r : Fin 256) (k : Fin 128) : (iblk m c 2 t : FVec Ideal S256x128 .f32) (ValueIdx.ix2 r k) = H m c (ValueIdx.ix2 (row t r) (sharedCol k)) := by
  refine congrArg (H m c) ?_
  unfold row sharedCol
  blk_ext [index_2]

theorem blk_b (r : Fin 256) (k : Fin 128) : (iblk m c 3 t : FVec Ideal S256x128 .f32) (ValueIdx.ix2 r k) = H m c (ValueIdx.ix2 (row t r) (swappedCol k)) := by
  refine congrArg (H m c) ?_
  unfold row swappedCol
  blk_ext [index_3]

theorem blk_cf (r : Fin 256) (k : Fin 128) : (iblk m c 4 t : FVec Ideal S256x128 .f32) (ValueIdx.ix2 r k) = Cf m c (ValueIdx.ix2 (row t r) k) := by
  refine congrArg (Cf m c) ?_
  unfold row
  blk_ext [index_4]

theorem blk_sf (r : Fin 256) (k : Fin 128) : (iblk m c 5 t : FVec Ideal S256x128 .f32) (ValueIdx.ix2 r k) = Sf m c (ValueIdx.ix2 (row t r) k) := by
  refine congrArg (Sf m c) ?_
  unfold row
  blk_ext [index_5]

theorem blk_qg : (iblk m c 6 t : FVec Ideal S1x512 .f32) = Qg m c := by
  funext y
  refine congrArg (Qg m c) ?_
  blk_ext [index_6]

theorem blk_wq : (iblk m c 7 t : FVec Ideal S512x1536 .bf16) = Wq m c := by
  funext y
  refine congrArg (Wq m c) ?_
  blk_ext [index_7]

theorem blk_kg : (iblk m c 8 t : FVec Ideal S1x256 .f32) = Kg m c := by
  funext y
  refine congrArg (Kg m c) ?_
  blk_ext [index_8]

theorem blk_wk : (iblk m c 9 t : FVec Ideal S256x1024 .bf16) = Wk m c := by
  funext y
  refine congrArg (Wk m c) ?_
  blk_ext [index_9]

theorem upQ_eq (r : Fin 256) (j : Fin 1536) : (k0_pay1 (F := Ideal) (iblk m c 0 t) (iblk m c 6 t) (iblk m c 7 t) (ValueIdx.ix2 r j) : EReal)
    = upQ (H m c) (Qg m c) (Wq m c) (row t r) j := by
  rw [blk_qg, blk_wq]
  refine (pay1_eq _ _ _ r j).trans ?_
  simp only [blk_q]
  rfl

theorem upK_eq (r : Fin 256) (j : Fin 1024) :
    (k0_pay3 (F := Ideal) (iblk m c 1 t) (iblk m c 8 t) (iblk m c 9 t) (k0_pay2 (iblk m c 1 t)) (ValueIdx.ix2 r j) : EReal)
      = upK (H m c) (Kg m c) (Wk m c) (row t r) j := by
  rw [blk_kg, blk_wk]
  refine (pay3_eq _ _ _ r j).trans ?_
  simp only [blk_x]
  rfl

theorem final_q : (dats m 0 c).arrAt 10 cfg0.N = queries (H m c) (Cf m c) (Sf m c) (Qg m c) (Wq m c) := by
  refine (dats m 0 c).arrAt_eq_of_covers 10 _ (by decide +kernel) fun t _ y => ?_
  refine (congrFun ((after0_10 m c t).trans (queries_out _ _ _ _ _ _ _ _ _ _)) y).trans ?_
  obtain ⟨r, k, rfl⟩ : ∃ (r : Fin 256) (k : Fin 1024), y = ValueIdx.ix2 r k := ⟨y 0, y 1, ValueIdx.eq_ix2 y⟩
  refine ((pay4_eq _ _ _ r k).trans ?_).trans (congrArg (queries (H m c) (Cf m c) (Sf m c) (Qg m c) (Wq m c)) (emb_10 t r k).symm)
  simp only [upQ_eq, blk_cf, blk_sf]
  rfl

theorem final_k : (dats m 0 c).arrAt 11 cfg0.N = keys (H m c) (Cf m c) (Sf m c) (Kg m c) (Wk m c) := by
  refine (dats m 0 c).arrAt_eq_of_covers 11 _ (by decide +kernel) fun t _ y => ?_
  refine (congrFun ((after0_11 m c t).trans (keys_out _ _ _ _ _ _ _ _ _ _)) y).trans ?_
  obtain ⟨r, k, rfl⟩ : ∃ (r : Fin 256) (k : Fin 1024), y = ValueIdx.ix2 r k := ⟨y 0, y 1, ValueIdx.eq_ix2 y⟩
  refine ((pay5_eq _ _ _ _ _ _ _ _ r k).trans ?_).trans (congrArg (keys (H m c) (Cf m c) (Sf m c) (Kg m c) (Wk m c)) (emb_11 t r k).symm)
  simp only [upK_eq, blk_a, blk_b, blk_cf, blk_sf]
  rfl

theorem final_v : (dats m 0 c).arrAt 12 cfg0.N = values (H m c) (Kg m c) (Wk m c) := by
  refine (dats m 0 c).arrAt_eq_of_covers 12 _ (by decide +kernel) fun t _ y => ?_
  refine (congrFun ((after0_12 m c t).trans (values_out _ _ _ _ _ _ _ _ _ _)) y).trans ?_
  obtain ⟨r, k, rfl⟩ : ∃ (r : Fin 256) (k : Fin 512), y = ValueIdx.ix2 r k := ⟨y 0, y 1, ValueIdx.eq_ix2 y⟩
  refine ((pay6_eq _ _ _ _ r k).trans ?_).trans (congrArg (values (H m c) (Kg m c) (Wk m c)) (emb_12 t r k).symm)
  simp only [upK_eq]
  rfl

end

open Cert.LatentIdeal in
/-- Kernel and reference, launched on the same arrays: both terminate, and their results agree. -/
theorem agree : Cert.algebraic_LatentIdeal_LatentPlainIdeal := by
  intro m g m' g' _ h
  refine ⟨fun c => queries (H m c) (Cf m c) (Sf m c) (Qg m c) (Wq m c), fun c => keys (H m c) (Cf m c) (Sf m c) (Kg m c) (Wk m c),
    fun c => values (H m c) (Kg m c) (Wk m c), ?_, ?_⟩
  · exact (θ_run Cert.LatentIdeal.defs _ _).mono (fun r hr c => ⟨(hr c).1.trans (final_q m c), (hr c).2.1.trans (final_k m c),
      (hr c).2.2.1.trans (final_v m c), (hr c).2.2.2⟩) (Cert.LatentIdeal.Value.run_blocks (F := Ideal) m g)
  · refine (θ_run Cert.LatentPlainIdeal.defs _ _).mono (fun r hr c => ⟨(hr c).1.trans ((Cert.LatentHost.host_queries _ _ _ _ _).trans ?_),
      (hr c).2.1.trans ((Cert.LatentHost.host_keys _ _ _ _ _).trans ?_), (hr c).2.2.1.trans ((Cert.LatentHost.host_values _ _ _).trans ?_), (hr c).2.2.2⟩)
      (Cert.LatentPlainIdeal.Value.run (F := Ideal) m' g')
    · rw [(h c).1, (h c).2.1, (h c).2.2.1, (h c).2.2.2.1, (h c).2.2.2.2.1]
    · rw [(h c).1, (h c).2.1, (h c).2.2.1, (h c).2.2.2.2.2.1, (h c).2.2.2.2.2.2]
    · rw [(h c).1, (h c).2.2.2.2.2.1, (h c).2.2.2.2.2.2]

end Cert.LatentValue

end
-- ==== Proof.Proto.lean ====
/-
  The all-to-all pattern of the step, stated once for any buffers: on eight devices every device `c` copies one block to
  itself and one to each of the other seven, the block for device `p` landing in the row of `p`'s result that is named after
  `c`. The seven others are met in the order `peer c 0 … peer c 6`, where `peer c k` differs from `c` in the bits of `k + 1`;
  so `c` is the same numbered peer of `peer c k`, and the `k`-th receive semaphore of a device is raised by its `k`-th peer.

  A `Plan` names the buffers, the semaphores and the contents. Nobody asks before sending: the row a device writes on
  another device is its own from the launch on. Each of the fifteen semaphores of a device is a cell with one round and one
  duty: the send cell hands back the block sent, the receive cell the row that landed, the local cell both.

  The state of a device during the exchange is `St`: what it still owes (the receive cells it has yet to raise) and, per
  cell, whether the copy is ahead (`0`), in flight (`1`) or waited for and the cell closed (`2`). The rules `copy_of`,
  `send_of` and `wait_of` move one cell one step.
-/
module

public import Idealize.ShloMosaic.Lib.Pipeline.Launch
public import Idealize.ShloMosaic.Lib.Pipeline.Kit
public import Idealize.ShloMosaic.Lib.Tactic

@[expose] public section

noncomputable section

namespace Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The peers -/

/-- The device whose number differs from `c`'s in the bits of `j`. -/
def mate (c j : Fin 8) : Fin 8 := ⟨(c.val ^^^ j.val) % 8, Nat.mod_lt _ (by decide)⟩
theorem mate_mate (c j : Fin 8) : mate (mate c j) j = c := by revert c j; decide
theorem mate_twice (c j : Fin 8) : mate c (mate c j) = j := by revert c j; decide
theorem mate_zero (c : Fin 8) : mate c 0 = c := by revert c; decide

/-- Device `c`'s `k`-th peer. -/
def peer (c : Fin 8) (k : Fin 7) : Fin 8 := mate c k.succ
theorem peer_peer (c : Fin 8) (k : Fin 7) : peer (peer c k) k = c := mate_mate c k.succ

/-- Pairing every device with its `k`-th peer. -/
def swap (k : Fin 7) : Fin 8 ≃ Fin 8 := ⟨fun c => peer c k, fun c => peer c k, fun c => peer_peer c k, fun c => peer_peer c k⟩

/-- The devices as seen from `c`: its seven peers and itself. -/
def around (c : Fin 8) : Fin 7 ⊕ Unit ≃ Fin 8 where
  toFun := fun | .inl k => peer c k | .inr _ => c
  invFun p := if h : mate c p = 0 then .inr () else .inl ((mate c p).pred h)
  left_inv := by
    rintro (k | u)
    · have h : mate c (peer c k) = k.succ := mate_twice c k.succ
      have h0 : mate c (peer c k) ≠ 0 := by rw [h]; exact Fin.succ_ne_zero k
      show (if h : mate c (peer c k) = 0 then _ else _) = _
      rw [dif_neg h0]
      exact congrArg Sum.inl ((Fin.pred_inj (ha := h0) (hb := Fin.succ_ne_zero k)).mpr h |>.trans (Fin.pred_succ k))
    · have h : mate c c = 0 := by revert c; decide
      show (if h : mate c c = 0 then _ else _) = _
      rw [dif_pos h]
  right_inv := by
    intro p
    by_cases h : mate c p = 0
    · simp only [dif_pos h]
      rw [← mate_twice c p, h, mate_zero]
    · simp only [dif_neg h, peer, Fin.succ_pred]
      exact mate_twice c p

/-! ## The plan -/

/-- The semaphores of a device: one per block sent, one per block received, one for its own block. -/
abbrev Cell : Type := Fin 7 ⊕ (Fin 7 ⊕ Unit)
abbrev cSend (k : Fin 7) : Cell := .inl k
abbrev cRecv (k : Fin 7) : Cell := .inr (.inl k)
abbrev cHere : Cell := .inr (.inr ())

variable {τ : Topo} {sig : RefSig} {Val : EltTy → Type} {sp : Space} {S : Shape} {el : EltTy}

variable (τ sig Val sp S el) in
/-- One exchange: the block `src c p` device `c` sends device `p` and its contents, held at the share `q c p`; the row
    `dst r` that takes the block of device `r`, and what device `c`'s row `r` holds at the end. -/
structure Plan where
  osem : Cell → DmaSem sig
  osem_inj : Function.Injective osem
  src : Fin 8 → Fin 8 → Memref sig .tc sp S el
  dst : Fin 8 → Memref sig .tc sp S el
  q : Fin 8 → Fin 8 → PosShare TreeShare
  fs : (c p : Fin 8) → Buf Val ((src c p).view.loc (Dev.tc c : Thread 8 τ))
  fo : (c r : Fin 8) → Buf Val ((dst r).view.loc (Dev.tc c : Thread 8 τ))
  N : ℕ
  N_pos : 0 < N
  N_eq : ∀ r, (dst r).view.dmaCredit = N
  land : ∀ (c p : Fin 8) (fd : Buf Val ((dst c).view.loc (Dev.tc p : Thread 8 τ))), ∀ i ∈ (dst c).view.set,
    (dst c).view.write Val fd ((src c p).view.read Val (fs c p)) Finset.univ i = fo p c i

variable (τ sig) in
abbrev UU : Type := UR sig 8 τ × UR sig 8 τ

local notation "𝕄" => MT 8 τ sig Unit Val ℕ (UU τ sig) ℕ

abbrev EP : Emb (UR sig 8 τ) (MT 8 τ sig Unit Val ℕ (UU τ sig) ℕ) := embL
abbrev ER : Emb (UR sig 8 τ) (MT 8 τ sig Unit Val ℕ (UU τ sig) ℕ) := embR

variable (P : Plan τ sig Val sp S el)

/-- The cell `i` of device `c`. -/
abbrev Plan.cell (c : Fin 8) (i : Cell) : GSem 8 τ sig := ((Dev.tc c : Thread 8 τ), .dma (P.osem i))

theorem Plan.cell_inj : Function.Injective (fun x : Fin 8 × Cell => P.cell x.1 x.2) := by
  rintro ⟨c, i⟩ ⟨c', i'⟩ h
  have h1 : c = c' := congrArg (fun g : GSem 8 τ sig => g.1.1) h
  have h2 : SemLoc.dma (P.osem i) = SemLoc.dma (P.osem i') := congrArg (fun g : GSem 8 τ sig => g.2) h
  have h3 : i = i' := P.osem_inj (by injection h2)
  rw [h1, h3]

/-- The block device `c` sends device `p`. -/
def Plan.srcPts (c p : Fin 8) : sProp 𝕄 :=
  (P.src c p).view.loc (Dev.tc c : Thread 8 τ) ↦[(P.src c p).view.set]{P.q c p} P.fs c p
/-- Row `r` of device `c`'s result, at contents `f`. -/
def Plan.dstPts (c r : Fin 8) (f : Buf Val ((P.dst r).view.loc (Dev.tc c : Thread 8 τ))) : sProp 𝕄 :=
  (P.dst r).view.loc (Dev.tc c : Thread 8 τ) ↦[(P.dst r).view.set]{fullShare} f

instance (c p : Fin 8) : BI.Storable (upEmb : UEmb _ 𝕄) (P.srcPts c p) := by unfold Plan.srcPts; infer_instance
instance (c r : Fin 8) (f) : BI.Storable (upEmb : UEmb _ 𝕄) (P.dstPts c r f) := by unfold Plan.dstPts; infer_instance

/-- What cell `i` of device `c` hands back. -/
def Plan.pay (c : Fin 8) : Cell → sProp 𝕄
  | .inl k => P.srcPts c (peer c k)
  | .inr (.inl k) => P.dstPts c (peer c k) (P.fo c (peer c k))
  | .inr (.inr _) => iprop(P.dstPts c c (P.fo c c) ∗ P.srcPts c c)

/-- A receive cell hands back the row its peer wrote. -/
theorem Plan.pay_recv (c : Fin 8) (j : Fin 7) : P.pay (peer c j) (cRecv j) = P.dstPts (peer c j) c (P.fo (peer c j) c) := by
  show P.dstPts (peer c j) (peer (peer c j) j) (P.fo (peer c j) (peer (peer c j) j)) = _
  rw [peer_peer]

instance (c : Fin 8) (i : Cell) : BI.Storable (upEmb : UEmb _ 𝕄) (P.pay c i) := by
  rcases i with k | k | u <;> unfold Plan.pay <;> infer_instance

open Classical in
/-- The schedule: one round per cell, one duty of `N` units, paid for by what the cell hands back. -/
def Plan.Rd : Rounds.Schedule (GSem 8 τ sig) Unit 𝕄 where
  duties g r := if r = 0 ∧ ∃ i, g.2 = .dma (P.osem i) then {()} else ∅
  unitless _ := False
  amount _ _ _ := P.N
  payload g _ _ := if h : ∃ i, g.2 = .dma (P.osem i) then P.pay g.1.1 h.choose else iprop(emp)
  amount_pos _ _ _ _ := P.N_pos

instance (g : GSem 8 τ sig) (r : ℕ) (d : Unit) : BI.Storable (upEmb : UEmb _ 𝕄) (P.Rd.payload g r d) := by
  classical
  unfold Plan.Rd
  dsimp only
  split <;> infer_instance

theorem Plan.duties (c : Fin 8) (i : Cell) : P.Rd.duties (P.cell c i) 0 = {()} := by
  unfold Plan.Rd; exact if_pos ⟨rfl, i, rfl⟩
theorem Plan.duty_mem (c : Fin 8) (i : Cell) : () ∈ P.Rd.duties (P.cell c i) 0 := by
  rw [P.duties]; exact Finset.mem_singleton_self _
theorem Plan.duties_later (g : GSem 8 τ sig) : ∀ r, 1 ≤ r → P.Rd.duties g r = ∅ := fun r hr => by
  unfold Plan.Rd; exact if_neg fun h => by omega
theorem Plan.payload (c : Fin 8) (i : Cell) (u : Unit) : P.Rd.payload (P.cell c i) 0 u = P.pay c i := by
  unfold Plan.Rd
  dsimp only
  have h : ∃ j, SemLoc.dma (P.osem i) = SemLoc.dma (P.osem j) := ⟨i, rfl⟩
  have hj : h.choose = i := P.osem_inj (by have := h.choose_spec; injection this with h'; exact h'.symm)
  rw [dif_pos h, hj]
theorem Plan.expect (c : Fin 8) (i : Cell) : P.Rd.expect (P.cell c i) 0 = P.N := by
  unfold Schedule.expect Schedule.amountOf
  rw [P.duties, Finset.sum_singleton]
  rfl
theorem Plan.rest (c : Fin 8) (i : Cell) :
    bigSep (P.Rd.duties (P.cell c i) 0 \ ∅) (fun u => P.Rd.payload (P.cell c i) 0 u) = P.pay c i := by
  rw [Finset.sdiff_empty, P.duties, bigSep_singleton, P.payload]

/-! ## What a device owes -/

/-- The units device `c` owes the receive cell of its `k`-th peer. -/
abbrev Plan.unit (c : Fin 8) (k : Fin 7) : CellTallies 8 τ sig Unit := tallyAt (P.cell (peer c k) (cRecv k)) () P.N
/-- What device `c` owes while the peers `l` are still to be sent to. -/
def Plan.due (c : Fin 8) (l : List (Fin 7)) : CellTallies 8 τ sig Unit := (l.map (P.unit c)).sum

theorem Plan.due_nil (c : Fin 8) : P.due c [] = 0 := rfl
theorem Plan.due_cons (c : Fin 8) (k : Fin 7) (l : List (Fin 7)) : P.due c (k :: l) = P.due c l + P.unit c k := by
  unfold Plan.due; rw [List.map_cons, List.sum_cons, add_comm]
theorem Plan.due_all (c : Fin 8) : P.due c (List.finRange 7) = ∑ k : Fin 7, P.unit c k := by
  unfold Plan.due; exact (Fin.sum_univ_def (P.unit c)).symm

/-! ## The state of a device -/

/-- The cells' invariants, under the names `κ`, and that each has reached its round: known to every device. -/
def Plan.known (κ : Fin 8 × Cell → ℕ) : sProp 𝕄 :=
  iprop((bigSep Finset.univ fun x : Fin 8 × Cell => cellInv ER P.Rd (κ x) (P.cell x.1 x.2))
    ∗ bigSep Finset.univ fun x : Fin 8 × Cell => reached ER (P.cell x.1 x.2) 0)
instance (κ : Fin 8 × Cell → ℕ) : BI.Persistent (P.known κ) := by unfold Plan.known; infer_instance

theorem Plan.known_at (κ : Fin 8 × Cell → ℕ) (c : Fin 8) (i : Cell) :
    P.known κ ⊢ iprop(cellInv ER P.Rd (κ (c, i)) (P.cell c i) ∗ reached ER (P.cell c i) 0) := by
  unfold Plan.known
  have h1 : (bigSep Finset.univ fun x : Fin 8 × Cell => (cellInv ER P.Rd (κ x) (P.cell x.1 x.2) : sProp 𝕄)) ⊢ cellInv ER P.Rd (κ (c, i)) (P.cell c i) :=
    bigSep_elim (Finset.mem_univ (c, i))
  have h2 : (bigSep Finset.univ fun x : Fin 8 × Cell => (reached ER (P.cell x.1 x.2) 0 : sProp 𝕄)) ⊢ reached ER (P.cell c i) 0 :=
    bigSep_elim (Finset.mem_univ (c, i))
  iintro ⟨H1, H2⟩
  isplitl [H1]
  · iapply h1; iexact H1
  · iapply h2; iexact H2

/-- What device `c` needs to start the copy cell `i` belongs to (nothing for a receive cell: a peer starts that). -/
def Plan.ready (c : Fin 8) : Cell → sProp 𝕄
  | .inl k => iprop(dutyTok ER (P.cell c (cSend k)) 0 () ∗ dutyTok ER (P.cell (peer c k) (cRecv k)) 0 ()
      ∗ P.srcPts c (peer c k) ∗ (∃ f, P.dstPts (peer c k) c f) ∗ atPos ER (P.cell c (cSend k)) 0 ∅ 0)
  | .inr (.inl _) => iprop(emp)
  | .inr (.inr _) => iprop(dutyTok ER (P.cell c cHere) 0 () ∗ P.srcPts c c ∗ (∃ f, P.dstPts c c f) ∗ atPos ER (P.cell c cHere) 0 ∅ 0)
/-- Cell `i` while its copy is in flight: the credit of the units to come and the position to wait from. -/
def Plan.pend (c : Fin 8) (i : Cell) : sProp 𝕄 := iprop(cred (tallyAt (P.cell c i) () P.N) ∗ atPos ER (P.cell c i) 0 ∅ 0)
/-- Cell `i` waited for and closed: its counter at zero, and what it handed back. -/
def Plan.done (c : Fin 8) (i : Cell) : sProp 𝕄 := iprop(semVal (P.cell c i) 0 ∗ P.pay c i)

/-- Cell `i` at stage `s`. -/
def Plan.res (c : Fin 8) (i : Cell) : Fin 3 → sProp 𝕄
  | 0 => P.ready c i
  | 1 => P.pend c i
  | 2 => P.done c i

/-- Every cell at its stage. -/
def Plan.Sh (κ : Fin 8 × Cell → ℕ) (c : Fin 8) (σ : Cell → Fin 3) : sProp 𝕄 :=
  iprop(P.known κ ∗ bigSep Finset.univ fun i => P.res c i (σ i))
/-- The state: every cell at its stage, and what is owed while the peers `l` are to be sent to. -/
def Plan.St (κ : Fin 8 × Cell → ℕ) (c : Fin 8) (l : List (Fin 7)) (σ : Cell → Fin 3) : sProp 𝕄 :=
  iprop(P.Sh κ c σ ∗ ∃ W, owes (Dev.tc c : Thread 8 τ) (P.due c l) W)

/-- The cells at the start: only the receive cells are in flight. -/
def σ₀ : Cell → Fin 3
  | .inl _ => 0
  | .inr (.inl _) => 1
  | .inr (.inr _) => 0

/-- One cell taken out of the state, to be put back at another stage. -/
theorem Plan.res_step (c : Fin 8) (σ : Cell → Fin 3) (i : Cell) {a : Fin 3} (ha : σ i = a) (b : Fin 3) :
    (bigSep Finset.univ fun j => P.res c j (σ j))
      ⊢ iprop(P.res c i a ∗ (P.res c i b -∗ bigSep Finset.univ fun j => P.res c j (Function.update σ i b j))) := by
  have h : (bigSep (Finset.univ.erase i) fun j => P.res c j (σ j))
      = bigSep (Finset.univ.erase i) fun j => P.res c j (Function.update σ i b j) :=
    bigSep_congr fun j hj => by rw [Function.update_of_ne (Finset.ne_of_mem_erase hj)]
  rw [bigSep_univ_at _ i, bigSep_univ_at (fun j => P.res c j (Function.update σ i b j)) i, h, ha, Function.update_self]
  iintro ⟨H1, H2⟩
  isplitl [H1]; · iexact H1
  iintro H3
  isplitl [H3] <;> iassumption

section Steps

variable {Λ : Labels} {defs : Defs 8 τ sig Val Λ} (𝒱 : Variants)
variable (κ : Fin 8 × Cell → ℕ) (c : Fin 8) {α : Type} {Q : α → sProp (MT 8 τ sig Unit Val ℕ (UU τ sig) ℕ)}

/-- The copy of the device's own block. -/
theorem Plan.copy_of {l : List (Fin 7)} {σ : Cell → Fin 3} {src dst : Memref sig (Dev.tc c : Thread 8 τ).2.kind sp S el} {sm : DmaSem sig}
    {h1 : src.view.WordExact} {h2 : dst.view.WordExact} {h3 : DmaTarget.Typed (nD := 8) sp (.dma sm) (.here dst)}
    {k : PUnit → Prog (TpuEff 8 τ sig Val Λ (Dev.tc c : Thread 8 τ).2) α}
    (hs : src = P.src c c) (hd : dst = P.dst c) (hm : sm = P.osem cHere) (hσ : σ cHere = 0)
    (hk : P.St κ c l (Function.update σ cHere 1) ⊢ wp frame (wpE defs 𝒱 (Dev.tc c : Thread 8 τ) none) Set.univ (k ⟨⟩) Q) :
    P.St κ c l σ ⊢ wp frame (wpE defs 𝒱 (Dev.tc c : Thread 8 τ) none) Set.univ (.op (.enqueueDma src (.here dst) (.dma sm) h1 h2 h3) k) Q := by
  subst hs hd hm
  unfold Plan.St Plan.Sh at hk ⊢
  iintro ⟨⟨#HK, H⟩, HO⟩
  ihave H := (P.res_step c σ cHere hσ 1) $$ H
  icases H with ⟨Hr, Hb⟩
  unfold Plan.res Plan.ready Plan.pend
  icases Hr with ⟨Htok, Hsrc, ⟨%f, Hdst⟩, Hat⟩
  ihave Hi := (P.known_at κ c cHere) $$ HK
  icases Hi with ⟨#HI, #HR⟩
  unfold Plan.srcPts Plan.dstPts
  iapply (Rounds.wp_copy_pointsTo 𝒱 ER P.Rd (Dev.tc c : Thread 8 τ) none (κ := κ (c, cHere)) (r := 0) (d := ()) (fd := f)
      (P.duty_mem c cHere) () P.N ((View.amount_dma _ _).trans (P.N_eq c)) rfl
      (by
        rw [P.payload]
        unfold Plan.pay Plan.srcPts Plan.dstPts
        rw [pointsTo_congr (P.land c c f)])) $$ [Hsrc Hdst Htok]
  · isplitr; · iexact HI
    isplitl [Hsrc]; · iexact Hsrc
    isplitl [Hdst]; · iexact Hdst
    isplitl [Htok]; · iexact Htok
    iexact HR
  iintro Hc
  iapply hk
  isplitr [HO]
  · isplitr; · iexact HK
    iapply Hb
    isplitl [Hc] <;> iassumption
  · iexact HO

/-- The copy to the `j`-th peer. -/
theorem Plan.send_of {l : List (Fin 7)} {σ : Cell → Fin 3} (j : Fin 7) {n : Fin 8} {src : Memref sig (Dev.tc c : Thread 8 τ).2.kind sp S el}
    {dst : Memref sig (Dev.tc n : Thread 8 τ).2.kind sp S el} {sm sm' : DmaSem sig} {hsc : dst.view.ref.isScScratch = false}
    {h1 : src.view.WordExact} {h2 : dst.view.WordExact} {h3 : DmaTarget.Typed sp (.dma sm') (.remote (Dev.tc n : Thread 8 τ) dst (.dma sm) hsc)}
    {k : PUnit → Prog (TpuEff 8 τ sig Val Λ (Dev.tc c : Thread 8 τ).2) α}
    (hn : n = peer c j) (hs : src = P.src c (peer c j)) (hd : dst = P.dst c) (hm : sm = P.osem (cSend j)) (hm' : sm' = P.osem (cRecv j))
    (hσ : σ (cSend j) = 0)
    (hk : P.St κ c l (Function.update σ (cSend j) 1) ⊢ wp frame (wpE defs 𝒱 (Dev.tc c : Thread 8 τ) none) Set.univ (k ⟨⟩) Q) :
    P.St κ c (j :: l) σ ⊢ wp frame (wpE defs 𝒱 (Dev.tc c : Thread 8 τ) none) Set.univ
      (.op (.enqueueDma src (.remote (Dev.tc n : Thread 8 τ) dst (.dma sm) hsc) (.dma sm') h1 h2 h3) k) Q := by
  subst hn hs hd hm hm'
  unfold Plan.St Plan.Sh at hk ⊢
  iintro ⟨⟨#HK, H⟩, ⟨%W, HO⟩⟩
  ihave H := (P.res_step c σ (cSend j) hσ 1) $$ H
  icases H with ⟨Hr, Hb⟩
  unfold Plan.res Plan.ready Plan.pend
  icases Hr with ⟨Ht1, Ht2, Hsrc, ⟨%f, Hdst⟩, Hat⟩
  ihave Hi := (P.known_at κ c (cSend j)) $$ HK
  icases Hi with ⟨#HI1, #HR1⟩
  ihave Hi := (P.known_at κ (peer c j) (cRecv j)) $$ HK
  icases Hi with ⟨#HI2, #HR2⟩
  unfold Plan.srcPts Plan.dstPts
  iapply (Rounds.wp_send_pointsTo 𝒱 ER P.Rd (Dev.tc c : Thread 8 τ) none (κ₁ := κ (c, cSend j)) (κ₂ := κ (peer c j, cRecv j))
      (r₁ := 0) (r₂ := 0) (d₁ := ()) (d₂ := ()) (fd := f) (P.duty_mem c (cSend j)) (P.duty_mem (peer c j) (cRecv j)) () () P.N
      ((View.amount_dma _ _).trans (P.N_eq c)) rfl rfl (P.due c l) (P.due_cons c j l) (W := W)
      (by
        rw [P.payload]
        unfold Plan.pay Plan.srcPts
        exact BI.Entails.refl _)
      (by
        rw [P.payload, P.pay_recv, pointsTo_congr (P.land c (peer c j) f)]
        exact BI.Entails.refl _)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hc, HO⟩
  iapply hk
  isplitr [HO]
  · isplitr; · iexact HK
    iapply Hb
    isplitl [Hc] <;> iassumption
  · iexists W; iexact HO

/-- The wait on cell `i`, the device owing nothing any more: the cell closes and hands back what it holds. -/
theorem Plan.wait_of {σ : Cell → Fin 3} (i : Cell) {sp1 sp2 : Space} {s1 s2 : Shape} {e1 e2 : EltTy} {kd : Kind} {sm : DmaSem sig}
    {src : Memref sig (Dev.tc c : Thread 8 τ).2.kind sp1 s1 e1} {dst : Memref sig kd sp2 s2 e2} {h1 : src.view.WordExact} {h2 : dst.view.WordExact}
    {k : PUnit → Prog (TpuEff 8 τ sig Val Λ (Dev.tc c : Thread 8 τ).2) α}
    (hm : sm = P.osem i) (hN : dst.view.dmaCredit = P.N) (hσ : σ i = 1)
    (hk : P.St κ c [] (Function.update σ i 2) ⊢ wp frame (wpE defs 𝒱 (Dev.tc c : Thread 8 τ) none) Set.univ (k ⟨⟩) Q) :
    P.St κ c [] σ ⊢ wp frame (wpE defs 𝒱 (Dev.tc c : Thread 8 τ) none) Set.univ (.op (.waitDma2 sm src dst h1 h2) k) Q := by
  subst hm
  unfold Plan.St Plan.Sh at hk ⊢
  rw [P.due_nil] at hk ⊢
  iintro ⟨⟨#HK, H⟩, ⟨%W, HO⟩⟩
  ihave H := (P.res_step c σ i hσ 2) $$ H
  icases H with ⟨Hr, Hb⟩
  ihave Hr := (show P.res c i 1 ⊢ iprop(cred (tallyAt (P.cell c i) () dst.view.dmaCredit) ∗ atPos ER (P.cell c i) 0 ∅ 0) from by rw [hN]; exact BI.Entails.refl _) $$ Hr
  icases Hr with ⟨Hc, Hat⟩
  ihave Hi := (P.known_at κ c i) $$ HK
  icases Hi with ⟨#HI, -⟩
  iapply (Rounds.wp_wait_rest_token 𝒱 ER P.Rd (Dev.tc c : Thread 8 τ) none (κ := κ (c, i))
      (wpE_waitDma2_eq 𝒱 (Dev.tc c : Thread 8 τ) none Set.univ) (Set.mem_univ _) () (O := 0) (W := W) (R := 0) (m := 0) (T := ∅)
      (by rw [Nat.zero_add, P.expect, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (P.rest c i)) $$ Hpay
  iapply (fupd_wp frame (wpE defs 𝒱 (Dev.tc c : Thread 8 τ) none) Set.univ _ _)
  imod (Rounds.cell_close ER P.Rd (Set.mem_univ (κ (c, i))) (fun h => h) (R := 0 + 1) (P.duties_later (P.cell c i))) $$ [Hat] with Hz
  · isplitr; · iexact HI
    iexact Hat
  imodintro
  iapply hk
  isplitr [HO]
  · isplitr; · iexact HK
    iapply Hb
    iapply (show iprop(semVal (P.cell c i) 0 ∗ P.pay c i) ⊢ P.res c i 2 from BI.Entails.refl _)
    isplitl [Hz] <;> iassumption
  · iexists _; iexact HO

end Steps

end Cert.Proto

end
-- ==== Proof.Deal.lean ====
/-
  The start and the end of the exchange of `Proto`, for all eight devices at once. At the start the semaphores at zero, the
  blocks to send, the result rows and the launch credits of every device are dealt out: row `r` of device `p`'s result goes
  to device `r`, with the token to raise `p`'s cell for it. At the end each device has its blocks and all the rows of its own
  result, and its semaphores read zero.
-/
module

public import proofs.«01_k».proof.Proof.Proto

@[expose] public section

noncomputable section

namespace Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {τ : Topo} {sig : RefSig} {Val : EltTy → Type} {sp : Space} {S : Shape} {el : EltTy}

local notation "𝕄" => MT 8 τ sig Unit Val ℕ (UU τ sig) ℕ

/-! ## Regrouping over devices and peers -/

/-- Over the cells of a device: the send cells, the receive cells, the local one. -/
theorem bigSep_cells (Φ : Cell → sProp 𝕄) :
    bigSep Finset.univ Φ = iprop((bigSep Finset.univ fun k => Φ (cSend k)) ∗ (bigSep Finset.univ fun k => Φ (cRecv k)) ∗ Φ cHere) := by
  rw [BI.bigSep_univ_sum, BI.bigSep_univ_sum, show (bigSep Finset.univ fun b : Unit => Φ (.inr (.inr b))) = Φ cHere from by
    rw [Finset.univ_unique, bigSep_singleton]]
  rfl

/-- Over the devices, as `c` sees them. -/
theorem bigSep_around (c : Fin 8) (Φ : Fin 8 → sProp 𝕄) :
    bigSep Finset.univ Φ = iprop((bigSep Finset.univ fun k => Φ (peer c k)) ∗ Φ c) := by
  rw [BI.bigSep_univ_equiv (around c) Φ, BI.bigSep_univ_sum, show (bigSep Finset.univ fun b : Unit => Φ (around c (.inr b))) = Φ c from by
    rw [Finset.univ_unique, bigSep_singleton]; rfl]
  rfl

/-- Over the pairs, either way round. -/
theorem bigSep_flip {I J : Type} [Fintype I] [Fintype J] (Φ : I → J → sProp 𝕄) :
    (bigSep Finset.univ fun i => bigSep Finset.univ fun j => Φ i j) = bigSep Finset.univ fun j => bigSep Finset.univ fun i => Φ i j := by
  rw [← BI.bigSep_univ_prod fun x : I × J => Φ x.1 x.2, ← BI.bigSep_univ_prod fun x : J × I => Φ x.2 x.1]
  exact BI.bigSep_univ_equiv (Equiv.prodComm J I) fun x => Φ x.1 x.2

/-- Over all pairs of a device and a peer, each pair turned round. -/
theorem bigSep_turn (Φ : Fin 8 → Fin 7 → sProp 𝕄) :
    (bigSep Finset.univ fun c => bigSep Finset.univ fun k => Φ c k)
      = bigSep Finset.univ fun c => bigSep Finset.univ fun k => Φ (peer c k) k := by
  rw [bigSep_flip, bigSep_flip fun c k => Φ (peer c k) k]
  exact bigSep_congr fun k _ => BI.bigSep_univ_equiv (swap k) fun c => Φ c k

variable (P : Plan τ sig Val sp S el)

/-! ## The launch of the rounds -/

def Plan.cells : Finset (GSem 8 τ sig) := Finset.univ.map ⟨fun x : Fin 8 × Cell => P.cell x.1 x.2, P.cell_inj⟩
def Plan.duties₀ : Finset (GSem 8 τ sig × ℕ × Unit) :=
  Finset.univ.map ⟨fun x : Fin 8 × Cell => (P.cell x.1 x.2, 0, ()), fun _ _ h => P.cell_inj (congrArg Prod.fst h)⟩

/-- The cells opened: their invariants and rounds known to all, the positions and the tokens in hand. -/
theorem Plan.alloc :
    iprop((bigSep Finset.univ fun x : Fin 8 × Cell => semVal (P.cell x.1 x.2) 0) ∗ BI.own (ER (initOf P.cells P.duties₀)))
      ⊢ |={Set.univ}=> (iprop(∃ κ, P.known κ ∗ (bigSep Finset.univ fun x : Fin 8 × Cell => atPos ER (P.cell x.1 x.2) 0 ∅ 0)
          ∗ bigSep Finset.univ fun x : Fin 8 × Cell => dutyTok ER (P.cell x.1 x.2) 0 ()) : sProp 𝕄) := by
  have hX (Φ : GSem 8 τ sig → sProp 𝕄) : bigSep P.cells Φ = bigSep Finset.univ fun x : Fin 8 × Cell => Φ (P.cell x.1 x.2) := by
    unfold Plan.cells; rw [bigSep_map]; rfl
  have hT : bigSep P.duties₀ (fun x => (dutyTok ER x.1 x.2.1 x.2.2 : sProp 𝕄))
      = bigSep Finset.univ fun x : Fin 8 × Cell => dutyTok ER (P.cell x.1 x.2) 0 () := by
    unfold Plan.duties₀; rw [bigSep_map]; rfl
  have hinv : iprop((bigSep Finset.univ fun x : Fin 8 × Cell => semVal (P.cell x.1 x.2) 0)
        ∗ bigSep Finset.univ fun x : Fin 8 × Cell => roundState ER P.Rd (P.cell x.1 x.2) 0)
      ⊢ (|={Set.univ}=> bigSep Finset.univ fun x : Fin 8 × Cell => iprop(∃ κ : ℕ, cellInv ER P.Rd κ (P.cell x.1 x.2)) : sProp 𝕄) := by
    rw [← bigSep_sep']
    exact (bigSep_mono fun x _ => (Rounds.body_intro ER P.Rd (P.cell x.1 x.2)).trans inv_alloc).trans (bigSep_fupd _ _)
  iintro ⟨Hv, HX⟩
  imod (Rounds.fund ER P.Rd P.cells P.duties₀) $$ HX with ⟨Hst, Hr, Hat, Htok⟩
  ihave Hst := (Entails.of_eq (hX fun g => roundState ER P.Rd g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  imod hinv $$ [Hv Hst] with HI
  · isplitl [Hv] <;> iassumption
  ihave HK := (BI.bigSep_exists_pi Finset.univ (fun (x : Fin 8 × Cell) (κ : ℕ) => (cellInv ER P.Rd κ (P.cell x.1 x.2) : sProp 𝕄))) $$ HI
  icases HK with ⟨%κ, HI⟩
  imodintro
  iexists κ
  unfold Plan.known
  isplitl [HI Hr]
  · isplitl [HI] <;> iassumption
  isplitl [Hat] <;> iassumption

/-- What every device owes at launch. -/
abbrev Plan.O₀ (c : Dev 8) : CellTallies 8 τ sig Unit := P.due c (List.finRange 7)

/-- The credit device `c` is promised: the units of its receive cells. -/
theorem Plan.creds (c : Fin 8) :
    (Pipeline.launchCred P.O₀ (c : Dev 8) : sProp 𝕄) ⊢ bigSep Finset.univ fun k => cred (tallyAt (P.cell c (cRecv k)) () P.N) := by
  have h : P.O₀ = fun d => ∑ k ∈ Finset.univ, P.unit d k := funext fun d => P.due_all d
  rw [h, Pipeline.launchCred_sum]
  exact bigSep_mono fun k _ => Pipeline.launchCred_tallyAt (.dma (P.osem (cRecv k))) (fun d => peer d k) (fun d => peer d k)
    (fun d => peer_peer d k) (fun d => peer_peer d k) () P.N c

/-- Everything dealt out: each device gets what its copies need. -/
theorem Plan.deal :
    iprop((bigSep Finset.univ fun x : Fin 8 × Cell => atPos ER (P.cell x.1 x.2) 0 ∅ 0)
        ∗ (bigSep Finset.univ fun x : Fin 8 × Cell => dutyTok ER (P.cell x.1 x.2) 0 ())
        ∗ (bigSep Finset.univ fun c : Fin 8 => bigSep Finset.univ fun p => P.srcPts c p)
        ∗ (bigSep Finset.univ fun c : Fin 8 => bigSep Finset.univ fun r => iprop(∃ f, P.dstPts c r f))
        ∗ (bigSep Finset.univ fun c : Fin 8 => bigSep Finset.univ fun k => cred (tallyAt (P.cell c (cRecv k)) () P.N)))
      ⊢ bigSep Finset.univ fun c : Fin 8 => bigSep Finset.univ fun i => P.res c i (σ₀ i) := by
  have hgoal (c : Fin 8) : (bigSep Finset.univ fun i => P.res c i (σ₀ i))
      = iprop((bigSep Finset.univ fun k => P.ready c (cSend k)) ∗ (bigSep Finset.univ fun k => P.pend c (cRecv k)) ∗ P.ready c cHere) :=
    bigSep_cells fun i => P.res c i (σ₀ i)
  have hdst : (bigSep Finset.univ fun c : Fin 8 => bigSep Finset.univ fun r => iprop(∃ f, P.dstPts c r f))
      = bigSep Finset.univ fun c : Fin 8 => iprop((bigSep Finset.univ fun k => iprop(∃ f, P.dstPts (peer c k) c f)) ∗ ∃ f, P.dstPts c c f) := by
    rw [bigSep_flip]
    exact bigSep_congr fun c _ => bigSep_around c fun p => iprop(∃ f, P.dstPts p c f)
  rw [hdst, bigSep_congr (fun c _ => hgoal c), bigSep_congr (fun c _ => bigSep_around c (P.srcPts c)),
    BI.bigSep_univ_prod, BI.bigSep_univ_prod, bigSep_congr (fun c _ => bigSep_cells fun i => (atPos ER (P.cell c i) 0 ∅ 0 : sProp 𝕄)),
    bigSep_congr (fun c _ => bigSep_cells fun i => (dutyTok ER (P.cell c i) 0 () : sProp 𝕄))]
  unfold Plan.ready Plan.pend
  dsimp only
  simp only [bigSep_sep']
  rw [bigSep_turn fun c k => dutyTok ER (P.cell c (cRecv k)) 0 ()]
  iintro ⟨⟨Ha1, Ha2, Ha3⟩, ⟨Ht1, Ht2, Ht3⟩, ⟨Hs1, Hs2⟩, ⟨Hd1, Hd2⟩, Hc⟩
  isplitl [Ha1 Ht1 Ht2 Hs1 Hd1]
  · isplitl [Ht1]; · iexact Ht1
    isplitl [Ht2]; · iexact Ht2
    isplitl [Hs1]; · iexact Hs1
    isplitl [Hd1] <;> iassumption
  isplitl [Hc Ha2]
  · isplitl [Hc] <;> iassumption
  isplitl [Ht3]; · iexact Ht3
  isplitl [Hs2]; · iexact Hs2
  isplitl [Hd2] <;> iassumption

/-- The start of the exchange on all devices. -/
theorem Plan.start_all :
    iprop((bigSep Finset.univ fun c : Fin 8 => bigSep Finset.univ fun i => semVal (P.cell c i) 0)
        ∗ (bigSep Finset.univ fun c : Fin 8 => bigSep Finset.univ fun p => P.srcPts c p)
        ∗ (bigSep Finset.univ fun c : Fin 8 => bigSep Finset.univ fun r => iprop(∃ f, P.dstPts c r f))
        ∗ (bigSep Finset.univ fun c : Fin 8 => Pipeline.launchCred P.O₀ (c : Dev 8))
        ∗ BI.own (ER (initOf P.cells P.duties₀)))
      ⊢ |={Set.univ}=> (bigSep Finset.univ fun c : Fin 8 => iprop(∃ κ, P.Sh κ c σ₀) : sProp 𝕄) := by
  have hcred : (bigSep Finset.univ fun c : Fin 8 => Pipeline.launchCred P.O₀ (c : Dev 8))
      ⊢ (bigSep Finset.univ fun c : Fin 8 => bigSep Finset.univ fun k => cred (tallyAt (P.cell c (cRecv k)) () P.N) : sProp 𝕄) :=
    bigSep_mono fun c _ => P.creds c
  have hsem : (bigSep Finset.univ fun c : Fin 8 => bigSep Finset.univ fun i => semVal (P.cell c i) 0)
      ⊢ (bigSep Finset.univ fun x : Fin 8 × Cell => semVal (P.cell x.1 x.2) 0 : sProp 𝕄) :=
    Entails.of_eq (BI.bigSep_univ_prod fun x : Fin 8 × Cell => (semVal (P.cell x.1 x.2) 0 : sProp 𝕄)).symm
  have hone (κ : Fin 8 × Cell → ℕ) (c : Fin 8) : iprop(P.known κ ∗ bigSep Finset.univ fun i => P.res c i (σ₀ i))
      ⊢ (iprop(∃ κ, P.Sh κ c σ₀) : sProp 𝕄) := by
    unfold Plan.Sh
    iintro ⟨H1, H2⟩
    iexists κ
    isplitl [H1] <;> iassumption
  have hput (κ : Fin 8 × Cell → ℕ) : iprop(P.known κ ∗ bigSep Finset.univ fun c : Fin 8 => bigSep Finset.univ fun i => P.res c i (σ₀ i))
      ⊢ (bigSep Finset.univ fun c : Fin 8 => iprop(∃ κ, P.Sh κ c σ₀) : sProp 𝕄) :=
    (sep_mono_left (BI.bigSep_of_persistent Finset.univ (P.known κ))).trans (by
      rw [← bigSep_sep']
      exact bigSep_mono fun c _ => hone κ c)
  iintro ⟨Hv, Hs, Hd, Hc, HX⟩
  ihave Hv := hsem $$ Hv
  ihave Hc := hcred $$ Hc
  imod P.alloc $$ [Hv HX] with ⟨%κ, HK, Hat, Htok⟩
  · isplitl [Hv] <;> iassumption
  ihave Hr := P.deal $$ [Hat Htok Hs Hd Hc]
  · isplitl [Hat]; · iexact Hat
    isplitl [Htok]; · iexact Htok
    isplitl [Hs]; · iexact Hs
    isplitl [Hd] <;> iassumption
  imodintro
  iapply (hput κ)
  isplitl [HK] <;> iassumption

/-- The end of the exchange: every cell waited for and closed. -/
def σ₁ : Cell → Fin 3 := fun _ => 2

/-- The end of the exchange on device `c`. -/
theorem Plan.finish (κ : Fin 8 × Cell → ℕ) (c : Fin 8) (σ : Cell → Fin 3) (hσ : ∀ i, σ i = 2) :
    P.Sh κ c σ ⊢ iprop((bigSep Finset.univ fun i => semVal (P.cell c i) 0) ∗ (bigSep Finset.univ fun p => P.srcPts c p)
      ∗ bigSep Finset.univ fun r => P.dstPts c r (P.fo c r)) := by
  have hs : σ = fun _ => 2 := funext hσ
  subst hs
  have hd : (bigSep Finset.univ fun i => P.res c i 2)
      = iprop((bigSep Finset.univ fun i => semVal (P.cell c i) 0) ∗ bigSep Finset.univ fun i => P.pay c i) :=
    bigSep_sep' Finset.univ (fun i => semVal (P.cell c i) 0) fun i => P.pay c i
  unfold Plan.Sh
  rw [hd, bigSep_cells fun i => P.pay c i, bigSep_around c fun p => P.srcPts c p, bigSep_around c fun r => P.dstPts c r (P.fo c r)]
  unfold Plan.pay
  dsimp only
  iintro ⟨-, Hz, H1, H2, H3, H4⟩
  isplitl [Hz]; · iexact Hz
  isplitl [H1 H4]
  · isplitl [H1] <;> iassumption
  isplitl [H2] <;> iassumption

end Cert.Proto

end
-- ==== Proof.MeshStart.lean ====
/-
  The launch of a mesh program whose protocol needs, before any device runs, BOTH the unscoped buffers and the semaphores
  of every device: a kernel that sends into another device's result without asking that device first. The result rows
  are dealt to their writers at the start of the run, together with the cells that will announce them.

  `start_run` is stated of any program on the TensorCores: the caller turns what the machine hands out at launch into one
  bundle `pre c` per device (`hinit`, all devices at once), proves each device's program from its bundle (`hcore`), and
  reads the final memory off what the programs left (`hfin`).
-/
module

public import Idealize.ShloMosaic.Lib.Pipeline.Launch
public import Idealize.ShloMosaic.Lib.Pipeline.Regions
public import Idealize.ShloMosaic.Lib.Quiescent

@[expose] public section

noncomputable section

namespace Cert.MeshStart

open Idealize.ShloMosaic
open Idealize.SL
open Idealize.SL.BI (sProp bigSep bigSep_sep' bigSep_mono bigSep_congr)
open scoped Idealize.SL.BI
open Idealize.SL.BI.BIBase Idealize.SL.BI.Laws Idealize.SL.Sem Idealize.SL.ProofMode
open Idealize.SL.RA
open Idealize.ShloMosaic.Pipeline
open TcCoe

set_option Elab.async false

variable {nD : Nat} {τ : Topo} {sig : RefSig} {Val : EltTy → Type}
variable {Ix : Type} [DecidableEq Ix] {Name : Type} [DecidableEq Name] {U : Type} [URA U] {Lvl : Type}
variable {Λ : Labels}

local notation "𝕄" => MT nD τ sig Ix Val Name U Lvl

/-- What device `c` holds at launch, less its levels: its scoped buffers and semaphores, its unscoped buffers at the
    launch memory, its unscoped semaphores at zero, what it owes, its generator register and the credit it is promised. -/
def held (O₀ : Dev nD → CellTallies nD τ sig Ix) (m : (ℓ : Loc nD τ sig) → Buf Val ℓ) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c)

/-- A program on the TensorCores of a mesh, launched on memory `m` with every counter at zero and each device owing
    `O₀`: if every device's program runs from its share of the launch, it terminates, and the final memory is as `fin`
    shows it, every counter the program could have left raised reading zero. -/
theorem start_run [Preorder Lvl] [∀ e, Nonempty (Val e)] [Infinite Name]
    (defs : Defs nD τ sig Val Λ) (𝒱 : Variants) (m : (ℓ : Loc nD τ sig) → Buf Val ℓ) (g : Dev nD → PrngReg)
    (main : Dev nD → Prog (TpuEff nD τ sig Val Λ .tc) PUnit)
    (O₀ : Dev nD → CellTallies nD τ sig Ix) (u₀ : U) (pre fin : Dev nD → sProp 𝕄)
    (hinit : iprop((bigSep Finset.univ fun c : Dev nD => held O₀ m c) ∗ ownU u₀) ⊢ |={Set.univ}=> bigSep Finset.univ pre)
    (hcore : ∀ c, pre c ⊢ wp frame (wpE defs 𝒱 (c.tc : Thread nD τ) none) Set.univ (main c)
      fun _ => iprop((fin c ∗ scopedSems0 (c.tc : Thread nD τ)) ∗ ∃ W, owes (c.tc : Thread nD τ) (0 : CellTallies nD τ sig Ix) W))
    (QY : Dev nD → MemSt nD τ sig Val → Prop)
    (hfin : ∀ c (s' : Phys nD τ sig Val), iprop(fin c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let fin' : Dev nD → sProp 𝕄 := fun c => iprop(fin c ∗ scopedSems0 (c.tc : Thread nD τ))
  refine (θ_run defs _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => pre) (fun _ => fin')
      (fun _ => iprop(emp)) Set.univ ?_ (fun _ c => ?_) fun _ => ?_))
  · have hone (c : Dev nD) :
        coreInit (Ix := Ix) (Name := Name) (U := U) (Lvl := Lvl) (owing O₀) 0 (⟨m, fun _ => 0, g⟩ : MemSt nD τ sig Val) (c.tc : Thread nD τ)
          ⊢ held O₀ m c :=
      (coreInit_boundary_owing O₀ m g c).trans (by
        unfold held
        iintro ⟨Hb, Hub, Hus, HL, -, -, Hcr⟩
        isplitl [Hb]; · iexact Hb
        isplitl [Hub]; · iexact Hub
        isplitl [Hus]; · iexact Hus
        isplitl [HL] <;> iassumption)
    have hall : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ bigSep Finset.univ fun c : Dev nD => held O₀ m c := bigSep_mono fun c _ => hone c
    iintro ⟨Hcores, Hu⟩
    ihave Hc := hall $$ Hcores
    imod hinit $$ [Hc Hu] with Hp
    · isplitl [Hc] <;> iassumption
    imodintro
    iexists ()
    isplitl
    · iexact Hp
    · iempintro
  · refine (hcore c).trans (wp_mono _ _ _ fun _ => ?_)
    unfold post; simp only [liftTc_tc, fin']
    exact BI.Entails.refl _
  · have hread (c : Dev nD) (s' : Phys nD τ sig Val) : iprop(fin' c ∗ SI s') ⊢ |={Set.univ}=>
        iprop(⌜QY c s'.mem ∧ ∀ sm : SemLoc sig, sm.isScoped .tc = true → s'.mem.sem ((c.tc : Thread nD τ), sm) = 0⌝ ∗ SI s') := by
      simp only [fin']
      iintro ⟨⟨Hf, Hss⟩, HSI⟩
      ihave %hz := (tcScoped_read_pers c s') $$ [Hss HSI]
      · isplitl [Hss] <;> iassumption
      imod (hfin c s') $$ [Hf HSI] with ⟨%hy, HSI⟩
      · isplitl [Hf] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.MeshStart

end
-- ==== Proof.Region.lean ====
/-
  The exchange as a region of a program: a kernel entry with no windows and one grid point, whose body runs the exchange.
  The plan's cells are opened before any device starts, so a device enters with its share of the exchange (`Sh`), owing the
  cells it has yet to raise; it leaves with its blocks, all the rows of its result, and all its scoped storage as the entry
  found it, owing nothing.

  `enter` is the rule of that entry, for any continuation; `open_all` turns what the launch gives all devices into the
  bundles `pre` that `enter` starts from.
-/
module

public import proofs.«01_k».proof.Proof.Deal
public import proofs.«01_k».proof.Proof.MeshStart

@[expose] public section

noncomputable section

namespace Cert.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {τ : Topo} {sig : RefSig} {Val : EltTy → Type} [∀ e, Nonempty (Val e)] {sp : Space} {S : Shape} {el : EltTy}
variable {Λ₀ : Labels} {P : Type} [DecidableEq P] [Fintype P]

local notation "𝕄" => MT 8 τ sig Unit Val ℕ (UU τ sig) ℕ

/-- The proof data of an entry with no windows whose body is the exchange: before its point the exchange is ahead, after it
    over; the device owes its raises before and nothing after. -/
def dat (pl : Plan τ sig Val sp S el) (cfg : Cfg sig Λ₀) (c : Dev 8) : Dat τ Val Unit ℕ (UU τ sig) ℕ cfg c where
  A _ := fun _ => Classical.arbitrary _
  after _ _ := fun _ => Classical.arbitrary _
  Φ t := iprop((∃ κ, pl.Sh κ c (if t.val = 0 then σ₀ else σ₁)) ∗ scopedRest cfg.spec c)
  q _ := fullShare
  owed t := if t.val = 0 then pl.O₀ c else 0

variable (pcs : P → PCfg sig Λ₀ Val) (a : (p : P) → (pcs p).Adm) (pl : Plan τ sig Val sp S el)
  (phinj : Function.Injective (cellOf (nD := 8) (pin pcs a))) (p : P)
  (defs₀ : Defs 8 τ sig Val Λ₀) (𝒱₀ : Variants)

local notation "𝔻" => Pipeline.defs pcs defs₀
local notation "𝕍" => Variants.lift 𝒱₀
local notation "pcfg" => pin pcs a p

theorem bigSep_none {I : Type} [Fintype I] [IsEmpty I] (Φ : I → sProp 𝕄) : bigSep Finset.univ Φ = BI.emp := by
  rw [Finset.univ_eq_empty, BI.bigSep_empty]

/-- The body obligation of that entry, from the exchange's body. -/
theorem body_dat (hW : IsEmpty (Fin (pcfg).W)) (hN : (pcfg).N = 1) (c : Dev 8)
    (hbody : ∀ (κ : Fin 8 × Cell → ℕ) (t : Fin (pcfg).N), pl.St κ c (List.finRange 7) σ₀
      ⊢ wp frame (wpE defs₀ 𝒱₀ (c.tc : Thread 8 τ) none) Set.univ (defs₀ .tc (pcfg).body ((pcfg).bodyArgs t ((pcfg).slots t)))
        fun _ => pl.St κ c [] σ₁) :
    BodyObligationLoose (dat pl (pcfg) c) defs₀ 𝒱₀ () Set.univ := by
  intro t
  rw [bigSep_none, bigSep_none]
  have h0 : (t.castSucc : Fin ((pcfg).N + 1)).val = 0 := by
    have := t.isLt; show t.val = 0; omega
  have h1 : ¬ (t.succ : Fin ((pcfg).N + 1)).val = 0 := Nat.succ_ne_zero _
  unfold Dat.owesAt owesWithin
  simp only [dat, if_pos h0, if_neg h1]
  iintro ⟨⟨⟨%κ, Hs⟩, Hr⟩, ⟨%W, -, HW⟩, -⟩
  iapply (wp_wand_r frame (wpE defs₀ 𝒱₀ (c.tc : Thread 8 τ) none) Set.univ)
  isplitr [Hr]
  · iapply (hbody κ t)
    unfold Plan.St
    isplitl [Hs]; · iexact Hs
    iexists W; iexact HW
  · unfold Plan.St
    iintro %_ ⟨Hs, ⟨%W', HW⟩⟩
    isplitl [Hs Hr]
    · isplitl [Hs]
      · iexists κ; iexact Hs
      · iexact Hr
    isplitl [HW]
    · iexists W'
      isplitr
      · ipureintro; exact fun x _ => Or.inl trivial
      · rw [pl.due_nil]; iexact HW
    iempintro

/-- What a device holds after the exchange: its blocks, and its result rows as the plan says. -/
def Plan.left (c : Dev 8) : sProp 𝕄 :=
  iprop((bigSep Finset.univ fun r => pl.srcPts c r) ∗ bigSep Finset.univ fun r => pl.dstPts c r (pl.fo c r))

/-- The entry: from its share of the exchange, what it owes, the semaphores the entry does not use and its scoped buffers, a
    device leaves with the blocks and rows, owing nothing, all its scoped storage given back. -/
theorem enter (hW : IsEmpty (Fin (pcfg).W)) (hN : (pcfg).N = 1) (hK : IsEmpty (Fin (pcs p).pre.K))
    (hw : WinFacts₀ (pcfg).spec) (ho : OwnSemFacts (pcfg).spec fun i : Cell => SemLoc.dma (pl.osem i)) (c : Dev 8)
    (hbody : ∀ (κ : Fin 8 × Cell → ℕ) (t : Fin (pcfg).N), pl.St κ c (List.finRange 7) σ₀
      ⊢ wp frame (wpE defs₀ 𝒱₀ (c.tc : Thread 8 τ) none) Set.univ (defs₀ .tc (pcfg).body ((pcfg).bodyArgs t ((pcfg).slots t)))
        fun _ => pl.St κ c [] σ₁)
    {α : Type} {k : PUnit → Prog (TpuEff 8 τ sig Val (Sig Λ₀ P fun p => (pcs p).Adm) Proc.tc) α} {Q : α → sProp 𝕄} :
    iprop((∃ κ, pl.Sh κ c σ₀) ∗ owes (c.tc : Thread 8 τ) (pl.O₀ c) ∅ ∗ idleSems0 (pin pcs a) phinj p ho c ∗ scopedBufs (c.tc : Thread 8 τ))
      ⊢ iprop((((pl.left c ∗ ∃ W, owes (c.tc : Thread 8 τ) (0 : CellTallies 8 τ sig Unit) W)
                ∗ scopedSems0 (c.tc : Thread 8 τ) ∗ scopedBufs (c.tc : Thread 8 τ))
              -∗ wp frame (wpE 𝔻 𝕍 (c.tc : Thread 8 τ) none) Set.univ (k ⟨⟩) Q)
          -∗ wp frame (wpE 𝔻 𝕍 (c.tc : Thread 8 τ) none) Set.univ (.op (.customCall (entry p) ()) k) Q) := by
  have hsb : (scopedBufs (c.tc : Thread 8 τ) : sProp 𝕄) = iprop(Dat.staging (pcfg) c ∗ scopedRest (pcfg).spec c) :=
    scopedBufs_split (pin pcs a) p (fun x => isEmptyElim x.1) (fun x _ _ => isEmptyElim x.1) (fun w _ => (hW.false w).elim) c
  have hss := scopedSems0_split (Ix := Unit) (Val := Val) (Name := ℕ) (U := UU τ sig) (Lvl := ℕ) (pin pcs a) phinj p hw ho c
  have hpf : (prefHeld (pcs p).pre c (fun _ => fullShare) (a p).1 : sProp 𝕄) = BI.emp := by
    unfold prefHeld; exact bigSep_none _
  have hlast : ¬ (Fin.last (pcfg).N).val = 0 := by rw [Fin.val_last, hN]; decide
  have hin : iprop((∃ κ, pl.Sh κ c σ₀) ∗ prefHeld (pcs p).pre c (fun _ => fullShare) (a p).1 ∗ scopedRest (pcfg).spec c)
      ⊢ (dat pl (pcfg) c).Φ 0 := by
    rw [hpf]
    simp only [dat, Fin.val_zero, if_pos]
    iintro ⟨H, -, Hr⟩
    isplitl [H]; · iexact H
    iexact Hr
  have hout : iprop((dat pl (pcfg) c).Φ (Fin.last (pcfg).N) ∗ cellsSems0 (pin pcs a) p c ∗ Dat.staging (pcfg) c ∗ idleSems0 (pin pcs a) phinj p ho c)
      ⊢ iprop(pl.left c ∗ scopedSems0 (c.tc : Thread 8 τ) ∗ scopedBufs (c.tc : Thread 8 τ)) := by
    rw [hsb, hss]
    simp only [dat, if_neg hlast]
    iintro ⟨⟨⟨%κ, Hs⟩, Hr⟩, Hc, Hst, Hi⟩
    ihave H := (pl.finish κ c σ₁ fun _ => rfl) $$ Hs
    icases H with ⟨Hz, Hsrc, Hdst⟩
    isplitl [Hsrc Hdst]
    · unfold Plan.left; isplitl [Hsrc] <;> iassumption
    isplitl [Hz Hc Hi]
    · isplitl [Hz Hc]
      · isplitl [Hc]; · iexact Hc
        unfold ownSems0; iexact Hz
      · iexact Hi
    isplitl [Hst] <;> iassumption
  have hrule := wp_customCall_entry_frame pcs a (fun p c => dat pl (pin pcs a p) c) () (EP (Val := Val)) (fun _ => 0) phinj p defs₀ 𝒱₀
    (fun _ => fullShare) c Set.univ (fun _ _ => Set.mem_univ _) (body_dat pcs a pl p defs₀ 𝒱₀ hW hN c hbody) (fun w => isEmptyElim w)
    none (fun u h => nomatch h) (Entails.of_eq hsb) hin hout (k := k) (Q := Q)
  iintro ⟨Hs, HO, Hi, Hb⟩ Hk
  iapply hrule $$ [Hs HO Hi Hb]
  · isplitl [HO]
    · unfold EntryPre PerCore.EntryPre Dat.owesAt owesWithin Dat.arrays PerCore.cellsWaits PerCore.RDat.cellsWaits PerCore.cellsInit PerCore.RDat.cellsInit PerCore.toksInit
      simp only [dat, Fin.val_zero, if_pos]
      isplitr; · iapply (Entails.of_eq (bigSep_none (I := Fin (pcfg).W) _).symm); iempintro
      isplitl [HO]
      · iexists ∅; isplitr; · ipureintro; rw [Finset.coe_empty]; exact Set.empty_subset _
        iexact HO
      isplitr; · iapply (Entails.of_eq (bigSep_none (I := Fin (pcfg).W) _).symm); iempintro
      isplitr; · iapply (Entails.of_eq (bigSep_none (I := Fin (pcfg).W) _).symm); iempintro
      iapply (Entails.of_eq (bigSep_none (I := Fin (pcfg).W) _).symm); iempintro
    rw [hpf]
    isplitr; · iempintro
    isplitl [Hs]; · iexact Hs
    isplitl [Hi] <;> iassumption
  · unfold EntryPost PerCore.EntryPost Dat.owesAt owesWithin
    simp only [dat, if_neg hlast]
    iintro ⟨⟨-, ⟨%W, -, HW⟩⟩, Hl, Hs, Hb⟩
    iapply Hk
    isplitl [Hl HW]
    · isplitl [Hl]; · iexact Hl
      iexists W; iexact HW
    isplitl [Hs] <;> iassumption

/-- What a device starts from: its share of the exchange, what it owes, the rest of its scoped storage, and `rest`. -/
def opened (hw : WinFacts₀ (pcfg).spec) (ho : OwnSemFacts (pcfg).spec fun i : Cell => SemLoc.dma (pl.osem i))
    (rest : Dev 8 → sProp 𝕄) (c : Dev 8) : sProp 𝕄 :=
  iprop((∃ κ, pl.Sh κ c σ₀) ∗ owes (c.tc : Thread 8 τ) (pl.O₀ c) ∅ ∗ idleSems0 (pin pcs a) phinj p ho c
    ∗ scopedBufs (c.tc : Thread 8 τ) ∗ opIdle (c.tc : Thread 8 τ) ∗ rest c)

/-- The launch of all eight devices, their unscoped buffers holding the blocks, the result rows and the rest: the cells are
    opened and every device has what it starts from. -/
theorem open_all (hW : IsEmpty (Fin (pcfg).W)) (hw : WinFacts₀ (pcfg).spec)
    (ho : OwnSemFacts (pcfg).spec fun i : Cell => SemLoc.dma (pl.osem i))
    (m : (ℓ : Loc 8 τ sig) → Buf Val ℓ) (rest : Dev 8 → sProp 𝕄)
    (hbufs : ∀ c : Dev 8, unscopedBufs c (fun b => m ((c.tc : Thread 8 τ).loc b))
      ⊢ iprop((bigSep Finset.univ fun r => pl.srcPts c r) ∗ (bigSep Finset.univ fun r => iprop(∃ f, pl.dstPts c r f)) ∗ rest c)) :
    iprop((bigSep Finset.univ fun c : Dev 8 => MeshStart.held pl.O₀ m c) ∗ BI.own (ER (initOf pl.cells pl.duties₀)))
      ⊢ |={Set.univ}=> bigSep Finset.univ fun c : Dev 8 => opened pcs a pl phinj p hw ho rest c := by
  have hone (c : Dev 8) : MeshStart.held pl.O₀ m c
      ⊢ iprop((bigSep Finset.univ fun i : Cell => semVal (pl.cell c i) 0) ∗ (bigSep Finset.univ fun r => pl.srcPts c r)
        ∗ (bigSep Finset.univ fun r => iprop(∃ f, pl.dstPts c r f)) ∗ launchCred pl.O₀ c
        ∗ owes (c.tc : Thread 8 τ) (pl.O₀ c) ∅ ∗ idleSems0 (pin pcs a) phinj p ho c
        ∗ scopedBufs (c.tc : Thread 8 τ) ∗ opIdle (c.tc : Thread 8 τ) ∗ rest c) := by
    unfold MeshStart.held boundary
    rw [scopedSems0_split (Ix := Unit) (Val := Val) (Name := ℕ) (U := UU τ sig) (Lvl := ℕ) (pin pcs a) phinj p hw ho c]
    iintro ⟨⟨Hb, ⟨⟨-, Ho⟩, Hi⟩, Hop⟩, Hub, -, HO, Hcr⟩
    ihave H := (hbufs c) $$ Hub
    icases H with ⟨Hs, Hd, Hrest⟩
    isplitl [Ho]; · unfold ownSems0; iexact Ho
    isplitl [Hs]; · iexact Hs
    isplitl [Hd]; · iexact Hd
    isplitl [Hcr]; · iexact Hcr
    isplitl [HO]; · iexact HO
    isplitl [Hi]; · iexact Hi
    isplitl [Hb]; · iexact Hb
    isplitl [Hop] <;> iassumption
  have hall : (bigSep Finset.univ fun c : Dev 8 => MeshStart.held pl.O₀ m c) ⊢ _ := bigSep_mono fun c _ => hone c
  simp only [bigSep_sep'] at hall
  iintro ⟨Hh, Hu⟩
  ihave H := hall $$ Hh
  icases H with ⟨Hz, Hs, Hd, Hcr, HO, Hi, Hb, Hop, Hr⟩
  imod (pl.start_all) $$ [Hz Hs Hd Hcr Hu] with Hsh
  · isplitl [Hz]; · iexact Hz
    isplitl [Hs]; · iexact Hs
    isplitl [Hd]; · iexact Hd
    isplitl [Hcr] <;> iassumption
  imodintro
  unfold opened
  simp only [bigSep_sep']
  isplitl [Hsh]; · iexact Hsh
  isplitl [HO]; · iexact HO
  isplitl [Hi]; · iexact Hi
  isplitl [Hb]; · iexact Hb
  isplitl [Hop] <;> iassumption

include phinj in
/-- A program that is this entry alone: launched with every counter at zero it terminates, and the final memory is as the
    blocks and rows of every device show it. -/
theorem run_alone (hW : IsEmpty (Fin (pcfg).W)) (hN : (pcfg).N = 1) (hK : IsEmpty (Fin (pcs p).pre.K)) (hw : WinFacts₀ (pcfg).spec)
    (ho : OwnSemFacts (pcfg).spec fun i : Cell => SemLoc.dma (pl.osem i))
    (hbody : ∀ (c : Dev 8) (κ : Fin 8 × Cell → ℕ) (t : Fin (pcfg).N), pl.St κ c (List.finRange 7) σ₀
      ⊢ wp frame (wpE defs₀ 𝒱₀ (c.tc : Thread 8 τ) none) Set.univ (defs₀ .tc (pcfg).body ((pcfg).bodyArgs t ((pcfg).slots t)))
        fun _ => pl.St κ c [] σ₁)
    (m : (ℓ : Loc 8 τ sig) → Buf Val ℓ) (g : Dev 8 → PrngReg)
    (main : Dev 8 → Prog (TpuEff 8 τ sig Val (Sig Λ₀ P fun p => (pcs p).Adm) Proc.tc) PUnit)
    (hmain : ∀ c, main c = .op (.customCall (entry p) ()) fun _ => .ret ⟨⟩)
    (hbufs : ∀ c : Dev 8, unscopedBufs c (fun b => m ((c.tc : Thread 8 τ).loc b))
      ⊢ iprop((bigSep Finset.univ fun r => pl.srcPts c r) ∗ (bigSep Finset.univ fun r => iprop(∃ f, pl.dstPts c r f)) ∗ BI.emp))
    (QY : Dev 8 → MemSt 8 τ sig Val → Prop)
    (hfin : ∀ c (s' : Phys 8 τ sig Val), iprop(pl.left c ∗ SI s') ⊢ |={Set.univ}=> iprop(⌜QY c s'.mem⌝ ∗ SI s'))
    {Q : PUnit × MemSt 8 τ sig Val → Prop}
    (hQ : ∀ s, (∀ c, QY c s) → (∀ g', (g'.1.2 ≠ .tc ∨ g'.2.isScoped .tc = true) → s.sem g' = 0) → Q (⟨⟩, s)) :
    θ_run 𝔻 (onTc main) ⟨m, fun _ => 0, g⟩ Q := by
  refine MeshStart.start_run 𝔻 𝕍 m g main pl.O₀ (initOf ∅ ∅, initOf pl.cells pl.duties₀)
    (fun c => opened pcs a pl phinj p hw ho (fun _ => BI.emp) c) pl.left ?_ ?_ QY hfin hQ
  · iintro ⟨Hh, Hu⟩
    ihave H := (ownU_pair _ _) $$ Hu
    icases H with ⟨-, HX⟩
    iapply (open_all pcs a pl phinj p hW hw ho m (fun _ => BI.emp) hbufs)
    isplitl [Hh] <;> iassumption
  · intro c
    rw [hmain c]
    unfold opened
    iintro ⟨Hs, HO, Hi, Hb, -, -⟩
    iapply (enter pcs a pl phinj p defs₀ 𝒱₀ hW hN hK hw ho c (hbody c)) $$ [Hs HO Hi Hb]
    · isplitl [Hs]; · iexact Hs
      isplitl [HO]; · iexact HO
      isplitl [Hi] <;> iassumption
    iintro ⟨⟨Hl, HW⟩, Hss, -⟩
    rw [wp_ret]
    imodintro
    isplitr [HW]
    · isplitl [Hl] <;> iassumption
    · iexact HW

end Cert.Proto

end
-- ==== Proof.Rows.lean ====
/-
  The rows of a buffer of eight equal blocks, as a transfer names them: block `r` of a memref of shape `8 × R × C`, sliced
  out and squeezed to `R × C`. Which elements it has, what it reads, and that a points-to of the whole memref is the
  points-tos of its eight rows.
-/
module

public import Idealize.ShloMosaic.Lib.Transfers
public import Idealize.ShloMosaic.Lib.Tactic

@[expose] public section

noncomputable section

namespace Cert.Rows

open Idealize.ShloMosaic
open Idealize.SL Idealize.SL.RA Idealize.SL.BI
open scoped Idealize.SL.BI
open Idealize.SL.BI.BIBase Idealize.SL.BI.Laws Idealize.SL.ProofMode

variable {sig : RefSig} {el : EltTy} {R C : ℕ}

/-- The whole buffer's shape, a block's before the squeeze, and after it. -/
abbrev S8 (R C : ℕ) : Shape := ⟨3, ![8, R, C]⟩
abbrev S1 (R C : ℕ) : Shape := ⟨3, ![1, R, C]⟩
abbrev S0 (R C : ℕ) : Shape := ⟨2, ![R, C]⟩

theorem row_inb (r : Fin 8) : ∀ a, (![r.val, 0, 0] : Fin 3 → ℕ) a + (S1 R C).size a ≤ (S8 R C).size a := by
  intro a
  fin_cases a
  · show r.val + 1 ≤ 8; omega
  · show 0 + R ≤ R; omega
  · show 0 + C ≤ C; omega

/-- The slice of block `r`. -/
abbrev rowRect (R C : ℕ) (r : Fin 8) : Rect (S8 R C) := Rect.unit (s := S8 R C) ![r.val, 0, 0] (S1 R C).size (row_inb r)

/-- Row `r` of `a`. -/
abbrev row (a : Memref sig .tc .hbm (S8 R C) el) (hq : (S1 R C).Squeezes (S0 R C)) (r : Fin 8) : Memref sig .tc .hbm (S0 R C) el :=
  (a.slice (rowRect R C r) (fun _ => rfl)).squeeze (S0 R C) hq

/-- A slice at offsets that are row `r`'s is row `r`. -/
theorem row_of (a : Memref sig .tc .hbm (S8 R C) el) (hq : (S1 R C).Squeezes (S0 R C)) (o : Fin 3 → ℕ)
    (h : ∀ i, o i + (S1 R C).size i ≤ (S8 R C).size i) (r : Fin 8) (e : o = ![r.val, 0, 0]) :
    (a.slice (Rect.unit (s := S8 R C) o (S1 R C).size h) (fun _ => rfl)).squeeze (S0 R C) hq = row a hq r := by
  subst e; rfl

/-- Index `j` of row `r`, in the whole buffer. -/
def put (r : Fin 8) (j : (S0 R C).Idx) : (S8 R C).Idx := Fin.cons (α := fun i => Fin ((S8 R C).size i)) (show Fin 8 from r) j

/-- The row part of an index put in row `r`. -/
theorem put_zero (r : Fin 8) (j : (S0 R C).Idx) : put r j 0 = r := rfl
/-- Every index is in the row its first coordinate names. -/
theorem put_tail (i : (S8 R C).Idx) : put (i 0) (fun k => i k.succ) = i := by
  funext k
  refine Fin.cases ?_ (fun k => ?_) k <;> rfl

theorem row_emb (a : Memref sig .tc .hbm (S8 R C) el) (hq : (S1 R C).Squeezes (S0 R C)) (r : Fin 8) (j : (S0 R C).Idx) :
    (row a hq r).view.emb j = a.view.emb (put r j) := by
  show ((a.view.slice (rowRect R C r)).reshape (S0 R C) _).emb j = _
  rw [View.emb_reshape, View.emb_slice]
  show a.view.emb ((rowRect R C r).emb (Shape.reshapeEquiv _ j)) = _
  rw [Shape.reshapeEquiv_cons_one]
  congr 1
  funext k
  apply Fin.ext
  refine Fin.cases ?_ (fun k => ?_) k
  · show r.val + 1 * 0 = r.val; omega
  · show (![r.val, 0, 0] : Fin 3 → ℕ) k.succ + 1 * (j k).val = (j k).val
    fin_cases k <;> (show 0 + 1 * _ = _; omega)

variable {Val : EltTy → Type}

/-- What a row reads. -/
theorem row_read (a : Memref sig .tc .hbm (S8 R C) el) (hq : (S1 R C).Squeezes (S0 R C)) (r : Fin 8) (f : a.view.ty.Contents Val) (j : (S0 R C).Idx) :
    (row a hq r).view.read Val f j = a.view.read Val f (put r j) := by
  show cast _ (f ((row a hq r).view.emb j)) = cast _ (f (a.view.emb (put r j)))
  congr 2
  exact row_emb a hq r j

/-- What is written through a memref is there: any contents that read the same there agree on its elements. -/
theorem land_of {S : Shape} {sp : Space} (s d : Memref sig .tc sp S el) (fs : s.view.ty.Contents Val) (fd fo : d.view.ty.Contents Val)
    (h : d.view.read Val fo = s.view.read Val fs) : ∀ i ∈ d.view.set, d.view.write Val fd (s.view.read Val fs) Finset.univ i = fo i := by
  intro i hi
  obtain ⟨j, -, rfl⟩ := Finset.mem_map.1 hi
  rw [View.write_emb_of_mem _ _ (Finset.mem_univ j), ← h, View.read_apply, cast_cast, cast_eq]

/-! ## The rows make up the buffer -/

theorem mem_row (a : Memref sig .tc .hbm (S8 R C) el) (hq : (S1 R C).Squeezes (S0 R C)) (r : Fin 8) (i : (S8 R C).Idx) :
    a.view.emb i ∈ ((row a hq r).view.set : Finset a.view.ty.Idx) ↔ i 0 = r := by
  constructor
  · intro h
    obtain ⟨j, -, e⟩ := Finset.mem_map.1 h
    have : put r j = i := a.view.emb.injective ((row_emb a hq r j).symm.trans e)
    rw [← this]; rfl
  · intro h
    subst h
    exact Finset.mem_map.2 ⟨fun k => i k.succ, Finset.mem_univ _, (row_emb a hq _ _).trans (congrArg a.view.emb (put_tail i))⟩

theorem rows_disjoint (a : Memref sig .tc .hbm (S8 R C) el) (hq : (S1 R C).Squeezes (S0 R C)) :
    ∀ r ∈ (Finset.univ : Finset (Fin 8)), ∀ r' ∈ (Finset.univ : Finset (Fin 8)), r ≠ r' →
      Disjoint ((row a hq r).view.set : Finset a.view.ty.Idx) ((row a hq r').view.set : Finset a.view.ty.Idx) := by
  intro r _ r' _ hne
  rw [Finset.disjoint_left]
  intro i h h'
  obtain ⟨j, -, rfl⟩ := Finset.mem_map.1 h
  have e := row_emb a hq r j
  rw [e, mem_row] at h h'
  exact hne (h.symm.trans h')

theorem rows_union (a : Memref sig .tc .hbm (S8 R C) el) (hq : (S1 R C).Squeezes (S0 R C)) :
    (Finset.univ : Finset (Fin 8)).biUnion (fun r => ((row a hq r).view.set : Finset a.view.ty.Idx)) = a.view.set := by
  ext i
  rw [Finset.mem_biUnion]
  constructor
  · rintro ⟨r, -, h⟩
    obtain ⟨j, -, rfl⟩ := Finset.mem_map.1 h
    exact Finset.mem_map.2 ⟨put r j, Finset.mem_univ _, (row_emb a hq r j).symm⟩
  · intro h
    obtain ⟨x, -, rfl⟩ := Finset.mem_map.1 h
    exact ⟨x 0, Finset.mem_univ _, (mem_row a hq _ x).2 rfl⟩

variable {τ : Topo} {Ix : Type} [DecidableEq Ix] {Name : Type} [DecidableEq Name] {U : Type} [URA U] {Lvl : Type}

local notation "𝕄" => MT 8 τ sig Ix Val Name U Lvl

/-- A points-to of the whole memref is the points-tos of its rows. -/
theorem rows_split (a : Memref sig .tc .hbm (S8 R C) el) (hq : (S1 R C).Squeezes (S0 R C)) (c : Fin 8)
    (q : PosShare TreeShare) (f : Buf Val (a.view.loc (Dev.tc c : Thread 8 τ))) :
    (a.view.loc (Dev.tc c : Thread 8 τ) ↦[a.view.set]{q} f : sProp 𝕄)
      = bigSep Finset.univ fun r => (a.view.loc (Dev.tc c : Thread 8 τ) ↦[((row a hq r).view.set : Finset a.view.ty.Idx)]{q} f) := by
  rw [← rows_union a hq]
  exact pointsTo_biUnion _ _ (rows_disjoint a hq)

/-- A whole buffer held is its rows held. -/
theorem whole_rows (a : Memref sig .tc .hbm (S8 R C) el) (hq : (S1 R C).Squeezes (S0 R C)) (ha : a.view.set = Finset.univ) (c : Fin 8)
    (q : PosShare TreeShare) (f : Buf Val (a.view.loc (Dev.tc c : Thread 8 τ))) :
    ((a.view.loc (Dev.tc c : Thread 8 τ)) ↦{q} f : sProp 𝕄)
      = bigSep Finset.univ fun r => (a.view.loc (Dev.tc c : Thread 8 τ) ↦[((row a hq r).view.set : Finset a.view.ty.Idx)]{q} f) := by
  rw [← rows_split a hq c q f, ha]

end Cert.Rows

end
-- ==== Proof.Gather.lean ====
/-
  An all-gather by the all-to-all pattern of `Proto`: every device sends its one block to all eight devices, and row `r` of
  every device's result takes the block of device `r`. A device's block goes out eight times, so each of the eight copies
  holds a share of it. The plan, for any buffers, and the run of a program that is this gather alone.
-/
module

public import proofs.«01_k».proof.Proof.Region
public import proofs.«01_k».proof.Proof.Rows

@[expose] public section

noncomputable section

namespace Cert.Gather

open Cert.Proto Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option Elab.async false

variable {τ : Topo} {sig : RefSig} {Val : EltTy → Type} [∀ e, Nonempty (Val e)] {el : EltTy} {R C : ℕ}

/-- The eight shares of a block sent eight times. -/
abbrev part (p : Fin 8) : PosShare TreeShare := Transfers.dealOf fullShare Finset.univ p

/-- The plan of the gather of `xs` from the buffer `x` into the rows of `o`, which ends holding `fo`. -/
def plan (x : Memref sig .tc .hbm (S0 R C) el) (o : Memref sig .tc .hbm (S8 R C) el) (hq : (S1 R C).Squeezes (S0 R C))
    (osem : Cell → DmaSem sig) (hs : Function.Injective osem) (hn : 0 < (S0 R C).numel)
    (hN : ∀ r, (row o hq r).view.dmaCredit = (row o hq 0).view.dmaCredit)
    (xs : (c : Fin 8) → Buf Val (x.view.loc (Dev.tc c : Thread 8 τ))) (fo : (c : Fin 8) → Buf Val (o.view.loc (Dev.tc c : Thread 8 τ)))
    (h : ∀ c p j, o.view.read Val (fo p) (put c j) = x.view.read Val (xs c) j) : Plan τ sig Val .hbm (S0 R C) el where
  osem := osem
  osem_inj := hs
  src _ _ := x
  dst := row o hq
  q _ p := part p
  fs c _ := xs c
  fo p _ := fo p
  N := (row o hq 0).view.dmaCredit
  N_pos := View.dmaCredit_pos _ hn
  N_eq := hN
  land c p fd := land_of (Val := Val) x (row o hq c) (xs c) fd (fo p) (funext fun j => by rw [row_read]; exact h c p j)

section

variable {x : Memref sig .tc .hbm (S0 R C) el} {o : Memref sig .tc .hbm (S8 R C) el} {hq : (S1 R C).Squeezes (S0 R C)}
  {osem : Cell → DmaSem sig} {hs : Function.Injective osem} {hn : 0 < (S0 R C).numel}
  {hN : ∀ r, (row o hq r).view.dmaCredit = (row o hq 0).view.dmaCredit}
  {xs : (c : Fin 8) → Buf Val (x.view.loc (Dev.tc c : Thread 8 τ))} {fo : (c : Fin 8) → Buf Val (o.view.loc (Dev.tc c : Thread 8 τ))}
  {h : ∀ c p j, o.view.read Val (fo p) (put c j) = x.view.read Val (xs c) j}

local notation "𝕄" => MT 8 τ sig Unit Val ℕ (UU τ sig) ℕ
local notation "ℙ" => plan x o hq osem hs hn hN xs fo h

theorem src_eq (c p : Fin 8) : (ℙ).srcPts c p
    = (x.view.loc (Dev.tc c : Thread 8 τ) ↦[x.view.set]{part p} xs c : sProp 𝕄) := rfl
theorem dst_eq (c r : Fin 8) (f : Buf Val (o.view.loc (Dev.tc c : Thread 8 τ))) : (ℙ).dstPts c r f
    = (o.view.loc (Dev.tc c : Thread 8 τ) ↦[((row o hq r).view.set : Finset o.view.ty.Idx)]{fullShare} f : sProp 𝕄) := rfl

/-- The eight shares sent are the block. -/
theorem src_all (hx : x.view.set = Finset.univ) (c : Fin 8) : (bigSep Finset.univ fun p => (ℙ).srcPts c p)
    = (x.view.loc (Dev.tc c : Thread 8 τ) ↦{fullShare} xs c : sProp 𝕄) := by
  rw [← hx, Transfers.pointsTo_deal (Finset.univ : Finset (Fin 8)) Finset.univ_nonempty fullShare]
  exact bigSep_congr fun p _ => src_eq c p
/-- The eight rows are the result. -/
theorem dst_all (ho : o.view.set = Finset.univ) (c : Fin 8) (f : Buf Val (o.view.loc (Dev.tc c : Thread 8 τ))) :
    (bigSep Finset.univ fun r => (ℙ).dstPts c r f) = (o.view.loc (Dev.tc c : Thread 8 τ) ↦{fullShare} f : sProp 𝕄) := by
  rw [whole_rows o hq ho c fullShare f]
  exact bigSep_congr fun r _ => dst_eq c r f
theorem dst_some (ho : o.view.set = Finset.univ) (c : Fin 8) (f : Buf Val (o.view.loc (Dev.tc c : Thread 8 τ))) :
    (o.view.loc (Dev.tc c : Thread 8 τ) ↦{fullShare} f : sProp 𝕄) ⊢ bigSep Finset.univ fun r => iprop(∃ f, (ℙ).dstPts c r f) := by
  rw [← dst_all (x := x) (hs := hs) (hn := hn) (hN := hN) (h := h) ho c f]
  exact bigSep_mono fun r _ => exists_intro (Φ := fun f => (ℙ).dstPts c r f) f

/-- At the end device `c` has its block as it was, and the gathered result. -/
theorem left_all (hx : x.view.set = Finset.univ) (ho : o.view.set = Finset.univ) (c : Fin 8) : (ℙ).left c
    = (iprop((x.view.loc (Dev.tc c : Thread 8 τ) ↦{fullShare} xs c) ∗ (o.view.loc (Dev.tc c : Thread 8 τ) ↦{fullShare} fo c)) : sProp 𝕄) := by
  unfold Plan.left
  rw [src_all hx c, show (bigSep Finset.univ fun r => (ℙ).dstPts c r ((ℙ).fo c r) : sProp 𝕄) = _ from dst_all ho c (fo c)]

end

variable {Λ₀ : Labels} {P : Type} [DecidableEq P] [Fintype P]
variable (pcs : P → PCfg sig Λ₀ Val) (a : (p : P) → (pcs p).Adm)
  (phinj : Function.Injective (cellOf (nD := 8) (pin pcs a))) (p : P)
  (defs₀ : Defs 8 τ sig Val Λ₀) (𝒱₀ : Variants)

include phinj in
/-- A program that is this gather alone: launched with every counter at zero it terminates, every device's result holds the
    blocks of all eight devices, and its argument is as it was. -/
theorem run_alone
    (m : (ℓ : Loc 8 τ sig) → Buf Val ℓ) (x : Memref sig .tc .hbm (S0 R C) el) (o : Memref sig .tc .hbm (S8 R C) el) (hq : (S1 R C).Squeezes (S0 R C))
    (osem : Cell → DmaSem sig) (hs : Function.Injective osem) (hn : 0 < (S0 R C).numel)
    (hN : ∀ r, (row o hq r).view.dmaCredit = (row o hq 0).view.dmaCredit)
    (fo : (c : Fin 8) → Buf Val (o.view.loc (Dev.tc c : Thread 8 τ)))
    (h : ∀ c p j, o.view.read Val (fo p) (put c j) = x.view.read Val (m (x.view.loc (Dev.tc c : Thread 8 τ))) j)
    (hx : x.view.set = Finset.univ) (ho : o.view.set = Finset.univ)
    (hW : IsEmpty (Fin (pin pcs a p).W)) (hN1 : (pin pcs a p).N = 1) (hK : IsEmpty (Fin (pcs p).pre.K)) (hw : WinFacts₀ (pin pcs a p).spec)
    (hos : OwnSemFacts (pin pcs a p).spec fun i : Cell => SemLoc.dma (osem i))
    (hbody : ∀ (c : Dev 8) (κ : Fin 8 × Cell → ℕ) (t : Fin (pin pcs a p).N),
      (plan x o hq osem hs hn hN (fun c => m (x.view.loc (Dev.tc c : Thread 8 τ))) fo h).St κ c (List.finRange 7) σ₀
      ⊢ wp frame (wpE defs₀ 𝒱₀ (c.tc : Thread 8 τ) none) Set.univ (defs₀ .tc (pin pcs a p).body ((pin pcs a p).bodyArgs t ((pin pcs a p).slots t)))
        fun _ => (plan x o hq osem hs hn hN (fun c => m (x.view.loc (Dev.tc c : Thread 8 τ))) fo h).St κ c [] σ₁)
    (g : Dev 8 → PrngReg)
    (main : Dev 8 → Prog (TpuEff 8 τ sig Val (Sig Λ₀ P fun p => (pcs p).Adm) Proc.tc) PUnit)
    (hmain : ∀ c, main c = .op (.customCall (entry p) ()) fun _ => .ret ⟨⟩)
    (hbufs : ∀ c : Dev 8, (unscopedBufs c (fun b => m ((c.tc : Thread 8 τ).loc b)) : sProp (MT 8 τ sig Unit Val ℕ (UU τ sig) ℕ))
      ⊢ iprop((x.view.loc (Dev.tc c : Thread 8 τ) ↦{fullShare} m (x.view.loc (Dev.tc c : Thread 8 τ)))
        ∗ (o.view.loc (Dev.tc c : Thread 8 τ) ↦{fullShare} m (o.view.loc (Dev.tc c : Thread 8 τ)))))
    (hsem : ∀ s : MemSt 8 τ sig Val, (∀ g', (g'.1.2 ≠ .tc ∨ g'.2.isScoped .tc = true) → s.sem g' = 0) → s.sem = fun _ => 0) :
    θ_run (Pipeline.defs pcs defs₀) (onTc main) ⟨m, fun _ => 0, g⟩
      (fun r => (∀ c : Fin 8, r.2.mem (o.view.loc (Dev.tc c : Thread 8 τ)) = fo c
        ∧ r.2.mem (x.view.loc (Dev.tc c : Thread 8 τ)) = m (x.view.loc (Dev.tc c : Thread 8 τ))) ∧ r.2.sem = fun _ => 0) := by
  refine Proto.run_alone pcs a (plan x o hq osem hs hn hN (fun c => m (x.view.loc (Dev.tc c : Thread 8 τ))) fo h) phinj p defs₀ 𝒱₀
    hW hN1 hK hw hos hbody m g main hmain ?_
    (fun c s => s.mem (o.view.loc (Dev.tc c : Thread 8 τ)) = fo c ∧ s.mem (x.view.loc (Dev.tc c : Thread 8 τ)) = m (x.view.loc (Dev.tc c : Thread 8 τ)))
    ?_ (fun s h' hz => ⟨h', hsem s hz⟩)
  · intro c
    rw [src_all hx c]
    iintro H
    ihave H := (hbufs c) $$ H
    icases H with ⟨Ha, Ho⟩
    isplitl [Ha]; · iexact Ha
    isplitl [Ho]
    · iapply (dst_some ho c _) $$ Ho
    iempintro
  · intro c s'
    rw [left_all hx ho c]
    iintro ⟨⟨Ha, Ho⟩, HSI⟩
    ihave %ha := (SI_pointsTo_agree) $$ [HSI Ha]
    · isplitl [HSI] <;> iassumption
    ihave %ho := (SI_pointsTo_agree) $$ [HSI Ho]
    · isplitl [HSI] <;> iassumption
    imodintro
    isplitr
    · ipureintro
      exact ⟨funext fun i => ho i (Finset.mem_univ i), funext fun i => ha i (Finset.mem_univ i)⟩
    · iexact HSI

end Cert.Gather

end
-- ==== Proof.Weights.lean ====
/-
  The gather of the packed weights: the plan of `Gather` at this program's buffers, the kernel's body from the plan's start
  to its end, and the program's run for any float values.
-/
module

public import proofs.«01_k».proof.Proof.Gather
public import proofs.«01_k».proof.Proof.Gen.WeightsIdeal.Skeleton
public import proofs.«01_k».proof.Proof.Gen.WeightsIdeal.Launch

@[expose] public section

set_option maxRecDepth 16384

noncomputable section

namespace Cert.GatherWeights

open Cert.WeightsIdeal Cert.WeightsIdeal.Gen Cert.Proto Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- Device `c`'s argument. -/
abbrev arg (c : Fin 8) : (S0 7104 1024).Idx → Elt F .bf16 := m ((Dev.tc c : Thread nD τ).loc main_arg0)
/-- Every device's result: row `r` is device `r`'s argument. -/
def out : (S8 7104 1024).Idx → Elt F .bf16 := fun i => arg m (i 0) fun k => i k.succ

/-- The semaphores: seven to send on, seven to receive on, one for the own block. -/
def osem : Cell → DmaSem sig
  | .inl k => ⟨k.val, by have := k.isLt; show _ < 15; omega⟩
  | .inr (.inl k) => ⟨7 + k.val, by have := k.isLt; show _ < 15; omega⟩
  | .inr (.inr _) => ⟨14, by show _ < 15; omega⟩

abbrev src : Memref sig .tc .hbm (S0 7104 1024) .bf16 := Memref.whole main_arg0
abbrev dst : Memref sig .tc .hbm (S8 7104 1024) .bf16 := Memref.whole main_v1

theorem osem_inj : Function.Injective osem := by decide

abbrev plan : Plan τ sig (Elt F) .hbm (S0 7104 1024) .bf16 :=
  Gather.plan src dst squeezes_S1x7104x1024_S7104x1024 osem osem_inj (by decide) (fun _ => rfl) (arg m) (fun _ => out m) (fun _ _ _ => rfl)

/-! ## The addresses the body computes -/

theorem off1 (c : Fin 8) : k0_off1 c = ![c.val, 0, 0] := by
  rw [k0_off1_eq]; revert c; decide
theorem dev1 (c : Fin 8) (h) : (⟨k0_dev1 c, h⟩ : Fin 8) = peer c 0 := Fin.ext (by
  rw [show (⟨k0_dev1 c, h⟩ : Fin 8).val = k0_dev1 c from rfl, k0_dev1_eq]; clear h; revert c; decide)
theorem dev2 (c : Fin 8) (h) : (⟨k0_dev2 c, h⟩ : Fin 8) = peer c 1 := Fin.ext (by
  rw [show (⟨k0_dev2 c, h⟩ : Fin 8).val = k0_dev2 c from rfl, k0_dev2_eq]; clear h; revert c; decide)
theorem dev3 (c : Fin 8) (h) : (⟨k0_dev3 c, h⟩ : Fin 8) = peer c 2 := Fin.ext (by
  rw [show (⟨k0_dev3 c, h⟩ : Fin 8).val = k0_dev3 c from rfl, k0_dev3_eq]; clear h; revert c; decide)
theorem dev4 (c : Fin 8) (h) : (⟨k0_dev4 c, h⟩ : Fin 8) = peer c 3 := Fin.ext (by
  rw [show (⟨k0_dev4 c, h⟩ : Fin 8).val = k0_dev4 c from rfl, k0_dev4_eq]; clear h; revert c; decide)
theorem dev5 (c : Fin 8) (h) : (⟨k0_dev5 c, h⟩ : Fin 8) = peer c 4 := Fin.ext (by
  rw [show (⟨k0_dev5 c, h⟩ : Fin 8).val = k0_dev5 c from rfl, k0_dev5_eq]; clear h; revert c; decide)
theorem dev6 (c : Fin 8) (h) : (⟨k0_dev6 c, h⟩ : Fin 8) = peer c 5 := Fin.ext (by
  rw [show (⟨k0_dev6 c, h⟩ : Fin 8).val = k0_dev6 c from rfl, k0_dev6_eq]; clear h; revert c; decide)
theorem dev7 (c : Fin 8) (h) : (⟨k0_dev7 c, h⟩ : Fin 8) = peer c 6 := Fin.ext (by
  rw [show (⟨k0_dev7 c, h⟩ : Fin 8).val = k0_dev7 c from rfl, k0_dev7_eq]; clear h; revert c; decide)

/-! ## The body -/

section Body

variable (𝒱 : Variants) (κ : Fin 8 × Cell → ℕ) (c : Fin 8)

set_option maxHeartbeats 1600000 in
theorem body (arg0' : (Memref.whole main_arg0 : Memref sig .tc _ _ _).IsWhole) (arg1' : (Memref.whole main_v1 : Memref sig .tc _ _ _).IsWhole)
    {Q : PUnit → sProp (MT 8 τ sig Unit (Elt F) ℕ (UU τ sig) ℕ)} (hQ : (plan m).St κ c [] σ₁ ⊢ Q ⟨⟩) :
    (plan m).St κ c (List.finRange 7) σ₀
      ⊢ wp frame (wpE defs₀ 𝒱 (Dev.tc c : Thread nD τ) none) Set.univ
        (cc0_all_gather_weights (F := F) (Memref.whole main_arg0) arg0' (Memref.whole main_v1) arg1' cc0_scratch0 cc0_scratch1 cc0_scratch2) Q := by
  have ended (σ : Cell → Fin 3) (h : ∀ i, σ i = 2) : (plan m).St κ c [] σ ⊢ iprop(|={Set.univ}=> Q ⟨⟩) := by
    obtain rfl : σ = σ₁ := funext h
    iintro H
    imodintro
    iapply hQ
    iexact H
  rw [cc0_all_gather_weights_eq_skeleton]
  unfold cc0_all_gather_weights_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  refine (plan m).copy_of 𝒱 κ c rfl (row_of _ _ _ _ c (off1 c)) rfl rfl ?_
  refine (plan m).send_of 𝒱 κ c 0 (dev1 c _) rfl (row_of _ _ _ _ c (off1 c)) rfl rfl rfl ?_
  refine (plan m).send_of 𝒱 κ c 1 (dev2 c _) rfl (row_of _ _ _ _ c (off1 c)) rfl rfl rfl ?_
  refine (plan m).send_of 𝒱 κ c 2 (dev3 c _) rfl (row_of _ _ _ _ c (off1 c)) rfl rfl rfl ?_
  refine (plan m).send_of 𝒱 κ c 3 (dev4 c _) rfl (row_of _ _ _ _ c (off1 c)) rfl rfl rfl ?_
  refine (plan m).send_of 𝒱 κ c 4 (dev5 c _) rfl (row_of _ _ _ _ c (off1 c)) rfl rfl rfl ?_
  refine (plan m).send_of 𝒱 κ c 5 (dev6 c _) rfl (row_of _ _ _ _ c (off1 c)) rfl rfl rfl ?_
  refine (plan m).send_of 𝒱 κ c 6 (dev7 c _) rfl (row_of _ _ _ _ c (off1 c)) rfl rfl rfl ?_
  refine (plan m).wait_of 𝒱 κ c (cSend 0) rfl rfl rfl ?_
  refine (plan m).wait_of 𝒱 κ c (cRecv 0) rfl rfl rfl ?_
  refine (plan m).wait_of 𝒱 κ c (cSend 1) rfl rfl rfl ?_
  refine (plan m).wait_of 𝒱 κ c (cRecv 1) rfl rfl rfl ?_
  refine (plan m).wait_of 𝒱 κ c (cSend 2) rfl rfl rfl ?_
  refine (plan m).wait_of 𝒱 κ c (cRecv 2) rfl rfl rfl ?_
  refine (plan m).wait_of 𝒱 κ c (cSend 3) rfl rfl rfl ?_
  refine (plan m).wait_of 𝒱 κ c (cRecv 3) rfl rfl rfl ?_
  refine (plan m).wait_of 𝒱 κ c (cSend 4) rfl rfl rfl ?_
  refine (plan m).wait_of 𝒱 κ c (cRecv 4) rfl rfl rfl ?_
  refine (plan m).wait_of 𝒱 κ c (cSend 5) rfl rfl rfl ?_
  refine (plan m).wait_of 𝒱 κ c (cRecv 5) rfl rfl rfl ?_
  refine (plan m).wait_of 𝒱 κ c (cSend 6) rfl rfl rfl ?_
  refine (plan m).wait_of 𝒱 κ c (cRecv 6) rfl rfl rfl ?_
  refine (plan m).wait_of 𝒱 κ c cHere rfl rfl rfl ?_
  rw [wp_ret]
  exact ended _ (by decide)

end Body

/-! ## The run -/

theorem ownSemFacts : Pipeline.OwnSemFacts cfg0.spec fun i : Cell => SemLoc.dma (osem i) := by decide

theorem bufs (c : Dev nD) : (unscopedBufs c (fun b => m ((Dev.tc c : Thread nD τ).loc b)) : sProp (MT nD τ sig Unit (Elt F) ℕ (UU τ sig) ℕ))
    ⊢ iprop((((Dev.tc c : Thread nD τ).loc main_arg0) ↦{fullShare} m ((Dev.tc c : Thread nD τ).loc main_arg0))
      ∗ (((Dev.tc c : Thread nD τ).loc main_v1) ↦{fullShare} m ((Dev.tc c : Thread nD τ).loc main_v1))) := by
  rw [Pipeline.unscopedBufs_split cfgs 0 winFacts0.arr_unscoped winFacts0.arr_inj c, unscopedRest0_eq]
  iintro ⟨-, Ha, Ho⟩
  isplitl [Ha] <;> iassumption

/-- From any memory with every counter at zero the program terminates; row `r` of every device's result is device `r`'s
    argument, the arguments are as they were and every counter reads zero. -/
theorem run_main : θ_run defs (onTc (τ := τ) (main (F := F))) ⟨m, fun _ => 0, ρ⟩
    (fun r => (∀ c : Fin 8, r.2.mem ((Dev.tc c : Thread nD τ).loc main_v1) = out m
      ∧ r.2.mem ((Dev.tc c : Thread nD τ).loc main_arg0) = m ((Dev.tc c : Thread nD τ).loc main_arg0)) ∧ r.2.sem = fun _ => 0) :=
  Gather.run_alone (fun p => (cfgs p).toPCfg) (fun p => (cfgs p).toPCfg_adm) cellOf_inj 0 defs₀ Variants.nat m src dst
    squeezes_S1x7104x1024_S7104x1024 osem osem_inj (by decide) (fun _ => rfl) (fun _ => out m) (fun _ _ _ => rfl)
    (View.set_whole _) (View.set_whole _)
    (inferInstanceAs (IsEmpty (Fin 0))) rfl (inferInstanceAs (IsEmpty (Fin 0))) winFacts0.to₀ ownSemFacts
    (fun c κ _ => body m Variants.nat κ c _ _ .rfl) ρ main (fun _ => rfl) (bufs m)
    (fun _ hs => sem_eq_zero_of_scoped (by decide) hs)

end Cert.GatherWeights

end
-- ==== Proof.Conv.lean ====
/-
  The gather of the packed convolution weights: the plan of `Gather` at this program's buffers, the kernel's body from the plan's start
  to its end, and the program's run for any float values.
-/
module

public import proofs.«01_k».proof.Proof.Gather
public import proofs.«01_k».proof.Proof.Gen.ConvIdeal.Skeleton
public import proofs.«01_k».proof.Proof.Gen.ConvIdeal.Launch

@[expose] public section

set_option maxRecDepth 16384

noncomputable section

namespace Cert.GatherConv

open Cert.ConvIdeal Cert.ConvIdeal.Gen Cert.Proto Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- Device `c`'s argument. -/
abbrev arg (c : Fin 8) : (S0 8 1024).Idx → Elt F .f32 := m ((Dev.tc c : Thread nD τ).loc main_arg0)
/-- Every device's result: row `r` is device `r`'s argument. -/
def out : (S8 8 1024).Idx → Elt F .f32 := fun i => arg m (i 0) fun k => i k.succ

/-- The semaphores: seven to send on, seven to receive on, one for the own block. -/
def osem : Cell → DmaSem sig
  | .inl k => ⟨k.val, by have := k.isLt; show _ < 15; omega⟩
  | .inr (.inl k) => ⟨7 + k.val, by have := k.isLt; show _ < 15; omega⟩
  | .inr (.inr _) => ⟨14, by show _ < 15; omega⟩

abbrev src : Memref sig .tc .hbm (S0 8 1024) .f32 := Memref.whole main_arg0
abbrev dst : Memref sig .tc .hbm (S8 8 1024) .f32 := Memref.whole main_v1

theorem osem_inj : Function.Injective osem := by decide

abbrev plan : Plan τ sig (Elt F) .hbm (S0 8 1024) .f32 :=
  Gather.plan src dst squeezes_S1x8x1024_S8x1024 osem osem_inj (by decide) (fun _ => rfl) (arg m) (fun _ => out m) (fun _ _ _ => rfl)

/-! ## The addresses the body computes -/

theorem off1 (c : Fin 8) : k0_off1 c = ![c.val, 0, 0] := by
  rw [k0_off1_eq]; revert c; decide
theorem dev1 (c : Fin 8) (h) : (⟨k0_dev1 c, h⟩ : Fin 8) = peer c 0 := Fin.ext (by
  rw [show (⟨k0_dev1 c, h⟩ : Fin 8).val = k0_dev1 c from rfl, k0_dev1_eq]; clear h; revert c; decide)
theorem dev2 (c : Fin 8) (h) : (⟨k0_dev2 c, h⟩ : Fin 8) = peer c 1 := Fin.ext (by
  rw [show (⟨k0_dev2 c, h⟩ : Fin 8).val = k0_dev2 c from rfl, k0_dev2_eq]; clear h; revert c; decide)
theorem dev3 (c : Fin 8) (h) : (⟨k0_dev3 c, h⟩ : Fin 8) = peer c 2 := Fin.ext (by
  rw [show (⟨k0_dev3 c, h⟩ : Fin 8).val = k0_dev3 c from rfl, k0_dev3_eq]; clear h; revert c; decide)
theorem dev4 (c : Fin 8) (h) : (⟨k0_dev4 c, h⟩ : Fin 8) = peer c 3 := Fin.ext (by
  rw [show (⟨k0_dev4 c, h⟩ : Fin 8).val = k0_dev4 c from rfl, k0_dev4_eq]; clear h; revert c; decide)
theorem dev5 (c : Fin 8) (h) : (⟨k0_dev5 c, h⟩ : Fin 8) = peer c 4 := Fin.ext (by
  rw [show (⟨k0_dev5 c, h⟩ : Fin 8).val = k0_dev5 c from rfl, k0_dev5_eq]; clear h; revert c; decide)
theorem dev6 (c : Fin 8) (h) : (⟨k0_dev6 c, h⟩ : Fin 8) = peer c 5 := Fin.ext (by
  rw [show (⟨k0_dev6 c, h⟩ : Fin 8).val = k0_dev6 c from rfl, k0_dev6_eq]; clear h; revert c; decide)
theorem dev7 (c : Fin 8) (h) : (⟨k0_dev7 c, h⟩ : Fin 8) = peer c 6 := Fin.ext (by
  rw [show (⟨k0_dev7 c, h⟩ : Fin 8).val = k0_dev7 c from rfl, k0_dev7_eq]; clear h; revert c; decide)

/-! ## The body -/

section Body

variable (𝒱 : Variants) (κ : Fin 8 × Cell → ℕ) (c : Fin 8)

set_option maxHeartbeats 1600000 in
theorem body (arg0' : (Memref.whole main_arg0 : Memref sig .tc _ _ _).IsWhole) (arg1' : (Memref.whole main_v1 : Memref sig .tc _ _ _).IsWhole)
    {Q : PUnit → sProp (MT 8 τ sig Unit (Elt F) ℕ (UU τ sig) ℕ)} (hQ : (plan m).St κ c [] σ₁ ⊢ Q ⟨⟩) :
    (plan m).St κ c (List.finRange 7) σ₀
      ⊢ wp frame (wpE defs₀ 𝒱 (Dev.tc c : Thread nD τ) none) Set.univ
        (cc0_all_gather_conv (F := F) (Memref.whole main_arg0) arg0' (Memref.whole main_v1) arg1' cc0_scratch0 cc0_scratch1 cc0_scratch2) Q := by
  have ended (σ : Cell → Fin 3) (h : ∀ i, σ i = 2) : (plan m).St κ c [] σ ⊢ iprop(|={Set.univ}=> Q ⟨⟩) := by
    obtain rfl : σ = σ₁ := funext h
    iintro H
    imodintro
    iapply hQ
    iexact H
  rw [cc0_all_gather_conv_eq_skeleton]
  unfold cc0_all_gather_conv_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  refine (plan m).copy_of 𝒱 κ c rfl (row_of _ _ _ _ c (off1 c)) rfl rfl ?_
  refine (plan m).send_of 𝒱 κ c 0 (dev1 c _) rfl (row_of _ _ _ _ c (off1 c)) rfl rfl rfl ?_
  refine (plan m).send_of 𝒱 κ c 1 (dev2 c _) rfl (row_of _ _ _ _ c (off1 c)) rfl rfl rfl ?_
  refine (plan m).send_of 𝒱 κ c 2 (dev3 c _) rfl (row_of _ _ _ _ c (off1 c)) rfl rfl rfl ?_
  refine (plan m).send_of 𝒱 κ c 3 (dev4 c _) rfl (row_of _ _ _ _ c (off1 c)) rfl rfl rfl ?_
  refine (plan m).send_of 𝒱 κ c 4 (dev5 c _) rfl (row_of _ _ _ _ c (off1 c)) rfl rfl rfl ?_
  refine (plan m).send_of 𝒱 κ c 5 (dev6 c _) rfl (row_of _ _ _ _ c (off1 c)) rfl rfl rfl ?_
  refine (plan m).send_of 𝒱 κ c 6 (dev7 c _) rfl (row_of _ _ _ _ c (off1 c)) rfl rfl rfl ?_
  refine (plan m).wait_of 𝒱 κ c (cSend 0) rfl rfl rfl ?_
  refine (plan m).wait_of 𝒱 κ c (cRecv 0) rfl rfl rfl ?_
  refine (plan m).wait_of 𝒱 κ c (cSend 1) rfl rfl rfl ?_
  refine (plan m).wait_of 𝒱 κ c (cRecv 1) rfl rfl rfl ?_
  refine (plan m).wait_of 𝒱 κ c (cSend 2) rfl rfl rfl ?_
  refine (plan m).wait_of 𝒱 κ c (cRecv 2) rfl rfl rfl ?_
  refine (plan m).wait_of 𝒱 κ c (cSend 3) rfl rfl rfl ?_
  refine (plan m).wait_of 𝒱 κ c (cRecv 3) rfl rfl rfl ?_
  refine (plan m).wait_of 𝒱 κ c (cSend 4) rfl rfl rfl ?_
  refine (plan m).wait_of 𝒱 κ c (cRecv 4) rfl rfl rfl ?_
  refine (plan m).wait_of 𝒱 κ c (cSend 5) rfl rfl rfl ?_
  refine (plan m).wait_of 𝒱 κ c (cRecv 5) rfl rfl rfl ?_
  refine (plan m).wait_of 𝒱 κ c (cSend 6) rfl rfl rfl ?_
  refine (plan m).wait_of 𝒱 κ c (cRecv 6) rfl rfl rfl ?_
  refine (plan m).wait_of 𝒱 κ c cHere rfl rfl rfl ?_
  rw [wp_ret]
  exact ended _ (by decide)

end Body

/-! ## The run -/

theorem ownSemFacts : Pipeline.OwnSemFacts cfg0.spec fun i : Cell => SemLoc.dma (osem i) := by decide

theorem bufs (c : Dev nD) : (unscopedBufs c (fun b => m ((Dev.tc c : Thread nD τ).loc b)) : sProp (MT nD τ sig Unit (Elt F) ℕ (UU τ sig) ℕ))
    ⊢ iprop((((Dev.tc c : Thread nD τ).loc main_arg0) ↦{fullShare} m ((Dev.tc c : Thread nD τ).loc main_arg0))
      ∗ (((Dev.tc c : Thread nD τ).loc main_v1) ↦{fullShare} m ((Dev.tc c : Thread nD τ).loc main_v1))) := by
  rw [Pipeline.unscopedBufs_split cfgs 0 winFacts0.arr_unscoped winFacts0.arr_inj c, unscopedRest0_eq]
  iintro ⟨-, Ha, Ho⟩
  isplitl [Ha] <;> iassumption

/-- From any memory with every counter at zero the program terminates; row `r` of every device's result is device `r`'s
    argument, the arguments are as they were and every counter reads zero. -/
theorem run_main : θ_run defs (onTc (τ := τ) (main (F := F))) ⟨m, fun _ => 0, ρ⟩
    (fun r => (∀ c : Fin 8, r.2.mem ((Dev.tc c : Thread nD τ).loc main_v1) = out m
      ∧ r.2.mem ((Dev.tc c : Thread nD τ).loc main_arg0) = m ((Dev.tc c : Thread nD τ).loc main_arg0)) ∧ r.2.sem = fun _ => 0) :=
  Gather.run_alone (fun p => (cfgs p).toPCfg) (fun p => (cfgs p).toPCfg_adm) cellOf_inj 0 defs₀ Variants.nat m src dst
    squeezes_S1x8x1024_S8x1024 osem osem_inj (by decide) (fun _ => rfl) (fun _ => out m) (fun _ _ _ => rfl)
    (View.set_whole _) (View.set_whole _)
    (inferInstanceAs (IsEmpty (Fin 0))) rfl (inferInstanceAs (IsEmpty (Fin 0))) winFacts0.to₀ ownSemFacts
    (fun c κ _ => body m Variants.nat κ c _ _ .rfl) ρ main (fun _ => rfl) (bufs m)
    (fun _ hs => sem_eq_zero_of_scoped (by decide) hs)

end Cert.GatherConv

end
-- ==== Proof.Gathered.lean ====
/-
  The two gathers against their references, for any float values: launched on the parts of one array, every device's result is
  that array whole, its parts side by side.
-/
module

public import proofs.«01_k».proof.Proof.Weights
public import proofs.«01_k».proof.Proof.Conv
public import proofs.«01_k».proof.Proof.Gen.AllWeightsIdeal.Run
public import proofs.«01_k».proof.Proof.Gen.AllConvIdeal.Run
public import Idealize.ShloMosaic.Lib.Pipeline.Value
public import Idealize.ShloMosaic.Lib.ValueIdxCore
public import Idealize.ShloMosaic.Lib.Layout

@[expose] public section

set_option maxRecDepth 16384

noncomputable section

namespace Cert.Gathered

open Cert.Rows
open Idealize.ShloMosaic Idealize.ShloMosaic.TcCoe Idealize.SL.Sem Idealize.ShloMosaic.ValueIdx

/-- Element (r, i, j) of an array of `8 · R` rows read as eight parts is element (i, j) of part `r`. -/
theorem part_of {α : Type} {R C : ℕ} (h8 : (⟨2, ![8 * R, C]⟩ : Shape).ShapeCasts ⟨3, ![8, R, C]⟩)
    (h : Layout.Tiles ⟨2, ![R, C]⟩ ⟨2, ![8 * R, C]⟩ 0 8) (x : (⟨2, ![8 * R, C]⟩ : Shape).Idx → α) (i : (S8 R C).Idx) :
    Layout.block ⟨2, ![R, C]⟩ ⟨2, ![8 * R, C]⟩ 0 8 (i 0) x h (fun k => i k.succ) = shapeCast ⟨3, ![8, R, C]⟩ x h8 i := by
  let j : (S0 R C).Idx := fun k => i k.succ
  refine (shapeCast_apply x h8 i (h.idx (i 0) j) ?_).symm
  rw [Shape.rowMajor_val_two, Shape.rowMajor_val_three]
  have e0 : (h.idx (i 0) j 0).val = (i 0).val * R + (i 1).val := h.idx_val (i 0) j 0
  have e1 : (h.idx (i 0) j 1).val = (i 2).val := h.idx_val (i 0) j 1
  show (h.idx (i 0) j 0).val * C + (h.idx (i 0) j 1).val = ((i 0).val * R + (i 1).val) * C + (i 2).val
  rw [e0, e1]

section Weights

open Cert.GatherWeights

variable {F : FTy → Type} [FloatOps F]

/-- Weights: kernel and reference, launched on the same array, both terminate, and their results agree. -/
theorem weights (m : (ℓ : Loc Cert.WeightsIdeal.nD Cert.WeightsIdeal.τ Cert.WeightsIdeal.sig) → Buf (Elt F) ℓ) (g : Dev Cert.WeightsIdeal.nD → PrngReg)
    (m' : (ℓ : Loc Cert.AllWeightsIdeal.nD Cert.AllWeightsIdeal.τ Cert.AllWeightsIdeal.sig) → Buf (Elt F) ℓ) (g' : Dev Cert.AllWeightsIdeal.nD → PrngReg)
    (h : ∀ c : Fin 8, arg m c = Layout.block ⟨2, ![7104, 1024]⟩ ⟨2, ![56832, 1024]⟩ 0 8 c
      (m' ((Dev.tc (0 : Fin 1) : Thread Cert.AllWeightsIdeal.nD Cert.AllWeightsIdeal.τ).loc Cert.AllWeightsIdeal.main_arg0))) :
    ∃ v0 : (⟨3, ![8, 7104, 1024]⟩ : Shape).Idx → Elt F .bf16,
      θ_run Cert.WeightsIdeal.defs (onTc (τ := Cert.WeightsIdeal.τ) (Cert.WeightsIdeal.main (F := F))) ⟨m, fun _ => 0, g⟩ (fun r => ∀ c : Fin 8,
          r.2.mem ((Dev.tc c : Thread Cert.WeightsIdeal.nD Cert.WeightsIdeal.τ).loc Cert.WeightsIdeal.main_v1) = v0
          ∧ r.2.mem ((Dev.tc c : Thread Cert.WeightsIdeal.nD Cert.WeightsIdeal.τ).loc Cert.WeightsIdeal.main_arg0) = arg m c)
      ∧ θ_run Cert.AllWeightsIdeal.defs (onTc (τ := Cert.AllWeightsIdeal.τ) (Cert.AllWeightsIdeal.main (F := F))) ⟨m', fun _ => 0, g'⟩ (fun r =>
          r.2.mem ((Dev.tc (0 : Fin 1) : Thread Cert.AllWeightsIdeal.nD Cert.AllWeightsIdeal.τ).loc Cert.AllWeightsIdeal.main_v0) = v0
          ∧ r.2.mem ((Dev.tc (0 : Fin 1) : Thread Cert.AllWeightsIdeal.nD Cert.AllWeightsIdeal.τ).loc Cert.AllWeightsIdeal.main_arg0)
            = m' ((Dev.tc (0 : Fin 1) : Thread Cert.AllWeightsIdeal.nD Cert.AllWeightsIdeal.τ).loc Cert.AllWeightsIdeal.main_arg0)) :=
  ⟨_, (θ_run Cert.WeightsIdeal.defs _ _).mono (fun _ hr c => ⟨(hr.1 c).1.trans (funext fun i =>
        (congrFun (h (i 0)) fun k => i k.succ).trans (part_of _ _ _ i)), (hr.1 c).2⟩) (run_main m g),
    (θ_run Cert.AllWeightsIdeal.defs _ _).mono (fun _ hr => hr 0) (Cert.AllWeightsIdeal.Value.run m' g')⟩

end Weights

section Conv

open Cert.GatherConv

variable {F : FTy → Type} [FloatOps F]

/-- Convolution weights: kernel and reference, launched on the same array, both terminate, and their results agree. -/
theorem conv (m : (ℓ : Loc Cert.ConvIdeal.nD Cert.ConvIdeal.τ Cert.ConvIdeal.sig) → Buf (Elt F) ℓ) (g : Dev Cert.ConvIdeal.nD → PrngReg)
    (m' : (ℓ : Loc Cert.AllConvIdeal.nD Cert.AllConvIdeal.τ Cert.AllConvIdeal.sig) → Buf (Elt F) ℓ) (g' : Dev Cert.AllConvIdeal.nD → PrngReg)
    (h : ∀ c : Fin 8, arg m c = Layout.block ⟨2, ![8, 1024]⟩ ⟨2, ![64, 1024]⟩ 0 8 c
      (m' ((Dev.tc (0 : Fin 1) : Thread Cert.AllConvIdeal.nD Cert.AllConvIdeal.τ).loc Cert.AllConvIdeal.main_arg0))) :
    ∃ v0 : (⟨3, ![8, 8, 1024]⟩ : Shape).Idx → Elt F .f32,
      θ_run Cert.ConvIdeal.defs (onTc (τ := Cert.ConvIdeal.τ) (Cert.ConvIdeal.main (F := F))) ⟨m, fun _ => 0, g⟩ (fun r => ∀ c : Fin 8,
          r.2.mem ((Dev.tc c : Thread Cert.ConvIdeal.nD Cert.ConvIdeal.τ).loc Cert.ConvIdeal.main_v1) = v0
          ∧ r.2.mem ((Dev.tc c : Thread Cert.ConvIdeal.nD Cert.ConvIdeal.τ).loc Cert.ConvIdeal.main_arg0) = arg m c)
      ∧ θ_run Cert.AllConvIdeal.defs (onTc (τ := Cert.AllConvIdeal.τ) (Cert.AllConvIdeal.main (F := F))) ⟨m', fun _ => 0, g'⟩ (fun r =>
          r.2.mem ((Dev.tc (0 : Fin 1) : Thread Cert.AllConvIdeal.nD Cert.AllConvIdeal.τ).loc Cert.AllConvIdeal.main_v0) = v0
          ∧ r.2.mem ((Dev.tc (0 : Fin 1) : Thread Cert.AllConvIdeal.nD Cert.AllConvIdeal.τ).loc Cert.AllConvIdeal.main_arg0)
            = m' ((Dev.tc (0 : Fin 1) : Thread Cert.AllConvIdeal.nD Cert.AllConvIdeal.τ).loc Cert.AllConvIdeal.main_arg0)) :=
  ⟨_, (θ_run Cert.ConvIdeal.defs _ _).mono (fun _ hr c => ⟨(hr.1 c).1.trans (funext fun i =>
        (congrFun (h (i 0)) fun k => i k.succ).trans (part_of _ _ _ i)), (hr.1 c).2⟩) (run_main m g),
    (θ_run Cert.AllConvIdeal.defs _ _).mono (fun _ hr => hr 0) (Cert.AllConvIdeal.Value.run m' g')⟩

end Conv

end Cert.Gathered

end
-- ==== Proof.Exchange.lean ====
/-
  The gradient exchange's plan: device `c` sends device `p` block `p` of its argument; row `r` of the result takes the block of
  device `r`; at the end the result's row `r` on device `c` is block `c` of device `r`'s argument. And the kernel's body: from the
  plan's start to its end.
-/
module

public import proofs.«01_k».proof.Proof.Deal
public import proofs.«01_k».proof.Proof.Rows
public import proofs.«01_k».proof.Proof.Gen.KernelIdeal.Skeleton
public import proofs.«01_k».proof.Proof.Gen.KernelIdeal.Launch

@[expose] public section

set_option maxRecDepth 16384

noncomputable section

namespace Cert.Exchange

open Cert.KernelIdeal Cert.KernelIdeal.Gen Cert.Proto Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-- Device `c`'s argument. -/
abbrev arg (c : Fin 8) : (S8 7168 1024).Idx → Elt F .f32 := m ((Dev.tc c : Thread nD τ).loc main_arg0)
/-- Device `c`'s result: row `r` is block `c` of device `r`'s argument. -/
def out (c : Fin 8) : (S8 7168 1024).Idx → Elt F .f32 := fun i => arg m (i 0) (put c fun k => i k.succ)

/-- The semaphores: seven to send on, seven to receive on, one for the own block. -/
def osem : Cell → DmaSem sig
  | .inl k => ⟨k.val, by have := k.isLt; show _ < 31; omega⟩
  | .inr (.inl k) => ⟨7 + k.val, by have := k.isLt; show _ < 31; omega⟩
  | .inr (.inr _) => ⟨14, by show _ < 31; omega⟩

abbrev argRow (r : Fin 8) : Memref sig .tc .hbm (S0 7168 1024) .f32 := row (Memref.whole main_arg0) squeezes_S1x7168x1024_S7168x1024 r
abbrev outRow (r : Fin 8) : Memref sig .tc .hbm (S0 7168 1024) .f32 := row (Memref.whole main_v1) squeezes_S1x7168x1024_S7168x1024 r

theorem land (c p : Fin 8) (fd : (outRow c).view.ty.Contents (Elt F)) : ∀ i ∈ (outRow c).view.set,
    (outRow c).view.write (Elt F) fd ((argRow p).view.read (Elt F) (arg m c)) Finset.univ i = out m p i :=
  land_of (Val := Elt F) (argRow p) (outRow c) (arg m c) fd (out m p) (funext fun j => by
    rw [row_read, row_read]
    rfl)

def plan : Plan τ sig (Elt F) .hbm (S0 7168 1024) .f32 where
  osem := osem
  osem_inj := by decide
  src _ p := argRow p
  dst := outRow
  q _ _ := fullShare
  fs c _ := arg m c
  fo c _ := out m c
  N := (outRow 0).view.dmaCredit
  N_pos := View.dmaCredit_pos _ (by decide)
  N_eq _ := rfl
  land := land m

/-! ## The addresses the body computes -/

theorem off1 (c : Fin 8) : k0_off1 c = ![c.val, 0, 0] := by
  rw [k0_off1_eq]; revert c; decide
theorem off2 (c : Fin 8) : k0_off2 c = ![(peer c 0).val, 0, 0] := by
  rw [k0_off2_eq]; revert c; decide
theorem off3 (c : Fin 8) : k0_off3 c = ![(peer c 1).val, 0, 0] := by
  rw [k0_off3_eq]; revert c; decide
theorem off4 (c : Fin 8) : k0_off4 c = ![(peer c 2).val, 0, 0] := by
  rw [k0_off4_eq]; revert c; decide
theorem off5 (c : Fin 8) : k0_off5 c = ![(peer c 3).val, 0, 0] := by
  rw [k0_off5_eq]; revert c; decide
theorem off6 (c : Fin 8) : k0_off6 c = ![(peer c 4).val, 0, 0] := by
  rw [k0_off6_eq]; revert c; decide
theorem off7 (c : Fin 8) : k0_off7 c = ![(peer c 5).val, 0, 0] := by
  rw [k0_off7_eq]; revert c; decide
theorem off8 (c : Fin 8) : k0_off8 c = ![(peer c 6).val, 0, 0] := by
  rw [k0_off8_eq]; revert c; decide
theorem dev1 (c : Fin 8) (h) : (⟨k0_dev1 c, h⟩ : Fin 8) = peer c 0 := Fin.ext (by
  rw [show (⟨k0_dev1 c, h⟩ : Fin 8).val = k0_dev1 c from rfl, k0_dev1_eq]; clear h; revert c; decide)
theorem dev2 (c : Fin 8) (h) : (⟨k0_dev2 c, h⟩ : Fin 8) = peer c 1 := Fin.ext (by
  rw [show (⟨k0_dev2 c, h⟩ : Fin 8).val = k0_dev2 c from rfl, k0_dev2_eq]; clear h; revert c; decide)
theorem dev3 (c : Fin 8) (h) : (⟨k0_dev3 c, h⟩ : Fin 8) = peer c 2 := Fin.ext (by
  rw [show (⟨k0_dev3 c, h⟩ : Fin 8).val = k0_dev3 c from rfl, k0_dev3_eq]; clear h; revert c; decide)
theorem dev4 (c : Fin 8) (h) : (⟨k0_dev4 c, h⟩ : Fin 8) = peer c 3 := Fin.ext (by
  rw [show (⟨k0_dev4 c, h⟩ : Fin 8).val = k0_dev4 c from rfl, k0_dev4_eq]; clear h; revert c; decide)
theorem dev5 (c : Fin 8) (h) : (⟨k0_dev5 c, h⟩ : Fin 8) = peer c 4 := Fin.ext (by
  rw [show (⟨k0_dev5 c, h⟩ : Fin 8).val = k0_dev5 c from rfl, k0_dev5_eq]; clear h; revert c; decide)
theorem dev6 (c : Fin 8) (h) : (⟨k0_dev6 c, h⟩ : Fin 8) = peer c 5 := Fin.ext (by
  rw [show (⟨k0_dev6 c, h⟩ : Fin 8).val = k0_dev6 c from rfl, k0_dev6_eq]; clear h; revert c; decide)
theorem dev7 (c : Fin 8) (h) : (⟨k0_dev7 c, h⟩ : Fin 8) = peer c 6 := Fin.ext (by
  rw [show (⟨k0_dev7 c, h⟩ : Fin 8).val = k0_dev7 c from rfl, k0_dev7_eq]; clear h; revert c; decide)

/-! ## The body -/

variable (𝒱 : Variants) (κ : Fin 8 × Cell → ℕ) (c : Fin 8)

set_option maxHeartbeats 1600000 in
theorem body (arg0' : (Memref.whole main_arg0 : Memref sig .tc _ _ _).IsWhole) (arg1' : (Memref.whole main_v1 : Memref sig .tc _ _ _).IsWhole)
    {Q : PUnit → sProp (MT 8 τ sig Unit (Elt F) ℕ (UU τ sig) ℕ)} (hQ : (plan m).St κ c [] σ₁ ⊢ Q ⟨⟩) :
    (plan m).St κ c (List.finRange 7) σ₀
      ⊢ wp frame (wpE defs₀ 𝒱 (Dev.tc c : Thread nD τ) none) Set.univ
        (cc0_exchange_grad_shards (F := F) (Memref.whole main_arg0) arg0' (Memref.whole main_v1) arg1' cc0_scratch0 cc0_scratch1 cc0_scratch2) Q := by
  have ended (σ : Cell → Fin 3) (h : ∀ i, σ i = 2) : (plan m).St κ c [] σ ⊢ iprop(|={Set.univ}=> Q ⟨⟩) := by
    obtain rfl : σ = σ₁ := funext h
    iintro H
    imodintro
    iapply hQ
    iexact H
  rw [cc0_exchange_grad_shards_eq_skeleton]
  unfold cc0_exchange_grad_shards_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  refine (plan m).copy_of 𝒱 κ c (row_of _ _ _ _ c (off1 c)) (row_of _ _ _ _ c (off1 c)) rfl rfl ?_
  refine (plan m).send_of 𝒱 κ c 0 (dev1 c _) (row_of _ _ _ _ _ (off2 c)) (row_of _ _ _ _ c (off1 c)) rfl rfl rfl ?_
  refine (plan m).send_of 𝒱 κ c 1 (dev2 c _) (row_of _ _ _ _ _ (off3 c)) (row_of _ _ _ _ c (off1 c)) rfl rfl rfl ?_
  refine (plan m).send_of 𝒱 κ c 2 (dev3 c _) (row_of _ _ _ _ _ (off4 c)) (row_of _ _ _ _ c (off1 c)) rfl rfl rfl ?_
  refine (plan m).send_of 𝒱 κ c 3 (dev4 c _) (row_of _ _ _ _ _ (off5 c)) (row_of _ _ _ _ c (off1 c)) rfl rfl rfl ?_
  refine (plan m).send_of 𝒱 κ c 4 (dev5 c _) (row_of _ _ _ _ _ (off6 c)) (row_of _ _ _ _ c (off1 c)) rfl rfl rfl ?_
  refine (plan m).send_of 𝒱 κ c 5 (dev6 c _) (row_of _ _ _ _ _ (off7 c)) (row_of _ _ _ _ c (off1 c)) rfl rfl rfl ?_
  refine (plan m).send_of 𝒱 κ c 6 (dev7 c _) (row_of _ _ _ _ _ (off8 c)) (row_of _ _ _ _ c (off1 c)) rfl rfl rfl ?_
  refine (plan m).wait_of 𝒱 κ c (cSend 0) rfl rfl rfl ?_
  refine (plan m).wait_of 𝒱 κ c (cRecv 0) rfl rfl rfl ?_
  refine (plan m).wait_of 𝒱 κ c (cSend 1) rfl rfl rfl ?_
  refine (plan m).wait_of 𝒱 κ c (cRecv 1) rfl rfl rfl ?_
  refine (plan m).wait_of 𝒱 κ c (cSend 2) rfl rfl rfl ?_
  refine (plan m).wait_of 𝒱 κ c (cRecv 2) rfl rfl rfl ?_
  refine (plan m).wait_of 𝒱 κ c (cSend 3) rfl rfl rfl ?_
  refine (plan m).wait_of 𝒱 κ c (cRecv 3) rfl rfl rfl ?_
  refine (plan m).wait_of 𝒱 κ c (cSend 4) rfl rfl rfl ?_
  refine (plan m).wait_of 𝒱 κ c (cRecv 4) rfl rfl rfl ?_
  refine (plan m).wait_of 𝒱 κ c (cSend 5) rfl rfl rfl ?_
  refine (plan m).wait_of 𝒱 κ c (cRecv 5) rfl rfl rfl ?_
  refine (plan m).wait_of 𝒱 κ c (cSend 6) rfl rfl rfl ?_
  refine (plan m).wait_of 𝒱 κ c (cRecv 6) rfl rfl rfl ?_
  refine (plan m).wait_of 𝒱 κ c cHere rfl rfl rfl ?_
  rw [wp_ret]
  exact ended _ (by decide)

end Cert.Exchange

end
-- ==== Proof.Staged.lean ====
/-
  A region that stages its arrays block by block and owes nothing, as one step of a longer program on each of eight devices:
  its staging cells are opened when the device reaches it, from the ghost state the launch set aside, and the device leaves
  with every array as the write-backs left it and all its scoped storage as it found it.
-/
module

public import proofs.«01_k».proof.Proof.Region

@[expose] public section

noncomputable section

namespace Cert.Staged

open Cert.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {τ : Topo} {sig : RefSig} {Val : EltTy → Type} [∀ e, Nonempty (Val e)]
variable {Λ₀ : Labels} {P : Type} [DecidableEq P] [Fintype P]

local notation "𝕄" => MT 8 τ sig Unit Val ℕ (UU τ sig) ℕ

variable (pcs : P → PCfg sig Λ₀ Val) (a : (p : P) → (pcs p).Adm)
  (dats : (p : P) → (c : Dev 8) → Dat τ Val Unit ℕ (UU τ sig) ℕ (pin pcs a p) c)
  (phinj : Function.Injective (cellOf (nD := 8) (τ := τ) (pin pcs a))) (p : P)
  (defs₀ : Defs 8 τ sig Val Λ₀) (𝒱₀ : Variants)

local notation "𝔻" => Pipeline.defs pcs defs₀
local notation "𝕍" => Variants.lift 𝒱₀
local notation "pcfg" => pin pcs a p

/-- The region's arrays, each whole, at contents `f`. -/
def held (c : Dev 8) (f : (w : Fin (pcfg).W) → Buf Val (((pcfg).spec w).arr.view.loc (c.tc : Thread 8 τ))) : sProp 𝕄 :=
  bigSep Finset.univ fun w => ((c.tc : Thread 8 τ).loc (arrRef (pcfg).spec w)) ↦{fullShare} f w

/-- What the launch sets aside for the region on a device. -/
def ghost (c : Dev 8) : sProp 𝕄 :=
  iprop(cellsGhost (pin pcs a) (EP (Val := Val)) p c ∗ toksInit (pin pcs a) (EP (Val := Val)) p c)

include phinj in
/-- The region: from its arrays, the launch's ghost state and all the scoped storage, owing nothing, to the arrays as written
    back and the storage given back. -/
theorem enter (hK : IsEmpty (Fin (pcs p).pre.K)) (hw : WinFacts (pcfg).spec) (hne : ∀ w : Fin (pcfg).W, 0 < ((pcfg).spec w).block.numel)
    (harr : ∀ w, ((pcfg).spec w).arr.IsWhole) (hstage : ∀ w s, (((pcfg).spec w).stage s).IsWhole) (c : Dev 8)
    (hbody : BodyObligationLoose (dats p c) defs₀ 𝒱₀ () Set.univ)
    (hq : ∀ w, (dats p c).q w = fullShare) (howed : ∀ t, (dats p c).owed t = 0) (hrec : ∀ t, (dats p c).recorded t = Set.univ)
    (hΦ : ∀ t, (dats p c).Φ t = scopedRest (pcfg).spec c)
    {α : Type} {k : PUnit → Prog (TpuEff 8 τ sig Val (Sig Λ₀ P fun p => (pcs p).Adm) Proc.tc) α} {Q : α → sProp 𝕄} :
    iprop(held pcs a p c (dats p c).A ∗ (∃ W, owes (c.tc : Thread 8 τ) (0 : CellTallies 8 τ sig Unit) W)
        ∗ ghost pcs a p c ∗ scopedSems0 (c.tc : Thread 8 τ) ∗ scopedBufs (c.tc : Thread 8 τ))
      ⊢ iprop(((held pcs a p c ((dats p c).arrAt · (pcfg).N) ∗ (∃ W, owes (c.tc : Thread 8 τ) (0 : CellTallies 8 τ sig Unit) W)
                ∗ scopedSems0 (c.tc : Thread 8 τ) ∗ scopedBufs (c.tc : Thread 8 τ))
              -∗ wp frame (wpE 𝔻 𝕍 (c.tc : Thread 8 τ) none) Set.univ (k ⟨⟩) Q)
          -∗ wp frame (wpE 𝔻 𝕍 (c.tc : Thread 8 τ) none) Set.univ (.op (.customCall (entry p) ()) k) Q) := by
  have ho : OwnSemFacts (pcfg).spec fun k : PEmpty => k.elim := OwnSemFacts.none _
  have hsb : (scopedBufs (c.tc : Thread 8 τ) : sProp 𝕄) = iprop(Dat.staging (pcfg) c ∗ scopedRest (pcfg).spec c) :=
    scopedBufs_split (pin pcs a) p hw.stage_scoped hw.stage_inj hstage c
  have hss := scopedSems0_split (Ix := Unit) (Val := Val) (Name := ℕ) (U := UU τ sig) (Lvl := ℕ) (pin pcs a) phinj p hw.to₀ ho c
  rw [ownSems0_none] at hss
  have hpf : (prefHeld (pcs p).pre c (fun _ => fullShare) (a p).1 : sProp 𝕄) = BI.emp := by
    unfold prefHeld; exact bigSep_none _
  have hin : iprop(BI.emp ∗ prefHeld (pcs p).pre c (fun _ => fullShare) (a p).1 ∗ scopedRest (pcfg).spec c) ⊢ (dats p c).Φ 0 := by
    rw [hpf, hΦ]
    iintro ⟨-, -, Hr⟩
    iexact Hr
  have hout : iprop((dats p c).Φ (Fin.last (pcfg).N) ∗ cellsSems0 (pin pcs a) p c ∗ Dat.staging (pcfg) c ∗ idleSems0 (pin pcs a) phinj p ho c)
      ⊢ iprop(BI.emp ∗ scopedSems0 (c.tc : Thread 8 τ) ∗ scopedBufs (c.tc : Thread 8 τ)) := by
    rw [hsb, hss, hΦ]
    iintro ⟨Hr, Hc, Hst, Hi⟩
    isplitr; · iempintro
    isplitl [Hc Hi]
    · isplitl [Hc]
      · isplitl [Hc]; · iexact Hc
        iempintro
      · iexact Hi
    isplitl [Hst] <;> iassumption
  have harrs (f) : (dats p c).arrays f = held pcs a p c f := arrays_eq (pin pcs a) dats p c harr ((dats p c).share_full hq) f
  iintro ⟨Ha, ⟨%W, HO⟩, Hg, Hs, Hb⟩ Hk
  ihave Hs' := (Entails.of_eq hss) $$ Hs
  icases Hs' with ⟨⟨Hc, -⟩, Hi⟩
  unfold ghost
  icases Hg with ⟨Hg, Ht⟩
  iapply (fupd_wp frame (wpE 𝔻 𝕍 (c.tc : Thread 8 τ) none) Set.univ _ _)
  imod (cellsInit_alloc (pin pcs a) dats (EP (Val := Val)) phinj p c) $$ [Hc Hg] with ⟨%κ, -, Hinit⟩
  · isplitl [Hc] <;> iassumption
  imodintro
  iapply (wp_customCall_entry_frame pcs a dats () (EP (Val := Val)) κ phinj p defs₀ 𝒱₀
    (fun _ => fullShare) c Set.univ (fun _ _ => Set.mem_univ _) hbody hne
    none (fun u h => nomatch h) (Entails.of_eq hsb) hin hout (k := k) (Q := Q)) $$ [Ha HO Hinit Ht Hi Hb]
  · isplitl [Ha HO Hinit Ht]
    · unfold EntryPre PerCore.EntryPre Dat.owesAt owesWithin
      rw [howed, harrs]
      isplitl [Ha]; · iexact Ha
      isplitl [HO]
      · iexists W; isplitr; · ipureintro; exact fun x _ => Or.inl (by rw [hrec]; trivial)
        iexact HO
      isplitr; · iapply (cellsWaits_of_owed_zero (pin pcs a) dats () p c howed); iempintro
      isplitl [Hinit] <;> iassumption
    rw [hpf]
    isplitr; · iempintro
    isplitr; · iempintro
    isplitl [Hi] <;> iassumption
  · unfold EntryPost PerCore.EntryPost Dat.owesAt owesWithin
    rw [howed, harrs]
    iintro ⟨⟨Ha, ⟨%W', -, HO⟩⟩, -, Hs, Hb⟩
    iapply Hk
    isplitl [Ha]; · iexact Ha
    isplitl [HO]; · iexists W'; iexact HO
    isplitl [Hs] <;> iassumption

theorem first_of (A B : sProp 𝕄) : iprop(A ∗ B) ⊢ A := by
  iintro ⟨H, -⟩
  iexact H

/-- The launch's ghost state of all regions holds this region's on every device. -/
theorem ghost_all : BI.own ((EP (Val := Val)) (initOf (cells (pin pcs a) phinj) (launchToks (pin pcs a) phinj)))
    ⊢ (iprop(|==> bigSep Finset.univ fun c : Dev 8 => ghost pcs a p c) : sProp 𝕄) := by
  have h1 : (bigSep Finset.univ fun c : Dev 8 => bigSep Finset.univ fun p' => cellsGhost (pin pcs a) (EP (Val := Val)) p' c : sProp 𝕄)
      ⊢ bigSep Finset.univ fun c : Dev 8 => cellsGhost (pin pcs a) (EP (Val := Val)) p c := bigSep_mono fun c _ => by
    rw [bigSep_erase (Finset.mem_univ p)]; exact first_of _ _
  have h2 : (bigSep Finset.univ fun c : Dev 8 => bigSep Finset.univ fun p' => toksInit (pin pcs a) (EP (Val := Val)) p' c : sProp 𝕄)
      ⊢ bigSep Finset.univ fun c : Dev 8 => toksInit (pin pcs a) (EP (Val := Val)) p c := bigSep_mono fun c _ => by
    rw [bigSep_erase (Finset.mem_univ p)]; exact first_of _ _
  iintro H
  imod (fund_ghost (pin pcs a) (EP (Val := Val)) phinj) $$ H with ⟨Hg, Ht⟩
  imodintro
  unfold ghost
  simp only [bigSep_sep']
  isplitl [Hg]
  · iapply h1; iexact Hg
  · iapply h2; iexact Ht

end Cert.Staged

end
-- ==== Proof.Update.lean ====
/-
  The update of the packed rows: the region after the exchange. It walks the 7168 rows in 28 blocks of 256: it adds the
  eight arrived blocks of partial gradients, moves the two running averages on, and writes the sum, the step and both
  averages. Here: what a point leaves in each staging buffer, from the blocks staged for it, and that the body does so, from
  any contents of the arrays.
-/
module

public import proofs.«01_k».proof.Proof.Staged
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.Update

open Cert.KernelIdeal Cert.KernelIdeal.Gen Cert.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
-- what every device's buffers hold when the region is entered
variable (V : (c : Dev nD) → (b : Ref sig .tc) → Buf (Elt F) ((c : Thread nD τ).loc b))

local notation "𝕄" => MT nD τ sig Unit (Elt F) ℕ (UU τ sig) ℕ

/-! ## The blocks a point works on -/

/-- Window `w`'s block at point `t`, off its array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Row `s` of the eight blocks of partial gradients, and a whole block of any other window. -/
abbrev r_0 : Rect S8x256x1024 := Rect.unit (s := S8x256x1024) ![0, 0, 0] S1x256x1024.size inb_S8x256x1024_S1x256x1024_0_0_0
abbrev r_1 : Rect S8x256x1024 := Rect.unit (s := S8x256x1024) ![1, 0, 0] S1x256x1024.size inb_S8x256x1024_S1x256x1024_1_0_0
abbrev r_2 : Rect S8x256x1024 := Rect.unit (s := S8x256x1024) ![2, 0, 0] S1x256x1024.size inb_S8x256x1024_S1x256x1024_2_0_0
abbrev r_3 : Rect S8x256x1024 := Rect.unit (s := S8x256x1024) ![3, 0, 0] S1x256x1024.size inb_S8x256x1024_S1x256x1024_3_0_0
abbrev r_4 : Rect S8x256x1024 := Rect.unit (s := S8x256x1024) ![4, 0, 0] S1x256x1024.size inb_S8x256x1024_S1x256x1024_4_0_0
abbrev r_5 : Rect S8x256x1024 := Rect.unit (s := S8x256x1024) ![5, 0, 0] S1x256x1024.size inb_S8x256x1024_S1x256x1024_5_0_0
abbrev r_6 : Rect S8x256x1024 := Rect.unit (s := S8x256x1024) ![6, 0, 0] S1x256x1024.size inb_S8x256x1024_S1x256x1024_6_0_0
abbrev r_7 : Rect S8x256x1024 := Rect.unit (s := S8x256x1024) ![7, 0, 0] S1x256x1024.size inb_S8x256x1024_S1x256x1024_7_0_0
abbrev r_8 : Rect S256x1024 := Rect.unit (s := S256x1024) ![0, 0] S256x1024.size inb_S256x1024_S256x1024_0_0

variable (x0 : Vec F S8x256x1024 .f32) (x1 x2 x3 : Vec F S256x1024 .f32)

/-- The summed gradient, the new first average, the new second average and the step, as the body's payloads spell them. -/
def gsum : FVec F S256x1024 .f32 :=
  k1_pay3 (View.ld x0 r_0) (View.ld x0 r_1) (View.ld x0 r_2) (View.ld x0 r_3) (View.ld x0 r_4) (View.ld x0 r_5) (View.ld x0 r_6) (View.ld x0 r_7)
def first : FVec F S256x1024 .f32 :=
  k1_pay4 (View.ld x0 r_0) (View.ld x0 r_1) (View.ld x0 r_2) (View.ld x0 r_3) (View.ld x0 r_4) (View.ld x0 r_5) (View.ld x0 r_6) (View.ld x0 r_7) (View.ld x2 r_8)
def second : FVec F S256x1024 .f32 := k1_pay1 (gsum x0) (View.ld x3 r_8)
def step : FVec F S256x1024 .f32 := k1_pay2 (gsum x0) (first x0 x2) (View.ld x3 r_8) (View.ld x1 r_8)

/-- A staging buffer after the one store that covers it. -/
def stored (p : FVec F S256x1024 .f32) : Vec F S256x1024 .f32 := View.canon [⟨r_8, p⟩]

theorem stored_covers (p : Vec F S256x1024 .f32) (y : S256x1024.Idx) :
    ∃ pc ∈ ([⟨r_8, p⟩] : List (View.Piece (Elt F) S256x1024 .f32)), y ∈ pc.1.set :=
  View.cover_of_tiled [⟨r_8, p⟩] S256x1024.size (by rfl) y

/-! ## The body -/

variable (𝒱₀ : Variants)

set_option maxHeartbeats 1000000 in
/-- The body, on whole staging memrefs: the four inputs as they were, the four outputs stored. -/
theorem kernel (c : Dev nD) (E : Set ℕ) (i : grid1.Coords) (arg1 : Memref sig .tc .vmem S8x256x1024 .f32) (harg1 : arg1.IsWhole)
    (arg2 : Memref sig .tc .vmem S256x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1024 .f32) (harg5 : arg5.IsWhole)
    (arg6 : Memref sig .tc .vmem S256x1024 .f32) (harg6 : arg6.IsWhole) (arg7 : Memref sig .tc .vmem S256x1024 .f32) (harg7 : arg7.IsWhole)
    (arg8 : Memref sig .tc .vmem S256x1024 .f32) (harg8 : arg8.IsWhole) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored (gsum x0))
            ∗ owns (c : Thread nD τ) arg6 fullShare (stored (step x0 x1 x2 x3)) ∗ owns (c : Thread nD τ) arg7 fullShare (stored (first x0 x2))
            ∗ owns (c : Thread nD τ) arg8 fullShare (stored (second x0 x3))) -∗ K ⟨⟩))
      ⊢ wp frame (wpE (defs₀ (F := F)) 𝒱₀ c none) E (cc1_adamw i arg1 harg1 arg2 harg2 arg3 harg3 arg4 harg4 arg5 harg5 arg6 harg6 arg7 harg7 arg8 harg8) K := by
  simp only [cc1_adamw_eq_skeleton]; unfold cc1_adamw_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (stored_covers _)).trans rfl
  isplitl [H5]
  · iexists _; isplitr
    swap; · iexact H5
    ipureintro
    exact (View.read_writes_eq_canon _ _ _ (stored_covers _)).trans rfl
  isplitl [H6]
  · iexists _; isplitr
    swap; · iexact H6
    ipureintro
    exact (View.read_writes_eq_canon _ _ _ (stored_covers _)).trans rfl
  iexists _; isplitr
  swap; · iexact H7
  ipureintro
  exact (View.read_writes_eq_canon _ _ _ (stored_covers _)).trans rfl

/-! ## The proof data -/

/-- The region's proof data on device `c`: the arrays as found, each input's buffer at its block after a point, each output's
    at what the body stored; nothing owed. -/
def dat (c : Dev nD) : Dat τ (Elt F) Unit ℕ (UU τ sig) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => stored (gsum (blk V c 0 t))
    | ⟨5, _⟩ => stored (step (blk V c 0 t) (blk V c 1 t) (blk V c 2 t) (blk V c 3 t))
    | ⟨6, _⟩ => stored (first (blk V c 0 t) (blk V c 2 t))
    | ⟨7, _⟩ => stored (second (blk V c 0 t) (blk V c 3 t))
  Φ _ := Pipeline.scopedRest spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = stored (gsum (blk V c 0 t)) := by dsimp only [dat]
theorem after_5 (c : Dev nD) (t : Fin cfg1.N) :
    (dat V c).after 5 t = stored (step (blk V c 0 t) (blk V c 1 t) (blk V c 2 t) (blk V c 3 t)) := by dsimp only [dat]
theorem after_6 (c : Dev nD) (t : Fin cfg1.N) : (dat V c).after 6 t = stored (first (blk V c 0 t) (blk V c 2 t)) := by dsimp only [dat]
theorem after_7 (c : Dev nD) (t : Fin cfg1.N) : (dat V c).after 7 t = stored (second (blk V c 0 t) (blk V c 3 t)) := by dsimp only [dat]

/-- An input's staging buffer holds its block when a point starts. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-! ## The body at a point -/

def pre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def post (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem point (c : Dev nD) (t : Fin cfg1.N) :
    pre V c t ⊢ wp frame (wpE (defs₀ (F := F)) 𝒱₀ c none) Set.univ (bodyAt1 t) (fun _ => post V c t) := by
  unfold pre post bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel (blk V c 0 t) (blk V c 1 t) (blk V c 2 t) (blk V c 3 t) 𝒱₀ c Set.univ (grid1.coords t) _ _ _ _ _ _ _ _ _ _ _ _ _ _ _ _ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin cfg1.N) : defs₀ (F := F) .tc cfg1.body (cfg1.bodyArgs t (cfg1.slots t)) = bodyAt1 t := by
  unfold defs₀; rw [Defs.onTc_tc]

/-- The body obligation of the region. -/
theorem body (c : Dev nD) : BodyObligation (dat (F := F) V c) (defs₀ (F := F)) 𝒱₀ () Set.univ := fun t => by
  rw [bigSep_W1, bigSep_W1, row]
  exact triple_restated (point V 𝒱₀ c t) rfl .rfl fun _ => .rfl

end Cert.Update

end
-- ==== Proof.Run.lean ====
/-
  The run of the exchange followed by the update of the rows, for any float values: from any memory with every counter at zero
  it terminates, every counter reads zero, the arguments are as they were, and the four results are what the update's
  write-backs leave when it starts from the rows that arrived: row `r` on device `c` is block `c` of device `r`'s argument.
-/
module

public import proofs.«01_k».proof.Proof.Exchange
public import proofs.«01_k».proof.Proof.Region
public import proofs.«01_k».proof.Proof.Staged
public import proofs.«01_k».proof.Proof.Update

@[expose] public section

set_option maxRecDepth 16384

noncomputable section

namespace Cert.Exchange

open Cert.KernelIdeal Cert.KernelIdeal.Gen Cert.Proto Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (initOf)

variable {F : FTy → Type} [FloatOps F]
variable (m : (ℓ : Loc nD τ sig) → Buf (Elt F) ℓ) (ρ : Dev nD → PrngReg)

abbrev 𝒱₀ : Variants := Variants.nat

local notation "𝕄" => MT nD τ sig Unit (Elt F) ℕ (UU τ sig) ℕ

theorem arg_rows (c : Fin 8) (f : Buf (Elt F) ((Dev.tc c : Thread nD τ).loc main_arg0)) :
    ((((Dev.tc c : Thread nD τ).loc main_arg0) ↦{fullShare} f : sProp 𝕄))
      = bigSep Finset.univ fun r => ((argRow r).view.loc (Dev.tc c : Thread nD τ) ↦[(argRow r).view.set]{fullShare} f) :=
  whole_rows (Memref.whole main_arg0) squeezes_S1x7168x1024_S7168x1024 (View.set_whole _) c fullShare f

theorem out_rows (c : Fin 8) (f : Buf (Elt F) ((Dev.tc c : Thread nD τ).loc main_v1)) :
    ((((Dev.tc c : Thread nD τ).loc main_v1) ↦{fullShare} f : sProp 𝕄))
      = bigSep Finset.univ fun r => ((outRow r).view.loc (Dev.tc c : Thread nD τ) ↦[(outRow r).view.set]{fullShare} f) :=
  whole_rows (Memref.whole main_v1) squeezes_S1x7168x1024_S7168x1024 (View.set_whole _) c fullShare f

theorem ownSemFacts : Pipeline.OwnSemFacts cfg0.spec fun i : Cell => SemLoc.dma (osem i) := by decide

theorem src_eq (c r : Fin 8) : (plan m).srcPts c r
    = ((argRow r).view.loc (Dev.tc c : Thread nD τ) ↦[(argRow r).view.set]{fullShare} arg m c : sProp 𝕄) := rfl
theorem dst_eq (c r : Fin 8) (f : Buf (Elt F) ((Dev.tc c : Thread nD τ).loc main_v1)) : (plan m).dstPts c r f
    = ((outRow r).view.loc (Dev.tc c : Thread nD τ) ↦[(outRow r).view.set]{fullShare} f : sProp 𝕄) := rfl

/-- All the blocks of a device are its argument, all the rows its result. -/
theorem src_all (c : Fin 8) : (bigSep Finset.univ fun r => (plan m).srcPts c r)
    = ((((Dev.tc c : Thread nD τ).loc main_arg0) ↦{fullShare} arg m c : sProp 𝕄)) := by
  rw [arg_rows]; exact bigSep_congr fun r _ => src_eq m c r
theorem dst_all (c : Fin 8) (f : Buf (Elt F) ((Dev.tc c : Thread nD τ).loc main_v1)) : (bigSep Finset.univ fun r => (plan m).dstPts c r f)
    = ((((Dev.tc c : Thread nD τ).loc main_v1) ↦{fullShare} f : sProp 𝕄)) := by
  rw [out_rows]; exact bigSep_congr fun r _ => dst_eq m c r f

theorem dst_some (c : Fin 8) (f : Buf (Elt F) ((Dev.tc c : Thread nD τ).loc main_v1)) :
    (bigSep Finset.univ fun r => (plan m).dstPts c r f) ⊢ bigSep Finset.univ fun r => iprop(∃ f, (plan m).dstPts c r f) :=
  bigSep_mono fun r _ => exists_intro (Φ := fun f => (plan m).dstPts c r f) f

/-- What the regions leave alone until the update: the other arguments and the results. -/
def rest (c : Dev nD) : sProp 𝕄 :=
  iprop((((Dev.tc c : Thread nD τ).loc main_arg1) ↦{fullShare} m ((Dev.tc c : Thread nD τ).loc main_arg1))
    ∗ (((Dev.tc c : Thread nD τ).loc main_arg2) ↦{fullShare} m ((Dev.tc c : Thread nD τ).loc main_arg2))
    ∗ (((Dev.tc c : Thread nD τ).loc main_arg3) ↦{fullShare} m ((Dev.tc c : Thread nD τ).loc main_arg3))
    ∗ (((Dev.tc c : Thread nD τ).loc main_v2_0) ↦{fullShare} m ((Dev.tc c : Thread nD τ).loc main_v2_0))
    ∗ (((Dev.tc c : Thread nD τ).loc main_v2_1) ↦{fullShare} m ((Dev.tc c : Thread nD τ).loc main_v2_1))
    ∗ (((Dev.tc c : Thread nD τ).loc main_v2_2) ↦{fullShare} m ((Dev.tc c : Thread nD τ).loc main_v2_2))
    ∗ (((Dev.tc c : Thread nD τ).loc main_v2_3) ↦{fullShare} m ((Dev.tc c : Thread nD τ).loc main_v2_3)))

/-- A device's buffers at launch: the blocks it sends, the rows that will arrive and the rest. -/
theorem bufs (c : Dev nD) : (unscopedBufs c (fun b => m ((Dev.tc c : Thread nD τ).loc b)) : sProp 𝕄)
    ⊢ iprop((bigSep Finset.univ fun r => (plan m).srcPts c r) ∗ (bigSep Finset.univ fun r => iprop(∃ f, (plan m).dstPts c r f)) ∗ rest m c) := by
  rw [Pipeline.unscopedBufs_split cfgs 0 winFacts0.arr_unscoped winFacts0.arr_inj c,
    show Pipeline.unscopedRest (cfgs 0).spec c _ = _ from unscopedRest0_eq c _, src_all]
  unfold rest
  iintro ⟨-, Ha, H1, H2, H3, Ho, Hr⟩
  isplitl [Ha]; · iexact Ha
  isplitl [Ho]
  · iapply (dst_some m c (m ((Dev.tc c : Thread nD τ).loc main_v1)))
    rw [dst_all]; iexact Ho
  isplitl [H1]; · iexact H1
  isplitl [H2]; · iexact H2
  isplitl [H3]; · iexact H3
  iexact Hr

/-- The buffers when the update starts: as launched, but for the rows that arrived. -/
def V (c : Dev nD) : (b : Ref sig .tc) → Buf (Elt F) ((c : Thread nD τ).loc b) :=
  Function.update (fun b => m ((c : Thread nD τ).loc b)) main_v1 (out m c)

abbrev pcs : (p : Fin 2) → Pipeline.PCfg sig Λ₀ (Elt F) := fun p => (cfgs p).toPCfg
abbrev adm : (p : Fin 2) → (pcs (F := F) p).Adm := fun p => (cfgs p).toPCfg_adm

/-- The two regions' proof data. -/
def dats : (p : Fin 2) → (c : Dev nD) → Pipeline.Dat τ (Elt F) Unit ℕ (UU τ sig) ℕ (Pipeline.pin (pcs (F := F)) adm p) c
  | 0 => fun c => Proto.dat (plan m) cfg0 c
  | 1 => fun c => Update.dat (V m) c
  | ⟨_ + 2, h⟩ => absurd h (Nat.not_lt.2 (Nat.le_add_left _ _))

/-- The update's arrays one by one. -/
theorem held_eq (c : Dev nD) (f : (w : Fin 8) → Buf (Elt F) ((spec1 w).arr.view.loc (Dev.tc c : Thread nD τ))) :
    (Staged.held (pcs (F := F)) adm 1 c f : sProp 𝕄)
      = iprop((((Dev.tc c : Thread nD τ).loc main_v1) ↦{fullShare} f 0) ∗ (((Dev.tc c : Thread nD τ).loc main_arg1) ↦{fullShare} f 1)
        ∗ (((Dev.tc c : Thread nD τ).loc main_arg2) ↦{fullShare} f 2) ∗ (((Dev.tc c : Thread nD τ).loc main_arg3) ↦{fullShare} f 3)
        ∗ (((Dev.tc c : Thread nD τ).loc main_v2_0) ↦{fullShare} f 4) ∗ (((Dev.tc c : Thread nD τ).loc main_v2_1) ↦{fullShare} f 5)
        ∗ (((Dev.tc c : Thread nD τ).loc main_v2_2) ↦{fullShare} f 6) ∗ (((Dev.tc c : Thread nD τ).loc main_v2_3) ↦{fullShare} f 7)) :=
  bigSep_W1 _

theorem V_rows (c : Dev nD) : V m c main_v1 = out m c := Function.update_self ..
theorem V_rest (c : Dev nD) (b : Ref sig .tc) (h : b ≠ main_v1) : V m c b = m ((Dev.tc c : Thread nD τ).loc b) := Function.update_of_ne h ..

/-- The rows that arrived and the rest are the update's arrays. -/
theorem arrays (c : Dev nD) : iprop((((Dev.tc c : Thread nD τ).loc main_v1) ↦{fullShare} out m c) ∗ rest m c)
    ⊢ (Staged.held (pcs (F := F)) adm 1 c (dats m 1 c).A : sProp 𝕄) := by
  have e (w : Fin 8) : (dats m 1 c).A w = V m c (Pipeline.arrRef spec1 w) := Update.A_eq (V m) c w
  rw [held_eq, e 0, e 1, e 2, e 3, e 4, e 5, e 6, e 7,
    show V m c (Pipeline.arrRef spec1 0) = out m c from V_rows m c,
    show V m c (Pipeline.arrRef spec1 1) = _ from V_rest m c main_arg1 (by decide),
    show V m c (Pipeline.arrRef spec1 2) = _ from V_rest m c main_arg2 (by decide),
    show V m c (Pipeline.arrRef spec1 3) = _ from V_rest m c main_arg3 (by decide),
    show V m c (Pipeline.arrRef spec1 4) = _ from V_rest m c main_v2_0 (by decide),
    show V m c (Pipeline.arrRef spec1 5) = _ from V_rest m c main_v2_1 (by decide),
    show V m c (Pipeline.arrRef spec1 6) = _ from V_rest m c main_v2_2 (by decide),
    show V m c (Pipeline.arrRef spec1 7) = _ from V_rest m c main_v2_3 (by decide)]
  unfold rest
  exact .rfl

/-- What the final memory holds on device `c`: the update's arrays as its write-backs left them, and the argument sent. -/
def QY (c : Fin 8) (s : MemSt nD τ sig (Elt F)) : Prop :=
  (∀ w : Fin 8, s.mem ((Dev.tc c : Thread nD τ).loc (Pipeline.arrRef spec1 w)) = (Update.dat (V m) c).arrAt w cfg1.N)
    ∧ s.mem ((Dev.tc c : Thread nD τ).loc main_arg0) = arg m c

def fin (c : Fin 8) : sProp 𝕄 :=
  iprop((((Dev.tc c : Thread nD τ).loc main_arg0) ↦{fullShare} arg m c)
    ∗ Staged.held (pcs (F := F)) adm 1 c ((dats m 1 c).arrAt · cfg1.N))

theorem reads (c : Fin 8) (s' : Phys nD τ sig (Elt F)) :
    iprop(fin m c ∗ SI s') ⊢ |={Set.univ}=> (iprop(⌜QY m c s'.mem⌝ ∗ SI s') : sProp 𝕄) := by
  unfold fin Staged.held
  iintro ⟨⟨Ha, Hh⟩, HSI⟩
  ihave %ha := (SI_pointsTo_agree) $$ [HSI Ha]
  · isplitl [HSI] <;> iassumption
  ihave Hr := (pointsTo_read_all Finset.univ (fun w : Fin 8 => (Dev.tc c : Thread nD τ).loc (Pipeline.arrRef spec1 w))
      (fun w => (dats m 1 c).arrAt w cfg1.N) s') $$ [Hh HSI]
  · isplitl [Hh] <;> iassumption
  icases Hr with ⟨%hr, HSI⟩
  imodintro
  isplitr
  · ipureintro
    exact ⟨fun w => hr w (Finset.mem_univ w), funext fun i => ha i (Finset.mem_univ i)⟩
  · iexact HSI

theorem noW : IsEmpty (Fin (Pipeline.pin (pcs (F := F)) adm 0).W) := inferInstanceAs (IsEmpty (Fin 0))
theorem noK (p : Fin 2) : IsEmpty (Fin (pcs (F := F) p).pre.K) := inferInstanceAs (IsEmpty (Fin 0))

/-- What a device starts from: its share of the exchange, the rest of its buffers, and the update's cells. -/
def start (c : Fin 8) : sProp 𝕄 :=
  iprop(opened (pcs (F := F)) adm (plan m) cellOf_inj 0 winFacts0.to₀ ownSemFacts (rest m) c ∗ Staged.ghost (pcs (F := F)) adm 1 c)

theorem launch : iprop((bigSep Finset.univ fun c : Dev 8 => MeshStart.held (plan m).O₀ m c)
      ∗ ownU (initOf (Pipeline.cells (Pipeline.pin (pcs (F := F)) adm) cellOf_inj) (Pipeline.launchToks (Pipeline.pin (pcs (F := F)) adm) cellOf_inj),
        initOf (plan m).cells (plan m).duties₀))
    ⊢ |={Set.univ}=> (bigSep Finset.univ fun c : Dev 8 => start m c : sProp 𝕄) := by
  iintro ⟨Hh, Hu⟩
  ihave H := (ownU_pair _ _) $$ Hu
  icases H with ⟨HP, HX⟩
  imod (Staged.ghost_all (pcs (F := F)) adm cellOf_inj 1) $$ HP with Hg
  imod (open_all (pcs (F := F)) adm (plan m) cellOf_inj 0 noW winFacts0.to₀ ownSemFacts m (rest m) (bufs m)) $$ [Hh HX] with Ho
  · isplitl [Hh] <;> iassumption
  imodintro
  unfold start
  simp only [bigSep_sep']
  isplitl [Ho] <;> iassumption

/-- The proof data of the update among the two. -/
theorem dats_one (c : Dev nD) : dats m 1 c = Update.dat (V m) c := rfl

theorem body_one (c : Dev nD) : Pipeline.BodyObligationLoose (dats m 1 c) (defs₀ (F := F)) 𝒱₀ () Set.univ :=
  (Update.body (V m) 𝒱₀ c).loose
theorem q_one (c : Dev nD) (w : Fin 8) : (dats m 1 c).q w = fullShare := rfl
theorem owed_one (c : Dev nD) (t : Fin (cfg1.N + 1)) : (dats m 1 c).owed t = 0 := rfl
theorem recorded_one (c : Dev nD) (t : Fin (cfg1.N + 1)) : (dats m 1 c).recorded t = Set.univ := rfl
theorem Φ_one (c : Dev nD) (t : Fin (cfg1.N + 1)) : (dats m 1 c).Φ t = Pipeline.scopedRest spec1 c := rfl

theorem main_two (c : Dev nD) : main (F := F) c
    = .op (.customCall (Pipeline.entry 0) ()) fun _ => .op (.customCall (Pipeline.entry 1) ()) fun _ => .ret ⟨⟩ :=
  (main_chain c).trans rfl

/-- A device's run: the exchange, then the update. -/
theorem core (c : Dev nD) : start m c ⊢ wp frame (wpE defs (Variants.lift 𝒱₀) (c.tc : Thread nD τ) none) Set.univ (main (F := F) c)
    fun _ => (iprop((fin m c ∗ scopedSems0 (c.tc : Thread nD τ)) ∗ ∃ W, owes (c.tc : Thread nD τ) (0 : CellTallies nD τ sig Unit) W) : sProp 𝕄) := by
  rw [main_two]
  unfold start opened
  iintro ⟨⟨Hs, HO, Hi, Hb, -, Hr⟩, Hg⟩
  iapply (enter (pcs (F := F)) adm (plan m) cellOf_inj 0 defs₀ 𝒱₀ noW rfl (noK 0) winFacts0.to₀ ownSemFacts c
    (fun κ _ => body m 𝒱₀ κ c _ _ .rfl)) $$ [Hs HO Hi Hb]
  · isplitl [Hs]; · iexact Hs
    isplitl [HO]; · iexact HO
    isplitl [Hi] <;> iassumption
  iintro ⟨⟨Hl, HW⟩, Hss, Hb⟩
  unfold Plan.left
  rw [src_all, show (bigSep Finset.univ fun r => (plan m).dstPts c r ((plan m).fo c r) : sProp 𝕄) = _ from dst_all m c (out m c)]
  icases Hl with ⟨Ha, Ho⟩
  ihave Harr := (arrays m c) $$ [Ho Hr]
  · isplitl [Ho] <;> iassumption
  iapply (Staged.enter (pcs (F := F)) adm (dats m) cellOf_inj 1 defs₀ 𝒱₀ (noK 1) winFacts1 block_pos1 arr_whole1 stage_whole1 c
    (body_one m c) (q_one m c) (owed_one m c) (recorded_one m c) (Φ_one m c)) $$ [Harr HW Hg Hss Hb]
  · isplitl [Harr]; · iexact Harr
    isplitl [HW]; · iexact HW
    isplitl [Hg]; · iexact Hg
    isplitl [Hss] <;> iassumption
  iintro ⟨Hh, HW, Hss, -⟩
  rw [wp_ret]
  imodintro
  isplitr [HW]
  · isplitl [Ha Hh]
    · unfold fin
      isplitl [Ha] <;> iassumption
    · iexact Hss
  · iexact HW

theorem run_main : θ_run defs (onTc (τ := τ) (main (F := F))) ⟨m, fun _ => 0, ρ⟩
    (fun r => (∀ c, QY m c r.2) ∧ r.2.sem = fun _ => 0) :=
  MeshStart.start_run defs (Variants.lift 𝒱₀) m ρ main (plan m).O₀ _ (start m) (fin m) (launch m) (core m) (QY m) (reads m)
    (fun _ h hs => ⟨h, sem_eq_zero_of_scoped (by decide) hs⟩)

end Cert.Exchange

end
-- ==== Proof.Value.lean ====
/-
  What the update leaves in its four result arrays, element by element: the sum of the eight rows, in the order of the rows,
  the two running averages moved on by it, and the step. The blocks of 256 rows tile the arrays, and a block's element is the
  same function of the same elements.
-/
module

public import Idealize.ShloMosaic.Lib.Pipeline.Value
public import Idealize.ShloMosaic.Lib.Pipeline.ValueKit
public import Idealize.ShloMosaic.Lib.ValueIdxCore
public import proofs.«01_k».proof.Proof.Update

@[expose] public section

set_option maxRecDepth 16384

noncomputable section

namespace Cert.Update

open Cert.KernelIdeal Cert.KernelIdeal.Gen Cert.Proto
open Idealize.ShloMosaic Idealize.ShloMosaic.TcCoe
open Idealize.ShloMosaic.Pipeline (Dat)

variable {F : FTy → Type} [FloatOps F]

/-! ## The update of arrays of any shape -/

section
variable {s t : Shape}

/-- Eight arrays added up from the left. -/
def sum8 (p : Fin 8 → FVec F s .f32) : FVec F s .f32 :=
  addf (addf (addf (addf (addf (addf (addf (p 0) (p 1)) (p 2)) (p 3)) (p 4)) (p 5)) (p 6)) (p 7)

/-- The first average moved on by the gradient. -/
def firstOf (g m : FVec F s .f32) : FVec F s .f32 :=
  addf (mulf (broadcast s (Scalar.ofBits .f32 0x3F666666#32)) m) (mulf (broadcast s (Scalar.ofBits .f32 0x3DCCCCCD#32)) g)

/-- The second average moved on by the gradient's square. -/
def secondOf (g v : FVec F s .f32) : FVec F s .f32 :=
  addf (mulf (broadcast s (Scalar.ofBits .f32 0x3F7FBE77#32)) v) (mulf (broadcast s (Scalar.ofBits .f32 0x3A83126F#32)) (mulf g g))

/-- The step, from the new averages `m` and `v` and the weights `w`. -/
def stepOf (m v w : FVec F s .f32) : FVec F s .f32 :=
  mulf (broadcast s (Scalar.ofBits .f32 0xBA83126F#32))
    (addf (divf (divf m (broadcast s (Scalar.ofBits .f32 0x3F26BD02#32)))
        (addf (sqrt (divf v (broadcast s (Scalar.ofBits .f32 0x3C231ACC#32)))) (broadcast s (Scalar.ofBits .f32 0x322BCC77#32))))
      (mulf (broadcast s (Scalar.ofBits .f32 0x3C23D70A#32)) w))

/-- Each is the same function of its arguments' elements. -/
theorem sum8_at {p : Fin 8 → FVec F s .f32} {p' : Fin 8 → FVec F t .f32} {y : s.Idx} {i : t.Idx} (h : ∀ k, p k y = p' k i) :
    sum8 p y = sum8 p' i := by
  simp only [sum8, addf, h]
theorem firstOf_at {g m : FVec F s .f32} {g' m' : FVec F t .f32} {y : s.Idx} {i : t.Idx} (hg : g y = g' i) (hm : m y = m' i) :
    firstOf g m y = firstOf g' m' i := by
  simp only [firstOf, addf, mulf, broadcast, hg, hm]
theorem secondOf_at {g v : FVec F s .f32} {g' v' : FVec F t .f32} {y : s.Idx} {i : t.Idx} (hg : g y = g' i) (hv : v y = v' i) :
    secondOf g v y = secondOf g' v' i := by
  simp only [secondOf, addf, mulf, broadcast, hg, hv]
theorem stepOf_at {m v w : FVec F s .f32} {m' v' w' : FVec F t .f32} {y : s.Idx} {i : t.Idx} (hm : m y = m' i) (hv : v y = v' i)
    (hw : w y = w' i) : stepOf m v w y = stepOf m' v' w' i := by
  simp only [stepOf, addf, mulf, divf, sqrt, broadcast, hm, hv, hw]

end

/-! ## The body's payloads -/

theorem hz2 : (![0, 0] : Fin 2 → Nat) = fun _ => 0 := funext fun a => by fin_cases a <;> rfl

/-- The one store covers the staging buffer. -/
theorem stored_eq (p : FVec F S256x1024 .f32) : stored p = p := by
  unfold stored
  rw [View.canon_unit_zero hz2]

/-- Row `k` of the eight staged blocks. -/
def rowOf (x0 : Vec F S8x256x1024 .f32) (k : Fin 8) : FVec F S256x1024 .f32 := fun y => x0 (ValueIdx.ix3 k (y 0) (y 1))

theorem row_at (x0 : Vec F S8x256x1024 .f32) (k : Fin 8) (inb) (y : S256x1024.Idx) :
    shapeCast S256x1024 (View.ld x0 (Rect.unit (s := S8x256x1024) ![k.val, 0, 0] S1x256x1024.size inb)) shapeCasts_S1x256x1024_S256x1024 y
      = rowOf x0 k y := by
  rw [shapeCast_apply _ _ y (ValueIdx.ix3 (n0 := 1) (n1 := 256) (n2 := 1024) 0 (y 0) (y 1)) (by
    rw [Shape.rowMajor_val_three, Shape.rowMajor_val_two]
    show (0 * 256 + (y 0).val) * 1024 + (y 1).val = (y 0).val * 1024 + (y 1).val
    omega)]
  refine congrArg x0 (funext fun a => Fin.ext ?_)
  rw [Rect.idx_unit_val]
  match a with
  | ⟨0, _⟩ => rfl
  | ⟨1, _⟩ => exact Nat.zero_add _
  | ⟨2, _⟩ => exact Nat.zero_add _

variable (x0 : Vec F S8x256x1024 .f32) (x1 x2 x3 : Vec F S256x1024 .f32)

theorem gsum_eq : gsum x0 = sum8 (rowOf x0) := by
  have e (k : Fin 8) (inb) := funext (row_at x0 k inb)
  exact congrArg₂ addf (congrArg₂ addf (congrArg₂ addf (congrArg₂ addf (congrArg₂ addf (congrArg₂ addf (congrArg₂ addf (e 0 _) (e 1 _))
    (e 2 _)) (e 3 _)) (e 4 _)) (e 5 _)) (e 6 _)) (e 7 _)

/-- A whole staged block, loaded. -/
theorem loaded (x : Vec F S256x1024 .f32) : shapeCast S256x1024 (View.ld x r_8) shapeCasts_S256x1024_S256x1024 = x :=
  (shapeCast_self _ _).trans (View.ld_unit_zero hz2 _ x)

theorem first_eq : first x0 x2 = firstOf (gsum x0) x2 := congrArg (firstOf (gsum x0)) (loaded x2)
theorem second_eq : second x0 x3 = secondOf (gsum x0) x3 := congrArg (secondOf (gsum x0)) (loaded x3)
theorem step_eq : step x0 x1 x2 x3 = stepOf (first x0 x2) (second x0 x3) x1 := congrArg (stepOf (first x0 x2) (second x0 x3)) (loaded x1)

/-! ## The arrays -/

variable (V : (c : Dev nD) → (b : Ref sig .tc) → Buf (Elt F) ((c : Thread nD τ).loc b))

/-- The arrays the update is shown to leave on device `c`. -/
def G (c : Dev nD) : FVec F S7168x1024 .f32 := sum8 fun k (i : S7168x1024.Idx) => (V c main_v1 : FVec F S8x7168x1024 .f32) (ValueIdx.ix3 k (i 0) (i 1))
def M (c : Dev nD) : FVec F S7168x1024 .f32 := firstOf (G V c) (V c main_arg2)
def S (c : Dev nD) : FVec F S7168x1024 .f32 := secondOf (G V c) (V c main_arg3)
def D (c : Dev nD) : FVec F S7168x1024 .f32 := stepOf (M V c) (S V c) (V c main_arg1)

/-- Where element `y` of block `t` lies in an array of rows. -/
def place (t : Fin cfg1.N) (y : S256x1024.Idx) : S7168x1024.Idx :=
  ValueIdx.ix2 ⟨256 * t.val + (y 0).val, by have h : t.val < 28 := N_1 ▸ t.isLt; have h0 : (y 0).val < 256 := (y 0).isLt; omega⟩ (y 1)

theorem index_0 : ∀ t : Fin grid1.N, win1_0.index t = ![0, t.val, 0] := by decide +kernel
theorem index_1 : ∀ t : Fin grid1.N, win1_1.index t = ![t.val, 0] := by decide +kernel
theorem index_2 : ∀ t : Fin grid1.N, win1_2.index t = ![t.val, 0] := by decide +kernel
theorem index_3 : ∀ t : Fin grid1.N, win1_3.index t = ![t.val, 0] := by decide +kernel
theorem index_4 : ∀ t : Fin grid1.N, win1_4.index t = ![t.val, 0] := by decide +kernel
theorem index_5 : ∀ t : Fin grid1.N, win1_5.index t = ![t.val, 0] := by decide +kernel
theorem index_6 : ∀ t : Fin grid1.N, win1_6.index t = ![t.val, 0] := by decide +kernel
theorem index_7 : ∀ t : Fin grid1.N, win1_7.index t = ![t.val, 0] := by decide +kernel

theorem emb_1 (t : Fin cfg1.N) (y : S256x1024.Idx) : (win1_1.blk t).view.emb y = place t y := by
  unfold place
  blk_ext [index_1]
theorem emb_2 (t : Fin cfg1.N) (y : S256x1024.Idx) : (win1_2.blk t).view.emb y = place t y := by
  unfold place
  blk_ext [index_2]
theorem emb_3 (t : Fin cfg1.N) (y : S256x1024.Idx) : (win1_3.blk t).view.emb y = place t y := by
  unfold place
  blk_ext [index_3]
theorem emb_4 (t : Fin cfg1.N) (y : S256x1024.Idx) : (win1_4.blk t).view.emb y = place t y := by
  unfold place
  blk_ext [index_4]
theorem emb_5 (t : Fin cfg1.N) (y : S256x1024.Idx) : (win1_5.blk t).view.emb y = place t y := by
  unfold place
  blk_ext [index_5]
theorem emb_6 (t : Fin cfg1.N) (y : S256x1024.Idx) : (win1_6.blk t).view.emb y = place t y := by
  unfold place
  blk_ext [index_6]
theorem emb_7 (t : Fin cfg1.N) (y : S256x1024.Idx) : (win1_7.blk t).view.emb y = place t y := by
  unfold place
  blk_ext [index_7]

/-- Element `y` of row `k` of the staged blocks of point `t` is element `place t y` of row `k`. -/
theorem emb_0 (t : Fin cfg1.N) (k : Fin 8) (y : S256x1024.Idx) :
    (win1_0.blk t).view.emb (ValueIdx.ix3 (n0 := 8) (n1 := 256) (n2 := 1024) k (y 0) (y 1))
      = ValueIdx.ix3 (n0 := 8) (n1 := 7168) (n2 := 1024) k (place t y 0) (place t y 1) := by
  unfold place
  blk_ext [index_0]
  show t.val * 256 + (y 0).val = 256 * t.val + (y 0).val
  omega

variable (c : Dev nD) (t : Fin cfg1.N) (y : S256x1024.Idx)

theorem row_blk (k : Fin 8) : rowOf (blk V c 0 t) k y
    = (V c main_v1 : FVec F S8x7168x1024 .f32) (ValueIdx.ix3 k (place t y 0) (place t y 1)) :=
  congrArg (V c main_v1 : FVec F S8x7168x1024 .f32) (emb_0 t k y)
theorem blk_1 : blk V c 1 t y = (V c main_arg1 : FVec F S7168x1024 .f32) (place t y) :=
  congrArg (V c main_arg1 : FVec F S7168x1024 .f32) (emb_1 t y)
theorem blk_2 : blk V c 2 t y = (V c main_arg2 : FVec F S7168x1024 .f32) (place t y) :=
  congrArg (V c main_arg2 : FVec F S7168x1024 .f32) (emb_2 t y)
theorem blk_3 : blk V c 3 t y = (V c main_arg3 : FVec F S7168x1024 .f32) (place t y) :=
  congrArg (V c main_arg3 : FVec F S7168x1024 .f32) (emb_3 t y)

theorem gsum_blk : gsum (blk V c 0 t) y = G V c (place t y) := by
  rw [gsum_eq]
  exact sum8_at fun k => row_blk V c t y k
theorem first_blk : first (blk V c 0 t) (blk V c 2 t) y = M V c (place t y) := by
  rw [first_eq]
  exact firstOf_at (gsum_blk V c t y) (blk_2 V c t y)
theorem second_blk : second (blk V c 0 t) (blk V c 3 t) y = S V c (place t y) := by
  rw [second_eq]
  exact secondOf_at (gsum_blk V c t y) (blk_3 V c t y)
theorem step_blk : step (blk V c 0 t) (blk V c 1 t) (blk V c 2 t) (blk V c 3 t) y = D V c (place t y) := by
  rw [step_eq]
  exact stepOf_at (first_blk V c t y) (second_blk V c t y) (blk_1 V c t y)

theorem final_4 : (dat V c).arrAt 4 cfg1.N = G V c := by
  refine (dat V c).arrAt_eq_of_covers 4 (G V c) (by decide +kernel) fun t _ y => ?_
  have e : (dat V c).after 4 t = gsum (blk V c 0 t) := (after_4 V c t).trans (stored_eq _)
  exact ((congrFun e y).trans (gsum_blk V c t y)).trans (congrArg (G V c) (emb_4 t y).symm)
theorem final_5 : (dat V c).arrAt 5 cfg1.N = D V c := by
  refine (dat V c).arrAt_eq_of_covers 5 (D V c) (by decide +kernel) fun t _ y => ?_
  have e : (dat V c).after 5 t = step (blk V c 0 t) (blk V c 1 t) (blk V c 2 t) (blk V c 3 t) := (after_5 V c t).trans (stored_eq _)
  exact ((congrFun e y).trans (step_blk V c t y)).trans (congrArg (D V c) (emb_5 t y).symm)
theorem final_6 : (dat V c).arrAt 6 cfg1.N = M V c := by
  refine (dat V c).arrAt_eq_of_covers 6 (M V c) (by decide +kernel) fun t _ y => ?_
  have e : (dat V c).after 6 t = first (blk V c 0 t) (blk V c 2 t) := (after_6 V c t).trans (stored_eq _)
  exact ((congrFun e y).trans (first_blk V c t y)).trans (congrArg (M V c) (emb_6 t y).symm)
theorem final_7 : (dat V c).arrAt 7 cfg1.N = S V c := by
  refine (dat V c).arrAt_eq_of_covers 7 (S V c) (by decide +kernel) fun t _ y => ?_
  have e : (dat V c).after 7 t = second (blk V c 0 t) (blk V c 3 t) := (after_7 V c t).trans (stored_eq _)
  exact ((congrFun e y).trans (second_blk V c t y)).trans (congrArg (S V c) (emb_7 t y).symm)

/-- An argument's array is never written. -/
theorem kept (w : Fin cfg1.W) (h : (cfg1.win w).isOut = false) : (dat V c).arrAt w cfg1.N = V c (Pipeline.arrRef spec1 w) :=
  ((dat V c).arrAt_in w h _).trans (A_eq V c w)

end Cert.Update

end
-- ==== Proof.Claim.lean ====
/-
  The exchange and the update of the rows against the plain reference. For the kernel, at any float values: its run with the
  four results as the arrays the update is shown to leave, the arguments unchanged. For the two together, at the extended
  reals: the launch memories holding the same arrays, device `c` is left with block `c` of each of the reference's results.
-/
module

public import proofs.«01_k».proof.Defs
public import proofs.«01_k».proof.Proof.Run
public import proofs.«01_k».proof.Proof.Value
public import proofs.«01_k».proof.Proof.Gen.ReferenceIdeal.Run
public import Idealize.ShloMosaic.Lib.Layout
public import Idealize.ShloMosaic.Lib.IdealHost
public import Idealize.ShloMosaic.Lib.Pointwise.Reduce

@[expose] public section

set_option maxRecDepth 16384

noncomputable section

namespace Cert.Exchange

open Cert.Rows
open Idealize.ShloMosaic Idealize.ShloMosaic.TcCoe Idealize.SL.Sem
open Cert.Update (sum8 firstOf secondOf stepOf)

/-! ## The kernel's run, its buffers read -/

section
open Cert.KernelIdeal Cert.KernelIdeal.Gen

variable {F : FTy → Type} [FloatOps F]
variable (m : (ℓ : Loc nD τ sig) → Buf (Elt F) ℓ) (ρ : Dev nD → PrngReg)

/-- The arguments as at launch. -/
def Same (c : Fin 8) (s : MemSt nD τ sig (Elt F)) : Prop :=
  s.mem ((Dev.tc c : Thread nD τ).loc main_arg0) = m ((Dev.tc c : Thread nD τ).loc main_arg0)
    ∧ s.mem ((Dev.tc c : Thread nD τ).loc main_arg1) = m ((Dev.tc c : Thread nD τ).loc main_arg1)
    ∧ s.mem ((Dev.tc c : Thread nD τ).loc main_arg2) = m ((Dev.tc c : Thread nD τ).loc main_arg2)
    ∧ s.mem ((Dev.tc c : Thread nD τ).loc main_arg3) = m ((Dev.tc c : Thread nD τ).loc main_arg3)

theorem same (c : Fin 8) (s : MemSt nD τ sig (Elt F)) (h : QY m c s) : Same m c s :=
  ⟨h.2, ((h.1 1).trans (Update.kept (V m) c 1 rfl)).trans (V_rest m c main_arg1 (by decide)),
    ((h.1 2).trans (Update.kept (V m) c 2 rfl)).trans (V_rest m c main_arg2 (by decide)),
    ((h.1 3).trans (Update.kept (V m) c 3 rfl)).trans (V_rest m c main_arg3 (by decide))⟩

theorem frame : θ_run defs (onTc (τ := τ) (main (F := F))) ⟨m, fun _ => 0, ρ⟩
    (fun r => (∀ c, Same m c r.2) ∧ r.2.sem = fun _ => 0) :=
  (θ_run defs _ _).mono (fun _ h => ⟨fun c => same m c _ (h.1 c), h.2⟩) (run_main m ρ)

end

/-! ## Against the reference, at the extended reals -/

/-- The whole arrays: the partial gradients, and rows. -/
abbrev Parts : Type := (⟨3, ![64, 7168, 1024]⟩ : Shape).Idx → EReal
abbrev Whole : Type := (⟨2, ![57344, 1024]⟩ : Shape).Idx → EReal

/-- The reference's results: the summed gradient, the new averages and the step. -/
def refG (x : Parts) : FVec Ideal ⟨2, ![57344, 1024]⟩ .f32 :=
  Host.reduceAdd (F := Ideal) (φ := .f32) (shapeCast ⟨3, ![8, 57344, 1024]⟩ x Cert.ReferenceIdeal.Gen.shapeCasts_S64x7168x1024_S8x57344x1024)
    (constant ⟨0, ![]⟩ .f32 0x00000000#32) Cert.ReferenceIdeal.Gen.reducesTo_S8x57344x1024_S57344x1024_d0 Cert.ReferenceIdeal.Gen.h_S_
def refM (x : Parts) (m : Whole) : FVec Ideal ⟨2, ![57344, 1024]⟩ .f32 := firstOf (refG x) m
def refS (x : Parts) (v : Whole) : FVec Ideal ⟨2, ![57344, 1024]⟩ .f32 := secondOf (refG x) v
def refD (x : Parts) (w m v : Whole) : FVec Ideal ⟨2, ![57344, 1024]⟩ .f32 := stepOf (refM x m) (refS x v) w

/-- The sum at an element: the eight partial gradients there, added from the left. -/
theorem refG_at (x : Parts) (i : (⟨2, ![57344, 1024]⟩ : Shape).Idx) :
    refG x i = sum8 (F := Ideal) (fun k (i : (⟨2, ![57344, 1024]⟩ : Shape).Idx) =>
      shapeCast ⟨3, ![8, 57344, 1024]⟩ x Cert.ReferenceIdeal.Gen.shapeCasts_S64x7168x1024_S8x57344x1024 (ValueIdx.ix3 k (i 0) (i 1))) i := by
  refine (ValueIdx.hostReduceAdd_apply _ _ _ _ i).trans ((Ideal.hostReduceAdd_r3_a0 _ _ _ i).trans ?_)
  rw [Fin.sum_univ_eight, show (constant ⟨0, ![]⟩ .f32 0x00000000#32 : FVec Ideal ⟨0, ![]⟩ .f32) _ = (0 : EReal) from Ideal.ofBits_zero_f32, zero_add]
  rfl

/-- Block `c` of device `r`'s part, among all 64. -/
def pick (r c : Fin 8) : Fin 64 := ⟨8 * r.val + c.val, by omega⟩

/-- The partial gradients of device `r` for device `c`, among all of them: the reference reads the same element. -/
theorem part_eq (x : Parts) (h : Layout.Tiles ⟨3, ![8, 7168, 1024]⟩ ⟨3, ![64, 7168, 1024]⟩ 0 8)
    (h2 : Layout.Tiles ⟨2, ![7168, 1024]⟩ ⟨2, ![57344, 1024]⟩ 0 8) (c r : Fin 8) (y : (⟨2, ![7168, 1024]⟩ : Shape).Idx) :
    x (h.idx r (ValueIdx.ix3 c (y 0) (y 1)))
      = shapeCast ⟨3, ![8, 57344, 1024]⟩ x Cert.ReferenceIdeal.Gen.shapeCasts_S64x7168x1024_S8x57344x1024
          (ValueIdx.ix3 r (h2.idx c y 0) (h2.idx c y 1)) := by
  have e : h.idx r (ValueIdx.ix3 c (y 0) (y 1)) = ValueIdx.ix3 (n0 := 64) (n1 := 7168) (n2 := 1024) (pick r c) (y 0) (y 1) := by
    funext b
    refine Fin.ext ?_
    rw [h.idx_val]
    match b with
    | ⟨0, _⟩ => exact congrArg (· + c.val) (Nat.mul_comm r.val 8)
    | ⟨1, _⟩ => rfl
    | ⟨2, _⟩ => rfl
  have e0 : (h2.idx c y 0).val = c.val * 7168 + (y 0).val := h2.idx_val c y 0
  have e1 : (h2.idx c y 1).val = (y 1).val := h2.idx_val c y 1
  refine (congrArg x e).trans (shapeCast_apply x _ _ _ ?_).symm
  rw [Shape.rowMajor_val_three, Shape.rowMajor_val_three]
  show ((8 * r.val + c.val) * 7168 + (y 0).val) * 1024 + (y 1).val = (r.val * 57344 + (h2.idx c y 0).val) * 1024 + (h2.idx c y 1).val
  rw [e0, e1]
  omega

section
open Cert.KernelIdeal Cert.KernelIdeal.Gen

variable (m : (ℓ : Loc nD τ sig) → Buf (Elt Ideal) ℓ)

theorem G_eq (x : Parts) (h : ∀ c, arg m c = Layout.block ⟨3, ![8, 7168, 1024]⟩ ⟨3, ![64, 7168, 1024]⟩ 0 8 c x) (c : Fin 8) :
    Update.G (V m) c = Layout.block ⟨2, ![7168, 1024]⟩ ⟨2, ![57344, 1024]⟩ 0 8 c (refG x) := by
  funext y
  refine Eq.trans ?_ (refG_at x _).symm
  refine Update.sum8_at fun k => ?_
  refine (congrFun (V_rows m c) _).trans ?_
  refine (congrFun (h k) _).trans ?_
  refine Eq.trans (congrArg x (congrArg _ ?_)) (part_eq x _ _ c k y)
  funext b
  match b with
  | ⟨0, _⟩ => rfl
  | ⟨1, _⟩ => rfl
  | ⟨2, _⟩ => rfl

variable {x : Parts} {w a v : Whole}
  (hx : ∀ c, arg m c = Layout.block ⟨3, ![8, 7168, 1024]⟩ ⟨3, ![64, 7168, 1024]⟩ 0 8 c x) (c : Fin 8)
  (hw : m ((Dev.tc c : Thread nD τ).loc main_arg1) = Layout.block ⟨2, ![7168, 1024]⟩ ⟨2, ![57344, 1024]⟩ 0 8 c w)
  (ha : m ((Dev.tc c : Thread nD τ).loc main_arg2) = Layout.block ⟨2, ![7168, 1024]⟩ ⟨2, ![57344, 1024]⟩ 0 8 c a)
  (hv : m ((Dev.tc c : Thread nD τ).loc main_arg3) = Layout.block ⟨2, ![7168, 1024]⟩ ⟨2, ![57344, 1024]⟩ 0 8 c v)

include hx ha in
theorem M_eq : Update.M (V m) c = Layout.block ⟨2, ![7168, 1024]⟩ ⟨2, ![57344, 1024]⟩ 0 8 c (refM x a) := by
  funext y
  exact Update.firstOf_at (congrFun (G_eq m x hx c) y) (congrFun ((V_rest m c main_arg2 (by decide)).trans ha) y)

include hx hv in
theorem S_eq : Update.S (V m) c = Layout.block ⟨2, ![7168, 1024]⟩ ⟨2, ![57344, 1024]⟩ 0 8 c (refS x v) := by
  funext y
  exact Update.secondOf_at (congrFun (G_eq m x hx c) y) (congrFun ((V_rest m c main_arg3 (by decide)).trans hv) y)

include hx hw ha hv in
theorem D_eq : Update.D (V m) c = Layout.block ⟨2, ![7168, 1024]⟩ ⟨2, ![57344, 1024]⟩ 0 8 c (refD x w a v) := by
  funext y
  exact Update.stepOf_at (congrFun (M_eq m hx c ha) y) (congrFun (S_eq m hx c hv) y)
    (congrFun ((V_rest m c main_arg1 (by decide)).trans hw) y)

end

/-- The update's results are its arrays. -/
theorem results (m : (ℓ : Loc Cert.KernelIdeal.nD Cert.KernelIdeal.τ Cert.KernelIdeal.sig) → Buf (Elt Ideal) ℓ) (c : Fin 8)
    (s : MemSt Cert.KernelIdeal.nD Cert.KernelIdeal.τ Cert.KernelIdeal.sig (Elt Ideal)) (h : QY m c s) :
    s.mem ((Dev.tc c : Thread Cert.KernelIdeal.nD Cert.KernelIdeal.τ).loc Cert.KernelIdeal.main_v2_0) = Update.G (V m) c
      ∧ s.mem ((Dev.tc c : Thread Cert.KernelIdeal.nD Cert.KernelIdeal.τ).loc Cert.KernelIdeal.main_v2_1) = Update.D (V m) c
      ∧ s.mem ((Dev.tc c : Thread Cert.KernelIdeal.nD Cert.KernelIdeal.τ).loc Cert.KernelIdeal.main_v2_2) = Update.M (V m) c
      ∧ s.mem ((Dev.tc c : Thread Cert.KernelIdeal.nD Cert.KernelIdeal.τ).loc Cert.KernelIdeal.main_v2_3) = Update.S (V m) c :=
  ⟨(h.1 4).trans (Update.final_4 (V m) c), (h.1 5).trans (Update.final_5 (V m) c), (h.1 6).trans (Update.final_6 (V m) c),
    (h.1 7).trans (Update.final_7 (V m) c)⟩

/-- Kernel and reference, launched on the same arrays: both terminate, and their results agree. -/
theorem agree : Cert.algebraic_KernelIdeal_ReferenceIdeal := by
  intro m g m' g' _ h
  have hx (c : Fin 8) := (h c).1
  let x : Parts := m' ((Dev.tc (0 : Fin 1) : Thread Cert.ReferenceIdeal.nD Cert.ReferenceIdeal.τ).loc Cert.ReferenceIdeal.main_arg0)
  let w : Whole := m' ((Dev.tc (0 : Fin 1) : Thread Cert.ReferenceIdeal.nD Cert.ReferenceIdeal.τ).loc Cert.ReferenceIdeal.main_arg1)
  let a : Whole := m' ((Dev.tc (0 : Fin 1) : Thread Cert.ReferenceIdeal.nD Cert.ReferenceIdeal.τ).loc Cert.ReferenceIdeal.main_arg2)
  let v : Whole := m' ((Dev.tc (0 : Fin 1) : Thread Cert.ReferenceIdeal.nD Cert.ReferenceIdeal.τ).loc Cert.ReferenceIdeal.main_arg3)
  refine ⟨refG x, refD x w a v, refM x a, refS x v, ?_, ?_⟩
  · refine (θ_run Cert.KernelIdeal.defs _ _).mono (fun r hr c => ?_) (run_main (F := Ideal) m g)
    obtain ⟨-, hw, ha, hv⟩ := h c
    obtain ⟨r0, r1, r2, r3⟩ := results m c r.2 (hr.1 c)
    exact ⟨r0.trans (G_eq m _ hx c), r1.trans (D_eq m hx c hw ha hv), r2.trans (M_eq m hx c ha), r3.trans (S_eq m hx c hv),
      same m c r.2 (hr.1 c)⟩
  · refine (θ_run Cert.ReferenceIdeal.defs _ _).mono (fun r hr => ?_) (Cert.ReferenceIdeal.Value.run (F := Ideal) m' g')
    obtain ⟨r0, r1, r2, r3, rest⟩ := hr 0
    exact ⟨r0, r1.trans rfl, r2.trans rfl, r3.trans rfl, rest⟩

end Cert.Exchange

end
-- ==== Proof.LossValue.lean ====
/-
  The loss and its gradient at the trunk's output: a grid point takes 256 rows, writes their gradient and adds the rows' squared
  errors, column by column, onto a row it carries; the last point sums that row to the loss. Over the extended reals that is the
  plain loss: the squared errors summed over all rows and columns, in whatever order.
-/
module

public import Idealize.ShloMosaic.Lib.Pipeline.Value
public import Idealize.ShloMosaic.Lib.Pipeline.ValueKit
public import Idealize.ShloMosaic.Lib.ValueIdxCore
public import Idealize.ShloMosaic.Lib.ValueIdx
public import Idealize.ShloMosaic.Lib.Tactic
public import proofs.«01_k».proof.Defs
public import proofs.«01_k».proof.Proof.Gen.LossIdeal.Value
public import proofs.«01_k».proof.Proof.Gen.LossPlainIdeal.Run

@[expose] public section

noncomputable section

namespace Cert.LossValue

open Idealize.ShloMosaic Idealize.ShloMosaic.TcCoe Idealize.SL.Sem
open Idealize.ShloMosaic.Pipeline (Dat)

section
open Cert.LossIdeal Cert.LossIdeal.Gen

theorem hz2 : (![0, 0] : Fin 2 → Nat) = fun _ => 0 := funext fun a => by fin_cases a <;> rfl

/-! ## What a point leaves, as its payloads -/

section
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S1x1 .f32) (h4 : a4.IsWhole) (a5 : Memref sig .tc .vmem S1x1024 .f32) (h5 : a5.IsWhole)
  (x0 x1 : Vec Ideal S256x1024 .f32) (s : Vec Ideal S1x1024 .f32)

theorem dy_first (hc0 : cond0_0 i) (hc1 : ¬cond0_1 i) :
    out0_A_2 c i a1 h1 a2 h2 a3 h3 a4 h4 a5 h5 hc0 hc1 x0 x1 = k0_pay3 x0 x1 := by
  unfold out0_A_2
  rw [View.read_writes_eq_canon _ _ _ (cover0_A_2 c i a1 h1 a2 h2 a3 h3 a4 h4 a5 h5 hc0 hc1 x0 x1)]
  unfold kernelRun0_A
  dsimp only
  sl_unfold_words
  rw [View.canon_unit_zero hz2]
  simp only [View.readAt_eq_ld, h1.read_unread, h2.read_unread, View.ld_unit_zero (S := S256x1024) hz2]

theorem dy_mid (hc0 : ¬cond0_0 i) (hc1 : ¬cond0_1 i) :
    out0_B_2 c i a1 h1 a2 h2 a3 h3 a4 h4 a5 h5 hc0 hc1 x0 x1 s = k0_pay3 x0 x1 := by
  unfold out0_B_2
  rw [View.read_writes_eq_canon _ _ _ (cover0_B_2 c i a1 h1 a2 h2 a3 h3 a4 h4 a5 h5 hc0 hc1 x0 x1 s)]
  unfold kernelRun0_B
  dsimp only
  sl_unfold_words
  rw [View.canon_unit_zero hz2]
  simp only [View.readAt_eq_ld, h1.read_unread, h2.read_unread, View.ld_unit_zero (S := S256x1024) hz2]

theorem dy_last (hc0 : ¬cond0_0 i) (hc1 : cond0_1 i) :
    out0_C_2 c i a1 h1 a2 h2 a3 h3 a4 h4 a5 h5 hc0 hc1 x0 x1 s = k0_pay3 x0 x1 := by
  unfold out0_C_2
  rw [View.read_writes_eq_canon _ _ _ (cover0_C_2 c i a1 h1 a2 h2 a3 h3 a4 h4 a5 h5 hc0 hc1 x0 x1 s)]
  unfold kernelRun0_C
  dsimp only
  sl_unfold_words
  rw [View.canon_unit_zero hz2]
  simp only [View.readAt_eq_ld, h1.read_unread, h2.read_unread, View.ld_unit_zero (S := S256x1024) hz2]

theorem row_first (hc0 : cond0_0 i) (hc1 : ¬cond0_1 i) :
    sout0_A_0 c i a1 h1 a2 h2 a3 h3 a4 h4 a5 h5 hc0 hc1 x0 x1 = k0_pay4 x0 x1 (k0_pay1 (F := Ideal)) := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S1x1024) hz2, View.readCov_unit_zero (S := S1x1024) _ hz2]
  simp only [View.readAt_eq_ld, h1.read_unread, h2.read_unread, View.ld_unit_zero (S := S256x1024) hz2]

theorem row_mid (hc0 : ¬cond0_0 i) (hc1 : ¬cond0_1 i) :
    sout0_B_0 c i a1 h1 a2 h2 a3 h3 a4 h4 a5 h5 hc0 hc1 x0 x1 s = k0_pay4 x0 x1 s := by
  unfold sout0_B_0
  rw [View.read_writes_eq_canon _ _ _ (scover0_B_0 c i a1 h1 a2 h2 a3 h3 a4 h4 a5 h5 hc0 hc1 x0 x1 s)]
  unfold kernelRun0_B
  dsimp only
  sl_unfold_words
  rw [View.canon_unit_zero hz2]
  simp only [View.readAt_eq_ld, h1.read_unread, h2.read_unread, h5.read_unread, View.ld_unit_zero (S := S256x1024) hz2, View.ld_unit_zero (S := S1x1024) hz2]

theorem loss_last (hc0 : ¬cond0_0 i) (hc1 : cond0_1 i) :
    out0_C_3 c i a1 h1 a2 h2 a3 h3 a4 h4 a5 h5 hc0 hc1 x0 x1 s = k0_pay5 (k0_pay4 x0 x1 s) := by
  unfold out0_C_3
  rw [View.read_writes_eq_canon _ _ _ (cover0_C_3 c i a1 h1 a2 h2 a3 h3 a4 h4 a5 h5 hc0 hc1 x0 x1 s)]
  unfold kernelRun0_C
  dsimp only
  sl_unfold_words
  rw [View.canon_unit_zero hz2, View.readCov_unit_zero (S := S1x1024) _ hz2]
  simp only [View.readAt_eq_ld, h1.read_unread, h2.read_unread, h5.read_unread, View.ld_unit_zero (S := S256x1024) hz2, View.ld_unit_zero (S := S1x1024) hz2]

end

/-! ## The payloads at an index, over the extended reals -/

theorem thousandth : Ideal.ofBits .f32 0x3A800000#32 = ((1 / 1024 : ℝ) : EReal) := by
  simp [Ideal.ofBits, Ideal.ieee, -EReal.coe_mul]; norm_num
theorem half_thousandth : Ideal.ofBits .f32 0x3A000000#32 = ((1 / 2048 : ℝ) : EReal) := by
  simp [Ideal.ofBits, Ideal.ieee, -EReal.coe_mul]; norm_num
theorem thousand : Ideal.ofBits .f32 0x44800000#32 = ((1024 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

/-- The squared error at an index. -/
def sq {s : Shape} (a b : FVec Ideal s .f32) (i : s.Idx) : EReal := ((a i : EReal) - b i) * ((a i : EReal) - b i)

/-- The plain gradient: the error over the number of columns. -/
def grad {s : Shape} (a b : FVec Ideal s .f32) : FVec Ideal s .f32 := fun i => ((a i : EReal) - b i) * ((1 / 1024 : ℝ) : EReal)

/-- The plain loss: half the sum over the rows of the mean squared error. -/
def loss (a b : FVec Ideal S8192x1024 .f32) : FVec Ideal S1x1 .f32 :=
  fun _ => (∑ r : Fin 8192, ∑ l : Fin 1024, sq a b (ValueIdx.ix2 r l)) * ((1 / 2048 : ℝ) : EReal)

theorem dy_value (x0 x1 : Vec Ideal S256x1024 .f32) : k0_pay3 x0 x1 = grad x0 x1 :=
  funext fun y => congrArg (fun k : EReal => (((x0 y : EReal) - x1 y) * k : EReal)) thousandth

theorem start_value (l : Fin 1024) : (k0_pay1 (F := Ideal) (ValueIdx.ix2 (0 : Fin 1) l) : EReal) = 0 := Ideal.ofBits_zero_f32

theorem step_value (x0 x1 : Vec Ideal S256x1024 .f32) (s : Vec Ideal S1x1024 .f32) (l : Fin 1024) :
    (k0_pay4 x0 x1 s (ValueIdx.ix2 (0 : Fin 1) l) : EReal)
      = (s (ValueIdx.ix2 (0 : Fin 1) l) : EReal) + ∑ r : Fin 256, sq x0 x1 (ValueIdx.ix2 r l) := by
  unfold k0_pay4 k0_pay2
  pointwise
  rfl

theorem sum_value (s : Vec Ideal S1x1024 .f32) (i : S1x1.Idx) :
    (k0_pay5 s i : EReal) = (∑ l : Fin 1024, (s (ValueIdx.ix2 (0 : Fin 1) l) : EReal)) * ((1 / 2048 : ℝ) : EReal) := by
  unfold k0_pay5
  pointwise
  exact congrArg (fun k : EReal => (∑ l : Fin 1024, (s (ValueIdx.ix2 (0 : Fin 1) l) : EReal)) * k) half_thousandth

/-! ## The arrays after the last point -/

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel

/-- Where element `y` of block `t` lies in the array. -/
def place (t : Fin cfg0.N) (y : S256x1024.Idx) : S8192x1024.Idx :=
  ValueIdx.ix2 ⟨t.val * 256 + (y 0).val, by have h : t.val < 32 := t.isLt; have h0 : (y 0).val < 256 := (y 0).isLt; omega⟩ (y 1)

theorem emb_2 (t : Fin cfg0.N) (y : S256x1024.Idx) : (win0_2.blk t).view.emb y = place t y := by
  unfold place
  blk_ext [index_2]

/-- The squared error of row `k`, zero past the last row. -/
def sqRow (a b : FVec Ideal S8192x1024 .f32) (k : ℕ) (l : Fin 1024) : EReal :=
  if h : k < 8192 then sq a b (ValueIdx.ix2 ⟨k, h⟩ l) else 0

variable (m : (ℓ : Loc nD τ sig) → Buf (Elt Ideal) ℓ) (c : Dev nD)

abbrev Y : FVec Ideal S8192x1024 .f32 := m ((c : Thread nD τ).loc main_arg0)
abbrev T : FVec Ideal S8192x1024 .f32 := m ((c : Thread nD τ).loc main_arg1)

theorem blk_y (t : Fin cfg0.N) (y : S256x1024.Idx) : (iblk m c 0 t : FVec Ideal S256x1024 .f32) y = Y m c (place t y) := by
  refine congrArg (Y m c) ?_
  unfold place
  blk_ext [index_0]

theorem blk_t (t : Fin cfg0.N) (y : S256x1024.Idx) : (iblk m c 1 t : FVec Ideal S256x1024 .f32) y = T m c (place t y) := by
  refine congrArg (T m c) ?_
  unfold place
  blk_ext [index_1]

/-- What every point leaves for the gradient: the plain gradient of its blocks. -/
theorem dy_point (t : Fin cfg0.N) : (outsAt0 m c t.val t.isLt).1 = grad (iblk m c 0 t : FVec Ideal S256x1024 .f32) (iblk m c 1 t) := by
  have hN : t.val < 32 := t.isLt
  by_cases h0 : t.val % 32 = 0
  · have h1 : ¬t.val % 32 = 31 := by omega
    rw [outsAt0_A m c t h0 h1]
    dsimp only
    rw [dy_first, dy_value]
  · by_cases h1 : t.val % 32 = 31
    · rw [outsAt0_C m c t h0 h1]
      dsimp only
      rw [dy_last, dy_value]
    · rw [outsAt0_B m c t h0 h1]
      dsimp only
      rw [dy_mid, dy_value]

theorem final_dy : (dats m 0 c).arrAt 2 cfg0.N = grad (Y m c) (T m c) := by
  refine (dats m 0 c).arrAt_eq_of_covers 2 _ (by decide +kernel) fun t _ y => ?_
  refine (congrFun ((after0_2 m c t).trans (dy_point m c t)) y).trans ?_
  refine Eq.trans ?_ (congrArg (grad (Y m c) (T m c)) (emb_2 t y).symm)
  exact congrArg₂ (fun a b : EReal => (a - b) * ((1 / 1024 : ℝ) : EReal)) (blk_y m c t y) (blk_t m c t y)

/-- What a point adds to column `l`: the squared errors of its 256 rows. -/
theorem add_point (t : Fin cfg0.N) (l : Fin 1024) :
    ∑ r : Fin 256, sq (iblk m c 0 t : FVec Ideal S256x1024 .f32) (iblk m c 1 t) (ValueIdx.ix2 r l)
      = ∑ r ∈ Finset.range 256, sqRow (Y m c) (T m c) (t.val * 256 + r) l := by
  have hN : t.val < 32 := t.isLt
  rw [← Fin.sum_univ_eq_sum_range (fun r => sqRow (Y m c) (T m c) (t.val * 256 + r) l) 256]
  refine Finset.sum_congr rfl fun r _ => ?_
  have hr : t.val * 256 + r.val < 8192 := by have := r.isLt; omega
  rw [sqRow, dif_pos hr]
  exact congrArg₂ (fun a b : EReal => (a - b) * (a - b)) (blk_y m c t (ValueIdx.ix2 r l)) (blk_t m c t (ValueIdx.ix2 r l))

/-- The carried row after point `n`: column by column, the squared errors of the rows so far. -/
theorem carried (l : Fin 1024) : ∀ (n : ℕ) (h : n < cfg0.N), n < 31 →
    ((outsAt0 m c n h).2.2 (ValueIdx.ix2 (0 : Fin 1) l) : EReal)
      = ∑ s ∈ Finset.range (n + 1), ∑ r ∈ Finset.range 256, sqRow (Y m c) (T m c) (s * 256 + r) l
  | 0, h, _ => by
    rw [outsAt0_A m c ⟨0, h⟩ rfl (by dsimp only; omega), Finset.sum_range_one]
    dsimp only
    rw [row_first, step_value, start_value, zero_add]
    exact add_point m c ⟨0, h⟩ l
  | n + 1, h, hn => by
    rw [outsAt0_B m c ⟨n + 1, h⟩ (by dsimp only; omega) (by dsimp only; omega), Finset.sum_range_succ]
    dsimp only
    rw [row_mid, step_value]
    exact congrArg₂ (α := EReal) (β := EReal) (· + ·) (carried l n (Nat.lt_of_succ_lt h) (by omega)) (add_point m c ⟨n + 1, h⟩ l)

/-- All 32 blocks of 256 rows are all rows. -/
theorem all_rows (a b : FVec Ideal S8192x1024 .f32) (l : Fin 1024) :
    ∑ s ∈ Finset.range 32, ∑ r ∈ Finset.range 256, sqRow a b (s * 256 + r) l = ∑ r : Fin 8192, sq a b (ValueIdx.ix2 r l) := by
  rw [← Finset.sum_range_mul_split 32 256 fun k => sqRow a b k l, ← Fin.sum_univ_eq_sum_range (fun k => sqRow a b k l) (32 * 256)]
  refine Finset.sum_congr rfl fun r _ => ?_
  have hr : r.val < 8192 := r.isLt
  rw [sqRow, dif_pos hr]

theorem loss_point (h : 31 < cfg0.N) : (outsAt0 m c 31 h).2.1 = loss (Y m c) (T m c) := by
  rw [outsAt0_C m c ⟨31, h⟩ (by dsimp only; omega) (by dsimp only)]
  dsimp only
  rw [loss_last]
  funext i
  refine (sum_value _ i).trans ?_
  refine congrArg (fun k : EReal => k * ((1 / 2048 : ℝ) : EReal)) ?_
  rw [Finset.sum_comm]
  refine Finset.sum_congr rfl fun l _ => ?_
  refine (step_value _ _ _ l).trans ?_
  rw [← all_rows, Finset.sum_range_succ _ 31]
  exact congrArg₂ (α := EReal) (β := EReal) (· + ·) (carried m c l 30 (by omega) (by omega)) (add_point m c ⟨31, h⟩ l)

theorem final_loss : (dats m 0 c).arrAt 3 cfg0.N = loss (Y m c) (T m c) := by
  have h : 31 < cfg0.N := by decide
  rw [Cert.LossIdeal.Value.final3, Cert.LossIdeal.Value.G3_last, ← loss_point m c h, Cert.LossIdeal.Value.outsAt0_sweep]

end

/-! ## The reference -/

section
open Cert.LossPlainIdeal Cert.LossPlainIdeal.Gen

theorem div_thousand (x : EReal) : Ideal.div x (Ideal.ofBits .f32 0x44800000#32) = x * ((1 / 1024 : ℝ) : EReal) := by
  rw [thousand, Ideal.div, if_neg (by norm_num), ← EReal.coe_inv]
  norm_num

/-- A nonnegative real factor goes out of a sum. -/
theorem sum_mul_real {ι : Type*} (s : Finset ι) (f : ι → EReal) (k : ℝ) (hk : 0 ≤ k) :
    ∑ i ∈ s, f i * (k : EReal) = (∑ i ∈ s, f i) * (k : EReal) := by
  classical
  induction s using Finset.induction_on with
  | empty => simp
  | insert a s ha ih =>
    rw [Finset.sum_insert ha, Finset.sum_insert ha, ih,
      EReal.right_distrib_of_nonneg_of_ne_top (EReal.coe_nonneg.mpr hk) (EReal.coe_ne_top k)]

theorem reference_grad (a b : FVec Ideal ⟨2, ![8192, 1024]⟩ .f32) :
    mulf (broadcastInDim S8192x1024 ![0] bcast_S8192_S8192x1024_0 (Host.divf (broadcastInDim S8192 ![] bcast_S_S8192
        (mulf (constant (F := Ideal) S_ .f32 0x3F000000#32) (constant S_ .f32 0x3F800000#32))) (broadcastInDim S8192 ![] bcast_S_S8192 (constant S_ .f32 0x44800000#32))))
      (mulf (broadcastInDim S8192x1024 ![] bcast_S_S8192x1024 (constant S_ .f32 0x40000000#32)) (subf a b)) = grad a b := by
  funext i
  show Ideal.div (Ideal.ofBits .f32 0x3F000000#32 * Ideal.ofBits .f32 0x3F800000#32) (Ideal.ofBits .f32 0x44800000#32)
    * (Ideal.ofBits .f32 0x40000000#32 * ((a i : EReal) - b i)) = ((a i : EReal) - b i) * ((1 / 1024 : ℝ) : EReal)
  rw [div_thousand, half, one, two, ← EReal.coe_mul, ← EReal.coe_mul, ← mul_assoc, ← EReal.coe_mul, mul_comm]
  norm_num

theorem reference_loss (a b : FVec Ideal ⟨2, ![8192, 1024]⟩ .f32) :
    shapeCast S1x1 (mulf (constant (F := Ideal) S_ .f32 0x3F000000#32) (Host.reduceAdd (Host.divf (Host.reduceAdd
        (mulf (subf a b) (subf a b)) (constant S_ .f32 0x00000000#32) reducesTo_S8192x1024_S8192_d1 h_S_)
        (broadcastInDim S8192 ![] bcast_S_S8192 (constant S_ .f32 0x44800000#32))) (constant S_ .f32 0x00000000#32) reducesTo_S8192_S_d0 h_S_))
      shapeCasts_S_S1x1 = loss a b := by
  funext i
  pointwise
  simp only [div_thousand]
  rw [sum_mul_real _ _ _ (by norm_num), half, mul_comm, mul_assoc, ← EReal.coe_mul]
  norm_num
  rfl

end

/-- Kernel and reference, launched on the same arrays: both terminate, and gradient and loss agree. -/
theorem agree : Cert.algebraic_LossIdeal_LossPlainIdeal := by
  intro m g m' g' _ h
  refine ⟨fun c => grad (Y m c) (T m c), fun c => loss (Y m c) (T m c), ?_, ?_⟩
  · exact (θ_run Cert.LossIdeal.defs _ _).mono
      (fun r hr c => ⟨(hr c).1.trans (final_dy m c), (hr c).2.1.trans (final_loss m c), (hr c).2.2⟩)
      (Cert.LossIdeal.Value.run_blocks (F := Ideal) m g)
  · refine (θ_run Cert.LossPlainIdeal.defs _ _).mono
      (fun r hr c => ⟨(hr c).1.trans ((reference_grad _ _).trans ?_), (hr c).2.1.trans ((reference_loss _ _).trans ?_), (hr c).2.2⟩)
      (Cert.LossPlainIdeal.Value.run (F := Ideal) m' g')
    · obtain ⟨h0, h1⟩ := h c
      show grad _ _ = grad _ _
      rw [h0, h1]
    · obtain ⟨h0, h1⟩ := h c
      show loss _ _ = loss _ _
      rw [h0, h1]

end Cert.LossValue

end
-- ==== Proof.GatedValue.lean ====
/-
  The first half of the SwiGLU channel mixer: the gate, the other branch, and their gated product. A grid point computes 512
  rows and half of the columns of the three arrays; the sums over the 1024 features are whole in each point.
-/
module

public import proofs.«01_k».proof.Defs
public import proofs.«01_k».proof.Proof.Gating
public import proofs.«01_k».proof.Proof.Gen.GatedIdeal.Value
public import proofs.«01_k».proof.Proof.Gen.GatedPlainIdeal.Run

@[expose] public section

noncomputable section

namespace Cert.GatedValue

open Idealize.ShloMosaic Idealize.ShloMosaic.TcCoe Idealize.SL.Sem Cert.Gating
open Idealize.ShloMosaic.Pipeline (Dat)

/-- The gated product at two entries. -/
def gated (g u : EReal) : EReal := g * Ideal.logistic g * u

/-- The product as an array. -/
def lin {R K C : Nat} (a : FVec Ideal ⟨2, ![R, K]⟩ .f32) (w : FVec Ideal ⟨2, ![K, C]⟩ .bf16) : FVec Ideal ⟨2, ![R, C]⟩ .bf16 :=
  fun y => prod a w (y 0) (y 1)

/-- The gated product of two products, as an array. -/
def act {R K C : Nat} (a : FVec Ideal ⟨2, ![R, K]⟩ .f32) (wg wu : FVec Ideal ⟨2, ![K, C]⟩ .bf16) : FVec Ideal ⟨2, ![R, C]⟩ .bf16 :=
  fun y => gated (prod a wg (y 0) (y 1)) (prod a wu (y 0) (y 1))

section
open Cert.GatedIdeal Cert.GatedIdeal.Gen Cert.GatedIdeal.Value

theorem gate_eq (x : FVec Ideal S512x1024 .f32) (wg wu : FVec Ideal S1024x1408 .bf16) : out0_3 (F := Ideal) x wg wu = lin x wg := by
  unfold out0_3
  rw [View.canon_unit_zero hz2, View.ld_unit_zero hz2, View.ld_unit_zero hz2]
  funext y
  exact matmul_eq x wg y

theorem up_eq (x : FVec Ideal S512x1024 .f32) (wg wu : FVec Ideal S1024x1408 .bf16) : out0_4 (F := Ideal) x wg wu = lin x wu := by
  unfold out0_4
  rw [View.canon_unit_zero hz2, View.ld_unit_zero hz2, View.ld_unit_zero hz2]
  funext y
  exact matmul_eq x wu y

theorem act_eq (x : FVec Ideal S512x1024 .f32) (wg wu : FVec Ideal S1024x1408 .bf16) : out0_5 (F := Ideal) x wg wu = act x wg wu := by
  unfold out0_5
  rw [View.canon_unit_zero hz2, View.ld_unit_zero hz2, View.ld_unit_zero hz2, View.ld_unit_zero hz2]
  funext y
  exact congrArg₂ gated (matmul_eq x wg y) (matmul_eq x wu y)

theorem index_0 : ∀ t : Fin grid0.N, win0_0.index t = ![t.val / 2, 0] := by decide +kernel
theorem index_1 : ∀ t : Fin grid0.N, win0_1.index t = ![0, t.val % 2] := by decide +kernel
theorem index_2 : ∀ t : Fin grid0.N, win0_2.index t = ![0, t.val % 2] := by decide +kernel
theorem index_3 : ∀ t : Fin grid0.N, win0_3.index t = ![t.val / 2, t.val % 2] := by decide +kernel
theorem index_4 : ∀ t : Fin grid0.N, win0_4.index t = ![t.val / 2, t.val % 2] := by decide +kernel
theorem index_5 : ∀ t : Fin grid0.N, win0_5.index t = ![t.val / 2, t.val % 2] := by decide +kernel

variable (m : (ℓ : Loc nD τ sig) → Buf (Elt Ideal) ℓ) (c : Dev nD)

abbrev X : FVec Ideal S8192x1024 .f32 := m ((c : Thread nD τ).loc main_arg0)
abbrev WG : FVec Ideal S1024x2816 .bf16 := m ((c : Thread nD τ).loc main_arg1)
abbrev WU : FVec Ideal S1024x2816 .bf16 := m ((c : Thread nD τ).loc main_arg2)

variable (t : Fin cfg0.N)

/-- Where element `y` of block `t` lies in the array. -/
def place (y : S512x1408.Idx) : S8192x2816.Idx :=
  ValueIdx.ix2 ⟨t.val / 2 * 512 + (y 0).val, by have h : t.val < 32 := t.isLt; have h0 : (y 0).val < 512 := (y 0).isLt; omega⟩
    ⟨t.val % 2 * 1408 + (y 1).val, by have h1 : (y 1).val < 1408 := (y 1).isLt; omega⟩

theorem emb_3 (y : S512x1408.Idx) : (win0_3.blk t).view.emb y = place t y := by
  unfold place
  blk_ext [index_3]

theorem emb_4 (y : S512x1408.Idx) : (win0_4.blk t).view.emb y = place t y := by
  unfold place
  blk_ext [index_4]

theorem emb_5 (y : S512x1408.Idx) : (win0_5.blk t).view.emb y = place t y := by
  unfold place
  blk_ext [index_5]

/-- What the blocks of point `t` hold, by the array's index. -/
theorem blk_x (y : S512x1408.Idx) (k : Fin 1024) :
    (iblk m c 0 t : FVec Ideal S512x1024 .f32) (ValueIdx.ix2 (y 0) k) = X m c (ValueIdx.ix2 (place t y 0) k) := by
  refine congrArg (X m c) ?_
  unfold place
  blk_ext [index_0]

theorem blk_g (y : S512x1408.Idx) (k : Fin 1024) :
    (iblk m c 1 t : FVec Ideal S1024x1408 .bf16) (ValueIdx.ix2 k (y 1)) = WG m c (ValueIdx.ix2 k (place t y 1)) := by
  refine congrArg (WG m c) ?_
  unfold place
  blk_ext [index_1]

theorem blk_u (y : S512x1408.Idx) (k : Fin 1024) :
    (iblk m c 2 t : FVec Ideal S1024x1408 .bf16) (ValueIdx.ix2 k (y 1)) = WU m c (ValueIdx.ix2 k (place t y 1)) := by
  refine congrArg (WU m c) ?_
  unfold place
  blk_ext [index_2]

/-- A block's product is the whole product where the block lies. -/
theorem prod_g (y : S512x1408.Idx) : prod (φ := .f32) (ψ := .bf16) (iblk m c 0 t : FVec Ideal S512x1024 .f32) (iblk m c 1 t : FVec Ideal S1024x1408 .bf16) (y 0) (y 1)
    = prod (X m c) (WG m c) (place t y 0) (place t y 1) :=
  prod_congr (fun k => blk_x m c t y k) (fun k => blk_g m c t y k)

theorem prod_u (y : S512x1408.Idx) : prod (φ := .f32) (ψ := .bf16) (iblk m c 0 t : FVec Ideal S512x1024 .f32) (iblk m c 2 t : FVec Ideal S1024x1408 .bf16) (y 0) (y 1)
    = prod (X m c) (WU m c) (place t y 0) (place t y 1) :=
  prod_congr (fun k => blk_x m c t y k) (fun k => blk_u m c t y k)

/-- The arrays after the last point. -/
theorem final_gate : (dats m 0 c).arrAt 3 cfg0.N = lin (X m c) (WG m c) := by
  refine (dats m 0 c).arrAt_eq_of_covers 3 _ (by decide +kernel) fun t _ y => ?_
  refine (congrFun ((after0_3 m c t).trans (gate_eq _ _ _)) y).trans ?_
  exact (prod_g m c t y).trans (congrArg (lin (X m c) (WG m c)) (emb_3 t y).symm)

theorem final_up : (dats m 0 c).arrAt 4 cfg0.N = lin (X m c) (WU m c) := by
  refine (dats m 0 c).arrAt_eq_of_covers 4 _ (by decide +kernel) fun t _ y => ?_
  refine (congrFun ((after0_4 m c t).trans (up_eq _ _ _)) y).trans ?_
  exact (prod_u m c t y).trans (congrArg (lin (X m c) (WU m c)) (emb_4 t y).symm)

theorem final_act : (dats m 0 c).arrAt 5 cfg0.N = act (X m c) (WG m c) (WU m c) := by
  refine (dats m 0 c).arrAt_eq_of_covers 5 _ (by decide +kernel) fun t _ y => ?_
  refine (congrFun ((after0_5 m c t).trans (act_eq _ _ _)) y).trans ?_
  exact (congrArg₂ gated (prod_g m c t y) (prod_u m c t y)).trans (congrArg (act (X m c) (WG m c) (WU m c)) (emb_5 t y).symm)

end

section
open Cert.GatedPlainIdeal Cert.GatedPlainIdeal.Gen

/-- The reference's product. -/
theorem reference_lin (x : FVec Ideal S8192x1024 .f32) (w : FVec Ideal S1024x2816 .bf16) :
    truncf .bf16 (Host.dotGeneral (F := Ideal) dot_S8192x1024_S1024x2816_S8192x2816_1_0_0_1_n_n none x (extf .f32 w bitsLt_bf16_f32)) bitsLt_bf16_f32
      = lin x w := funext fun y => dot_eq x _ y

/-- The reference's gate, times the other branch. -/
theorem reference_act (g u : FVec Ideal S8192x2816 .f32) (x : FVec Ideal S8192x1024 .f32) (wg wu : FVec Ideal S1024x2816 .bf16)
    (hg : ∀ y, g y = prod x wg (y 0) (y 1)) (hu : ∀ y, u y = prod x wu (y 0) (y 1)) :
    truncf .bf16 (mulf (mulf g (Host.divf (broadcastInDim S8192x2816 ![] bcast_S_S8192x2816 (constant S_ .f32 0x3F800000#32))
        (addf (broadcastInDim S8192x2816 ![] bcast_S_S8192x2816 (constant S_ .f32 0x3F800000#32)) (Host.exp (Host.negf g))))) u) bitsLt_bf16_f32
      = act x wg wu := by
  funext y
  refine Eq.trans ?_ (congrArg₂ gated (hg y) (hu y))
  exact congrArg (fun s : EReal => (g y : EReal) * s * (u y : EReal)) (logistic_eq (g y))

end

/-- Kernel and reference, launched on the same arrays: both terminate, and their results agree. -/
theorem agree : Cert.algebraic_GatedIdeal_GatedPlainIdeal := by
  intro m g m' g' _ h
  refine ⟨fun c => lin (X m c) (WG m c), fun c => lin (X m c) (WU m c), fun c => act (X m c) (WG m c) (WU m c), ?_, ?_⟩
  · exact (θ_run Cert.GatedIdeal.defs _ _).mono (fun r hr c => ⟨(hr c).1.trans (final_gate m c), (hr c).2.1.trans (final_up m c),
      (hr c).2.2.1.trans (final_act m c), (hr c).2.2.2⟩) (Cert.GatedIdeal.Value.run_blocks (F := Ideal) m g)
  · refine (θ_run Cert.GatedPlainIdeal.defs _ _).mono (fun r hr c => ⟨(hr c).1.trans ?_, (hr c).2.1.trans ?_, (hr c).2.2.1.trans ?_, (hr c).2.2.2⟩)
      (Cert.GatedPlainIdeal.Value.run (F := Ideal) m' g')
    · refine (reference_lin _ _).trans ?_
      show lin _ _ = lin _ _
      rw [(h c).1, (h c).2.1]
    · refine (reference_lin _ _).trans ?_
      show lin _ _ = lin _ _
      rw [(h c).1, (h c).2.2]
    · refine (reference_act _ _ _ _ _ (fun y => dot_eq _ _ y) (fun y => dot_eq _ _ y)).trans ?_
      show act _ _ _ = act _ _ _
      rw [(h c).1, (h c).2.1, (h c).2.2]
      rfl

end Cert.GatedValue

end
-- ==== Proof.DownValue.lean ====
/-
  The second half of the SwiGLU channel mixer: the product with the weights that lead back to the trunk. A grid point computes
  512 rows; the sums over the 2816 hidden features are whole in each point.
-/
module

public import proofs.«01_k».proof.Defs
public import proofs.«01_k».proof.Proof.Gating
public import proofs.«01_k».proof.Proof.Gen.DownIdeal.Value
public import proofs.«01_k».proof.Proof.Gen.DownPlainIdeal.Run

@[expose] public section

noncomputable section

namespace Cert.DownValue

open Idealize.ShloMosaic Idealize.ShloMosaic.TcCoe Idealize.SL.Sem Cert.Gating
open Idealize.ShloMosaic.Pipeline (Dat)

/-- The product as an array. -/
def lin {R K C : Nat} (a : FVec Ideal ⟨2, ![R, K]⟩ .bf16) (w : FVec Ideal ⟨2, ![K, C]⟩ .bf16) : FVec Ideal ⟨2, ![R, C]⟩ .f32 :=
  fun y => prod a w (y 0) (y 1)

section
open Cert.DownIdeal Cert.DownIdeal.Gen Cert.DownIdeal.Value

theorem out_eq (a : FVec Ideal S512x2816 .bf16) (w : FVec Ideal S2816x1024 .bf16) : out0_2 (F := Ideal) a w = lin a w := by
  unfold out0_2
  rw [View.canon_unit_zero hz2, View.ld_unit_zero hz2, View.ld_unit_zero hz2]
  funext y
  exact matmul_eq a w y

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel

variable (m : (ℓ : Loc nD τ sig) → Buf (Elt Ideal) ℓ) (c : Dev nD)

abbrev A : FVec Ideal S8192x2816 .bf16 := m ((c : Thread nD τ).loc main_arg0)
abbrev W : FVec Ideal S2816x1024 .bf16 := m ((c : Thread nD τ).loc main_arg1)

variable (t : Fin cfg0.N)

/-- Where element `y` of block `t` lies in the array. -/
def place (y : S512x1024.Idx) : S8192x1024.Idx :=
  ValueIdx.ix2 ⟨t.val * 512 + (y 0).val, by have h : t.val < 16 := t.isLt; have h0 : (y 0).val < 512 := (y 0).isLt; omega⟩ (y 1)

theorem emb_2 (y : S512x1024.Idx) : (win0_2.blk t).view.emb y = place t y := by
  unfold place
  blk_ext [index_2]

/-- What the blocks of point `t` hold, by the array's index. -/
theorem blk_a (y : S512x1024.Idx) (k : Fin 2816) :
    (iblk m c 0 t : FVec Ideal S512x2816 .bf16) (ValueIdx.ix2 (y 0) k) = A m c (ValueIdx.ix2 (place t y 0) k) := by
  refine congrArg (A m c) ?_
  unfold place
  blk_ext [index_0]

theorem blk_w (y : S512x1024.Idx) (k : Fin 2816) :
    (iblk m c 1 t : FVec Ideal S2816x1024 .bf16) (ValueIdx.ix2 k (y 1)) = W m c (ValueIdx.ix2 k (place t y 1)) := by
  refine congrArg (W m c) ?_
  unfold place
  blk_ext [index_1]

/-- The array after the last point. -/
theorem final : (dats m 0 c).arrAt 2 cfg0.N = lin (A m c) (W m c) := by
  refine (dats m 0 c).arrAt_eq_of_covers 2 _ (by decide +kernel) fun t _ y => ?_
  refine (congrFun ((after0_2 m c t).trans (out_eq _ _)) y).trans ?_
  exact (prod_congr (fun k => blk_a m c t y k) (fun k => blk_w m c t y k)).trans (congrArg (lin (A m c) (W m c)) (emb_2 t y).symm)

end

/-- Kernel and reference, launched on the same arrays: both terminate, and their results agree. -/
theorem agree : Cert.algebraic_DownIdeal_DownPlainIdeal := by
  intro m g m' g' _ h
  refine ⟨fun c => lin (A m c) (W m c), ?_, ?_⟩
  · exact (θ_run Cert.DownIdeal.defs _ _).mono (fun r hr c => ⟨(hr c).1.trans (final m c), (hr c).2⟩)
      (Cert.DownIdeal.Value.run_blocks (F := Ideal) m g)
  · refine (θ_run Cert.DownPlainIdeal.defs _ _).mono (fun r hr c => ⟨(hr c).1.trans ?_, (hr c).2⟩)
      (Cert.DownPlainIdeal.Value.run (F := Ideal) m' g')
    refine (funext fun y => dot_eq _ _ y : _ = fun y => prod _ _ (y 0) (y 1)).trans ?_
    rw [(h c).1, (h c).2]
    rfl

end Cert.DownValue

end
-- ==== Proof.BackValue.lean ====
/-
  The backward pass through the SwiGLU gate: from the gradient at the mixer's output to the gradients at its two branches. A grid
  point computes 512 rows and half of the columns of both arrays; the sums over the 1024 features are whole in each point.
-/
module

public import proofs.«01_k».proof.Defs
public import proofs.«01_k».proof.Proof.Gating
public import proofs.«01_k».proof.Proof.Gen.GatedBackIdeal.Value
public import proofs.«01_k».proof.Proof.Gen.GatedBackPlainIdeal.Run

@[expose] public section

noncomputable section

namespace Cert.BackValue

open Idealize.ShloMosaic Idealize.ShloMosaic.TcCoe Idealize.SL.Sem Cert.Gating
open Idealize.ShloMosaic.Pipeline (Dat)

/-- The gradient at the gate, from that at the gated product, and the two branches. -/
def atGate (d g u : EReal) : EReal := d * u * Ideal.logistic g * (1 + g * (1 - Ideal.logistic g))

/-- The gradient at the other branch. -/
def atUp (d g : EReal) : EReal := d * g * Ideal.logistic g

def dGate {R K C : Nat} (a : FVec Ideal ⟨2, ![R, K]⟩ .f32) (w : FVec Ideal ⟨2, ![C, K]⟩ .bf16) (g u : FVec Ideal ⟨2, ![R, C]⟩ .bf16) :
    FVec Ideal ⟨2, ![R, C]⟩ .bf16 := fun y => atGate (prodT a w (y 0) (y 1)) (g y) (u y)

def dUp {R K C : Nat} (a : FVec Ideal ⟨2, ![R, K]⟩ .f32) (w : FVec Ideal ⟨2, ![C, K]⟩ .bf16) (g : FVec Ideal ⟨2, ![R, C]⟩ .bf16) :
    FVec Ideal ⟨2, ![R, C]⟩ .bf16 := fun y => atUp (prodT a w (y 0) (y 1)) (g y)

section
open Cert.GatedBackIdeal Cert.GatedBackIdeal.Gen Cert.GatedBackIdeal.Value

theorem gate_eq (x : FVec Ideal S512x1024 .f32) (w : FVec Ideal S1408x1024 .bf16) (g u : FVec Ideal S512x1408 .bf16) :
    out0_4 (F := Ideal) x w g u = dGate x w g u := by
  unfold out0_4
  rw [View.canon_unit_zero hz2, View.ld_unit_zero hz2, View.ld_unit_zero hz2, View.ld_unit_zero hz2, View.ld_unit_zero hz2]
  funext y
  refine (congrArg₂ (fun s o : EReal => s * (u y : EReal) * Ideal.logistic (g y) * (o + (g y : EReal) * (o - Ideal.logistic (g y))))
    (matmulT_eq x w y) one_bits)

theorem up_eq (x : FVec Ideal S512x1024 .f32) (w : FVec Ideal S1408x1024 .bf16) (g u : FVec Ideal S512x1408 .bf16) :
    out0_5 (F := Ideal) x w g u = dUp x w g := by
  unfold out0_5
  rw [View.canon_unit_zero hz2, View.ld_unit_zero hz2, View.ld_unit_zero hz2, View.ld_unit_zero hz2]
  funext y
  exact congrArg (fun s : EReal => s * (g y : EReal) * Ideal.logistic (g y)) (matmulT_eq x w y)

theorem index_0 : ∀ t : Fin grid0.N, win0_0.index t = ![t.val / 2, 0] := by decide +kernel
theorem index_1 : ∀ t : Fin grid0.N, win0_1.index t = ![t.val % 2, 0] := by decide +kernel
theorem index_2 : ∀ t : Fin grid0.N, win0_2.index t = ![t.val / 2, t.val % 2] := by decide +kernel
theorem index_3 : ∀ t : Fin grid0.N, win0_3.index t = ![t.val / 2, t.val % 2] := by decide +kernel
theorem index_4 : ∀ t : Fin grid0.N, win0_4.index t = ![t.val / 2, t.val % 2] := by decide +kernel
theorem index_5 : ∀ t : Fin grid0.N, win0_5.index t = ![t.val / 2, t.val % 2] := by decide +kernel

variable (m : (ℓ : Loc nD τ sig) → Buf (Elt Ideal) ℓ) (c : Dev nD)

abbrev X : FVec Ideal S8192x1024 .f32 := m ((c : Thread nD τ).loc main_arg0)
abbrev W : FVec Ideal S2816x1024 .bf16 := m ((c : Thread nD τ).loc main_arg1)
abbrev G : FVec Ideal S8192x2816 .bf16 := m ((c : Thread nD τ).loc main_arg2)
abbrev U : FVec Ideal S8192x2816 .bf16 := m ((c : Thread nD τ).loc main_arg3)

variable (t : Fin cfg0.N)

/-- Where element `y` of block `t` lies in the array. -/
def place (y : S512x1408.Idx) : S8192x2816.Idx :=
  ValueIdx.ix2 ⟨t.val / 2 * 512 + (y 0).val, by have h : t.val < 32 := t.isLt; have h0 : (y 0).val < 512 := (y 0).isLt; omega⟩
    ⟨t.val % 2 * 1408 + (y 1).val, by have h1 : (y 1).val < 1408 := (y 1).isLt; omega⟩

theorem emb_4 (y : S512x1408.Idx) : (win0_4.blk t).view.emb y = place t y := by
  unfold place
  blk_ext [index_4]

theorem emb_5 (y : S512x1408.Idx) : (win0_5.blk t).view.emb y = place t y := by
  unfold place
  blk_ext [index_5]

/-- What the blocks of point `t` hold, by the array's index. -/
theorem blk_x (y : S512x1408.Idx) (k : Fin 1024) :
    (iblk m c 0 t : FVec Ideal S512x1024 .f32) (ValueIdx.ix2 (y 0) k) = X m c (ValueIdx.ix2 (place t y 0) k) := by
  refine congrArg (X m c) ?_
  unfold place
  blk_ext [index_0]

theorem blk_w (y : S512x1408.Idx) (k : Fin 1024) :
    (iblk m c 1 t : FVec Ideal S1408x1024 .bf16) (ValueIdx.ix2 (y 1) k) = W m c (ValueIdx.ix2 (place t y 1) k) := by
  refine congrArg (W m c) ?_
  unfold place
  blk_ext [index_1]

theorem blk_g (y : S512x1408.Idx) : (iblk m c 2 t : FVec Ideal S512x1408 .bf16) y = G m c (place t y) := by
  refine congrArg (G m c) ?_
  unfold place
  blk_ext [index_2]

theorem blk_u (y : S512x1408.Idx) : (iblk m c 3 t : FVec Ideal S512x1408 .bf16) y = U m c (place t y) := by
  refine congrArg (U m c) ?_
  unfold place
  blk_ext [index_3]

/-- A block's product is the whole product where the block lies. -/
theorem prod_eq (y : S512x1408.Idx) : prodT (φ := .f32) (ψ := .bf16) (iblk m c 0 t : FVec Ideal S512x1024 .f32) (iblk m c 1 t : FVec Ideal S1408x1024 .bf16) (y 0) (y 1)
    = prodT (X m c) (W m c) (place t y 0) (place t y 1) :=
  prodT_congr (fun k => blk_x m c t y k) (fun k => blk_w m c t y k)

/-- The arrays after the last point. -/
theorem final_gate : (dats m 0 c).arrAt 4 cfg0.N = dGate (X m c) (W m c) (G m c) (U m c) := by
  refine (dats m 0 c).arrAt_eq_of_covers 4 _ (by decide +kernel) fun t _ y => ?_
  refine (congrFun ((after0_4 m c t).trans (gate_eq _ _ _ _)) y).trans ?_
  refine Eq.trans ?_ (congrArg (dGate (X m c) (W m c) (G m c) (U m c)) (emb_4 t y).symm)
  show atGate _ _ _ = atGate _ _ _
  rw [prod_eq m c t y, blk_g m c t y, blk_u m c t y]

theorem final_up : (dats m 0 c).arrAt 5 cfg0.N = dUp (X m c) (W m c) (G m c) := by
  refine (dats m 0 c).arrAt_eq_of_covers 5 _ (by decide +kernel) fun t _ y => ?_
  refine (congrFun ((after0_5 m c t).trans (up_eq _ _ _ _)) y).trans ?_
  refine Eq.trans ?_ (congrArg (dUp (X m c) (W m c) (G m c)) (emb_5 t y).symm)
  show atUp _ _ = atUp _ _
  rw [prod_eq m c t y, blk_g m c t y]

end

section
open Cert.GatedBackPlainIdeal Cert.GatedBackPlainIdeal.Gen

/-- The reference's product with the transposed weights. -/
theorem reference_dot (x : FVec Ideal S8192x1024 .f32) (w : FVec Ideal S2816x1024 .bf16) (y : S8192x2816.Idx) :
    Host.dotGeneral (F := Ideal) dot_S8192x1024_S1024x2816_S8192x2816_1_0_0_1_n_n none x
      (transpose S1024x2816 [1, 0] (extf .f32 w bitsLt_bf16_f32) transposes_S2816x1024_S1024x2816_1_0) y = prodT x w (y 0) (y 1) := by
  refine (dot_eq x _ y).trans ?_
  refine Finset.sum_congr rfl fun k _ => congrArg (fun s : EReal => (x (ValueIdx.ix2 (y 0) k) : EReal) * s) ?_
  exact transpose_apply [1, 0] w transposes_S2816x1024_S1024x2816_1_0 (ValueIdx.ix2 k (y 1)) (ValueIdx.ix2 (y 1) k)
    (fun b => match b with | ⟨0, _⟩ => rfl | ⟨1, _⟩ => rfl)

/-- The logistic function of an array, as the reference spells it. -/
theorem logistic_apply (g : FVec Ideal S8192x2816 .f32) (y : S8192x2816.Idx) :
    Host.divf (F := Ideal) (broadcastInDim S8192x2816 ![] bcast_S_S8192x2816 (constant S_ .f32 0x3F800000#32))
      (addf (broadcastInDim S8192x2816 ![] bcast_S_S8192x2816 (constant S_ .f32 0x3F800000#32)) (Host.exp (Host.negf g))) y
      = Ideal.logistic (g y) := logistic_eq (g y)

/-- The reference's gradient at the gate, by the product, the branches and the logistic function of the gate. -/
theorem reference_gate (d g u s : FVec Ideal S8192x2816 .f32) (y : S8192x2816.Idx) (hs : s y = Ideal.logistic (g y)) :
    mulf (mulf d u) (addf (mulf (broadcastInDim S8192x2816 ![] bcast_S_S8192x2816 (constant S_ .f32 0x3F800000#32)) s)
      (mulf g (mulf (broadcastInDim S8192x2816 ![] bcast_S_S8192x2816 (constant S_ .f32 0x3F800000#32))
        (mulf s (subf (broadcastInDim S8192x2816 ![] bcast_S_S8192x2816 (constant S_ .f32 0x3F800000#32)) s))))) y
      = atGate (d y) (g y) (u y) := by
  show (d y : EReal) * u y * (Ideal.ofBits .f32 0x3F800000#32 * s y + (g y : EReal) * (Ideal.ofBits .f32 0x3F800000#32
    * ((s y : EReal) * (Ideal.ofBits .f32 0x3F800000#32 - s y)))) = _
  unfold atGate
  rw [one_bits, one_mul, one_mul, hs, ← slope_eq, ← mul_assoc]

theorem reference_up (d g s : FVec Ideal S8192x2816 .f32) (y : S8192x2816.Idx) (hs : s y = Ideal.logistic (g y)) :
    mulf d (mulf g s) y = atUp (d y) (g y) := by
  show (d y : EReal) * ((g y : EReal) * s y) = _
  unfold atUp
  rw [hs, ← mul_assoc]

end

/-- Kernel and reference, launched on the same arrays: both terminate, and their results agree. -/
theorem agree : Cert.algebraic_GatedBackIdeal_GatedBackPlainIdeal := by
  intro m g m' g' _ h
  refine ⟨fun c => dGate (X m c) (W m c) (G m c) (U m c), fun c => dUp (X m c) (W m c) (G m c), ?_, ?_⟩
  · exact (θ_run Cert.GatedBackIdeal.defs _ _).mono (fun r hr c => ⟨(hr c).1.trans (final_gate m c), (hr c).2.1.trans (final_up m c),
      (hr c).2.2⟩) (Cert.GatedBackIdeal.Value.run_blocks (F := Ideal) m g)
  · refine (θ_run Cert.GatedBackPlainIdeal.defs _ _).mono (fun r hr c => ⟨(hr c).1.trans ?_, (hr c).2.1.trans ?_, (hr c).2.2⟩)
      (Cert.GatedBackPlainIdeal.Value.run (F := Ideal) m' g')
    · rw [(h c).1, (h c).2.1, (h c).2.2.1, (h c).2.2.2]
      funext y
      refine (reference_gate _ _ _ _ y (logistic_apply _ y)).trans ?_
      exact congrArg (fun s => atGate s (G m c y) (U m c y)) (reference_dot (X m c) (W m c) y)
    · rw [(h c).1, (h c).2.1, (h c).2.2.1]
      funext y
      refine (reference_up _ _ _ y (logistic_apply _ y)).trans ?_
      exact congrArg (fun s => atUp s (G m c y)) (reference_dot (X m c) (W m c) y)

end Cert.BackValue

end
-- ==== Proof.GradGateValue.lean ====
/-
  The gradient of the gate's weights: the product of the mixer's input, transposed, with the gradient at the gate. A grid point
  adds 512 rows' products to an accumulator that sixteen points share, for half of the columns; the sixteenth writes it out.
-/
module

public import proofs.«01_k».proof.Defs
public import proofs.«01_k».proof.Proof.RowSums
public import proofs.«01_k».proof.Proof.Gen.GradGateIdeal.Value
public import proofs.«01_k».proof.Proof.Gen.GradGatePlainIdeal.Run

@[expose] public section

noncomputable section

namespace Cert.GateWeights

open Idealize.ShloMosaic Idealize.ShloMosaic.TcCoe Idealize.SL.Sem Cert.Gating Cert.RowSums
open Idealize.ShloMosaic.Pipeline (Dat)

section
open Cert.GradGateIdeal Cert.GradGateIdeal.Gen Cert.GradGateIdeal.Value

/-! ## What a point leaves, by its payloads -/

section
variable (c : Dev nD) (i : grid0.Coords) (a1 : Memref sig .tc .vmem S512x1024 .f32) (h1 : a1.IsWhole)
  (a2 : Memref sig .tc .vmem S512x1408 .bf16) (h2 : a2.IsWhole) (a3 : Memref sig .tc .vmem S1024x1408 .f32) (h3 : a3.IsWhole)
  (a4 : Memref sig .tc .vmem S1024x1408 .f32) (h4 : a4.IsWhole)
  (x0 : Vec Ideal S512x1024 .f32) (x1 : Vec Ideal S512x1408 .bf16) (s : Vec Ideal S1024x1408 .f32)

theorem acc_first (hc0 : cond0_0 i) (hc1 : ¬cond0_1 i) :
    sout0_A_0 c i a1 h1 a2 h2 a3 h3 a4 h4 hc0 hc1 x0 x1 = k0_pay2 (k0_pay1 (F := Ideal)) x0 x1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1024x1408) hz2, View.readCov_unit_zero (S := S1024x1408) _ hz2]
  simp only [View.readAt_eq_ld, h1.read_unread, h2.read_unread, View.ld_unit_zero (S := S512x1024) hz2, View.ld_unit_zero (S := S512x1408) hz2]

theorem acc_mid (hc0 : ¬cond0_0 i) (hc1 : ¬cond0_1 i) :
    sout0_B_0 c i a1 h1 a2 h2 a3 h3 a4 h4 hc0 hc1 x0 x1 s = k0_pay2 s x0 x1 := by
  unfold sout0_B_0
  rw [View.read_writes_eq_canon _ _ _ (scover0_B_0 c i a1 h1 a2 h2 a3 h3 a4 h4 hc0 hc1 x0 x1 s)]
  unfold kernelRun0_B
  dsimp only
  sl_unfold_words
  rw [View.canon_unit_zero hz2]
  simp only [View.readAt_eq_ld, h1.read_unread, h2.read_unread, h4.read_unread, View.ld_unit_zero (S := S512x1024) hz2,
    View.ld_unit_zero (S := S512x1408) hz2, View.ld_unit_zero (S := S1024x1408) hz2]

theorem out_last (hc0 : ¬cond0_0 i) (hc1 : cond0_1 i) :
    out0_C_2 c i a1 h1 a2 h2 a3 h3 a4 h4 hc0 hc1 x0 x1 s = k0_pay2 s x0 x1 := by
  unfold out0_C_2
  rw [View.read_writes_eq_canon _ _ _ (cover0_C_2 c i a1 h1 a2 h2 a3 h3 a4 h4 hc0 hc1 x0 x1 s)]
  unfold kernelRun0_C
  dsimp only
  sl_unfold_words
  rw [View.canon_unit_zero hz2, View.readCov_unit_zero (S := S1024x1408) _ hz2]
  simp only [View.readAt_eq_ld, h1.read_unread, h2.read_unread, h4.read_unread, View.ld_unit_zero (S := S512x1024) hz2,
    View.ld_unit_zero (S := S512x1408) hz2, View.ld_unit_zero (S := S1024x1408) hz2]

end

/-! ## The payloads at an index -/

theorem start_value (y : S1024x1408.Idx) : (k0_pay1 (F := Ideal) y : EReal) = 0 := by
  unfold k0_pay1
  pointwise

theorem step_value (s : Vec Ideal S1024x1408 .f32) (x0 : Vec Ideal S512x1024 .f32) (x1 : Vec Ideal S512x1408 .bf16) (r : Fin 1024) (q : Fin 1408) :
    (k0_pay2 s x0 x1 (ValueIdx.ix2 r q) : EReal) = (s (ValueIdx.ix2 r q) : EReal) + plain (φ := .f32) (ψ := .bf16) x0 x1 (ValueIdx.ix2 r q) := by
  unfold k0_pay2
  pointwise
  rfl

/-! ## The array after the last point -/

theorem index_0 : ∀ t : Fin grid0.N, win0_0.index t = ![t.val % 16, 0] := by decide +kernel
theorem index_1 : ∀ t : Fin grid0.N, win0_1.index t = ![t.val % 16, t.val / 16] := by decide +kernel
theorem index_2 : ∀ t : Fin grid0.N, win0_2.index t = ![0, t.val / 16] := by decide +kernel
theorem flush_2 : ∀ t : Fin grid0.N, win0_2.flush t = true → t.val % 16 = 15 := by decide +kernel

variable (m : (ℓ : Loc nD τ sig) → Buf (Elt Ideal) ℓ) (c : Dev nD)

abbrev A : FVec Ideal S8192x1024 .f32 := m ((c : Thread nD τ).loc main_arg0)
abbrev W : FVec Ideal S8192x2816 .bf16 := m ((c : Thread nD τ).loc main_arg1)

/-- Where column `q` of the blocks of point `t` lies in the arrays. -/
def col (n : ℕ) (h : n < 32) (q : Fin 1408) : Fin 2816 := ⟨n / 16 * 1408 + q.val, by have := q.isLt; omega⟩

theorem emb_2 (t : Fin cfg0.N) (y : S1024x1408.Idx) : (win0_2.blk t).view.emb y = ValueIdx.ix2 (y 0) (col t.val t.isLt (y 1)) := by
  unfold col
  blk_ext [index_2]

theorem blk_a (t : Fin cfg0.N) (k : Fin 512) (r : Fin 1024) (h : t.val % 16 * 512 + k.val < 8192) :
    (iblk m c 0 t : FVec Ideal S512x1024 .f32) (ValueIdx.ix2 k r) = A m c (ValueIdx.ix2 ⟨t.val % 16 * 512 + k.val, h⟩ r) := by
  refine congrArg (A m c) ?_
  blk_ext [index_0]

theorem blk_w (t : Fin cfg0.N) (k : Fin 512) (q : Fin 1408) (h : t.val % 16 * 512 + k.val < 8192) :
    (iblk m c 1 t : FVec Ideal S512x1408 .bf16) (ValueIdx.ix2 k q) = W m c (ValueIdx.ix2 ⟨t.val % 16 * 512 + k.val, h⟩ (col t.val t.isLt q)) := by
  refine congrArg (W m c) ?_
  unfold col
  blk_ext [index_1]

/-- What a point adds. -/
theorem add_point (t : Fin cfg0.N) (r : Fin 1024) (q : Fin 1408) :
    (plain (φ := .f32) (ψ := .bf16) (iblk m c 0 t : FVec Ideal S512x1024 .f32) (iblk m c 1 t : FVec Ideal S512x1408 .bf16) (ValueIdx.ix2 r q) : EReal)
      = block (A m c) (W m c) r (col t.val t.isLt q) (t.val % 16) :=
  block_eq _ _ _ _ _ _ _ _ _ (by omega) (fun k h => blk_a m c t k r h) (fun k h => blk_w m c t k q h)

theorem acc_start (r : Fin 1024) (q : Fin 1408) (n : ℕ) (h : n < cfg0.N) (h0 : n % 16 = 0) :
    ((outsAt0 m c n h).2 (ValueIdx.ix2 r q) : EReal) = block (A m c) (W m c) r (col n h q) 0 := by
  rw [outsAt0_A m c ⟨n, h⟩ h0 (by dsimp only; omega)]
  dsimp only
  rw [acc_first, step_value, start_value, zero_add]
  refine (add_point m c ⟨n, h⟩ r q).trans ?_
  dsimp only
  rw [h0]

theorem acc_next (r : Fin 1024) (q : Fin 1408) (n : ℕ) (h : n + 1 < cfg0.N) (h0 : (n + 1) % 16 ≠ 0) (h1 : (n + 1) % 16 ≠ 15) :
    ((outsAt0 m c (n + 1) h).2 (ValueIdx.ix2 r q) : EReal)
      = (outsAt0 m c n (Nat.lt_of_succ_lt h)).2 (ValueIdx.ix2 r q) + block (A m c) (W m c) r (col (n + 1) h q) ((n + 1) % 16) := by
  rw [outsAt0_B m c ⟨n + 1, h⟩ h0 h1]
  dsimp only
  rw [acc_mid, step_value]
  exact congrArg _ (add_point m c ⟨n + 1, h⟩ r q)

/-- What the sixteenth point of a run writes out. -/
theorem out_point (t : Fin cfg0.N) (h1 : t.val % 16 = 15) (r : Fin 1024) (q : Fin 1408) :
    ((outsAt0 m c t.val t.isLt).1 (ValueIdx.ix2 r q) : EReal) = plain (A m c) (W m c) (ValueIdx.ix2 r (col t.val t.isLt q)) := by
  refine (whole (fun n h => ((outsAt0 m c n h).2 (ValueIdx.ix2 r q) : EReal)) (fun n h => block (A m c) (W m c) r (col n h q)) _
    (fun n h h0 => ?_) (acc_start m c r q) (acc_next m c r q) t.val t.isLt h1 fun hp => ?_).trans (all_rows _ _ _ _)
  · refine congrArg (block (A m c) (W m c) r) ?_
    unfold col
    exact Fin.ext (congrArg (fun k => k * 1408 + q.val) (by omega : n / 16 = (n + 1) / 16))
  · rw [outsAt0_C m c t (by omega) h1]
    dsimp only
    rw [out_last, step_value]
    refine congrArg _ ((add_point m c t r q).trans ?_)
    rw [h1]

theorem final : (dats m 0 c).arrAt 2 cfg0.N = plain (A m c) (W m c) := by
  refine (dats m 0 c).arrAt_eq_of_covers 2 _ (by decide +kernel) fun t hf y => ?_
  obtain ⟨r, q, rfl⟩ : ∃ (r : Fin 1024) (q : Fin 1408), y = ValueIdx.ix2 r q := ⟨y 0, y 1, ValueIdx.eq_ix2 y⟩
  refine (congrFun (after0_2 m c t) _).trans ((out_point m c t (flush_2 t hf) r q).trans ?_)
  exact congrArg (plain (A m c) (W m c)) (emb_2 t (ValueIdx.ix2 r q)).symm

end

/-- Kernel and reference, launched on the same arrays: both terminate, and their results agree. -/
theorem agree : Cert.algebraic_GradGateIdeal_GradGatePlainIdeal := by
  intro m g m' g' _ h
  refine ⟨fun c => plain (A m c) (W m c), ?_, ?_⟩
  · exact (θ_run Cert.GradGateIdeal.defs _ _).mono (fun r hr c => ⟨(hr c).1.trans (final m c), (hr c).2⟩)
      (Cert.GradGateIdeal.Value.run_blocks (F := Ideal) m g)
  · refine (θ_run Cert.GradGatePlainIdeal.defs _ _).mono (fun r hr c => ⟨(hr c).1.trans ?_, (hr c).2⟩)
      (Cert.GradGatePlainIdeal.Value.run (F := Ideal) m' g')
    refine (transposed_eq _ _ _).trans ?_
    show plain _ _ = plain _ _
    rw [(h c).1, (h c).2]
    rfl

end Cert.GateWeights

end
-- ==== Proof.AttentionTerms.lean ====
/-
  What a grid point of the attention leaves, by its payloads: the running maximum, the running sum of exponentials and the running
  weighted sum of values, and, at the last point of a row of blocks, the two results.
-/
module

public import proofs.«01_k».proof.Defs
public import proofs.«01_k».proof.Proof.Gating
public import proofs.«01_k».proof.Proof.Gen.AttentionIdeal.Value

@[expose] public section

noncomputable section

namespace Cert.AttentionTerms

open Idealize.ShloMosaic Idealize.ShloMosaic.TcCoe Idealize.SL.Sem Cert.Gating
open Cert.AttentionIdeal Cert.AttentionIdeal.Gen

theorem hz3 : (![0, 0, 0] : Fin 3 → Nat) = fun _ => 0 := funext fun a => by fin_cases a <;> rfl

/-- A grid point's place among the query blocks and among the key blocks, as words. -/
abbrev qi (i : grid0.Coords) : BitVec 32 := BitVec.ofNat 32 (i 1).val
abbrev kj (i : grid0.Coords) : BitVec 32 := BitVec.ofNat 32 (i 2).val

/-- The three accumulators after a visited block, from those before it. -/
def newMax (i : grid0.Coords) (x0 x1 : Vec Ideal S1024x256 .bf16) (s0 : Vec Ideal S1024x1 .f32) : Vec Ideal S1024x1 .f32 :=
  k0_pay5 (k0_pay9 (qi i) (kj i) x0 x1 s0)
def newSum (i : grid0.Coords) (x0 x1 : Vec Ideal S1024x256 .bf16) (s0 s1 : Vec Ideal S1024x1 .f32) : Vec Ideal S1024x1 .f32 :=
  k0_pay12 (qi i) (kj i) x0 x1 s0 s0 s1
def newAcc (i : grid0.Coords) (x0 x1 : Vec Ideal S1024x256 .bf16) (x2 : Vec Ideal S1024x128 .bf16) (s0 : Vec Ideal S1024x1 .f32)
    (s2 : Vec Ideal S1024x128 .f32) : Vec Ideal S1024x128 .f32 :=
  k0_pay4 (k0_pay10 (qi i) (kj i) x0 x1 s0) (k0_pay11 (qi i) (kj i) x0 x1 s0 s0) s2 x2

variable (c : Dev nD) (i : grid0.Coords) (a0 : Memref sig .tc .vmem S1024x256 .bf16) (h0 : a0.IsWhole)
  (a1 : Memref sig .tc .vmem S1024x256 .bf16) (h1 : a1.IsWhole) (a2 : Memref sig .tc .vmem S1024x128 .bf16) (h2 : a2.IsWhole)
  (a3 : Memref sig .tc .vmem S1024x128 .f32) (h3 : a3.IsWhole) (a4 : Memref sig .tc .vmem S1x1024x1 .f32) (h4 : a4.IsWhole)
  (b0 : Memref sig .tc .vmem S1024x1 .f32) (g0 : b0.IsWhole) (b1 : Memref sig .tc .vmem S1024x1 .f32) (g1 : b1.IsWhole)
  (b2 : Memref sig .tc .vmem S1024x128 .f32) (g2 : b2.IsWhole)
  (x0 x1 : Vec Ideal S1024x256 .bf16) (x2 : Vec Ideal S1024x128 .bf16)
  (s0 s1 : Vec Ideal S1024x1 .f32) (s2 : Vec Ideal S1024x128 .f32)

theorem max_A (hc0 : cond0_0 i) (hc1 : cond0_1 i) (hc2 : ¬cond0_2 i) :
    sout0_A_0 c i a0 h0 a1 h1 a2 h2 a3 h3 a4 h4 b0 g0 b1 g1 b2 g2 hc0 hc1 hc2 x0 x1 x2 = newMax i x0 x1 (k0_pay1 (F := Ideal)) := by
  unfold sout0_A_0
  rw [View.read_writes_eq_canon _ _ _ (scover0_A_0 c i a0 h0 a1 h1 a2 h2 a3 h3 a4 h4 b0 g0 b1 g1 b2 g2 hc0 hc1 hc2 x0 x1 x2)]
  unfold kernelRun0_A
  dsimp only
  sl_unfold_words
  rw [View.canon_cons_unit_zero (S := S1024x1) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem sum_A (hc0 : cond0_0 i) (hc1 : cond0_1 i) (hc2 : ¬cond0_2 i) :
    sout0_A_1 c i a0 h0 a1 h1 a2 h2 a3 h3 a4 h4 b0 g0 b1 g1 b2 g2 hc0 hc1 hc2 x0 x1 x2 = newSum i x0 x1 (k0_pay1 (F := Ideal)) (k0_pay2 (F := Ideal)) := by
  unfold sout0_A_1
  rw [View.read_writes_eq_canon _ _ _ (scover0_A_1 c i a0 h0 a1 h1 a2 h2 a3 h3 a4 h4 b0 g0 b1 g1 b2 g2 hc0 hc1 hc2 x0 x1 x2)]
  unfold kernelRun0_A
  dsimp only
  sl_unfold_words
  rw [View.canon_cons_unit_zero (S := S1024x1) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem acc_A (hc0 : cond0_0 i) (hc1 : cond0_1 i) (hc2 : ¬cond0_2 i) :
    sout0_A_2 c i a0 h0 a1 h1 a2 h2 a3 h3 a4 h4 b0 g0 b1 g1 b2 g2 hc0 hc1 hc2 x0 x1 x2 = newAcc i x0 x1 x2 (k0_pay1 (F := Ideal)) (k0_pay3 (F := Ideal)) := by
  unfold sout0_A_2
  rw [View.read_writes_eq_canon _ _ _ (scover0_A_2 c i a0 h0 a1 h1 a2 h2 a3 h3 a4 h4 b0 g0 b1 g1 b2 g2 hc0 hc1 hc2 x0 x1 x2)]
  unfold kernelRun0_A
  dsimp only
  sl_unfold_words
  rw [View.canon_cons_unit_zero (S := S1024x128) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem max_D (hc0 : ¬cond0_0 i) (hc1 : cond0_1 i) (hc2 : ¬cond0_2 i) :
    sout0_D_0 c i a0 h0 a1 h1 a2 h2 a3 h3 a4 h4 b0 g0 b1 g1 b2 g2 hc0 hc1 hc2 x0 x1 x2 s0 s1 s2 = newMax i x0 x1 s0 := by
  unfold sout0_D_0
  rw [View.read_writes_eq_canon _ _ _ (scover0_D_0 c i a0 h0 a1 h1 a2 h2 a3 h3 a4 h4 b0 g0 b1 g1 b2 g2 hc0 hc1 hc2 x0 x1 x2 s0 s1 s2)]
  unfold kernelRun0_D
  dsimp only
  sl_unfold_words
  rw [View.canon_unit_zero (S := S1024x1) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem sum_D (hc0 : ¬cond0_0 i) (hc1 : cond0_1 i) (hc2 : ¬cond0_2 i) :
    sout0_D_1 c i a0 h0 a1 h1 a2 h2 a3 h3 a4 h4 b0 g0 b1 g1 b2 g2 hc0 hc1 hc2 x0 x1 x2 s0 s1 s2 = newSum i x0 x1 s0 s1 := by
  unfold sout0_D_1
  rw [View.read_writes_eq_canon _ _ _ (scover0_D_1 c i a0 h0 a1 h1 a2 h2 a3 h3 a4 h4 b0 g0 b1 g1 b2 g2 hc0 hc1 hc2 x0 x1 x2 s0 s1 s2)]
  unfold kernelRun0_D
  dsimp only
  sl_unfold_words
  rw [View.canon_unit_zero (S := S1024x1) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem acc_D (hc0 : ¬cond0_0 i) (hc1 : cond0_1 i) (hc2 : ¬cond0_2 i) :
    sout0_D_2 c i a0 h0 a1 h1 a2 h2 a3 h3 a4 h4 b0 g0 b1 g1 b2 g2 hc0 hc1 hc2 x0 x1 x2 s0 s1 s2 = newAcc i x0 x1 x2 s0 s2 := by
  unfold sout0_D_2
  rw [View.read_writes_eq_canon _ _ _ (scover0_D_2 c i a0 h0 a1 h1 a2 h2 a3 h3 a4 h4 b0 g0 b1 g1 b2 g2 hc0 hc1 hc2 x0 x1 x2 s0 s1 s2)]
  unfold kernelRun0_D
  dsimp only
  sl_unfold_words
  rw [View.canon_unit_zero (S := S1024x128) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem max_E (hc0 : ¬cond0_0 i) (hc1 : cond0_1 i) (hc2 : cond0_2 i) :
    sout0_E_0 c i a0 h0 a1 h1 a2 h2 a3 h3 a4 h4 b0 g0 b1 g1 b2 g2 hc0 hc1 hc2 x0 x1 x2 s0 s1 s2 = newMax i x0 x1 s0 := by
  unfold sout0_E_0
  rw [View.read_writes_eq_canon _ _ _ (scover0_E_0 c i a0 h0 a1 h1 a2 h2 a3 h3 a4 h4 b0 g0 b1 g1 b2 g2 hc0 hc1 hc2 x0 x1 x2 s0 s1 s2)]
  unfold kernelRun0_E
  dsimp only
  sl_unfold_words
  rw [View.canon_unit_zero (S := S1024x1) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem sum_E (hc0 : ¬cond0_0 i) (hc1 : cond0_1 i) (hc2 : cond0_2 i) :
    sout0_E_1 c i a0 h0 a1 h1 a2 h2 a3 h3 a4 h4 b0 g0 b1 g1 b2 g2 hc0 hc1 hc2 x0 x1 x2 s0 s1 s2 = newSum i x0 x1 s0 s1 := by
  unfold sout0_E_1
  rw [View.read_writes_eq_canon _ _ _ (scover0_E_1 c i a0 h0 a1 h1 a2 h2 a3 h3 a4 h4 b0 g0 b1 g1 b2 g2 hc0 hc1 hc2 x0 x1 x2 s0 s1 s2)]
  unfold kernelRun0_E
  dsimp only
  sl_unfold_words
  rw [View.canon_unit_zero (S := S1024x1) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem acc_E (hc0 : ¬cond0_0 i) (hc1 : cond0_1 i) (hc2 : cond0_2 i) :
    sout0_E_2 c i a0 h0 a1 h1 a2 h2 a3 h3 a4 h4 b0 g0 b1 g1 b2 g2 hc0 hc1 hc2 x0 x1 x2 s0 s1 s2 = newAcc i x0 x1 x2 s0 s2 := by
  unfold sout0_E_2
  rw [View.read_writes_eq_canon _ _ _ (scover0_E_2 c i a0 h0 a1 h1 a2 h2 a3 h3 a4 h4 b0 g0 b1 g1 b2 g2 hc0 hc1 hc2 x0 x1 x2 s0 s1 s2)]
  unfold kernelRun0_E
  dsimp only
  sl_unfold_words
  rw [View.canon_unit_zero (S := S1024x128) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem o_E (hc0 : ¬cond0_0 i) (hc1 : cond0_1 i) (hc2 : cond0_2 i) :
    out0_E_3 c i a0 h0 a1 h1 a2 h2 a3 h3 a4 h4 b0 g0 b1 g1 b2 g2 hc0 hc1 hc2 x0 x1 x2 s0 s1 s2 = k0_pay6 (newAcc i x0 x1 x2 s0 s2) (newSum i x0 x1 s0 s1) := by
  unfold out0_E_3
  rw [View.read_writes_eq_canon _ _ _ (cover0_E_3 c i a0 h0 a1 h1 a2 h2 a3 h3 a4 h4 b0 g0 b1 g1 b2 g2 hc0 hc1 hc2 x0 x1 x2 s0 s1 s2)]
  unfold kernelRun0_E
  dsimp only
  sl_unfold_words
  rw [View.canon_unit_zero (S := S1024x128) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem lse_E (hc0 : ¬cond0_0 i) (hc1 : cond0_1 i) (hc2 : cond0_2 i) :
    out0_E_4 c i a0 h0 a1 h1 a2 h2 a3 h3 a4 h4 b0 g0 b1 g1 b2 g2 hc0 hc1 hc2 x0 x1 x2 s0 s1 s2 = k0_pay7 (newMax i x0 x1 s0) (newSum i x0 x1 s0 s1) := by
  unfold out0_E_4
  rw [View.read_writes_eq_canon _ _ _ (cover0_E_4 c i a0 h0 a1 h1 a2 h2 a3 h3 a4 h4 b0 g0 b1 g1 b2 g2 hc0 hc1 hc2 x0 x1 x2 s0 s1 s2)]
  unfold kernelRun0_E
  dsimp only
  sl_unfold_words
  rw [View.canon_unit_zero (S := S1x1024x1) hz3]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]
  rfl

theorem o_C (hc0 : ¬cond0_0 i) (hc1 : ¬cond0_1 i) (hc2 : cond0_2 i) :
    out0_C_3 c i a0 h0 a1 h1 a2 h2 a3 h3 a4 h4 b0 g0 b1 g1 b2 g2 hc0 hc1 hc2 x0 x1 x2 s0 s1 s2 = k0_pay6 s2 s1 := by
  unfold out0_C_3
  rw [View.read_writes_eq_canon _ _ _ (cover0_C_3 c i a0 h0 a1 h1 a2 h2 a3 h3 a4 h4 b0 g0 b1 g1 b2 g2 hc0 hc1 hc2 x0 x1 x2 s0 s1 s2)]
  unfold kernelRun0_C
  dsimp only
  sl_unfold_words
  rw [View.canon_unit_zero (S := S1024x128) hz2]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]

theorem lse_C (hc0 : ¬cond0_0 i) (hc1 : ¬cond0_1 i) (hc2 : cond0_2 i) :
    out0_C_4 c i a0 h0 a1 h1 a2 h2 a3 h3 a4 h4 b0 g0 b1 g1 b2 g2 hc0 hc1 hc2 x0 x1 x2 s0 s1 s2 = k0_pay7 s0 s1 := by
  unfold out0_C_4
  rw [View.read_writes_eq_canon _ _ _ (cover0_C_4 c i a0 h0 a1 h1 a2 h2 a3 h3 a4 h4 b0 g0 b1 g1 b2 g2 hc0 hc1 hc2 x0 x1 x2 s0 s1 s2)]
  unfold kernelRun0_C
  dsimp only
  sl_unfold_words
  rw [View.canon_unit_zero (S := S1x1024x1) hz3]
  simp only [View.readCov_unit_zero (S := S1024x1) _ hz2, View.readCov_unit_zero (S := S1024x128) _ hz2, View.readAt_eq_ld,
    h0.read_unread, h1.read_unread, h2.read_unread, g0.read_unread, g1.read_unread, g2.read_unread,
    View.ld_unit_zero (S := S1024x256) hz2, View.ld_unit_zero (S := S1024x128) hz2, View.ld_unit_zero (S := S1024x1) hz2]

end Cert.AttentionTerms

end
-- ==== Proof.Online.lean ====
/-
  A softmax taken block by block: a row's maximum, its sum of exponentials and its weighted sum of values, carried from one block of
  scores to the next, are those of the whole row. Scores are extended reals short of `⊤`; a hidden score is `⊥`.
-/
module

public import Idealize.ShloMosaic.Lib.MatmulPlain
public import Idealize.ShloMosaic.Lib.ValueIdx

@[expose] public section

noncomputable section

namespace Cert.Online

open Idealize.ShloMosaic

theorem exp_nonneg (x : EReal) : 0 ≤ Ideal.exp x := by
  induction x with
  | bot => exact le_refl _
  | top => exact le_top
  | coe r => exact EReal.coe_nonneg.mpr (Real.exp_pos r).le

/-- Rescaling an exponential from the maximum `a` to a later maximum `b`. -/
theorem exp_rescale (a c : EReal) (b : ℝ) (hc : c ≤ a) (hb : a ≤ b) :
    Ideal.exp (a - b) * Ideal.exp (c - a) = Ideal.exp (c - b) := by
  induction a with
  | bot =>
    obtain rfl : c = ⊥ := le_bot_iff.mp hc
    have h : (⊥ : EReal) - (b : EReal) = ⊥ := by rw [sub_eq_add_neg, EReal.bot_add]
    rw [h]
    exact zero_mul _
  | top => exact absurd hb (by simp)
  | coe x =>
    induction c with
    | bot =>
      have h : ∀ y : ℝ, (⊥ : EReal) - (y : EReal) = ⊥ := fun y => by rw [sub_eq_add_neg, EReal.bot_add]
      rw [h, h]
      exact mul_zero _
    | top => exact absurd hc (by simp)
    | coe y =>
      rw [← EReal.coe_sub, ← EReal.coe_sub, ← EReal.coe_sub]
      change ((Real.exp (x - b) : ℝ) : EReal) * ((Real.exp (y - x) : ℝ) : EReal) = ((Real.exp (y - b) : ℝ) : EReal)
      rw [← EReal.coe_mul, ← Real.exp_add]
      congr 2
      ring

theorem exp_ne_top (a : EReal) (b : ℝ) (hb : a ≤ b) : Ideal.exp (a - b) ≠ ⊤ := by
  induction a with
  | bot =>
    have h : (⊥ : EReal) - (b : EReal) = ⊥ := by rw [sub_eq_add_neg, EReal.bot_add]
    rw [h]
    exact EReal.zero_ne_top
  | top => exact absurd hb (by simp)
  | coe x => rw [← EReal.coe_sub]; exact EReal.coe_ne_top _

/-- A nonnegative finite factor goes into a sum. -/
theorem mul_sum_of {ι : Type} (t : Finset ι) (x : EReal) (h0 : 0 ≤ x) (h1 : x ≠ ⊤) (f : ι → EReal) :
    x * ∑ k ∈ t, f k = ∑ k ∈ t, x * f k := by
  classical
  induction t using Finset.induction_on with
  | empty => simp
  | insert k t hk ih => rw [Finset.sum_insert hk, Finset.sum_insert hk, EReal.left_distrib_of_nonneg_of_ne_top h0 h1, ih]

theorem coe_sum_eq {ι : Type} (t : Finset ι) (e : ι → ℝ) : ((∑ k ∈ t, e k : ℝ) : EReal) = ∑ k ∈ t, (e k : EReal) := by
  classical
  induction t using Finset.induction_on with
  | empty => simp
  | insert k t hk ih => rw [Finset.sum_insert hk, Finset.sum_insert hk, EReal.coe_add, ih]

/-- The largest of the first `n` scores. -/
def top (s : ℕ → EReal) (n : ℕ) : EReal := (Finset.range n).sup s

/-- The first `n` values, weighted by the exponentials of their scores below `b`. -/
def weighted (s v : ℕ → EReal) (b : EReal) (n : ℕ) : EReal := ∑ k ∈ Finset.range n, Ideal.exp (s k - b) * v k

/-- The sum of the first `n` exponentials. -/
def mass (s : ℕ → EReal) (b : EReal) (n : ℕ) : EReal := ∑ k ∈ Finset.range n, Ideal.exp (s k - b)

theorem mass_eq (s : ℕ → EReal) (b : EReal) (n : ℕ) : mass s b n = weighted s (fun _ => 1) b n :=
  Finset.sum_congr rfl fun k _ => (mul_one _).symm

theorem le_top_of (s : ℕ → EReal) {k n : ℕ} (h : k < n) : s k ≤ top s n := Finset.le_sup (f := s) (Finset.mem_range.mpr h)

theorem top_zero (s : ℕ → EReal) : top s 0 = ⊥ := rfl

theorem top_add (s : ℕ → EReal) (n w : ℕ) : top s (n + w) = max (top s n) (top (fun k => s (n + k)) w) := by
  refine le_antisymm (Finset.sup_le fun k hk => ?_) (max_le (Finset.sup_mono fun k hk => ?_) (Finset.sup_le fun k hk => ?_))
  · have hk := Finset.mem_range.mp hk
    by_cases h : k < n
    · exact le_max_of_le_left (le_top_of s h)
    · refine le_max_of_le_right ?_
      have := le_top_of (fun k => s (n + k)) (k := k - n) (n := w) (by omega)
      rwa [Nat.add_sub_cancel' (by omega : n ≤ k)] at this
  · exact Finset.mem_range.mpr (by have := Finset.mem_range.mp hk; omega)
  · exact le_top_of s (by have := Finset.mem_range.mp hk; omega)

/-- A block's scores added to the weighted sum of those before it. -/
theorem weighted_add (s v : ℕ → EReal) (n w : ℕ) (b : ℝ) (hb : top s (n + w) = b) :
    weighted s v (top s (n + w)) (n + w)
      = Ideal.exp (top s n - top s (n + w)) * weighted s v (top s n) n
        + ∑ k ∈ Finset.range w, Ideal.exp (s (n + k) - top s (n + w)) * v (n + k) := by
  have hle : top s n ≤ (b : EReal) := hb ▸ (top_add s n w ▸ le_max_left _ _)
  rw [hb]
  unfold weighted
  rw [Finset.sum_range_add, mul_sum_of _ _ (exp_nonneg _) (exp_ne_top _ _ hle)]
  congr 1
  refine Finset.sum_congr rfl fun k hk => ?_
  rw [← mul_assoc, exp_rescale _ _ _ (le_top_of s (Finset.mem_range.mp hk)) hle]

theorem mass_add (s : ℕ → EReal) (n w : ℕ) (b : ℝ) (hb : top s (n + w) = b) :
    mass s (top s (n + w)) (n + w)
      = Ideal.exp (top s n - top s (n + w)) * mass s (top s n) n + ∑ k ∈ Finset.range w, Ideal.exp (s (n + k) - top s (n + w)) := by
  rw [mass_eq, mass_eq, weighted_add s _ n w b hb]
  congr 1
  exact Finset.sum_congr rfl fun k _ => mul_one _

/-- Hidden scores past `n` change nothing. -/
theorem top_tail (s : ℕ → EReal) (n w : ℕ) (h : ∀ k, n ≤ k → s k = ⊥) : top s (n + w) = top s n := by
  rw [top_add, max_eq_left]
  exact Finset.sup_le fun k _ => (h (n + k) (by omega)).le.trans bot_le

theorem weighted_tail (s v : ℕ → EReal) (b : ℝ) (n w : ℕ) (h : ∀ k, n ≤ k → s k = ⊥) : weighted s v b (n + w) = weighted s v b n := by
  unfold weighted
  rw [Finset.sum_range_add]
  refine (congrArg _ (Finset.sum_eq_zero fun k _ => ?_)).trans (add_zero _)
  have hb : (⊥ : EReal) - (b : EReal) = ⊥ := by rw [sub_eq_add_neg, EReal.bot_add]
  rw [h (n + k) (by omega), hb]
  exact zero_mul _

theorem mass_tail (s : ℕ → EReal) (b : ℝ) (n w : ℕ) (h : ∀ k, n ≤ k → s k = ⊥) : mass s b (n + w) = mass s b n := by
  rw [mass_eq, mass_eq, weighted_tail s _ b n w h]

/-- The largest of scores short of `⊤` of which the first is real is real. -/
theorem top_real (s : ℕ → EReal) (n : ℕ) (hn : 0 < n) (h0 : s 0 ≠ ⊥) (h : ∀ k, s k ≠ ⊤) : ∃ b : ℝ, top s n = b := by
  have h1 : top s n ≠ ⊤ := by
    refine ne_of_lt ((Finset.sup_lt_iff (by simp)).mpr fun k _ => lt_top_iff_ne_top.mpr (h k))
  have h2 : top s n ≠ ⊥ := fun e => h0 (le_bot_iff.mp (e ▸ le_top_of s hn))
  exact ⟨(top s n).toReal, (EReal.coe_toReal h1 h2).symm⟩

/-- The sum of exponentials is a positive real. -/
theorem mass_real (s : ℕ → EReal) (b : ℝ) (n : ℕ) (hn : 0 < n) (h0 : s 0 ≠ ⊥) (h : ∀ k, s k ≠ ⊤) : ∃ l : ℝ, 0 < l ∧ mass s b n = l := by
  have key : ∀ k, ∃ e : ℝ, 0 ≤ e ∧ Ideal.exp (s k - b) = e ∧ (s k ≠ ⊥ → 0 < e) := fun k => by
    have hk := h k
    generalize s k = x at hk ⊢
    induction x with
    | bot =>
      have hb : (⊥ : EReal) - (b : EReal) = ⊥ := by rw [sub_eq_add_neg, EReal.bot_add]
      exact ⟨0, le_refl _, by rw [hb]; rfl, fun e => absurd rfl e⟩
    | top => exact absurd rfl hk
    | coe x => exact ⟨Real.exp (x - b), (Real.exp_pos _).le, by rw [← EReal.coe_sub]; rfl, fun _ => Real.exp_pos _⟩
  choose e he0 he he1 using key
  refine ⟨∑ k ∈ Finset.range n, e k, ?_, ?_⟩
  · exact Finset.sum_pos' (fun k _ => he0 k) ⟨0, Finset.mem_range.mpr hn, he1 0 h0⟩
  · unfold mass
    rw [Finset.sum_congr rfl fun k _ => he k]
    exact (coe_sum_eq _ _).symm

/-- The weighted sum over the sum of exponentials is the sum of the values by their softmax weights. -/
theorem weighted_div (s v : ℕ → EReal) (b : EReal) (l : ℝ) (hl : 0 < l) (n : ℕ) :
    Ideal.div (weighted s v b n) l = ∑ k ∈ Finset.range n, Ideal.div (Ideal.exp (s k - b)) l * v k := by
  have hl' : (0 : EReal) ≤ ((1 / l : ℝ) : EReal) := EReal.coe_nonneg.mpr (by positivity)
  rw [Ideal.div_coe hl.ne', mul_comm, weighted, mul_sum_of _ _ hl' (EReal.coe_ne_top _)]
  refine Finset.sum_congr rfl fun k _ => ?_
  rw [Ideal.div_coe hl.ne', ← mul_assoc, mul_comm ((1 / l : ℝ) : EReal)]

end Cert.Online

end
-- ==== Proof.AttentionRows.lean ====
/-
  The attention's payloads at an index: scores hidden from later chunks, and what a block of keys does to a row's maximum, its sum of
  exponentials and its weighted sum of values.
-/
module

public import proofs.«01_k».proof.Proof.AttentionTerms
public import proofs.«01_k».proof.Proof.Online
public import Idealize.ShloMosaic.Lib.Pointwise

@[expose] public section

noncomputable section

namespace Cert.AttentionRows

open Idealize.ShloMosaic Idealize.ShloMosaic.TcCoe Idealize.SL.Sem Cert.Gating Cert.Online
open Cert.AttentionIdeal Cert.AttentionIdeal.Gen

/-! ## Words -/

theorem shift_word : ∀ n : Fin 8192, IntOp.shrsi .vector (BitVec.ofNat 32 n.val) 6#32 = BitVec.ofNat 32 (n.val / 64) := by
  decide +kernel

theorem sle_word (a b : ℕ) (ha : a < 8192) (hb : b < 8192) :
    IntOp.cmpi .sle (BitVec.ofNat 32 a) (BitVec.ofNat 32 b) = if a ≤ b then 1#1 else 0#1 := by
  have h : ∀ n : ℕ, n < 8192 → (BitVec.ofNat 32 n).toInt = n := fun n hn => by
    refine (BitVec.toInt_ofNat' (n := 32) (x := n)).trans ?_
    rw [Int.bmod_def]
    omega
  unfold IntOp.cmpi
  dsimp only
  rw [BitVec.sle, h a ha, h b hb]
  by_cases hab : a ≤ b
  · simp [hab]
  · simp [hab]

theorem neg_inf_bits : Ideal.ofBits .f32 0xFF800000#32 = (⊥ : EReal) := by
  simp [Ideal.ofBits, Ideal.ieee]

/-- The scale of the scores. -/
def scale : EReal := Ideal.ofBits .f32 0x3D93CD3A#32

theorem mask_value : Named.named (F := Ideal) κ "mask" (φ := .f32) 0xF149F2CA#32 = (⊥ : EReal) :=
  IdealRules.named_const.ideal_named_scalar _ _ _ _ rfl

/-- A score: hidden where the key's chunk comes after the query's. -/
theorem score_value (i j : ℕ) (hi : i < 8) (hj : j < 8) (q k : Vec Ideal S1024x256 .bf16) (r κ' : Fin 1024) :
    (k0_pay8 (BitVec.ofNat 32 i) (BitVec.ofNat 32 j) q k (ValueIdx.ix2 r κ') : EReal)
      = if (j * 1024 + κ'.val) / 64 ≤ (i * 1024 + r.val) / 64 then prodT (φ := .bf16) (ψ := .bf16) q k r κ' * scale else ⊥ := by
  unfold k0_pay8
  pointwise
  have hr := r.isLt
  have hk := κ'.isLt
  have w : ∀ x n : ℕ, IntOp.addi (BitVec.ofNat 32 x) (Scalar.muli (BitVec.ofNat 32 n) 1024#32) = BitVec.ofNat 32 (n * 1024 + x) := fun x n => by
    refine BitVec.eq_of_toNat_eq ?_
    change ((BitVec.ofNat 32 x) + (BitVec.ofNat 32 n) * 1024#32).toNat = _
    simp only [BitVec.toNat_add, BitVec.toNat_mul, BitVec.toNat_ofNat]
    omega
  rw [w, w, shift_word ⟨j * 1024 + κ'.val, by omega⟩, shift_word ⟨i * 1024 + r.val, by omega⟩, sle_word _ _ (by dsimp only; omega) (by dsimp only; omega), mask_value]
  dsimp only
  by_cases h : (j * 1024 + κ'.val) / 64 ≤ (i * 1024 + r.val) / 64
  · rw [if_pos h, if_pos h]
    rfl
  · rw [if_neg h, if_neg h]
    rfl

theorem max_value (i j : BitVec 32) (q k : Vec Ideal S1024x256 .bf16) (s : Vec Ideal S1024x1 .f32) (r : Fin 1024) :
    (k0_pay9 i j q k s (ValueIdx.ix2 r 0) : EReal)
      = max (s (ValueIdx.ix2 r 0) : EReal) (Finset.univ.sup fun κ' : Fin 1024 => (k0_pay8 i j q k (ValueIdx.ix2 r κ') : EReal)) := by
  unfold k0_pay9
  pointwise
  rw [neg_inf_bits]
  rfl

theorem sum_value (i j : BitVec 32) (q k : Vec Ideal S1024x256 .bf16) (s s' l : Vec Ideal S1024x1 .f32) (r : Fin 1024) :
    (k0_pay12 i j q k s s' l (ValueIdx.ix2 r 0) : EReal)
      = Ideal.exp ((s' (ValueIdx.ix2 r 0) : EReal) - k0_pay9 i j q k s (ValueIdx.ix2 r 0)) * l (ValueIdx.ix2 r 0)
        + ∑ κ' : Fin 1024, Ideal.exp ((k0_pay8 i j q k (ValueIdx.ix2 r κ') : EReal) - k0_pay9 i j q k s (ValueIdx.ix2 r 0)) := by
  unfold k0_pay12 k0_pay11 k0_pay10
  pointwise
  rfl

theorem acc_value (p : FVec Ideal S1024x1024 .f32) (a : FVec Ideal S1024x1 .f32) (s : Vec Ideal S1024x128 .f32) (v : Vec Ideal S1024x128 .bf16)
    (r : Fin 1024) (d : Fin 128) :
    (k0_pay4 p a s v (ValueIdx.ix2 r d) : EReal) = (a (ValueIdx.ix2 r 0) : EReal) * s (ValueIdx.ix2 r d) + prod (φ := .f32) (ψ := .bf16) p v r d := by
  unfold k0_pay4
  pointwise
  rfl

theorem weight_value (i j : BitVec 32) (q k : Vec Ideal S1024x256 .bf16) (s : Vec Ideal S1024x1 .f32) (r κ' : Fin 1024) :
    (k0_pay10 i j q k s (ValueIdx.ix2 r κ') : EReal)
      = Ideal.exp ((k0_pay8 i j q k (ValueIdx.ix2 r κ') : EReal) - k0_pay9 i j q k s (ValueIdx.ix2 r 0)) := by
  unfold k0_pay10
  pointwise
  rfl

theorem factor_value (i j : BitVec 32) (q k : Vec Ideal S1024x256 .bf16) (s s' : Vec Ideal S1024x1 .f32) (r : Fin 1024) :
    (k0_pay11 i j q k s s' (ValueIdx.ix2 r 0) : EReal)
      = Ideal.exp ((s' (ValueIdx.ix2 r 0) : EReal) - k0_pay9 i j q k s (ValueIdx.ix2 r 0)) := by
  unfold k0_pay11
  pointwise

theorem copy_value (s : FVec Ideal S1024x1 .f32) : k0_pay5 s = s := by
  funext y
  unfold k0_pay5
  pointwise

theorem out_value (a : Vec Ideal S1024x128 .f32) (l : Vec Ideal S1024x1 .f32) (r : Fin 1024) (d : Fin 128) :
    (k0_pay6 a l (ValueIdx.ix2 r d) : EReal) = Ideal.div (a (ValueIdx.ix2 r d)) (l (ValueIdx.ix2 r 0)) := by
  unfold k0_pay6
  pointwise
  rfl

theorem lse_value (s l : Vec Ideal S1024x1 .f32) (r : Fin 1024) :
    (k0_pay7 s l (ValueIdx.ix3 0 r 0) : EReal) = (s (ValueIdx.ix2 r 0) : EReal) + Ideal.log (l (ValueIdx.ix2 r 0)) := by
  unfold k0_pay7
  pointwise
  rfl

theorem start_max (y : S1024x1.Idx) : (k0_pay1 (F := Ideal) y : EReal) = ⊥ := by
  unfold k0_pay1
  pointwise
  exact mask_value

theorem start_sum (y : S1024x1.Idx) : (k0_pay2 (F := Ideal) y : EReal) = 0 := by
  unfold k0_pay2
  pointwise

theorem start_acc (y : S1024x128.Idx) : (k0_pay3 (F := Ideal) y : EReal) = 0 := by
  unfold k0_pay3
  pointwise

end Cert.AttentionRows

end
-- ==== Proof.AttentionSteps.lean ====
/-
  One block of keys: the accumulators of a query row after the block, from those before it.
-/
module

public import proofs.«01_k».proof.Proof.AttentionRows

@[expose] public section

noncomputable section

namespace Cert.AttentionSteps

open Idealize.ShloMosaic Idealize.ShloMosaic.TcCoe Idealize.SL.Sem Cert.Gating Cert.Online Cert.AttentionRows Cert.AttentionTerms
open Cert.AttentionIdeal Cert.AttentionIdeal.Gen

theorem sup_univ (f : ℕ → EReal) (n : ℕ) : (Finset.univ.sup fun k : Fin n => f k.val) = top f n :=
  le_antisymm (Finset.sup_le fun k _ => le_top_of f k.isLt)
    (Finset.sup_le fun k hk => Finset.le_sup (f := fun k : Fin n => f k.val) (Finset.mem_univ (⟨k, Finset.mem_range.mp hk⟩ : Fin n)))

variable (i : grid0.Coords) (x0 x1 : Vec Ideal S1024x256 .bf16) (x2 : Vec Ideal S1024x128 .bf16)
  (s0 s1 : Vec Ideal S1024x1 .f32) (s2 : Vec Ideal S1024x128 .f32) (r : Fin 1024) (d : Fin 128) (s v : ℕ → EReal) (n : ℕ)
  (hs : ∀ κ' : Fin 1024, (k0_pay8 (qi i) (kj i) x0 x1 (ValueIdx.ix2 r κ') : EReal) = s (n + κ'.val))

include hs in
theorem pay9_step (h0 : (s0 (ValueIdx.ix2 r 0) : EReal) = top s n) :
    (k0_pay9 (qi i) (kj i) x0 x1 s0 (ValueIdx.ix2 r 0) : EReal) = top s (n + 1024) := by
  rw [max_value, h0, top_add, ← sup_univ (fun k => s (n + k)) 1024]
  exact congrArg (max (top s n)) (congrArg Finset.univ.sup (funext hs))

include hs in
theorem max_step (h0 : (s0 (ValueIdx.ix2 r 0) : EReal) = top s n) :
    (newMax i x0 x1 s0 (ValueIdx.ix2 r 0) : EReal) = top s (n + 1024) := by
  unfold newMax
  rw [copy_value]
  exact pay9_step i x0 x1 s0 r s n hs h0

variable (b : ℝ) (hb : top s (n + 1024) = b)

include hs hb in
theorem sum_step (h0 : (s0 (ValueIdx.ix2 r 0) : EReal) = top s n) (h1 : (s1 (ValueIdx.ix2 r 0) : EReal) = mass s (top s n) n) :
    (newSum i x0 x1 s0 s1 (ValueIdx.ix2 r 0) : EReal) = mass s (top s (n + 1024)) (n + 1024) := by
  unfold newSum
  rw [sum_value, pay9_step i x0 x1 s0 r s n hs h0, h0, h1, mass_add s n 1024 b hb,
    ← Fin.sum_univ_eq_sum_range (fun k => Ideal.exp (s (n + k) - top s (n + 1024))) 1024]
  congr 1
  exact Finset.sum_congr rfl fun κ' _ => by rw [hs κ']

include hs hb in
theorem acc_step (hv : ∀ κ' : Fin 1024, (x2 (ValueIdx.ix2 κ' d) : EReal) = v (n + κ'.val))
    (h0 : (s0 (ValueIdx.ix2 r 0) : EReal) = top s n) (h2 : (s2 (ValueIdx.ix2 r d) : EReal) = weighted s v (top s n) n) :
    (newAcc i x0 x1 x2 s0 s2 (ValueIdx.ix2 r d) : EReal) = weighted s v (top s (n + 1024)) (n + 1024) := by
  unfold newAcc
  rw [acc_value, factor_value, pay9_step i x0 x1 s0 r s n hs h0, h0, h2, weighted_add s v n 1024 b hb,
    ← Fin.sum_univ_eq_sum_range (fun k => Ideal.exp (s (n + k) - top s (n + 1024)) * v (n + k)) 1024]
  congr 1
  refine Finset.sum_congr rfl fun κ' _ => ?_
  refine congrArg₂ (α := EReal) (β := EReal) (· * ·) ?_ (hv κ')
  rw [weight_value, pay9_step i x0 x1 s0 r s n hs h0, hs κ']

end Cert.AttentionSteps

end
-- ==== Proof.AttentionRun.lean ====
/-
  The attention over its grid: after a point, each query row's accumulators are those of the keys of the blocks visited so far; the
  last point of a row of blocks writes out the weighted sum over the mass, and the maximum plus the mass's logarithm.
-/
module

public import proofs.«01_k».proof.Proof.AttentionSteps

@[expose] public section

noncomputable section

namespace Cert.AttentionRun

open Idealize.ShloMosaic Idealize.ShloMosaic.TcCoe Idealize.SL.Sem Cert.Gating Cert.Online Cert.AttentionRows Cert.AttentionTerms
open Cert.AttentionIdeal Cert.AttentionIdeal.Gen Cert.AttentionIdeal.Value Cert.AttentionSteps
open Idealize.ShloMosaic.Pipeline (Dat)

theorem coords_q : ∀ t : Fin grid0.N, ((grid0.coords t) 1).val = t.val / 8 % 8 := by decide +kernel
theorem coords_k : ∀ t : Fin grid0.N, ((grid0.coords t) 2).val = t.val % 8 := by decide +kernel
theorem index_0 : ∀ t : Fin grid0.N, win0_0.index t = ![t.val / 8 % 8, t.val / 64] := by decide +kernel
theorem index_1 : ∀ t : Fin grid0.N, win0_1.index t = ![min (t.val % 8) (t.val / 8 % 8), t.val / 64] := by decide +kernel
theorem index_2 : ∀ t : Fin grid0.N, win0_2.index t = ![min (t.val % 8) (t.val / 8 % 8), t.val / 64] := by decide +kernel
theorem index_3 : ∀ t : Fin grid0.N, win0_3.index t = ![t.val / 8 % 8, t.val / 64] := by decide +kernel
theorem index_4 : ∀ t : Fin grid0.N, win0_4.index t = ![t.val / 64, t.val / 8 % 8, 0] := by decide +kernel

/-- Column `d` of head `h`, in the queries' and keys' arrays and in the values'. -/
def wide (h : Fin 4) (d : Fin 256) : Fin 1024 := ⟨h.val * 256 + d.val, by have := h.isLt; have := d.isLt; omega⟩
def slim (h : Fin 4) (d : Fin 128) : Fin 512 := ⟨h.val * 128 + d.val, by have := h.isLt; have := d.isLt; omega⟩

/-- The scaled product of query `R` and key `k` of head `h`. -/
def raw (q k : FVec Ideal S8192x1024 .bf16) (h : Fin 4) (R k' : Fin 8192) : EReal :=
  (∑ d : Fin 256, (q (ValueIdx.ix2 R (wide h d)) : EReal) * k (ValueIdx.ix2 k' (wide h d))) * scale

/-- Query `R`'s scores of head `h`: hidden where the key's chunk comes after the query's, and past the last key. -/
def score (q k : FVec Ideal S8192x1024 .bf16) (h : Fin 4) (R : Fin 8192) (n : ℕ) : EReal :=
  if hn : n < 8192 then if n / 64 ≤ R.val / 64 then raw q k h R ⟨n, hn⟩ else ⊥ else ⊥

/-- Column `d` of head `h`'s values; zero past the last. -/
def value (v : FVec Ideal S8192x512 .bf16) (h : Fin 4) (d : Fin 128) (n : ℕ) : EReal :=
  if hn : n < 8192 then (v (ValueIdx.ix2 ⟨n, hn⟩ (slim h d)) : EReal) else 0

variable (m : (ℓ : Loc nD τ sig) → Buf (Elt Ideal) ℓ) (c : Dev nD)

abbrev Q : FVec Ideal S8192x1024 .bf16 := m ((c : Thread nD τ).loc main_arg0)
abbrev K : FVec Ideal S8192x1024 .bf16 := m ((c : Thread nD τ).loc main_arg1)
abbrev V : FVec Ideal S8192x512 .bf16 := m ((c : Thread nD τ).loc main_arg2)

/-- The head of point `n`, and the query its row `r` stands for. -/
def hd (n : ℕ) (h : n < 256) : Fin 4 := ⟨n / 64, by omega⟩
def row (n : ℕ) (h : n < 256) (r : Fin 1024) : Fin 8192 := ⟨n / 8 % 8 * 1024 + r.val, by have := r.isLt; omega⟩

abbrev S (n : ℕ) (h : n < 256) (r : Fin 1024) : ℕ → EReal := score (Q m c) (K m c) (hd n h) (row n h r)
abbrev D (n : ℕ) (h : n < 256) (d : Fin 128) : ℕ → EReal := value (V m c) (hd n h) d

theorem blk_q (t : Fin cfg0.N) (r : Fin 1024) (d : Fin 256) :
    (iblk m c 0 t : FVec Ideal S1024x256 .bf16) (ValueIdx.ix2 r d) = Q m c (ValueIdx.ix2 (row t.val t.isLt r) (wide (hd t.val t.isLt) d)) := by
  refine congrArg (Q m c) ?_
  unfold row wide hd
  blk_ext [index_0]

theorem blk_k (t : Fin cfg0.N) (ht : t.val % 8 ≤ t.val / 8 % 8) (r : Fin 1024) (d : Fin 256) (hr : t.val % 8 * 1024 + r.val < 8192) :
    (iblk m c 1 t : FVec Ideal S1024x256 .bf16) (ValueIdx.ix2 r d)
      = K m c (ValueIdx.ix2 ⟨t.val % 8 * 1024 + r.val, hr⟩ (wide (hd t.val t.isLt) d)) := by
  refine congrArg (K m c) ?_
  unfold wide hd
  blk_ext [index_1, min_eq_left ht]

theorem blk_v (t : Fin cfg0.N) (ht : t.val % 8 ≤ t.val / 8 % 8) (r : Fin 1024) (d : Fin 128) (hr : t.val % 8 * 1024 + r.val < 8192) :
    (iblk m c 2 t : FVec Ideal S1024x128 .bf16) (ValueIdx.ix2 r d)
      = V m c (ValueIdx.ix2 ⟨t.val % 8 * 1024 + r.val, hr⟩ (slim (hd t.val t.isLt) d)) := by
  refine congrArg (V m c) ?_
  unfold slim hd
  blk_ext [index_2, min_eq_left ht]

theorem blk_score (t : Fin cfg0.N) (ht : t.val % 8 ≤ t.val / 8 % 8) (r κ' : Fin 1024) :
    (k0_pay8 (qi (grid0.coords t)) (kj (grid0.coords t)) (iblk m c 0 t) (iblk m c 1 t) (ValueIdx.ix2 r κ') : EReal)
      = S m c t.val t.isLt r (t.val % 8 * 1024 + κ'.val) := by
  have hr : t.val % 8 * 1024 + κ'.val < 8192 := by have := κ'.isLt; omega
  have hq := coords_q t
  have hk := coords_k t
  unfold qi kj
  rw [hq, hk, score_value _ _ (by omega) (by omega)]
  unfold S score
  rw [dif_pos hr]
  unfold row
  dsimp only
  by_cases h : (t.val % 8 * 1024 + κ'.val) / 64 ≤ (t.val / 8 % 8 * 1024 + r.val) / 64
  · rw [if_pos h, if_pos h]
    unfold raw prodT
    congr 1
    exact Finset.sum_congr rfl fun d _ => congrArg₂ (α := EReal) (β := EReal) (· * ·) (blk_q m c t r d) (blk_k m c t ht κ' d hr)
  · rw [if_neg h, if_neg h]

theorem blk_value (t : Fin cfg0.N) (ht : t.val % 8 ≤ t.val / 8 % 8) (d : Fin 128) (κ' : Fin 1024) :
    ((iblk m c 2 t : FVec Ideal S1024x128 .bf16) (ValueIdx.ix2 κ' d) : EReal) = D m c t.val t.isLt d (t.val % 8 * 1024 + κ'.val) := by
  have hr : t.val % 8 * 1024 + κ'.val < 8192 := by have := κ'.isLt; omega
  unfold D value
  rw [dif_pos hr]
  exact blk_v m c t ht κ' d hr

/-- Queries and keys are real. -/
def Real2 (q k : FVec Ideal S8192x1024 .bf16) : Prop :=
  (∀ y, ∃ x : ℝ, (q y : EReal) = x) ∧ ∀ y, ∃ x : ℝ, (k y : EReal) = x

theorem scale_real : ∃ x : ℝ, scale = x := by
  unfold scale
  refine ⟨_, (?_ : _ = ((Ideal.ofBits .f32 0x3D93CD3A#32 : EReal).toReal : EReal))⟩
  refine (EReal.coe_toReal ?_ ?_).symm <;> simp [Ideal.ofBits, Ideal.ieee, -EReal.coe_mul]

theorem raw_real {q k : FVec Ideal S8192x1024 .bf16} (hr : Real2 q k) (h : Fin 4) (R k' : Fin 8192) : ∃ x : ℝ, raw q k h R k' = x := by
  obtain ⟨s, hs⟩ := scale_real
  choose a ha using hr.1
  choose b hb using hr.2
  refine ⟨(∑ d : Fin 256, a (ValueIdx.ix2 R (wide h d)) * b (ValueIdx.ix2 k' (wide h d))) * s, ?_⟩
  unfold raw
  rw [EReal.coe_mul, ← hs, coe_sum_eq]
  congr 1
  refine Finset.sum_congr rfl fun d _ => ?_
  rw [EReal.coe_mul, ← ha, ← hb]

theorem score_ne_top {q k : FVec Ideal S8192x1024 .bf16} (hr : Real2 q k) (h : Fin 4) (R : Fin 8192) (n : ℕ) : score q k h R n ≠ ⊤ := by
  unfold score
  split
  · split
    · obtain ⟨x, hx⟩ := raw_real hr h R ⟨n, by assumption⟩
      rw [hx]
      exact EReal.coe_ne_top _
    · exact bot_ne_top
  · exact bot_ne_top

theorem score_zero {q k : FVec Ideal S8192x1024 .bf16} (hr : Real2 q k) (h : Fin 4) (R : Fin 8192) : score q k h R 0 ≠ ⊥ := by
  unfold score
  rw [dif_pos (by omega), if_pos (by omega)]
  obtain ⟨x, hx⟩ := raw_real hr h R ⟨0, by omega⟩
  rw [hx]
  exact EReal.coe_ne_bot _

theorem score_top_real {q k : FVec Ideal S8192x1024 .bf16} (hr : Real2 q k) (h : Fin 4) (R : Fin 8192) (n : ℕ) (hn : 0 < n) :
    ∃ b : ℝ, top (score q k h R) n = b := top_real _ n hn (score_zero hr h R) (score_ne_top hr h R)

/-- How many keys the point has seen. -/
def seen (n : ℕ) : ℕ := (min (n % 8) (n / 8 % 8) + 1) * 1024

/-- What the accumulators of row `r` hold after point `n`. -/
def Holds (n : ℕ) (h : n < 256) (r : Fin 1024) (a0 a1 : Vec Ideal S1024x1 .f32) (a2 : Vec Ideal S1024x128 .f32) : Prop :=
  (a0 (ValueIdx.ix2 r 0) : EReal) = top (S m c n h r) (seen n)
    ∧ (a1 (ValueIdx.ix2 r 0) : EReal) = mass (S m c n h r) (top (S m c n h r) (seen n)) (seen n)
    ∧ ∀ d : Fin 128, (a2 (ValueIdx.ix2 r d) : EReal) = weighted (S m c n h r) (D m c n h d) (top (S m c n h r) (seen n)) (seen n)

/-- The accumulators before a visited block hold the keys of the earlier blocks: they hold its keys too after it. -/
theorem visit (hr : Real2 (Q m c) (K m c)) (t : Fin cfg0.N) (ht : t.val % 8 ≤ t.val / 8 % 8) (r : Fin 1024)
    (s0 s1 : Vec Ideal S1024x1 .f32) (s2 : Vec Ideal S1024x128 .f32)
    (h0 : (s0 (ValueIdx.ix2 r 0) : EReal) = top (S m c t.val t.isLt r) (t.val % 8 * 1024))
    (h1 : (s1 (ValueIdx.ix2 r 0) : EReal) = mass (S m c t.val t.isLt r) (top (S m c t.val t.isLt r) (t.val % 8 * 1024)) (t.val % 8 * 1024))
    (h2 : ∀ d : Fin 128, (s2 (ValueIdx.ix2 r d) : EReal)
      = weighted (S m c t.val t.isLt r) (D m c t.val t.isLt d) (top (S m c t.val t.isLt r) (t.val % 8 * 1024)) (t.val % 8 * 1024)) :
    Holds m c t.val t.isLt r (newMax (grid0.coords t) (iblk m c 0 t) (iblk m c 1 t) s0)
      (newSum (grid0.coords t) (iblk m c 0 t) (iblk m c 1 t) s0 s1)
      (newAcc (grid0.coords t) (iblk m c 0 t) (iblk m c 1 t) (iblk m c 2 t) s0 s2) := by
  have hs : seen t.val = t.val % 8 * 1024 + 1024 := by unfold seen; rw [min_eq_left ht]; omega
  obtain ⟨b, hb⟩ := score_top_real hr (hd t.val t.isLt) (row t.val t.isLt r) (t.val % 8 * 1024 + 1024) (by omega)
  unfold Holds
  rw [hs]
  exact ⟨max_step _ _ _ _ r _ _ (blk_score m c t ht r) h0, sum_step _ _ _ _ _ r _ _ (blk_score m c t ht r) b hb h0 h1,
    fun d => acc_step _ _ _ _ _ _ r d _ _ _ (blk_score m c t ht r) b hb (blk_value m c t ht d) h0 (h2 d)⟩

end Cert.AttentionRun

end
-- ==== Proof.AttentionFinal.lean ====
/-
  The attention's two results: each query's values by its softmax weights, and its scores' maximum plus the logarithm of their mass.
-/
module

public import proofs.«01_k».proof.Proof.AttentionRun

@[expose] public section

noncomputable section

namespace Cert.AttentionRun

open Idealize.ShloMosaic Idealize.ShloMosaic.TcCoe Idealize.SL.Sem Cert.Gating Cert.Online Cert.AttentionRows Cert.AttentionTerms
open Cert.AttentionIdeal Cert.AttentionIdeal.Gen Cert.AttentionIdeal.Value Cert.AttentionSteps
open Idealize.ShloMosaic.Pipeline (Dat)

/-- Column `d` of query `R`'s result of head `h`. -/
def outAt (q k : FVec Ideal S8192x1024 .bf16) (v : FVec Ideal S8192x512 .bf16) (R : Fin 8192) (h : Fin 4) (d : Fin 128) : EReal :=
  ∑ n ∈ Finset.range 8192,
    Ideal.div (Ideal.exp (score q k h R n - top (score q k h R) 8192)) (mass (score q k h R) (top (score q k h R) 8192) 8192) * value v h d n

/-- The logarithm of the sum of the exponentials of query `R`'s scores of head `h`. -/
def lseAt (q k : FVec Ideal S8192x1024 .bf16) (h : Fin 4) (R : Fin 8192) : EReal :=
  top (score q k h R) 8192 + Ideal.log (mass (score q k h R) (top (score q k h R) 8192) 8192)

/-- The head a column of the result belongs to, and its place there. -/
def headOf (y : Fin 512) : Fin 4 := ⟨y.val / 128, by have := y.isLt; omega⟩
def placeOf (y : Fin 512) : Fin 128 := ⟨y.val % 128, by omega⟩

def outs (q k : FVec Ideal S8192x1024 .bf16) (v : FVec Ideal S8192x512 .bf16) : FVec Ideal S8192x512 .f32 :=
  fun y => (outAt q k v (y 0) (headOf (y 1)) (placeOf (y 1)) : EReal)
def lses (q k : FVec Ideal S8192x1024 .bf16) : FVec Ideal S4x8192x1 .f32 :=
  fun y => (lseAt q k (y 0) (y 1) : EReal)

/-- Keys past the query's chunk are hidden. -/
theorem score_tail (q k : FVec Ideal S8192x1024 .bf16) (h : Fin 4) (R : Fin 8192) (n : ℕ) (hn : R.val / 64 < n / 64) : score q k h R n = ⊥ := by
  unfold score
  split
  · rw [if_neg (by omega)]
  · rfl

/-- What the accumulators come to, over all keys. -/
theorem outAt_eq {q k : FVec Ideal S8192x1024 .bf16} (hr : Real2 q k) (v : FVec Ideal S8192x512 .bf16) (R : Fin 8192) (h : Fin 4) (d : Fin 128)
    (n : ℕ) (h0 : 0 < n) (hn : n ≤ 8192) (ht : ∀ k', n ≤ k' → R.val / 64 < k' / 64) :
    Ideal.div (weighted (score q k h R) (value v h d) (top (score q k h R) n) n) (mass (score q k h R) (top (score q k h R) n) n)
      = outAt q k v R h d := by
  have hs := fun k' hk => score_tail q k h R k' (ht k' hk)
  obtain ⟨b, hb⟩ := score_top_real hr h R n h0
  have e : n + (8192 - n) = 8192 := Nat.add_sub_cancel' hn
  have et : top (score q k h R) 8192 = b := hb ▸ e ▸ top_tail _ n (8192 - n) hs
  have em : mass (score q k h R) b 8192 = mass (score q k h R) b n := by
    have := mass_tail _ b n (8192 - n) hs
    rwa [e] at this
  obtain ⟨l, hl, hm⟩ := mass_real (score q k h R) b n h0 (score_zero hr h R) (score_ne_top hr h R)
  have ew : weighted (score q k h R) (value v h d) b 8192 = weighted (score q k h R) (value v h d) b n := by
    have := weighted_tail _ (value v h d) b n (8192 - n) hs
    rwa [e] at this
  unfold outAt
  rw [et, em, hb, hm, ← weighted_div _ _ _ l hl, ew]

theorem lseAt_eq {q k : FVec Ideal S8192x1024 .bf16} (hr : Real2 q k) (R : Fin 8192) (h : Fin 4)
    (n : ℕ) (h0 : 0 < n) (hn : n ≤ 8192) (ht : ∀ k', n ≤ k' → R.val / 64 < k' / 64) :
    top (score q k h R) n + Ideal.log (mass (score q k h R) (top (score q k h R) n) n) = lseAt q k h R := by
  have hs := fun k' hk => score_tail q k h R k' (ht k' hk)
  obtain ⟨b, hb⟩ := score_top_real hr h R n h0
  have e : n + (8192 - n) = 8192 := Nat.add_sub_cancel' hn
  have et : top (score q k h R) 8192 = b := hb ▸ e ▸ top_tail _ n (8192 - n) hs
  have em : mass (score q k h R) b 8192 = mass (score q k h R) b n := by
    have := mass_tail _ b n (8192 - n) hs
    rwa [e] at this
  unfold lseAt
  rw [et, em, hb]

variable (m : (ℓ : Loc nD τ sig) → Buf (Elt Ideal) ℓ) (c : Dev nD)

theorem holds (hr : Real2 (Q m c) (K m c)) (r : Fin 1024) : ∀ (n : ℕ) (h : n < cfg0.N),
    Holds m c n h r (outsAt0 m c n h).2.2.1 (outsAt0 m c n h).2.2.2.1 (outsAt0 m c n h).2.2.2.2 := by
  have first : ∀ t : Fin cfg0.N, t.val % 8 = 0 →
      Holds m c t.val t.isLt r (outsAt0 m c t.val t.isLt).2.2.1 (outsAt0 m c t.val t.isLt).2.2.2.1 (outsAt0 m c t.val t.isLt).2.2.2.2 := fun t h0 => by
    rw [outsAt0_A m c t h0 (by omega) (by omega)]
    dsimp only
    rw [max_A, sum_A, acc_A]
    refine visit m c hr t (by omega) r _ _ _ ?_ ?_ fun d => ?_
    · rw [h0, Nat.zero_mul, start_max]; rfl
    · rw [h0, Nat.zero_mul, start_sum]; rfl
    · rw [h0, Nat.zero_mul, start_acc]; rfl
  intro n
  induction n with
  | zero => exact fun h => first ⟨0, h⟩ rfl
  | succ n ih =>
    intro h
    by_cases h0 : (n + 1) % 8 = 0
    · exact first ⟨n + 1, h⟩ h0
    have hp := ih (Nat.lt_of_succ_lt h)
    have hN : n + 1 < 256 := h
    have e1 : hd n (Nat.lt_of_succ_lt h) = hd (n + 1) h := Fin.ext (by unfold hd; dsimp only; omega)
    have e2 : row n (Nat.lt_of_succ_lt h) r = row (n + 1) h r := Fin.ext (by unfold row; dsimp only; omega)
    unfold Holds S D at hp
    rw [e1, e2] at hp
    by_cases h1 : (n + 1) % 8 ≤ (n + 1) / 8 % 8
    · have e3 : seen n = (n + 1) % 8 * 1024 := by unfold seen; omega
      rw [e3] at hp
      by_cases h2 : (n + 1) % 8 = 7
      · have e := outsAt0_E m c ⟨n + 1, h⟩ h0 h1 h2
        dsimp only at e
        rw [e]
        dsimp only
        rw [max_E, sum_E, acc_E]
        exact visit m c hr ⟨n + 1, h⟩ h1 r _ _ _ hp.1 hp.2.1 hp.2.2
      · have e := outsAt0_D m c ⟨n + 1, h⟩ h0 h1 h2
        dsimp only at e
        rw [e]
        dsimp only
        rw [max_D, sum_D, acc_D]
        exact visit m c hr ⟨n + 1, h⟩ h1 r _ _ _ hp.1 hp.2.1 hp.2.2
    · have e3 : seen n = seen (n + 1) := by unfold seen; omega
      rw [e3] at hp
      by_cases h2 : (n + 1) % 8 = 7
      · have e := outsAt0_C m c ⟨n + 1, h⟩ h0 h1 h2
        dsimp only at e
        rw [e]
        exact hp
      · have e := outsAt0_B m c ⟨n + 1, h⟩ h0 h1 h2
        dsimp only at e
        rw [e]
        exact hp

/-- What the last point of a row of blocks writes out, by its accumulators. -/
theorem out_point (t : Fin cfg0.N) (h2 : t.val % 8 = 7) :
    (outsAt0 m c t.val t.isLt).1 = k0_pay6 (outsAt0 m c t.val t.isLt).2.2.2.2 (outsAt0 m c t.val t.isLt).2.2.2.1 := by
  by_cases h1 : t.val % 8 ≤ t.val / 8 % 8
  · rw [outsAt0_E m c t (by omega) h1 h2]
    dsimp only
    rw [o_E, acc_E, sum_E]
  · rw [outsAt0_C m c t (by omega) h1 h2]
    dsimp only
    rw [o_C]
    rfl

theorem lse_point (t : Fin cfg0.N) (h2 : t.val % 8 = 7) :
    (outsAt0 m c t.val t.isLt).2.1 = k0_pay7 (outsAt0 m c t.val t.isLt).2.2.1 (outsAt0 m c t.val t.isLt).2.2.2.1 := by
  by_cases h1 : t.val % 8 ≤ t.val / 8 % 8
  · rw [outsAt0_E m c t (by omega) h1 h2]
    dsimp only
    rw [lse_E, max_E, sum_E]
  · rw [outsAt0_C m c t (by omega) h1 h2]
    dsimp only
    rw [lse_C]
    rfl

theorem seen_tail (t : Fin cfg0.N) (h2 : t.val % 8 = 7) (r : Fin 1024) :
    seen t.val ≤ 8192 ∧ ∀ k', seen t.val ≤ k' → (row t.val t.isLt r).val / 64 < k' / 64 := by
  have := r.isLt
  unfold seen row
  dsimp only
  exact ⟨by omega, fun k' hk => by omega⟩

theorem emb_3 (t : Fin cfg0.N) (r : Fin 1024) (d : Fin 128) :
    (win0_3.blk t).view.emb (ValueIdx.ix2 r d) = ValueIdx.ix2 (row t.val t.isLt r) (slim (hd t.val t.isLt) d) := by
  unfold row slim hd
  blk_ext [index_3]

theorem emb_4 (t : Fin cfg0.N) (r : Fin 1024) :
    (win0_4.blk t).view.emb (ValueIdx.ix3 0 r 0) = ValueIdx.ix3 (hd t.val t.isLt) (row t.val t.isLt r) 0 := by
  unfold row hd
  blk_ext [index_4]

theorem slim_back (h : Fin 4) (d : Fin 128) : headOf (slim h d) = h ∧ placeOf (slim h d) = d := by
  have := d.isLt
  exact ⟨Fin.ext (by unfold headOf slim; dsimp only; omega), Fin.ext (by unfold placeOf slim; dsimp only; omega)⟩

theorem final_out (hr : Real2 (Q m c) (K m c)) : (dats m 0 c).arrAt 3 cfg0.N = outs (Q m c) (K m c) (V m c) := by
  refine (dats m 0 c).arrAt_eq_of_covers 3 _ (by decide +kernel) fun t hf y => ?_
  have h2 := (flush0_3 t).mp hf
  obtain ⟨r, d, rfl⟩ : ∃ (r : Fin 1024) (d : Fin 128), y = ValueIdx.ix2 r d := ⟨y 0, y 1, ValueIdx.eq_ix2 y⟩
  refine (congrFun ((after0_3 m c t).trans (out_point m c t h2)) _).trans ?_
  have hp := holds m c hr r t.val t.isLt
  have ht := seen_tail t h2 r
  refine (out_value _ _ r d).trans ?_
  rw [hp.2.2 d, hp.2.1]
  refine (outAt_eq hr (V m c) _ _ d (seen t.val) (by unfold seen; omega) ht.1 ht.2).trans ?_
  refine Eq.trans ?_ (congrArg (outs (Q m c) (K m c) (V m c)) (emb_3 t r d)).symm
  have hb := slim_back (hd t.val t.isLt) d
  show _ = outAt _ _ _ (row t.val t.isLt r) (headOf (slim (hd t.val t.isLt) d)) (placeOf (slim (hd t.val t.isLt) d))
  rw [hb.1, hb.2]

theorem final_lse (hr : Real2 (Q m c) (K m c)) : (dats m 0 c).arrAt 4 cfg0.N = lses (Q m c) (K m c) := by
  refine (dats m 0 c).arrAt_eq_of_covers 4 _ (by decide +kernel) fun t hf y => ?_
  have h2 := (flush0_4 t).mp hf
  obtain ⟨r, rfl⟩ : ∃ r : Fin 1024, y = ValueIdx.ix3 0 r 0 := ⟨y 1, by
    refine (ValueIdx.eq_ix3 y).trans ?_
    congr 1 <;> exact Subsingleton.elim (α := Fin 1) _ _⟩
  refine (congrFun ((after0_4 m c t).trans (lse_point m c t h2)) _).trans ?_
  have hp := holds m c hr r t.val t.isLt
  have ht := seen_tail t h2 r
  refine (lse_value _ _ r).trans ?_
  rw [hp.1, hp.2.1]
  refine (lseAt_eq hr _ _ (seen t.val) (by unfold seen; omega) ht.1 ht.2).trans ?_
  exact (congrArg (lses (Q m c) (K m c)) (emb_4 t r)).symm

end Cert.AttentionRun

end
-- ==== Proof.AttentionHost.lean ====
/-
  The reference attention at an index: whole rows of scores, their softmax weights, and the weighted sums of the values.
-/
module

public import proofs.«01_k».proof.Proof.AttentionFinal
public import proofs.«01_k».proof.Proof.Gen.AttentionPlainIdeal.Run

@[expose] public section

noncomputable section

namespace Cert.AttentionHost

open Idealize.ShloMosaic Idealize.ShloMosaic.TcCoe Idealize.SL.Sem Cert.Gating Cert.Online Cert.AttentionRows Cert.AttentionSteps
open Cert.AttentionPlainIdeal Cert.AttentionPlainIdeal.Gen
open Cert.AttentionRun (score value raw wide slim outAt lseAt outs lses headOf placeOf)

/-- The chunk of each token. -/
def chunks : IVec S8192 32 :=
  (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32)))))

/-- Which keys a query sees. -/
def sees : IVec S8192x8192 1 :=
  cmpi .sle (broadcastInDim S8192x8192 ![0, 1] bcast_S1x8192_S8192x8192_0_1 (broadcastInDim S1x8192 ![1] bcast_S8192_S1x8192_1 chunks))
    (broadcastInDim S8192x8192 ![0, 1] bcast_S8192x1_S8192x8192_0_1 (broadcastInDim S8192x1 ![0] bcast_S8192_S8192x1_0 chunks))

variable (q k : FVec Ideal S8192x1024 .bf16) (v : FVec Ideal S8192x512 .bf16)

def scores : FVec Ideal S4x8192x8192 .f32 :=
  select (broadcastInDim S4x8192x8192 ![1, 2] bcast_S8192x8192_S4x8192x8192_1_2 sees)
    (mulf (Host.dotGeneral dot_S8192x4x256_S8192x4x256_S4x8192x8192_2_2_0_0_1_1 none (shapeCast _ (extf .f32 q bitsLt_bf16_f32) shapeCasts_S8192x1024_S8192x4x256) (shapeCast _ (extf .f32 k bitsLt_bf16_f32) shapeCasts_S8192x1024_S8192x4x256))
      (broadcastInDim S4x8192x8192 ![] bcast_S_S4x8192x8192 (constant S_ .f32 0x3D93CD3A#32)))
    (broadcastInDim S4x8192x8192 ![] bcast_S_S4x8192x8192 (id (constant S_ .f32 0xFF800000#32)))

def tops : FVec Ideal S4x8192 .f32 :=
  Host.reduce FloatOps.maximumf (scores q k) (constant S_ .f32 0xFF800000#32) reducesTo_S4x8192x8192_S4x8192_d2 h_S_

def masses (a : FVec Ideal S4x8192x8192 .f32) : FVec Ideal S4x8192 .f32 :=
  Host.reduceAdd a (constant S_ .f32 0x00000000#32) reducesTo_S4x8192x8192_S4x8192_d2 h_S_

/-- The exponentials of the scores below each row's `a`. -/
def weights (a : FVec Ideal S4x8192x1 .f32) : FVec Ideal S4x8192x8192 .f32 :=
  Host.exp (subf (scores q k) (broadcastInDim S4x8192x8192 ![0, 1, 2] bcast_S4x8192x1_S4x8192x8192_0_1_2 a))

def column (a : FVec Ideal S4x8192 .f32) : FVec Ideal S4x8192x1 .f32 := broadcastInDim S4x8192x1 ![0, 1] bcast_S4x8192_S4x8192x1_0_1 a

theorem res_lse (m : (ℓ : Loc nD τ sig) → Buf (Elt Ideal) ℓ) (c : Dev nD) :
    Cert.AttentionPlainIdeal.Value.res_main_v39 (F := Ideal) m c
      = addf (column (tops (m ((c.tc : Thread nD τ).loc main_arg0)) (m ((c.tc : Thread nD τ).loc main_arg1))))
          (Host.log (column (masses (weights (m ((c.tc : Thread nD τ).loc main_arg0)) (m ((c.tc : Thread nD τ).loc main_arg1))
            (column (tops (m ((c.tc : Thread nD τ).loc main_arg0)) (m ((c.tc : Thread nD τ).loc main_arg1)))))))) := by
  unfold Cert.AttentionPlainIdeal.Value.res_main_v39
  rfl

/-- A word's sign. -/
def sign (x : BitVec 32) : BitVec 32 := if x = 0 then 0 else if x.msb then -1 else 1

theorem chunk_word : ∀ n : Fin 8192, Scalar.select
      (IntOp.andi
        (IntOp.cmpi .ne (sign (BitVec.ofNat 32 n.val)) (sign 64#32))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64) := by
  decide +kernel

theorem chunks_eq (n : Fin 8192) : chunks (ValueIdx.ix1 n) = BitVec.ofNat 32 (n.val / 64) := by
  unfold chunks
  pointwise
  exact chunk_word n

theorem scores_eq (h : Fin 4) (R n : Fin 8192) : (scores q k (ValueIdx.ix3 h R n) : EReal) = score q k h R n.val := by
  unfold scores sees
  pointwise
  have hn := n.isLt
  have hR := R.isLt
  show Scalar.select (IntOp.cmpi CmpIPredicate.sle (chunks (ValueIdx.ix1 n)) (chunks (ValueIdx.ix1 R))) _ _ = _
  rw [chunks_eq, chunks_eq, sle_word _ _ (by omega) (by omega)]
  unfold score
  rw [dif_pos hn]
  by_cases hs : n.val / 64 ≤ R.val / 64
  · rw [if_pos hs, if_pos hs]
    rfl
  · rw [if_neg hs, if_neg hs]
    exact neg_inf_bits

theorem tops_eq (h : Fin 4) (R : Fin 8192) : (tops q k (ValueIdx.ix2 h R) : EReal) = top (score q k h R) 8192 := by
  unfold tops
  pointwise
  rw [neg_inf_bits, ← sup_univ]
  exact congrArg Finset.univ.sup (funext fun n => scores_eq q k h R n)

theorem masses_eq (a : FVec Ideal S4x8192x8192 .f32) (h : Fin 4) (R : Fin 8192) :
    (masses a (ValueIdx.ix2 h R) : EReal) = ∑ n : Fin 8192, (a (ValueIdx.ix3 h R n) : EReal) := by
  unfold masses
  pointwise
  rfl

theorem weights_eq (a : FVec Ideal S4x8192x1 .f32) (h : Fin 4) (R n : Fin 8192) :
    (weights q k a (ValueIdx.ix3 h R n) : EReal) = Ideal.exp ((scores q k (ValueIdx.ix3 h R n) : EReal) - a (ValueIdx.ix3 h R 0)) := by
  unfold weights
  pointwise
  rfl

theorem column_eq (a : FVec Ideal S4x8192 .f32) (h : Fin 4) (R : Fin 8192) : column a (ValueIdx.ix3 h R 0) = a (ValueIdx.ix2 h R) := by
  unfold column
  pointwise
  rfl

theorem max_start (x : FVec Ideal S4x8192 .f32) (y : S4x8192.Idx) :
    (maximumf (broadcastInDim S4x8192 ![] bcast_S_S4x8192 (constant S_ .f32 0xFF800000#32)) x y : EReal) = x y := by
  pointwise
  rw [neg_inf_bits]
  exact max_eq_right bot_le

theorem add_log (a b : FVec Ideal S4x8192x1 .f32) (y : S4x8192x1.Idx) : (addf a (Host.log b) y : EReal) = (a y : EReal) + Ideal.log (b y) := rfl

theorem lses_at (h : Fin 4) (R : Fin 8192) : (lses q k (ValueIdx.ix3 h R 0) : EReal) = lseAt q k h R := rfl

theorem outs_at (R : Fin 8192) (y : Fin 512) : (outs q k v (ValueIdx.ix2 R y) : EReal) = outAt q k v R (headOf y) (placeOf y) := rfl

/-- Each row's largest score, a maximum with `⊥` first. -/
def tops' : FVec Ideal S4x8192 .f32 := maximumf (broadcastInDim S4x8192 ![] bcast_S_S4x8192 (constant S_ .f32 0xFF800000#32)) (tops q k)

theorem tops'_eq (h : Fin 4) (R : Fin 8192) : (tops' q k (ValueIdx.ix2 h R) : EReal) = top (score q k h R) 8192 := by
  exact (max_start (tops q k) (ValueIdx.ix2 h R)).trans (tops_eq q k h R)

def mix (a : FVec Ideal S4x8192x8192 .f32) : FVec Ideal S8192x512 .f32 :=
  shapeCast _ (transpose S8192x4x128 [2, 0, 1] (Host.dotGeneral dot_S8192x4x128_S4x8192x8192_S4x128x8192_0_2_2_1_1_0 none
    (shapeCast _ (extf .f32 v bitsLt_bf16_f32) shapeCasts_S8192x512_S8192x4x128) a) transposes_S4x128x8192_S8192x4x128_2_0_1) shapeCasts_S8192x4x128_S8192x512

/-- The softmax weights. -/
def shares (w : FVec Ideal S4x8192x8192 .f32) (l : FVec Ideal S4x8192x1 .f32) : FVec Ideal S4x8192x8192 .f32 :=
  Host.divf w (broadcastInDim S4x8192x8192 ![0, 1, 2] bcast_S4x8192x1_S4x8192x8192_0_1_2 l)

theorem shares_eq (w : FVec Ideal S4x8192x8192 .f32) (l : FVec Ideal S4x8192x1 .f32) (h : Fin 4) (R n : Fin 8192) :
    (shares w l (ValueIdx.ix3 h R n) : EReal) = Ideal.div (w (ValueIdx.ix3 h R n)) (l (ValueIdx.ix3 h R 0)) := by
  unfold shares
  pointwise
  rfl

theorem mix_eq (a : FVec Ideal S4x8192x8192 .f32) (R : Fin 8192) (y : Fin 512) :
    (mix v a (ValueIdx.ix2 R y) : EReal)
      = ∑ n : Fin 8192, (a (ValueIdx.ix3 (headOf y) R n) : EReal) * v (ValueIdx.ix2 n (slim (headOf y) (placeOf y))) := by
  unfold mix
  pointwise
  refine Finset.sum_congr rfl fun n _ => (mul_comm _ _).trans ?_
  refine congrArg₂ (α := EReal) (β := EReal) (· * ·) rfl (congrArg (fun z : Fin 512 => (v (ValueIdx.ix2 n z) : EReal)) ?_)
  refine Fin.ext ?_
  unfold slim headOf placeOf
  dsimp only
  show y.val = _
  omega

theorem res_out (m : (ℓ : Loc nD τ sig) → Buf (Elt Ideal) ℓ) (c : Dev nD) :
    Cert.AttentionPlainIdeal.Value.res_main_v32 (F := Ideal) m c
      = mix (m ((c.tc : Thread nD τ).loc main_arg2))
          (shares (weights (m ((c.tc : Thread nD τ).loc main_arg0)) (m ((c.tc : Thread nD τ).loc main_arg1))
              (column (tops' (m ((c.tc : Thread nD τ).loc main_arg0)) (m ((c.tc : Thread nD τ).loc main_arg1)))))
            (column (masses (weights (m ((c.tc : Thread nD τ).loc main_arg0)) (m ((c.tc : Thread nD τ).loc main_arg1))
              (column (tops' (m ((c.tc : Thread nD τ).loc main_arg0)) (m ((c.tc : Thread nD τ).loc main_arg1)))))))) := by
  unfold Cert.AttentionPlainIdeal.Value.res_main_v32
  rfl

/-- A row's mass, below any array of the rows' largest scores. -/
theorem row_mass (a : FVec Ideal S4x8192 .f32) (h : Fin 4) (R : Fin 8192) (ha : (a (ValueIdx.ix2 h R) : EReal) = top (score q k h R) 8192) :
    (masses (weights q k (column a)) (ValueIdx.ix2 h R) : EReal) = mass (score q k h R) (top (score q k h R) 8192) 8192 := by
  rw [masses_eq, mass, ← Fin.sum_univ_eq_sum_range (fun n => Ideal.exp (score q k h R n - top (score q k h R) 8192)) 8192]
  refine Finset.sum_congr rfl fun n _ => ?_
  rw [weights_eq, column_eq, scores_eq, ha]

theorem lse_eq : addf (column (tops q k)) (Host.log (column (masses (weights q k (column (tops q k)))))) = lses q k := by
  funext y
  obtain ⟨h, R, rfl⟩ : ∃ (h : Fin 4) (R : Fin 8192), y = ValueIdx.ix3 h R 0 := ⟨y 0, y 1, by
    refine (ValueIdx.eq_ix3 y).trans ?_
    congr 1
    exact Subsingleton.elim (α := Fin 1) _ _⟩
  refine (add_log _ _ _).trans (Eq.trans ?_ (lses_at q k h R).symm)
  rw [column_eq, column_eq, tops_eq, row_mass q k _ h R (tops_eq q k h R), lseAt]

theorem out_eq : mix v (shares (weights q k (column (tops' q k))) (column (masses (weights q k (column (tops' q k)))))) = outs q k v := by
  funext y
  obtain ⟨R, y, rfl⟩ : ∃ (R : Fin 8192) (z : Fin 512), y = ValueIdx.ix2 R z := ⟨y 0, y 1, ValueIdx.eq_ix2 y⟩
  refine (mix_eq v _ R y).trans (Eq.trans ?_ (outs_at q k v R y).symm)
  unfold outAt
  rw [← Fin.sum_univ_eq_sum_range (fun n => Ideal.div (Ideal.exp (score q k (headOf y) R n - top (score q k (headOf y) R) 8192))
    (mass (score q k (headOf y) R) (top (score q k (headOf y) R) 8192) 8192) * value v (headOf y) (placeOf y) n) 8192]
  refine Finset.sum_congr rfl fun n _ => ?_
  rw [shares_eq, column_eq, row_mass q k _ (headOf y) R (tops'_eq q k (headOf y) R), weights_eq, column_eq, tops'_eq, scores_eq]
  unfold value
  rw [dif_pos n.isLt]

end Cert.AttentionHost

end
-- ==== Proof.AttentionValue.lean ====
/-
  The attention's claim: the kernel's two results are the reference's, of finite queries and keys.
-/
module

public import proofs.«01_k».proof.Proof.AttentionHost
public import Idealize.ShloMosaic.Lib.ReduceAll

@[expose] public section

noncomputable section

namespace Cert.AttentionValue

open Idealize.ShloMosaic Idealize.ShloMosaic.TcCoe Idealize.SL.Sem
open Cert.AttentionRun (Real2 outs lses final_out final_lse)

theorem inf_bits : Ideal.ofBits .f32 0x7F800000#32 = (⊤ : EReal) := by
  simp [Ideal.ofBits, Ideal.ieee]

/-- A number whose absolute value is below infinity is real. -/
theorem real_of_abs (x : EReal) (h : Ideal.cmp .olt (max x (-x)) (Ideal.ofBits .f32 0x7F800000#32) = 1#1) : ∃ r : ℝ, x = r := by
  have h : max x (-x) < Ideal.ofBits .f32 0x7F800000#32 := by
    by_contra hn
    have e : Ideal.cmp .olt (max x (-x)) (Ideal.ofBits .f32 0x7F800000#32) = 0#1 := by
      show BitVec.ofBool (decide (max x (-x) < Ideal.ofBits .f32 0x7F800000#32)) = 0#1
      rw [decide_eq_false hn]
      rfl
    rw [e] at h
    exact absurd h (by decide)
  rw [inf_bits, max_lt_iff] at h
  induction x with
  | bot => simp at h
  | top => simp at h
  | coe r => exact ⟨r, rfl⟩

theorem both : ∀ a b : BitVec 1, IntOp.andi a b = 1#1 → a = 1#1 ∧ b = 1#1 := by decide

instance : Subsingleton Cert.Pre_real_scores.S_.Idx := ⟨fun a b => funext fun k => k.elim0⟩

/-- What the precondition says: queries and keys are real. -/
theorem real_of_pre [Cert.Pre_real_scores.Facts] (q k : FVec Ideal Cert.AttentionIdeal.S8192x1024 .bf16) (v : FVec Ideal Cert.AttentionIdeal.S8192x512 .bf16)
    (h : Cert.Pre_real_scores.fn (F := Ideal) q k v = fun _ => 1#1) : Real2 q k := by
  have h0 := congrFun h ValueIdx.ix0
  unfold Cert.Pre_real_scores.fn at h0
  obtain ⟨hq, hk⟩ := both _ _ h0
  refine ⟨fun y => real_of_abs _ ?_, fun y => real_of_abs _ ?_⟩
  · exact Host.reduce_andi_all _ _ _ _ _ hq y
  · exact Host.reduce_andi_all _ _ _ _ _ hk y

/-- Kernel and reference, launched on the same arrays, queries and keys finite: both terminate, and their results agree. -/
theorem agree [hPre_real_scores : Cert.Pre_real_scores.Facts] : Cert.algebraic_AttentionIdeal_AttentionPlainIdeal_pre_real_scores := by
  intro m g m' g' hpre h
  have hr : ∀ c, Real2 (Cert.AttentionRun.Q m c) (Cert.AttentionRun.K m c) := fun c => real_of_pre _ _ _ (hpre c)
  refine ⟨fun c => outs (Cert.AttentionRun.Q m c) (Cert.AttentionRun.K m c) (Cert.AttentionRun.V m c),
    fun c => lses (Cert.AttentionRun.Q m c) (Cert.AttentionRun.K m c), ?_, ?_⟩
  · exact (θ_run Cert.AttentionIdeal.defs _ _).mono (fun r hrun c => ⟨(hrun c).1.trans (final_out m c (hr c)),
      (hrun c).2.1.trans (final_lse m c (hr c)), (hrun c).2.2⟩) (Cert.AttentionIdeal.Value.run_blocks (F := Ideal) m g)
  · refine (θ_run Cert.AttentionPlainIdeal.defs _ _).mono (fun r hrun c => ⟨(hrun c).1.trans ?_, (hrun c).2.1.trans ?_, (hrun c).2.2⟩)
      (Cert.AttentionPlainIdeal.Value.run (F := Ideal) m' g')
    · refine (Cert.AttentionHost.res_out m' c).trans ((Cert.AttentionHost.out_eq _ _ _).trans ?_)
      show outs _ _ _ = outs _ _ _
      rw [(h c).1, (h c).2.1, (h c).2.2]
    · refine (Cert.AttentionHost.res_lse m' c).trans ((Cert.AttentionHost.lse_eq _ _).trans ?_)
      show lses _ _ = lses _ _
      rw [(h c).1, (h c).2.1]

end Cert.AttentionValue

end
-- ==== Proof.ShortTerms.lean ====
/-
  What a grid point of the short convolution leaves, by its payloads: the scratch holds the last eight rows before the block (zeros before
  the first) and the block; the convolution reads it from four rows on.
-/
module

public import proofs.«01_k».proof.Defs
public import proofs.«01_k».proof.Proof.Gating
public import proofs.«01_k».proof.Proof.Gen.ShortIdeal.Value

@[expose] public section

noncomputable section

namespace Cert.ShortTerms

open Idealize.ShloMosaic Idealize.ShloMosaic.TcCoe Idealize.SL.Sem Cert.Gating
open Cert.ShortIdeal Cert.ShortIdeal.Gen

/-- The scratch after its two stores. -/
def scratch (i : grid0.Coords) (x0 : Vec Ideal S256x1536 .f32) (x1 : Vec Ideal S8x1536 .f32) : Vec Ideal S264x1536 .f32 := fun y =>
  if h : (y 0).val < 8 then k0_pay2 i x1 (ValueIdx.ix2 ⟨(y 0).val, h⟩ (y 1))
  else k0_pay3 x0 (ValueIdx.ix2 ⟨(y 0).val - 8, by have h : (y 0).val < 264 := (y 0).isLt; omega⟩ (y 1))

/-- The rows of the scratch from row `n` on. -/
def rowsFrom (n : ℕ) (hn : n ≤ 8) (s : Vec Ideal S264x1536 .f32) : Vec Ideal S256x1536 .f32 := fun y =>
  s (ValueIdx.ix2 ⟨n + (y 0).val, by have h : (y 0).val < 256 := (y 0).isLt; omega⟩ (y 1))

/-- Row `j` of the filter. -/
def tap (j : Fin 8) (x3 : Vec Ideal S8x1536 .f32) : Vec Ideal S1x1536 .f32 := fun y => x3 (ValueIdx.ix2 j (y 1))

/-- The convolution of the scratch. -/
def conv (s : Vec Ideal S264x1536 .f32) (x3 : Vec Ideal S8x1536 .f32) : FVec Ideal S256x1536 .f32 :=
  k0_pay4 (rowsFrom 5 (by omega) s) (tap 0 x3) (rowsFrom 6 (by omega) s) (tap 1 x3) (rowsFrom 7 (by omega) s) (tap 2 x3)
    (rowsFrom 8 (by omega) s) (tap 3 x3)

/-- Every index of the scratch lies in one of the two stores, and holds what that store left. -/
theorem scratch_eq (i : grid0.Coords) (x0 : Vec Ideal S256x1536 .f32) (x1 : Vec Ideal S8x1536 .f32) (y : S264x1536.Idx) :
    (∃ p ∈ ([⟨Rect.unit ![8, 0] ![256, 1536] inb_S264x1536_S256x1536_8_0, k0_pay3 x0⟩,
      ⟨Rect.unit ![0, 0] ![8, 1536] inb_S264x1536_S8x1536_0_0, k0_pay2 i x1⟩] : List (View.Piece (Elt Ideal) S264x1536 .f32)), y ∈ p.1.set)
    ∧ View.canon ([⟨Rect.unit ![8, 0] ![256, 1536] inb_S264x1536_S256x1536_8_0, k0_pay3 x0⟩,
      ⟨Rect.unit ![0, 0] ![8, 1536] inb_S264x1536_S8x1536_0_0, k0_pay2 i x1⟩] : List (View.Piece (Elt Ideal) S264x1536 .f32)) y = scratch i x0 x1 y := by
  have hc : ∃ p ∈ ([⟨Rect.unit ![8, 0] ![256, 1536] inb_S264x1536_S256x1536_8_0, k0_pay3 x0⟩,
      ⟨Rect.unit ![0, 0] ![8, 1536] inb_S264x1536_S8x1536_0_0, k0_pay2 i x1⟩] : List (View.Piece (Elt Ideal) S264x1536 .f32)), y ∈ p.1.set := by
    have h0 : (y 0).val < 264 := (y 0).isLt
    have h1 : (y 1).val < 1536 := (y 1).isLt
    by_cases h : (y 0).val < 8
    · refine ⟨_, List.mem_cons_of_mem _ List.mem_cons_self, (Rect.mem_set_unit (inb := inb_S264x1536_S8x1536_0_0)).2 fun a => ?_⟩
      fin_cases a
      · exact ⟨Nat.zero_le _, (show (y 0).val < 0 + 8 by omega)⟩
      · exact ⟨Nat.zero_le _, (show (y 1).val < 0 + 1536 by omega)⟩
    · refine ⟨_, List.mem_cons_self, (Rect.mem_set_unit (inb := inb_S264x1536_S256x1536_8_0)).2 fun a => ?_⟩
      fin_cases a
      · exact ⟨(show 8 ≤ (y 0).val by omega), (show (y 0).val < 8 + 256 by omega)⟩
      · exact ⟨Nat.zero_le _, (show (y 1).val < 0 + 1536 by omega)⟩
  refine ⟨hc, View.canon_apply_of_pieces (scratch i x0 x1) _ (fun p hp x => ?_) y hc⟩
  rcases List.mem_cons.1 hp with rfl | hp
  · have h0 : ((Rect.unit (s := S264x1536) ![8, 0] ![256, 1536] inb_S264x1536_S256x1536_8_0).emb x 0).val = 8 + (x 0).val :=
      ValueKit.rect_emb_unit_val _ _ _ x 0
    have h1 : ((Rect.unit (s := S264x1536) ![8, 0] ![256, 1536] inb_S264x1536_S256x1536_8_0).emb x 1).val = 0 + (x 1).val :=
      ValueKit.rect_emb_unit_val _ _ _ x 1
    have hn : ¬((Rect.unit (s := S264x1536) ![8, 0] ![256, 1536] inb_S264x1536_S256x1536_8_0).emb x 0).val < 8 := by omega
    unfold scratch
    rw [dif_neg hn]
    refine congrArg (k0_pay3 x0) (funext fun a => Fin.ext ?_)
    fin_cases a
    · exact (show (x 0).val = 8 + (x 0).val - 8 by omega).trans (congrArg (· - 8) h0).symm
    · exact (Nat.zero_add _).symm.trans h1.symm
  · obtain rfl := List.mem_singleton.1 hp
    have h0 : ((Rect.unit (s := S264x1536) ![0, 0] ![8, 1536] inb_S264x1536_S8x1536_0_0).emb x 0).val = 0 + (x 0).val :=
      ValueKit.rect_emb_unit_val _ _ _ x 0
    have h1 : ((Rect.unit (s := S264x1536) ![0, 0] ![8, 1536] inb_S264x1536_S8x1536_0_0).emb x 1).val = 0 + (x 1).val :=
      ValueKit.rect_emb_unit_val _ _ _ x 1
    have hx : (x 0).val < 8 := (x 0).isLt
    have hn : ((Rect.unit (s := S264x1536) ![0, 0] ![8, 1536] inb_S264x1536_S8x1536_0_0).emb x 0).val < 8 := by omega
    unfold scratch
    rw [dif_pos hn]
    refine congrArg (k0_pay2 i x1) (funext fun a => Fin.ext ?_)
    fin_cases a
    · exact (Nat.zero_add _).symm.trans h0.symm
    · exact (Nat.zero_add _).symm.trans h1.symm

/-- A load of 256 rows of the scratch, from row `n` on. -/
theorem read_eq (v : View sig .tc .vmem S264x1536 .f32) (i : grid0.Coords) (x0 : Vec Ideal S256x1536 .f32) (x1 : Vec Ideal S8x1536 .f32)
    (n : ℕ) (hn : n ≤ 8) (inb : ∀ a, (![n, 0] : Fin 2 → ℕ) a + (![256, 1536] : Fin 2 → ℕ) a ≤ S264x1536.size a) :
    v.readCov ([⟨Rect.unit ![8, 0] ![256, 1536] inb_S264x1536_S256x1536_8_0, k0_pay3 x0⟩,
      ⟨Rect.unit ![0, 0] ![8, 1536] inb_S264x1536_S8x1536_0_0, k0_pay2 i x1⟩] : List (View.Piece (Elt Ideal) S264x1536 .f32))
      (Rect.unit (s := S264x1536) ![n, 0] ![256, 1536] inb).toLoadRect = rowsFrom n hn (scratch i x0 x1) := by
  rw [View.readCov_eq_canon_ld _ _ _ fun y => (scratch_eq i x0 x1 y).1]
  funext y
  refine ((scratch_eq i x0 x1 _).2).trans (congrArg (scratch i x0 x1) (funext fun a => Fin.ext ?_))
  fin_cases a
  · exact ValueKit.rect_emb_unit_val _ _ _ y 0
  · exact (ValueKit.rect_emb_unit_val _ _ _ y 1).trans (Nat.zero_add _)

theorem tap_eq (x3 : Vec Ideal S8x1536 .f32) (j : Fin 8) (inb : ∀ a, (![j.val, 0] : Fin 2 → ℕ) a + (![1, 1536] : Fin 2 → ℕ) a ≤ S8x1536.size a) :
    View.ld x3 (Rect.unit (s := S8x1536) ![j.val, 0] ![1, 1536] inb) = tap j x3 := by
  funext y
  refine congrArg x3 (funext fun a => Fin.ext ?_)
  have h : (y 0).val < 1 := (y 0).isLt
  fin_cases a
  · exact (ValueKit.rect_emb_unit_val _ _ _ y 0).trans (show j.val + (y 0).val = j.val by omega)
  · exact (ValueKit.rect_emb_unit_val _ _ _ y 1).trans (Nat.zero_add _)

/-- The body's loads of the scratch and of the filter, convolved. -/
theorem conv_eq (v : View sig .tc .vmem S264x1536 .f32) (i : grid0.Coords) (x0 : Vec Ideal S256x1536 .f32) (x1 x3 : Vec Ideal S8x1536 .f32)
    (L : List (View.Piece (Elt Ideal) S264x1536 .f32)) (hL : L = [⟨Rect.unit ![8, 0] ![256, 1536] inb_S264x1536_S256x1536_8_0, k0_pay3 x0⟩,
      ⟨Rect.unit ![0, 0] ![8, 1536] inb_S264x1536_S8x1536_0_0, k0_pay2 i x1⟩]) :
    k0_pay4 (v.readCov L (Rect.unit (s := S264x1536) ![5, 0] ![256, 1536] inb_S264x1536_S256x1536_5_0).toLoadRect) (View.ld x3 (Rect.unit ![0, 0] ![1, 1536] inb_S8x1536_S1x1536_0_0))
      (v.readCov L (Rect.unit (s := S264x1536) ![6, 0] ![256, 1536] inb_S264x1536_S256x1536_6_0).toLoadRect) (View.ld x3 (Rect.unit ![1, 0] ![1, 1536] inb_S8x1536_S1x1536_1_0))
      (v.readCov L (Rect.unit (s := S264x1536) ![7, 0] ![256, 1536] inb_S264x1536_S256x1536_7_0).toLoadRect) (View.ld x3 (Rect.unit ![2, 0] ![1, 1536] inb_S8x1536_S1x1536_2_0))
      (v.readCov L (Rect.unit (s := S264x1536) ![8, 0] ![256, 1536] inb_S264x1536_S256x1536_8_0).toLoadRect) (View.ld x3 (Rect.unit ![3, 0] ![1, 1536] inb_S8x1536_S1x1536_3_0))
      = conv (scratch i x0 x1) x3 := by
  have t0 : View.ld x3 (Rect.unit ![0, 0] ![1, 1536] inb_S8x1536_S1x1536_0_0) = tap 0 x3 := tap_eq x3 0 _
  have t1 : View.ld x3 (Rect.unit ![1, 0] ![1, 1536] inb_S8x1536_S1x1536_1_0) = tap 1 x3 := tap_eq x3 1 _
  have t2 : View.ld x3 (Rect.unit ![2, 0] ![1, 1536] inb_S8x1536_S1x1536_2_0) = tap 2 x3 := tap_eq x3 2 _
  have t3 : View.ld x3 (Rect.unit ![3, 0] ![1, 1536] inb_S8x1536_S1x1536_3_0) = tap 3 x3 := tap_eq x3 3 _
  subst hL
  rw [read_eq v i x0 x1 5 (by omega), read_eq v i x0 x1 6 (by omega), read_eq v i x0 x1 7 (by omega), read_eq v i x0 x1 8 (by omega), t0, t1, t2, t3]
  rfl

variable (c : Dev nD) (i : grid0.Coords) (a1 : Memref sig .tc .vmem S256x1536 .f32) (h1 : a1.IsWhole) (a2 : Memref sig .tc .vmem S8x1536 .f32)
  (h2 : a2.IsWhole) (a3 : Memref sig .tc .vmem S256x128 .f32) (h3 : a3.IsWhole) (a4 : Memref sig .tc .vmem S8x1536 .f32) (h4 : a4.IsWhole)
  (a5 : Memref sig .tc .vmem S1x512 .f32) (h5 : a5.IsWhole) (a6 : Memref sig .tc .vmem S1x512 .f32) (h6 : a6.IsWhole)
  (a7 : Memref sig .tc .vmem S256x512 .f32) (h7 : a7.IsWhole) (a8 : Memref sig .tc .vmem S256x512 .f32) (h8 : a8.IsWhole)
  (a9 : Memref sig .tc .vmem S256x512 .f32) (h9 : a9.IsWhole) (a10 : Memref sig .tc .vmem S256x512 .f32) (h10 : a10.IsWhole)
  (a11 : Memref sig .tc .vmem S256x512 .f32) (h11 : a11.IsWhole) (a12 : Memref sig .tc .vmem S264x1536 .f32) (h12 : a12.IsWhole)
  (x0 : Vec Ideal S256x1536 .f32) (x1 : Vec Ideal S8x1536 .f32) (x2 : Vec Ideal S256x128 .f32) (x3 : Vec Ideal S8x1536 .f32)
  (x4 x5 : Vec Ideal S1x512 .f32)

/-- What the body leaves in each result's block. -/
theorem queries_eq :
    out0_A_6 c i a1 h1 a2 h2 a3 h3 a4 h4 a5 h5 a6 h6 a7 h7 a8 h8 a9 h9 a10 h10 a11 h11 a12 h12 x0 x1 x2 x3 x4 x5
      = k0_pay18 (k0_pay6 (conv (scratch i x0 x1) x3)) := by
  unfold out0_A_6
  rw [View.read_writes_eq_canon _ _ _ (cover0_A_6 c i a1 h1 a2 h2 a3 h3 a4 h4 a5 h5 a6 h6 a7 h7 a8 h8 a9 h9 a10 h10 a11 h11 a12 h12 x0 x1 x2 x3 x4 x5)]
  unfold kernelRun0_A
  dsimp only
  sl_unfold_words
  rw [View.canon_unit_zero (S := S256x512) hz2]
  simp only [View.readAt_eq_ld, h1.read_unread, h2.read_unread, h4.read_unread, View.ld_unit_zero (S := S256x1536) hz2, View.ld_unit_zero (S := S8x1536) hz2]
  rw [conv_eq _ i x0 x1 x3 _ rfl]

theorem keys_eq :
    out0_A_7 c i a1 h1 a2 h2 a3 h3 a4 h4 a5 h5 a6 h6 a7 h7 a8 h8 a9 h9 a10 h10 a11 h11 a12 h12 x0 x1 x2 x3 x4 x5
      = k0_pay1 (k0_pay19 (k0_pay7 (conv (scratch i x0 x1) x3))) (k0_pay20 (k0_pay7 (conv (scratch i x0 x1) x3))) (k0_pay21 (k0_pay7 (conv (scratch i x0 x1) x3))) (k0_pay22 (k0_pay7 (conv (scratch i x0 x1) x3))) (k0_pay23 (k0_pay7 (conv (scratch i x0 x1) x3))) := by
  unfold out0_A_7
  rw [View.read_writes_eq_canon _ _ _ (cover0_A_7 c i a1 h1 a2 h2 a3 h3 a4 h4 a5 h5 a6 h6 a7 h7 a8 h8 a9 h9 a10 h10 a11 h11 a12 h12 x0 x1 x2 x3 x4 x5)]
  unfold kernelRun0_A
  dsimp only
  sl_unfold_words
  rw [View.canon_unit_zero (S := S256x512) hz2]
  simp only [View.readAt_eq_ld, h1.read_unread, h2.read_unread, h4.read_unread, View.ld_unit_zero (S := S256x1536) hz2, View.ld_unit_zero (S := S8x1536) hz2]
  rw [conv_eq _ i x0 x1 x3 _ rfl]

theorem values_eq :
    out0_A_8 c i a1 h1 a2 h2 a3 h3 a4 h4 a5 h5 a6 h6 a7 h7 a8 h8 a9 h9 a10 h10 a11 h11 a12 h12 x0 x1 x2 x3 x4 x5
      = k0_pay8 (conv (scratch i x0 x1) x3) := by
  unfold out0_A_8
  rw [View.read_writes_eq_canon _ _ _ (cover0_A_8 c i a1 h1 a2 h2 a3 h3 a4 h4 a5 h5 a6 h6 a7 h7 a8 h8 a9 h9 a10 h10 a11 h11 a12 h12 x0 x1 x2 x3 x4 x5)]
  unfold kernelRun0_A
  dsimp only
  sl_unfold_words
  rw [View.canon_unit_zero (S := S256x512) hz2]
  simp only [View.readAt_eq_ld, h1.read_unread, h2.read_unread, h4.read_unread, View.ld_unit_zero (S := S256x1536) hz2, View.ld_unit_zero (S := S8x1536) hz2]
  rw [conv_eq _ i x0 x1 x3 _ rfl]

theorem beta_eq :
    out0_A_9 c i a1 h1 a2 h2 a3 h3 a4 h4 a5 h5 a6 h6 a7 h7 a8 h8 a9 h9 a10 h10 a11 h11 a12 h12 x0 x1 x2 x3 x4 x5
      = k0_pay9 x2 := by
  unfold out0_A_9
  rw [View.read_writes_eq_canon _ _ _ (cover0_A_9 c i a1 h1 a2 h2 a3 h3 a4 h4 a5 h5 a6 h6 a7 h7 a8 h8 a9 h9 a10 h10 a11 h11 a12 h12 x0 x1 x2 x3 x4 x5)]
  unfold kernelRun0_A
  dsimp only
  sl_unfold_words
  rw [View.canon_unit_zero (S := S256x512) hz2]
  simp only [View.readAt_eq_ld, h3.read_unread, h5.read_unread, h6.read_unread, View.ld_unit_zero (S := S256x128) hz2, View.ld_unit_zero (S := S1x512) hz2]

theorem decay_eq :
    out0_A_10 c i a1 h1 a2 h2 a3 h3 a4 h4 a5 h5 a6 h6 a7 h7 a8 h8 a9 h9 a10 h10 a11 h11 a12 h12 x0 x1 x2 x3 x4 x5
      = k0_pay17 (k0_pay10 x4) (k0_pay12 x2 x5) (k0_pay14 x2 x5) (k0_pay15 x2 x5) (k0_pay16 x2 x5) := by
  unfold out0_A_10
  rw [View.read_writes_eq_canon _ _ _ (cover0_A_10 c i a1 h1 a2 h2 a3 h3 a4 h4 a5 h5 a6 h6 a7 h7 a8 h8 a9 h9 a10 h10 a11 h11 a12 h12 x0 x1 x2 x3 x4 x5)]
  unfold kernelRun0_A
  dsimp only
  sl_unfold_words
  rw [View.canon_unit_zero (S := S256x512) hz2]
  simp only [View.readAt_eq_ld, h3.read_unread, h5.read_unread, h6.read_unread, View.ld_unit_zero (S := S256x128) hz2, View.ld_unit_zero (S := S1x512) hz2]

end Cert.ShortTerms

end
-- ==== Proof.ShortRows.lean ====
/-
  The short convolution by rows: four taps over a row and the three before it, SiLU, each head of the queries and keys over its length,
  and the two gates; and what a grid point's payloads hold in a row.
-/
module

public import proofs.«01_k».proof.Defs
public import proofs.«01_k».proof.Proof.Norms
public import proofs.«01_k».proof.Proof.ShortTerms
public import Idealize.ShloMosaic.Lib.Pointwise

@[expose] public section

noncomputable section

namespace Cert.ShortRows

open Idealize.ShloMosaic Idealize.ShloMosaic.TcCoe Idealize.SL.Sem Cert.Gating Cert.Norms

/-- Column `q` of the projection, `3 - j` rows before row `t`; zero before the first row. -/
def past (H : FVec Ideal ⟨2, ![8192, 3072]⟩ .f32) (t : Fin 8192) (j : Fin 4) (q : Fin 1536) : EReal :=
  if h : 3 ≤ t.val + j.val then H (ValueIdx.ix2 ⟨t.val + j.val - 3, by have := t.isLt; have := j.isLt; omega⟩ ⟨q.val, by have := q.isLt; omega⟩) else 0

/-- Four terms by four weights. -/
def taps (p w : Fin 4 → EReal) : EReal := p 0 * w 0 + p 1 * w 1 + p 2 * w 2 + p 3 * w 3

def silu (x : EReal) : EReal := x * Ideal.logistic x

/-- A row of the filter among the padded ones. -/
def wide (j : Fin 4) : Fin 8 := ⟨j.val, by have := j.isLt; omega⟩

/-- The convolution with SiLU, at row `t`. -/
def short (H : FVec Ideal ⟨2, ![8192, 3072]⟩ .f32) (w : FVec Ideal ⟨2, ![8, 1536]⟩ .f32) (t : Fin 8192) (q : Fin 1536) : EReal :=
  silu (taps (fun j => past H t j q) (fun j => w (ValueIdx.ix2 (wide j) q)))

/-- A head over its length. -/
def headUnit (o : Fin 512 → EReal) (k : Fin 512) : EReal := o k * Ideal.rsqrt ((∑ d : Fin 128, o (mate k d) * o (mate k d)) + tiny)

/-- Column `k` of the third beginning at `n`. -/
def third (n : Fin 3) (k : Fin 512) : Fin 1536 := ⟨n.val * 512 + k.val, by have := n.isLt; have := k.isLt; omega⟩

/-- The logarithm of one and the exponential, by the larger of the two. -/
def softplus (x : EReal) : EReal := max x 0 + Ideal.log1p (Ideal.exp (-(FloatOps.absf (F := Ideal) (φ := .f32) x : EReal)))

section
open Cert.ShortIdeal Cert.ShortIdeal.Gen Cert.ShortTerms

theorem taps_eq (s : Vec Ideal S264x1536 .f32) (x3 : Vec Ideal S8x1536 .f32) (r : Fin 256) (q : Fin 1536) :
    (conv s x3 (ValueIdx.ix2 r q) : EReal) = taps (fun j => s (ValueIdx.ix2 ⟨5 + j.val + r.val, by have := j.isLt; have := r.isLt; omega⟩ q))
      (fun j => x3 (ValueIdx.ix2 (wide j) q)) := by
  unfold conv k0_pay4
  pointwise
  rfl

theorem first_point : ∀ n : Fin 32, Scalar.cmpi .eq (BitVec.ofNat 32 n.val) 0#32 = if n.val = 0 then 1#1 else 0#1 := by decide +kernel

theorem first_eq (i : grid0.Coords) (x1 : Vec Ideal S8x1536 .f32) (j : Fin 8) (q : Fin 1536) :
    (k0_pay2 i x1 (ValueIdx.ix2 j q) : EReal) = if (i 0).val = 0 then (0 : EReal) else x1 (ValueIdx.ix2 j q) := by
  have hi : (i 0).val < 32 := (i 0).isLt
  unfold k0_pay2
  pointwise
  rw [first_point ⟨(i 0).val, hi⟩]
  split_ifs <;> rfl

theorem block_eq (x0 : Vec Ideal S256x1536 .f32) (r : Fin 256) (q : Fin 1536) : (k0_pay3 x0 (ValueIdx.ix2 r q) : EReal) = x0 (ValueIdx.ix2 r q) := by
  unfold k0_pay3
  pointwise
  try rfl

theorem silu_eq (v : FVec Ideal S256x1536 .f32) (r : Fin 256) (q : Fin 1536) : (k0_pay5 v (ValueIdx.ix2 r q) : EReal) = silu (v (ValueIdx.ix2 r q)) := rfl

theorem part_q (v : FVec Ideal S256x1536 .f32) (r : Fin 256) (k : Fin 512) : (k0_pay6 v (ValueIdx.ix2 r k) : EReal) = silu (v (ValueIdx.ix2 r (third 0 k))) := by
  unfold k0_pay6
  pointwise
  exact congrArg (fun n : Fin 1536 => silu (v (ValueIdx.ix2 r n))) (Fin.ext (show k.val = 0 * 512 + k.val by omega))

theorem part_k (v : FVec Ideal S256x1536 .f32) (r : Fin 256) (k : Fin 512) : (k0_pay7 v (ValueIdx.ix2 r k) : EReal) = silu (v (ValueIdx.ix2 r (third 1 k))) := by
  unfold k0_pay7
  pointwise
  rfl

theorem part_v (v : FVec Ideal S256x1536 .f32) (r : Fin 256) (k : Fin 512) : (k0_pay8 v (ValueIdx.ix2 r k) : EReal) = silu (v (ValueIdx.ix2 r (third 2 k))) := by
  unfold k0_pay8
  pointwise
  rfl

/-- A head's block over its lengths. -/
def piece (v : FVec Ideal S256x128 .f32) : FVec Ideal S256x128 .f32 :=
  mulf v (broadcastTo S256x128 (rsqrt (addf (shapeCast S256x1 (multiReduction .add [1] S256 (mulf v v) 0x00000000#32 reduces_S256x128_S256 (.inl rfl) rfl)
    shapeCasts_S256_S256x1) (broadcast S256x1 (Scalar.ofBits .f32 0x358637BD#32)))) broadcasts_S256x1_S256x128)

/-- The four heads side by side. -/
def units (o : FVec Ideal S256x512 .f32) : FVec Ideal S256x512 .f32 :=
  concatenate S256x512 1 [⟨S256x128, piece (extractStridedSlice S256x128 ![0, 0] o slices_S256x512_o0_0_S256x128)⟩,
    ⟨S256x128, piece (extractStridedSlice S256x128 ![0, 128] o slices_S256x512_o0_128_S256x128)⟩,
    ⟨S256x128, piece (extractStridedSlice S256x128 ![0, 256] o slices_S256x512_o0_256_S256x128)⟩,
    ⟨S256x128, piece (extractStridedSlice S256x128 ![0, 384] o slices_S256x512_o0_384_S256x128)⟩]
    concatenates_S256x128_S256x128_S256x128_S256x128_S256x512_d1

theorem queries_units (o : FVec Ideal S256x512 .f32) : k0_pay18 o = units o := rfl

theorem keys_units (o : FVec Ideal S256x512 .f32) : k0_pay1 (k0_pay19 o) (k0_pay20 o) (k0_pay21 o) (k0_pay22 o) (k0_pay23 o) = units o := rfl

theorem piece_eq (v : FVec Ideal S256x128 .f32) (r : Fin 256) (d : Fin 128) :
    (piece v (ValueIdx.ix2 r d) : EReal)
      = v (ValueIdx.ix2 r d) * Ideal.rsqrt ((∑ e : Fin 128, (v (ValueIdx.ix2 r e) : EReal) * v (ValueIdx.ix2 r e)) + tiny) := by
  unfold piece
  pointwise
  rfl

/-- A piece cut from feature `n` on, at the head that begins there. -/
theorem piece_unit (o : FVec Ideal S256x512 .f32) (v : FVec Ideal S256x128 .f32) (r : Fin 256) (k : Fin 512) (d : Fin 128) (n : ℕ) (hn : n + 128 ≤ 512)
    (hv : ∀ e : Fin 128, (v (ValueIdx.ix2 r e) : EReal) = o (ValueIdx.ix2 r ⟨n + e.val, by have := e.isLt; omega⟩)) (h0 : n = k.val / 128 * 128)
    (hk : n + d.val = k.val) : (piece v (ValueIdx.ix2 r d) : EReal) = headUnit (fun k => o (ValueIdx.ix2 r k)) k := by
  subst h0
  have e : (⟨k.val / 128 * 128 + d.val, by have := d.isLt; omega⟩ : Fin 512) = k := Fin.ext hk
  rw [piece_eq, headUnit]
  simp only [hv, e]
  rfl

theorem units_eq (o : FVec Ideal S256x512 .f32) (r : Fin 256) (k : Fin 512) :
    (units o (ValueIdx.ix2 r k) : EReal) = headUnit (fun k => o (ValueIdx.ix2 r k)) k := by
  have hk := k.isLt
  have e0 : (ValueIdx.ix2 r k : S256x512.Idx) 0 = r := rfl
  have e1 : (ValueIdx.ix2 r k : S256x512.Idx) 1 = k := rfl
  unfold units
  pointwise
  simp only [e0, e1, dite_true]
  split_ifs
  all_goals first | exact absurd rfl ‹¬((1 : Fin 2) : ℕ) = ((1 : Fin 2) : ℕ)› | skip
  · exact piece_unit o _ r k _ 0 (by omega) (fun e => by pointwise; rfl) (by omega) (by dsimp only; omega)
  · exact piece_unit o _ r k _ 128 (by omega) (fun e => by pointwise; rfl) (by omega) (by dsimp only; omega)
  · exact piece_unit o _ r k _ 256 (by omega) (fun e => by pointwise; rfl) (by omega) (by dsimp only; omega)
  · exact piece_unit o _ r k _ 384 (by omega) (fun e => by pointwise; rfl) (by omega) (by dsimp only; omega)

/-- Column `64 + n` for the head of feature `k`, counted from `n`. -/
def gate (n : Fin 2) (k : Fin 512) : Fin 128 := ⟨64 + n.val * 4 + k.val / 128, by have := n.isLt; have := k.isLt; omega⟩

theorem beta_row (x2 : Vec Ideal S256x128 .f32) (r : Fin 256) (k : Fin 512) :
    (k0_pay9 x2 (ValueIdx.ix2 r k) : EReal) = Ideal.logistic (x2 (ValueIdx.ix2 r (gate 0 k))) := by
  have hk := k.isLt
  have e0 : (ValueIdx.ix2 r k : S256x512.Idx) 0 = r := rfl
  have e1 : (ValueIdx.ix2 r k : S256x512.Idx) 1 = k := rfl
  unfold k0_pay9
  refine congrArg Ideal.logistic ?_
  pointwise
  simp only [e0, e1, dite_true]
  split_ifs
  all_goals first | exact absurd rfl ‹¬((1 : Fin 2) : ℕ) = ((1 : Fin 2) : ℕ)› | skip
  all_goals exact congrArg (fun n : Fin 128 => x2 (ValueIdx.ix2 r n)) (Fin.ext (by unfold gate; dsimp only; omega))

theorem dt_row (x2 : Vec Ideal S256x128 .f32) (x5 : Vec Ideal S1x512 .f32) (r : Fin 256) (k : Fin 512) :
    (k0_pay11 x2 x5 (ValueIdx.ix2 r k) : EReal) = x2 (ValueIdx.ix2 r (gate 1 k)) + x5 (ValueIdx.ix2 0 k) := by
  have hk := k.isLt
  have e0 : (ValueIdx.ix2 r k : S256x512.Idx) 0 = r := rfl
  have e1 : (ValueIdx.ix2 r k : S256x512.Idx) 1 = k := rfl
  unfold k0_pay11
  refine congrArg₂ (fun a b : EReal => a + b) ?_ ?_
  · pointwise
    simp only [e0, e1, dite_true]
    split_ifs
    all_goals first | exact absurd rfl ‹¬((1 : Fin 2) : ℕ) = ((1 : Fin 2) : ℕ)› | skip
    all_goals exact congrArg (fun n : Fin 128 => x2 (ValueIdx.ix2 r n)) (Fin.ext (by unfold gate; dsimp only; omega))
  · pointwise
    rfl

theorem decay_row (x2 : Vec Ideal S256x128 .f32) (x4 x5 : Vec Ideal S1x512 .f32) (r : Fin 256) (k : Fin 512) (x : EReal)
    (hx : (k0_pay11 x2 x5 (ValueIdx.ix2 r k) : EReal) = x) :
    (k0_pay17 (k0_pay10 x4) (k0_pay12 x2 x5) (k0_pay14 x2 x5) (k0_pay15 x2 x5) (k0_pay16 x2 x5) (ValueIdx.ix2 r k) : EReal)
      = -(Ideal.exp (x4 (ValueIdx.ix2 0 k))) * softplus x := by
  subst hx
  unfold k0_pay17 k0_pay10 k0_pay12 k0_pay14 k0_pay15 k0_pay16 k0_pay13
  pointwise
  simp only [ne_eq, not_true_eq_false, if_false, zero_sub]
  rfl

/-- A block of the projection's rows below the eight before it: the rows of the scratch that the taps read. -/
theorem scratch_past (H : FVec Ideal S8192x3072 .f32) (i : grid0.Coords) (t : Fin 32) (hi : (i 0).val = t.val) (x0 : Vec Ideal S256x1536 .f32)
    (x1 : Vec Ideal S8x1536 .f32) (q : Fin 1536)
    (h0 : ∀ r : Fin 256, (x0 (ValueIdx.ix2 r q) : EReal) = H (ValueIdx.ix2 ⟨t.val * 256 + r.val, by have := t.isLt; have := r.isLt; omega⟩ ⟨q.val, by have := q.isLt; omega⟩))
    (h1 : ∀ j : Fin 8, (x1 (ValueIdx.ix2 j q) : EReal) = H (ValueIdx.ix2 ⟨(t.val * 32 - 1) * 8 + j.val, by have := t.isLt; have := j.isLt; omega⟩ ⟨q.val, by have := q.isLt; omega⟩))
    (r : Fin 256) (j : Fin 4) :
    (scratch i x0 x1 (ValueIdx.ix2 ⟨5 + j.val + r.val, by have := j.isLt; have := r.isLt; omega⟩ q) : EReal)
      = past H ⟨t.val * 256 + r.val, by have := t.isLt; have := r.isLt; omega⟩ j q := by
  have hj := j.isLt
  have hr := r.isLt
  have ht := t.isLt
  by_cases h : 5 + j.val + r.val < 8
  · refine (dif_pos h).trans ((first_eq i x1 ⟨5 + j.val + r.val, h⟩ q).trans ?_)
    unfold past
    dsimp only
    split_ifs with ha hb hb
    · omega
    · rfl
    · rw [h1]
      exact congrArg (fun n : Fin 8192 => (H (ValueIdx.ix2 n ⟨q.val, by have := q.isLt; omega⟩) : EReal)) (Fin.ext (by dsimp only; omega))
    · omega
  · refine (dif_neg h).trans ((block_eq x0 ⟨5 + j.val + r.val - 8, by omega⟩ q).trans ((h0 ⟨5 + j.val + r.val - 8, by omega⟩).trans ?_))
    unfold past
    rw [dif_pos (show 3 ≤ t.val * 256 + r.val + j.val by omega)]
    exact congrArg (fun n : Fin 8192 => (H (ValueIdx.ix2 n ⟨q.val, by have := q.isLt; omega⟩) : EReal)) (Fin.ext (by dsimp only; omega))

end

end Cert.ShortRows

end
-- ==== Proof.ShortHost.lean ====
/-
  The short convolution as the reference writes it, row by row: three rows of zeros in front, four shifted sums, SiLU by its exponential,
  the heads over their lengths and the gates repeated over their features.
-/
module

public import proofs.«01_k».proof.Defs
public import proofs.«01_k».proof.Proof.ShortRows
public import proofs.«01_k».proof.Proof.Gen.ShortPlainIdeal.Run
public import Idealize.ShloMosaic.Lib.Pointwise

@[expose] public section

noncomputable section

namespace Cert.ShortHost

open Idealize.ShloMosaic Idealize.ShloMosaic.TcCoe Idealize.SL.Sem Cert.Gating Cert.Norms Cert.ShortRows
open Cert.ShortPlainIdeal Cert.ShortPlainIdeal.Gen

/-- The projection's first columns below three rows of zeros. -/
def padded (H : FVec Ideal S8192x3072 .f32) : FVec Ideal S8195x1536 .f32 :=
  pad S8195x1536 ![3, 0] ![0, 0] ![0, 0] (extractStridedSlice S8192x1536 ![0, 0] H slices_S8192x3072_S8192x1536_0_0) (sitofp .f32 (constantI S_ 32 0#32))
    pads_S8192x1536_S8195x1536_300_000 h_S_

/-- A row of the filter in every row. -/
def spread (w : FVec Ideal S1x1536 .f32) : FVec Ideal S8192x1536 .f32 :=
  broadcastInDim S8192x1536 ![0, 1] bcast_S1x1536_S8192x1536_0_1 (broadcastInDim S1x1536 ![1] bcast_S1536_S1x1536_1 (shapeCast _ w shapeCasts_S1x1536_S1536))

/-- The four shifted terms. -/
def term0 (p : FVec Ideal S8195x1536 .f32) (w : FVec Ideal S8x1536 .f32) : FVec Ideal S8192x1536 .f32 :=
  mulf (extractStridedSlice S8192x1536 ![0, 0] p slices_S8195x1536_S8192x1536_0_0) (spread (extractStridedSlice S1x1536 ![0, 0] w slices_S8x1536_S1x1536_0_0))
def term1 (p : FVec Ideal S8195x1536 .f32) (w : FVec Ideal S8x1536 .f32) : FVec Ideal S8192x1536 .f32 :=
  mulf (extractStridedSlice S8192x1536 ![1, 0] p slices_S8195x1536_S8192x1536_1_0) (spread (extractStridedSlice S1x1536 ![1, 0] w slices_S8x1536_S1x1536_1_0))
def term2 (p : FVec Ideal S8195x1536 .f32) (w : FVec Ideal S8x1536 .f32) : FVec Ideal S8192x1536 .f32 :=
  mulf (extractStridedSlice S8192x1536 ![2, 0] p slices_S8195x1536_S8192x1536_2_0) (spread (extractStridedSlice S1x1536 ![2, 0] w slices_S8x1536_S1x1536_2_0))
def term3 (p : FVec Ideal S8195x1536 .f32) (w : FVec Ideal S8x1536 .f32) : FVec Ideal S8192x1536 .f32 :=
  mulf (extractStridedSlice S8192x1536 ![3, 0] p slices_S8195x1536_S8192x1536_3_0) (spread (extractStridedSlice S1x1536 ![3, 0] w slices_S8x1536_S1x1536_3_0))

/-- Their sum. -/
def shifted (p : FVec Ideal S8195x1536 .f32) (w : FVec Ideal S8x1536 .f32) : FVec Ideal S8192x1536 .f32 :=
  addf (addf (addf (addf (broadcastInDim S8192x1536 ![] bcast_S_S8192x1536 (constant S_ .f32 0x00000000#32)) (term0 p w)) (term1 p w)) (term2 p w)) (term3 p w)

/-- SiLU by its exponential. -/
def gated (c : FVec Ideal S8192x1536 .f32) : FVec Ideal S8192x1536 .f32 :=
  mulf c (Host.divf (broadcastInDim S8192x1536 ![] bcast_S_S8192x1536 (constant S_ .f32 0x3F800000#32))
    (addf (broadcastInDim S8192x1536 ![] bcast_S_S8192x1536 (constant S_ .f32 0x3F800000#32)) (Host.exp (Host.negf c))))

/-- The array as four heads. -/
def heads (o : FVec Ideal S8192x512 .f32) : FVec Ideal S8192x4x128 .f32 := shapeCast _ o shapeCasts_S8192x512_S8192x4x128

/-- Each head over its length. -/
def lengths (o : FVec Ideal S8192x4x128 .f32) : FVec Ideal S8192x4x128 .f32 :=
  mulf o (broadcastInDim S8192x4x128 ![0, 1, 2] bcast_S8192x4x1_S8192x4x128_0_1_2 (Host.rsqrt (addf (broadcastInDim S8192x4x1 ![0, 1] bcast_S8192x4_S8192x4x1_0_1
    (Host.reduceAdd (mulf o o) (constant S_ .f32 0x00000000#32) reducesTo_S8192x4x128_S8192x4_d2 h_S_)) (broadcastInDim S8192x4x1 ![] bcast_S_S8192x4x1 (constant S_ .f32 0x358637BD#32)))))

/-- A gate's four columns, each over its head's features. -/
def repeated (b : FVec Ideal S8192x4 .f32) : FVec Ideal S8192x512 .f32 :=
  shapeCast _ (broadcastInDim S8192x4x128 ![0, 1] bcast_S8192x4_S8192x4x128_0_1 b) shapeCasts_S8192x4x128_S8192x512

/-- The zeros of the result's shape. -/
def zeros : FVec Ideal S8192x512 .f32 := broadcastInDim S8192x512 ![] bcast_S_S8192x512 (constant S_ .f32 0x00000000#32)

/-- Softplus by its parts. -/
def soft (x : FVec Ideal S8192x512 .f32) : FVec Ideal S8192x512 .f32 :=
  select (cmpf .une (subf x zeros) (subf x zeros)) (addf x zeros) (addf (maximumf x zeros) (Host.log1p (Host.exp (Host.negf (Host.absf (subf x zeros))))))

/-- The logistic by its exponential. -/
def logistics (b : FVec Ideal S8192x512 .f32) : FVec Ideal S8192x512 .f32 :=
  Host.divf (broadcastInDim S8192x512 ![] bcast_S_S8192x512 (constant S_ .f32 0x3F800000#32))
    (addf (broadcastInDim S8192x512 ![] bcast_S_S8192x512 (constant S_ .f32 0x3F800000#32)) (Host.exp (Host.negf b)))

theorem zero_int : (FloatOps.sitofp (F := Ideal) .f32 (0#32) : EReal) = 0 := by
  show (((0#32 : BitVec 32).toInt : ℝ) : EReal) = 0
  simp

theorem padded_eq (H : FVec Ideal S8192x3072 .f32) (n : Fin 8195) (q : Fin 1536) :
    (padded H (ValueIdx.ix2 n q) : EReal)
      = if h : 3 ≤ n.val then H (ValueIdx.ix2 ⟨n.val - 3, by have := n.isLt; omega⟩ ⟨q.val, by have := q.isLt; omega⟩) else 0 := by
  have e : (3 ≤ ((ValueIdx.ix2 n q : S8195x1536.Idx) 0).val ∧ ((ValueIdx.ix2 n q : S8195x1536.Idx) 0).val - 3 < 8192) = (3 ≤ n.val) :=
    propext ⟨fun h => h.1, fun h => ⟨h, show n.val - 3 < 8192 by have := n.isLt; omega⟩⟩
  unfold padded
  pointwise
  rw [zero_int]
  simp only [e]
  rfl

theorem spread_eq (w : FVec Ideal S1x1536 .f32) (t : Fin 8192) (q : Fin 1536) : (spread w (ValueIdx.ix2 t q) : EReal) = w (ValueIdx.ix2 0 q) := by
  unfold spread
  pointwise
  rfl

theorem term0_eq (p : FVec Ideal S8195x1536 .f32) (w : FVec Ideal S8x1536 .f32) (t : Fin 8192) (q : Fin 1536) :
    (term0 p w (ValueIdx.ix2 t q) : EReal) = p (ValueIdx.ix2 ⟨t.val, by have := t.isLt; omega⟩ q) * w (ValueIdx.ix2 0 q) := by
  refine congrArg₂ (fun a b : EReal => a * b) ?_ ((spread_eq _ t q).trans ?_)
  · pointwise
    rfl
  · pointwise
    rfl

theorem term1_eq (p : FVec Ideal S8195x1536 .f32) (w : FVec Ideal S8x1536 .f32) (t : Fin 8192) (q : Fin 1536) :
    (term1 p w (ValueIdx.ix2 t q) : EReal) = p (ValueIdx.ix2 ⟨1 + t.val, by have := t.isLt; omega⟩ q) * w (ValueIdx.ix2 1 q) := by
  refine congrArg₂ (fun a b : EReal => a * b) ?_ ((spread_eq _ t q).trans ?_)
  · pointwise
    rfl
  · pointwise
    rfl

theorem term2_eq (p : FVec Ideal S8195x1536 .f32) (w : FVec Ideal S8x1536 .f32) (t : Fin 8192) (q : Fin 1536) :
    (term2 p w (ValueIdx.ix2 t q) : EReal) = p (ValueIdx.ix2 ⟨2 + t.val, by have := t.isLt; omega⟩ q) * w (ValueIdx.ix2 2 q) := by
  refine congrArg₂ (fun a b : EReal => a * b) ?_ ((spread_eq _ t q).trans ?_)
  · pointwise
    rfl
  · pointwise
    rfl

theorem term3_eq (p : FVec Ideal S8195x1536 .f32) (w : FVec Ideal S8x1536 .f32) (t : Fin 8192) (q : Fin 1536) :
    (term3 p w (ValueIdx.ix2 t q) : EReal) = p (ValueIdx.ix2 ⟨3 + t.val, by have := t.isLt; omega⟩ q) * w (ValueIdx.ix2 3 q) := by
  refine congrArg₂ (fun a b : EReal => a * b) ?_ ((spread_eq _ t q).trans ?_)
  · pointwise
    rfl
  · pointwise
    rfl

theorem shifted_eq (p : FVec Ideal S8195x1536 .f32) (w : FVec Ideal S8x1536 .f32) (t : Fin 8192) (q : Fin 1536) :
    (shifted p w (ValueIdx.ix2 t q) : EReal)
      = 0 + term0 p w (ValueIdx.ix2 t q) + term1 p w (ValueIdx.ix2 t q) + term2 p w (ValueIdx.ix2 t q) + term3 p w (ValueIdx.ix2 t q) := by
  unfold shifted
  pointwise

theorem padded_past (H : FVec Ideal S8192x3072 .f32) (t : Fin 8192) (j : Fin 4) (n : Fin 8195) (hn : n.val = t.val + j.val) (q : Fin 1536) :
    (padded H (ValueIdx.ix2 n q) : EReal) = past H t j q := by
  rw [padded_eq, past]
  simp only [hn]

theorem gated_eq (c : FVec Ideal S8192x1536 .f32) (y : S8192x1536.Idx) : (gated c y : EReal) = silu (c y) :=
  congrArg (fun s : EReal => (c y : EReal) * s) (logistic_eq (c y))

theorem short_eq (H : FVec Ideal S8192x3072 .f32) (w : FVec Ideal S8x1536 .f32) (t : Fin 8192) (q : Fin 1536) :
    (gated (shifted (padded H) w) (ValueIdx.ix2 t q) : EReal) = short H w t q := by
  rw [gated_eq, shifted_eq, term0_eq, term1_eq, term2_eq, term3_eq, zero_add]
  rw [padded_past H t 0 _ (show t.val = t.val + 0 from rfl), padded_past H t 1 _ (show 1 + t.val = t.val + 1 from Nat.add_comm _ _),
    padded_past H t 2 _ (show 2 + t.val = t.val + 2 from Nat.add_comm _ _), padded_past H t 3 _ (show 3 + t.val = t.val + 3 from Nat.add_comm _ _)]
  rfl

theorem repeated_eq (b : FVec Ideal S8192x4 .f32) (t : Fin 8192) (k : Fin 512) :
    (repeated b (ValueIdx.ix2 t k) : EReal) = b (ValueIdx.ix2 t ⟨k.val / 128, by have := k.isLt; omega⟩) := by
  unfold repeated
  pointwise
  rfl

theorem soft_eq (x : FVec Ideal S8192x512 .f32) (t : Fin 8192) (k : Fin 512) : (soft x (ValueIdx.ix2 t k) : EReal) = softplus (x (ValueIdx.ix2 t k)) := by
  unfold soft zeros
  pointwise
  simp only [ne_eq, not_true_eq_false, if_false]
  rfl

theorem logistics_eq (b : FVec Ideal S8192x512 .f32) (y : S8192x512.Idx) : (logistics b y : EReal) = Ideal.logistic (b y) := logistic_eq (b y)

/-- The thirds of the convolution. -/
theorem third_0 (c : FVec Ideal S8192x1536 .f32) (t : Fin 8192) (k : Fin 512) :
    extractStridedSlice S8192x512 ![0, 0] c slices_S8192x1536_S8192x512_0_0 (ValueIdx.ix2 t k) = c (ValueIdx.ix2 t (third 0 k)) := by
  pointwise
  exact congrArg (fun n : Fin 1536 => c (ValueIdx.ix2 t n)) (Fin.ext (show k.val = 0 * 512 + k.val by omega))

theorem third_1 (c : FVec Ideal S8192x1536 .f32) (t : Fin 8192) (k : Fin 512) :
    extractStridedSlice S8192x512 ![0, 512] c slices_S8192x1536_S8192x512_0_512 (ValueIdx.ix2 t k) = c (ValueIdx.ix2 t (third 1 k)) := by
  pointwise
  rfl

theorem third_2 (c : FVec Ideal S8192x1536 .f32) (t : Fin 8192) (k : Fin 512) :
    extractStridedSlice S8192x512 ![0, 1024] c slices_S8192x1536_S8192x512_0_1024 (ValueIdx.ix2 t k) = c (ValueIdx.ix2 t (third 2 k)) := by
  pointwise
  rfl

/-- Head and place of a feature. -/
def headOf (k : Fin 512) : Fin 4 := ⟨k.val / 128, by have := k.isLt; omega⟩
def placeOf (k : Fin 512) : Fin 128 := ⟨k.val % 128, Nat.mod_lt _ (by omega)⟩
def at' (h : Fin 4) (d : Fin 128) : Fin 512 := ⟨h.val * 128 + d.val, by have := h.isLt; have := d.isLt; omega⟩

theorem heads_eq (o : FVec Ideal S8192x512 .f32) (r : Fin 8192) (h : Fin 4) (d : Fin 128) : heads o (ValueIdx.ix3 r h d) = o (ValueIdx.ix2 r (at' h d)) := by
  unfold heads
  pointwise
  refine congrArg (fun n : Fin 512 => o (ValueIdx.ix2 r n)) (Fin.ext ?_)
  unfold at'
  dsimp only
  try omega

theorem lengths_eq (o : FVec Ideal S8192x4x128 .f32) (r : Fin 8192) (h : Fin 4) (d : Fin 128) :
    (lengths o (ValueIdx.ix3 r h d) : EReal)
      = o (ValueIdx.ix3 r h d) * Ideal.rsqrt ((∑ e : Fin 128, (o (ValueIdx.ix3 r h e) : EReal) * o (ValueIdx.ix3 r h e)) + tiny) := by
  unfold lengths
  pointwise
  rfl

theorem lengths_unit (o : FVec Ideal S8192x512 .f32) (r : Fin 8192) (k : Fin 512) :
    (shapeCast S8192x512 (lengths (heads o)) shapeCasts_S8192x4x128_S8192x512 (ValueIdx.ix2 r k) : EReal) = headUnit (fun k => o (ValueIdx.ix2 r k)) k := by
  have h : at' (headOf k) (placeOf k) = k := Fin.ext (by unfold at' headOf placeOf; dsimp only; omega)
  have hm : ∀ d, at' (headOf k) d = mate k d := fun d => Fin.ext (by unfold at' headOf mate; dsimp only)
  have e : (shapeCast S8192x512 (lengths (heads o)) shapeCasts_S8192x4x128_S8192x512 (ValueIdx.ix2 r k) : EReal)
      = lengths (heads o) (ValueIdx.ix3 r (headOf k) (placeOf k)) := by
    pointwise
    rfl
  rw [e, lengths_eq, headUnit]
  simp only [heads_eq, h, hm]

/-- A gate's column of the projection, for the head of feature `k`. -/
def gateCol (n : Fin 2) (k : Fin 512) : Fin 3072 := ⟨2368 + n.val * 4 + k.val / 128, by have := n.isLt; have := k.isLt; omega⟩

theorem gate_0 (H : FVec Ideal S8192x3072 .f32) (t : Fin 8192) (k : Fin 512) :
    (repeated (extractStridedSlice S8192x4 ![0, 2368] H slices_S8192x3072_S8192x4_0_2368) (ValueIdx.ix2 t k) : EReal) = H (ValueIdx.ix2 t (gateCol 0 k)) := by
  rw [repeated_eq]
  pointwise
  rfl

theorem gate_1 (H : FVec Ideal S8192x3072 .f32) (t : Fin 8192) (k : Fin 512) :
    (repeated (extractStridedSlice S8192x4 ![0, 2372] H slices_S8192x3072_S8192x4_0_2372) (ValueIdx.ix2 t k) : EReal) = H (ValueIdx.ix2 t (gateCol 1 k)) := by
  rw [repeated_eq]
  pointwise
  rfl

/-- The five results as arrays. -/
def normed (n : Fin 3) (H : FVec Ideal ⟨2, ![8192, 3072]⟩ .f32) (w : FVec Ideal ⟨2, ![8, 1536]⟩ .f32) : FVec Ideal ⟨2, ![8192, 512]⟩ .f32 := fun y =>
  headUnit (fun k => short H w (y 0) (third n k)) (y 1)
def values (H : FVec Ideal ⟨2, ![8192, 3072]⟩ .f32) (w : FVec Ideal ⟨2, ![8, 1536]⟩ .f32) : FVec Ideal ⟨2, ![8192, 512]⟩ .f32 := fun y =>
  short H w (y 0) (third 2 (y 1))
def betas (H : FVec Ideal ⟨2, ![8192, 3072]⟩ .f32) : FVec Ideal ⟨2, ![8192, 512]⟩ .f32 := fun y => Ideal.logistic (H (ValueIdx.ix2 (y 0) (gateCol 0 (y 1))))
def decays (H : FVec Ideal ⟨2, ![8192, 3072]⟩ .f32) (a d : FVec Ideal ⟨2, ![1, 512]⟩ .f32) : FVec Ideal ⟨2, ![8192, 512]⟩ .f32 := fun y =>
  -(Ideal.exp (a (ValueIdx.ix2 0 (y 1)))) * softplus ((H (ValueIdx.ix2 (y 0) (gateCol 1 (y 1))) : EReal) + d (ValueIdx.ix2 0 (y 1)))

theorem host_normed (n : Fin 3) (H : FVec Ideal S8192x3072 .f32) (w : FVec Ideal S8x1536 .f32) (o : FVec Ideal S8192x512 .f32)
    (ho : ∀ t k, o (ValueIdx.ix2 t k) = gated (shifted (padded H) w) (ValueIdx.ix2 t (third n k))) :
    shapeCast S8192x512 (lengths (heads o)) shapeCasts_S8192x4x128_S8192x512 = normed n H w := by
  funext y
  obtain ⟨t, k, rfl⟩ : ∃ (t : Fin 8192) (k : Fin 512), y = ValueIdx.ix2 t k := ⟨y 0, y 1, ValueIdx.eq_ix2 y⟩
  refine (lengths_unit o t k).trans ?_
  simp only [ho, short_eq]
  rfl

theorem host_values (H : FVec Ideal S8192x3072 .f32) (w : FVec Ideal S8x1536 .f32) :
    extractStridedSlice S8192x512 ![0, 1024] (gated (shifted (padded H) w)) slices_S8192x1536_S8192x512_0_1024 = values H w := by
  funext y
  obtain ⟨t, k, rfl⟩ : ∃ (t : Fin 8192) (k : Fin 512), y = ValueIdx.ix2 t k := ⟨y 0, y 1, ValueIdx.eq_ix2 y⟩
  exact (third_2 _ t k).trans (short_eq H w t _)

theorem host_betas (H : FVec Ideal S8192x3072 .f32) :
    logistics (repeated (extractStridedSlice S8192x4 ![0, 2368] H slices_S8192x3072_S8192x4_0_2368)) = betas H := by
  funext y
  obtain ⟨t, k, rfl⟩ : ∃ (t : Fin 8192) (k : Fin 512), y = ValueIdx.ix2 t k := ⟨y 0, y 1, ValueIdx.eq_ix2 y⟩
  exact (logistics_eq _ _).trans (congrArg Ideal.logistic (gate_0 H t k))

/-- The decays as the reference writes them. -/
def hostDecays (H : FVec Ideal S8192x3072 .f32) (a d : FVec Ideal S1x512 .f32) : FVec Ideal S8192x512 .f32 :=
  mulf (broadcastInDim S8192x512 ![0, 1] bcast_S1x512_S8192x512_0_1 (Host.negf (Host.exp a)))
    (soft (addf (repeated (extractStridedSlice S8192x4 ![0, 2372] H slices_S8192x3072_S8192x4_0_2372)) (broadcastInDim S8192x512 ![0, 1] bcast_S1x512_S8192x512_0_1 d)))

theorem host_decays (H : FVec Ideal S8192x3072 .f32) (a d : FVec Ideal S1x512 .f32) : hostDecays H a d = decays H a d := by
  funext y
  obtain ⟨t, k, rfl⟩ : ∃ (t : Fin 8192) (k : Fin 512), y = ValueIdx.ix2 t k := ⟨y 0, y 1, ValueIdx.eq_ix2 y⟩
  have ea : (broadcastInDim S8192x512 ![0, 1] bcast_S1x512_S8192x512_0_1 (Host.negf (Host.exp a)) (ValueIdx.ix2 t k) : EReal) = -(Ideal.exp (a (ValueIdx.ix2 0 k))) := by
    pointwise
    rfl
  have ed : (broadcastInDim S8192x512 ![0, 1] bcast_S1x512_S8192x512_0_1 d (ValueIdx.ix2 t k) : EReal) = d (ValueIdx.ix2 0 k) := by
    pointwise
    rfl
  exact congrArg₂ (fun a b : EReal => a * b) ea ((soft_eq _ t k).trans (congrArg softplus (congrArg₂ (fun a b : EReal => a + b) (gate_1 H t k) ed)))

section
variable (m : (ℓ : Loc nD τ sig) → Buf (Elt Ideal) ℓ) (c : Dev nD)

theorem res_q : Cert.ShortPlainIdeal.Value.res_main_v50 (F := Ideal) m c
    = normed 0 (m ((c.tc : Thread nD τ).loc main_arg0)) (m ((c.tc : Thread nD τ).loc main_arg1)) := by
  refine Eq.trans ?_ (host_normed 0 _ _ _ fun t k => third_0 _ t k)
  unfold Cert.ShortPlainIdeal.Value.res_main_v50
  rfl

theorem res_k : Cert.ShortPlainIdeal.Value.res_main_v60 (F := Ideal) m c
    = normed 1 (m ((c.tc : Thread nD τ).loc main_arg0)) (m ((c.tc : Thread nD τ).loc main_arg1)) := by
  refine Eq.trans ?_ (host_normed 1 _ _ _ fun t k => third_1 _ t k)
  unfold Cert.ShortPlainIdeal.Value.res_main_v60
  rfl

theorem res_v : Cert.ShortPlainIdeal.Value.res_main_v34 (F := Ideal) m c
    = values (m ((c.tc : Thread nD τ).loc main_arg0)) (m ((c.tc : Thread nD τ).loc main_arg1)) := by
  refine Eq.trans ?_ (host_values _ _)
  unfold Cert.ShortPlainIdeal.Value.res_main_v34
  rfl

end

end Cert.ShortHost

end
-- ==== Proof.ShortValue.lean ====
/-
  The short convolution's five results: each grid point computes 256 rows of each from the same rows of the projection and the eight
  before them, and the reference computes the same rows.
-/
module

public import proofs.«01_k».proof.Defs
public import proofs.«01_k».proof.Proof.ShortHost

@[expose] public section

noncomputable section

namespace Cert.ShortValue

open Idealize.ShloMosaic Idealize.ShloMosaic.TcCoe Idealize.SL.Sem Cert.Gating Cert.Norms Cert.ShortRows
open Idealize.ShloMosaic.Pipeline (Dat)
open Cert.ShortHost (normed values betas decays gateCol)

section
open Cert.ShortIdeal Cert.ShortIdeal.Gen Cert.ShortIdeal.Value Cert.ShortTerms

theorem coords_0 : ∀ t : Fin grid0.N, ((grid0.coords t) 0).val = t.val := by decide +kernel
theorem index_0 : ∀ t : Fin grid0.N, win0_0.index t = ![t.val, 0] := by decide +kernel
theorem index_1 : ∀ t : Fin grid0.N, win0_1.index t = ![t.val * 32 - 1, 0] := by decide +kernel
theorem index_2 : ∀ t : Fin grid0.N, win0_2.index t = ![t.val, 18] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![t.val, 0] := by decide +kernel
theorem index_7 : ∀ t : Fin grid0.N, win0_7.index t = ![t.val, 0] := by decide +kernel
theorem index_8 : ∀ t : Fin grid0.N, win0_8.index t = ![t.val, 0] := by decide +kernel
theorem index_9 : ∀ t : Fin grid0.N, win0_9.index t = ![t.val, 0] := by decide +kernel
theorem index_10 : ∀ t : Fin grid0.N, win0_10.index t = ![t.val, 0] := by decide +kernel

variable (m : (ℓ : Loc nD τ sig) → Buf (Elt Ideal) ℓ) (c : Dev nD)

abbrev H : FVec Ideal S8192x3072 .f32 := m ((c : Thread nD τ).loc main_arg0)
abbrev W : FVec Ideal S8x1536 .f32 := m ((c : Thread nD τ).loc main_arg1)
abbrev A : FVec Ideal S1x512 .f32 := m ((c : Thread nD τ).loc main_arg2)
abbrev D : FVec Ideal S1x512 .f32 := m ((c : Thread nD τ).loc main_arg3)

variable (t : Fin cfg0.N)

/-- Row `r` of block `t`, in the array. -/
def row (r : Fin 256) : Fin 8192 := ⟨t.val * 256 + r.val, by have h : t.val < 32 := t.isLt; have h0 := r.isLt; omega⟩

theorem emb_6 (r : Fin 256) (q : Fin 512) : (win0_6.blk t).view.emb (ValueIdx.ix2 r q) = ValueIdx.ix2 (row t r) q := by
  unfold row
  blk_ext [index_6]

theorem emb_7 (r : Fin 256) (q : Fin 512) : (win0_7.blk t).view.emb (ValueIdx.ix2 r q) = ValueIdx.ix2 (row t r) q := by
  unfold row
  blk_ext [index_7]

theorem emb_8 (r : Fin 256) (q : Fin 512) : (win0_8.blk t).view.emb (ValueIdx.ix2 r q) = ValueIdx.ix2 (row t r) q := by
  unfold row
  blk_ext [index_8]

theorem emb_9 (r : Fin 256) (q : Fin 512) : (win0_9.blk t).view.emb (ValueIdx.ix2 r q) = ValueIdx.ix2 (row t r) q := by
  unfold row
  blk_ext [index_9]

theorem emb_10 (r : Fin 256) (q : Fin 512) : (win0_10.blk t).view.emb (ValueIdx.ix2 r q) = ValueIdx.ix2 (row t r) q := by
  unfold row
  blk_ext [index_10]

/-- What the blocks of point `t` hold, by the array's index. -/
theorem blk_rows (r : Fin 256) (q : Fin 1536) : (iblk m c 0 t : FVec Ideal S256x1536 .f32) (ValueIdx.ix2 r q)
    = H m c (ValueIdx.ix2 ⟨t.val * 256 + r.val, by have h : t.val < 32 := t.isLt; have := r.isLt; omega⟩ ⟨q.val, by have := q.isLt; omega⟩) := by
  refine congrArg (H m c) ?_
  blk_ext [index_0]

theorem blk_before (j : Fin 8) (q : Fin 1536) : (iblk m c 1 t : FVec Ideal S8x1536 .f32) (ValueIdx.ix2 j q)
    = H m c (ValueIdx.ix2 ⟨(t.val * 32 - 1) * 8 + j.val, by have h : t.val < 32 := t.isLt; have := j.isLt; omega⟩ ⟨q.val, by have := q.isLt; omega⟩) := by
  refine congrArg (H m c) ?_
  blk_ext [index_1]

theorem blk_gate (r : Fin 256) (k : Fin 128) : (iblk m c 2 t : FVec Ideal S256x128 .f32) (ValueIdx.ix2 r k)
    = H m c (ValueIdx.ix2 (row t r) ⟨2304 + k.val, by have := k.isLt; omega⟩) := by
  refine congrArg (H m c) ?_
  unfold row
  blk_ext [index_2]

theorem blk_w : (iblk m c 3 t : FVec Ideal S8x1536 .f32) = W m c := by
  funext y
  refine congrArg (W m c) ?_
  blk_ext [index_3]

theorem blk_a : (iblk m c 4 t : FVec Ideal S1x512 .f32) = A m c := by
  funext y
  refine congrArg (A m c) ?_
  blk_ext [index_4]

theorem blk_d : (iblk m c 5 t : FVec Ideal S1x512 .f32) = D m c := by
  funext y
  refine congrArg (D m c) ?_
  blk_ext [index_5]

/-- The convolution at point `t`. -/
abbrev convs : FVec Ideal S256x1536 .f32 := conv (scratch (grid0.coords t) (iblk m c 0 t) (iblk m c 1 t)) (iblk m c 3 t)

theorem convs_eq (r : Fin 256) (q : Fin 1536) : silu (convs m c t (ValueIdx.ix2 r q)) = short (H m c) (W m c) (row t r) q := by
  unfold convs
  rw [taps_eq, blk_w]
  unfold short
  refine congrArg (fun p => silu (taps p fun j => (W m c (ValueIdx.ix2 (wide j) q) : EReal))) (funext fun j => ?_)
  exact scratch_past (H m c) (grid0.coords t) t (coords_0 t) _ _ q (fun r => blk_rows m c t r q) (fun j => blk_before m c t j q) r j

theorem gate_eq (n : Fin 2) (r : Fin 256) (k : Fin 512) :
    (iblk m c 2 t : FVec Ideal S256x128 .f32) (ValueIdx.ix2 r (gate n k)) = H m c (ValueIdx.ix2 (row t r) (gateCol n k)) := by
  rw [blk_gate]
  exact congrArg (fun q : Fin 3072 => H m c (ValueIdx.ix2 (row t r) q)) (Fin.ext (by unfold gate gateCol; dsimp only; omega))

/-- What each window holds after point `t`. -/
theorem left_q : (outsAt0 m c t).1 = units (k0_pay6 (convs m c t)) := by
  delta outsAt0
  dsimp only
  rw [queries_eq, queries_units]

theorem left_k : (outsAt0 m c t).2.1 = units (k0_pay7 (convs m c t)) := by
  delta outsAt0
  dsimp only
  rw [keys_eq, keys_units]

theorem left_v : (outsAt0 m c t).2.2.1 = k0_pay8 (convs m c t) := by
  delta outsAt0
  dsimp only
  rw [values_eq]

theorem left_b : (outsAt0 m c t).2.2.2.1 = k0_pay9 (iblk m c 2 t) := by
  delta outsAt0
  dsimp only
  rw [beta_eq]

theorem left_d : (outsAt0 m c t).2.2.2.2 = k0_pay17 (k0_pay10 (iblk m c 4 t)) (k0_pay12 (iblk m c 2 t) (iblk m c 5 t)) (k0_pay14 (iblk m c 2 t) (iblk m c 5 t)) (k0_pay15 (iblk m c 2 t) (iblk m c 5 t)) (k0_pay16 (iblk m c 2 t) (iblk m c 5 t)) := by
  delta outsAt0
  dsimp only
  rw [decay_eq]

theorem final_q : (dats m 0 c).arrAt 6 cfg0.N = normed 0 (H m c) (W m c) := by
  refine (dats m 0 c).arrAt_eq_of_covers 6 _ (by decide +kernel) fun t _ y => ?_
  refine (congrFun ((after0_6 m c t).trans (left_q m c t)) y).trans ?_
  obtain ⟨r, q, rfl⟩ : ∃ (r : Fin 256) (q : Fin 512), y = ValueIdx.ix2 r q := ⟨y 0, y 1, ValueIdx.eq_ix2 y⟩
  refine ((units_eq _ r q).trans ?_).trans (congrArg (normed 0 (H m c) (W m c)) (emb_6 t r q).symm)
  exact congrArg (fun o => headUnit o q) (funext fun k => (part_q _ r k).trans (convs_eq m c t r _))

theorem final_k : (dats m 0 c).arrAt 7 cfg0.N = normed 1 (H m c) (W m c) := by
  refine (dats m 0 c).arrAt_eq_of_covers 7 _ (by decide +kernel) fun t _ y => ?_
  refine (congrFun ((after0_7 m c t).trans (left_k m c t)) y).trans ?_
  obtain ⟨r, q, rfl⟩ : ∃ (r : Fin 256) (q : Fin 512), y = ValueIdx.ix2 r q := ⟨y 0, y 1, ValueIdx.eq_ix2 y⟩
  refine ((units_eq _ r q).trans ?_).trans (congrArg (normed 1 (H m c) (W m c)) (emb_7 t r q).symm)
  exact congrArg (fun o => headUnit o q) (funext fun k => (part_k _ r k).trans (convs_eq m c t r _))

theorem final_v : (dats m 0 c).arrAt 8 cfg0.N = values (H m c) (W m c) := by
  refine (dats m 0 c).arrAt_eq_of_covers 8 _ (by decide +kernel) fun t _ y => ?_
  refine (congrFun ((after0_8 m c t).trans (left_v m c t)) y).trans ?_
  obtain ⟨r, q, rfl⟩ : ∃ (r : Fin 256) (q : Fin 512), y = ValueIdx.ix2 r q := ⟨y 0, y 1, ValueIdx.eq_ix2 y⟩
  refine Eq.trans ?_ (congrArg (values (H m c) (W m c)) (emb_8 t r q).symm)
  exact (part_v (convs m c t) r q).trans (convs_eq m c t r (third 2 q))

theorem final_b : (dats m 0 c).arrAt 9 cfg0.N = betas (H m c) := by
  refine (dats m 0 c).arrAt_eq_of_covers 9 _ (by decide +kernel) fun t _ y => ?_
  refine (congrFun ((after0_9 m c t).trans (left_b m c t)) y).trans ?_
  obtain ⟨r, q, rfl⟩ : ∃ (r : Fin 256) (q : Fin 512), y = ValueIdx.ix2 r q := ⟨y 0, y 1, ValueIdx.eq_ix2 y⟩
  exact ((beta_row _ r q).trans (congrArg Ideal.logistic (gate_eq m c t 0 r q))).trans (congrArg (betas (H m c)) (emb_9 t r q).symm)

theorem final_d : (dats m 0 c).arrAt 10 cfg0.N = decays (H m c) (A m c) (D m c) := by
  refine (dats m 0 c).arrAt_eq_of_covers 10 _ (by decide +kernel) fun t _ y => ?_
  refine (congrFun ((after0_10 m c t).trans (left_d m c t)) y).trans ?_
  obtain ⟨r, q, rfl⟩ : ∃ (r : Fin 256) (q : Fin 512), y = ValueIdx.ix2 r q := ⟨y 0, y 1, ValueIdx.eq_ix2 y⟩
  refine Eq.trans ?_ (congrArg (decays (H m c) (A m c) (D m c)) (emb_10 t r q).symm)
  rw [blk_a, blk_d]
  exact decay_row _ _ _ r q _ ((dt_row _ _ r q).trans (congrArg (fun x : EReal => x + (D m c (ValueIdx.ix2 0 q) : EReal)) (gate_eq m c t 1 r q)))

end

open Cert.ShortIdeal in
theorem agree : Cert.algebraic_ShortIdeal_ShortPlainIdeal := by
  intro m g m' g' _ h
  refine ⟨fun c => normed 0 (H m c) (W m c), fun c => normed 1 (H m c) (W m c), fun c => values (H m c) (W m c), fun c => betas (H m c),
    fun c => decays (H m c) (A m c) (D m c), ?_, ?_⟩
  · exact (θ_run Cert.ShortIdeal.defs _ _).mono (fun r hr c => ⟨(hr c).1.trans (final_q m c), (hr c).2.1.trans (final_k m c),
      (hr c).2.2.1.trans (final_v m c), (hr c).2.2.2.1.trans (final_b m c), (hr c).2.2.2.2.1.trans (final_d m c), (hr c).2.2.2.2.2⟩)
      (Cert.ShortIdeal.Value.run_blocks (F := Ideal) m g)
  · refine (θ_run Cert.ShortPlainIdeal.defs _ _).mono (fun r hr c => ⟨(hr c).1.trans ((Cert.ShortHost.res_q m' c).trans ?_),
      (hr c).2.1.trans ((Cert.ShortHost.res_k m' c).trans ?_), (hr c).2.2.1.trans ((Cert.ShortHost.res_v m' c).trans ?_),
      (hr c).2.2.2.1.trans ((Cert.ShortHost.host_betas _).trans ?_), (hr c).2.2.2.2.1.trans ((Cert.ShortHost.host_decays _ _ _).trans ?_), (hr c).2.2.2.2.2⟩)
      (Cert.ShortPlainIdeal.Value.run (F := Ideal) m' g')
    · rw [(h c).1, (h c).2.1]
    · rw [(h c).1, (h c).2.1]
    · rw [(h c).1, (h c).2.1]
    · rw [(h c).1]
    · rw [(h c).1, (h c).2.2.1, (h c).2.2.2]

end Cert.ShortValue

end
-- ==== Proof.EmbeddedValue.lean ====
/-
  The end of a layer: the norm of the second residual sum, and the layer's input embedding, gated by the normed row. A grid point
  computes 256 rows, each from the same row of its arguments.
-/
module

public import proofs.«01_k».proof.Defs
public import proofs.«01_k».proof.Proof.Norms
public import proofs.«01_k».proof.Proof.Gen.EmbeddedIdeal.Value
public import proofs.«01_k».proof.Proof.Gen.EmbeddedPlainIdeal.Run
public import Idealize.ShloMosaic.Lib.Pointwise

@[expose] public section

noncomputable section

namespace Cert.EmbeddedValue

open Idealize.ShloMosaic Idealize.ShloMosaic.TcCoe Idealize.SL.Sem Cert.Gating Cert.Norms
open Idealize.ShloMosaic.Pipeline (Dat)

/-- Row `r` of the second residual sum, normed. -/
def normed {R : Nat} (x d : FVec Ideal ⟨2, ![R, 1024]⟩ .f32) (g b : FVec Ideal ⟨2, ![1, 1024]⟩ .f32) (r : Fin R) (q : Fin 1024) : EReal :=
  layerNorm (fun k => alpha * x (ValueIdx.ix2 r k) + d (ValueIdx.ix2 r k)) (fun k => g (ValueIdx.ix2 0 k)) (fun k => b (ValueIdx.ix2 0 k)) q

/-- The layer's result, as an array. -/
def outs {R : Nat} (x d : FVec Ideal ⟨2, ![R, 1024]⟩ .f32) (p : FVec Ideal ⟨2, ![R, 256]⟩ .f32) (g b : FVec Ideal ⟨2, ![1, 1024]⟩ .f32)
    (wg : FVec Ideal ⟨2, ![1024, 1024]⟩ .bf16) (wp : FVec Ideal ⟨2, ![256, 1024]⟩ .bf16) : FVec Ideal ⟨2, ![R, 1024]⟩ .f32 := fun y =>
  normed x d g b (y 0) (y 1)
    + Ideal.logistic (∑ k : Fin 1024, normed x d g b (y 0) k * wg (ValueIdx.ix2 k (y 1))) * prod p wp (y 0) (y 1)

section
open Cert.EmbeddedIdeal Cert.EmbeddedIdeal.Gen Cert.EmbeddedIdeal.Value

theorem norm_value (x d : Vec Ideal S256x1024 .f32) (g b : Vec Ideal S1x1024 .f32) (r : Fin 256) (q : Fin 1024) :
    (k0_pay2 x d g b (ValueIdx.ix2 r q) : EReal) = normed x d g b r q := by
  unfold k0_pay2
  pointwise
  rfl

theorem gate_value (x d : Vec Ideal S256x1024 .f32) (g b : Vec Ideal S1x1024 .f32) (w : Vec Ideal S1024x1024 .bf16) (r : Fin 256) (q : Fin 1024) :
    (k0_pay3 x d g b w (ValueIdx.ix2 r q) : EReal) = Ideal.logistic (∑ k : Fin 1024, normed x d g b r k * w (ValueIdx.ix2 k q)) := by
  refine congrArg Ideal.logistic ((matmul_eq (φ := .f32) (ψ := .bf16) (k0_pay2 x d g b) w (ValueIdx.ix2 r q)).trans ?_)
  exact Finset.sum_congr rfl fun k _ => congrArg (fun z : EReal => z * (w (ValueIdx.ix2 k q) : EReal)) (norm_value x d g b r k)

theorem emb_value (p : Vec Ideal S256x256 .f32) (w : Vec Ideal S256x1024 .bf16) (r : Fin 256) (q : Fin 1024) :
    (k0_pay4 p w (ValueIdx.ix2 r q) : EReal) = prod (φ := .f32) (ψ := .bf16) p w r q :=
  matmul_eq (φ := .f32) (ψ := .bf16) p w (ValueIdx.ix2 r q)

theorem out_eq (x d : FVec Ideal S256x1024 .f32) (p : FVec Ideal S256x256 .f32) (g b : FVec Ideal S1x1024 .f32) (wg : FVec Ideal S1024x1024 .bf16)
    (wp : FVec Ideal S256x1024 .bf16) : out0_7 (F := Ideal) x d p g b wg wp = outs x d p g b wg wp := by
  unfold out0_7
  rw [View.canon_unit_zero hz2, View.ld_unit_zero hz2, View.ld_unit_zero hz2, View.ld_unit_zero hz2, View.ld_unit_zero hz2, View.ld_unit_zero hz2,
    View.ld_unit_zero hz2, View.ld_unit_zero hz2]
  funext y
  obtain ⟨r, q, rfl⟩ : ∃ (r : Fin 256) (q : Fin 1024), y = ValueIdx.ix2 r q := ⟨y 0, y 1, ValueIdx.eq_ix2 y⟩
  exact congrArg₂ (fun a b : EReal => a + b) (norm_value x d g b r q)
    (congrArg₂ (fun a b : EReal => a * b) (gate_value x d g b wg r q) (emb_value p wp r q))

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![t.val, 0] := by decide +kernel

variable (m : (ℓ : Loc nD τ sig) → Buf (Elt Ideal) ℓ) (c : Dev nD)

abbrev X : FVec Ideal S8192x1024 .f32 := m ((c : Thread nD τ).loc main_arg0)
abbrev Dn : FVec Ideal S8192x1024 .f32 := m ((c : Thread nD τ).loc main_arg1)
abbrev P : FVec Ideal S8192x256 .f32 := m ((c : Thread nD τ).loc main_arg2)
abbrev G : FVec Ideal S1x1024 .f32 := m ((c : Thread nD τ).loc main_arg3)
abbrev B : FVec Ideal S1x1024 .f32 := m ((c : Thread nD τ).loc main_arg4)
abbrev WG : FVec Ideal S1024x1024 .bf16 := m ((c : Thread nD τ).loc main_arg5)
abbrev WP : FVec Ideal S256x1024 .bf16 := m ((c : Thread nD τ).loc main_arg6)

variable (t : Fin cfg0.N)

/-- Row `r` of block `t`, in the array. -/
def row (r : Fin 256) : Fin 8192 := ⟨t.val * 256 + r.val, by have h : t.val < 32 := t.isLt; have h0 := r.isLt; omega⟩

theorem emb_7 (r : Fin 256) (q : Fin 1024) : (win0_7.blk t).view.emb (ValueIdx.ix2 r q) = ValueIdx.ix2 (row t r) q := by
  unfold row
  blk_ext [index_7]

/-- What the blocks of point `t` hold, by the array's index. -/
theorem blk_x (r : Fin 256) (k : Fin 1024) : (iblk m c 0 t : FVec Ideal S256x1024 .f32) (ValueIdx.ix2 r k) = X m c (ValueIdx.ix2 (row t r) k) := by
  refine congrArg (X m c) ?_
  unfold row
  blk_ext [index_0]

theorem blk_d (r : Fin 256) (k : Fin 1024) : (iblk m c 1 t : FVec Ideal S256x1024 .f32) (ValueIdx.ix2 r k) = Dn m c (ValueIdx.ix2 (row t r) k) := by
  refine congrArg (Dn m c) ?_
  unfold row
  blk_ext [index_1]

theorem blk_p (r : Fin 256) (k : Fin 256) : (iblk m c 2 t : FVec Ideal S256x256 .f32) (ValueIdx.ix2 r k) = P m c (ValueIdx.ix2 (row t r) k) := by
  refine congrArg (P m c) ?_
  unfold row
  blk_ext [index_2]

theorem blk_g : (iblk m c 3 t : FVec Ideal S1x1024 .f32) = G m c := by
  funext y
  refine congrArg (G m c) ?_
  blk_ext [index_3]

theorem blk_b : (iblk m c 4 t : FVec Ideal S1x1024 .f32) = B m c := by
  funext y
  refine congrArg (B m c) ?_
  blk_ext [index_4]

theorem blk_wg : (iblk m c 5 t : FVec Ideal S1024x1024 .bf16) = WG m c := by
  funext y
  refine congrArg (WG m c) ?_
  blk_ext [index_5]

theorem blk_wp : (iblk m c 6 t : FVec Ideal S256x1024 .bf16) = WP m c := by
  funext y
  refine congrArg (WP m c) ?_
  blk_ext [index_6]

/-- A row's result depends on that row alone. -/
theorem outs_row {R R' : Nat} (x d : FVec Ideal ⟨2, ![R, 1024]⟩ .f32) (p : FVec Ideal ⟨2, ![R, 256]⟩ .f32)
    (x' d' : FVec Ideal ⟨2, ![R', 1024]⟩ .f32) (p' : FVec Ideal ⟨2, ![R', 256]⟩ .f32) (g b : FVec Ideal ⟨2, ![1, 1024]⟩ .f32)
    (wg : FVec Ideal ⟨2, ![1024, 1024]⟩ .bf16) (wp : FVec Ideal ⟨2, ![256, 1024]⟩ .bf16) (r : Fin R) (r' : Fin R') (q : Fin 1024)
    (hx : ∀ k, x (ValueIdx.ix2 r k) = x' (ValueIdx.ix2 r' k)) (hd : ∀ k, d (ValueIdx.ix2 r k) = d' (ValueIdx.ix2 r' k))
    (hp : ∀ k, p (ValueIdx.ix2 r k) = p' (ValueIdx.ix2 r' k)) :
    outs x d p g b wg wp (ValueIdx.ix2 r q) = outs x' d' p' g b wg wp (ValueIdx.ix2 r' q) := by
  have hn : normed x d g b r = normed x' d' g b r' := by
    unfold normed
    simp only [hx, hd]
  have h : ∀ k, normed x d g b r k = normed x' d' g b r' k := fun k => congrFun hn k
  show normed x d g b r q + Ideal.logistic (∑ k : Fin 1024, normed x d g b r k * wg (ValueIdx.ix2 k q)) * prod p wp r q
    = normed x' d' g b r' q + Ideal.logistic (∑ k : Fin 1024, normed x' d' g b r' k * wg (ValueIdx.ix2 k q)) * prod p' wp r' q
  rw [hn, prod_congr (fun k => hp k) (fun k => rfl)]

/-- The array after the last point. -/
theorem final : (dats m 0 c).arrAt 7 cfg0.N = outs (X m c) (Dn m c) (P m c) (G m c) (B m c) (WG m c) (WP m c) := by
  refine (dats m 0 c).arrAt_eq_of_covers 7 _ (by decide +kernel) fun t _ y => ?_
  refine (congrFun ((after0_7 m c t).trans (out_eq _ _ _ _ _ _ _)) y).trans ?_
  obtain ⟨r, q, rfl⟩ : ∃ (r : Fin 256) (q : Fin 1024), y = ValueIdx.ix2 r q := ⟨y 0, y 1, ValueIdx.eq_ix2 y⟩
  rw [blk_g, blk_b, blk_wg, blk_wp]
  exact (outs_row _ _ _ _ _ _ _ _ _ _ r (row t r) q (fun k => blk_x m c t r k) (fun k => blk_d m c t r k) (fun k => blk_p m c t r k)).trans
    (congrArg (outs (X m c) (Dn m c) (P m c) (G m c) (B m c) (WG m c) (WP m c)) (emb_7 t r q).symm)

end

section
open Cert.EmbeddedPlainIdeal Cert.EmbeddedPlainIdeal.Gen

/-- A column that repeats one word. -/
def column (b : BitVec 32) : FVec Ideal S8192x1 .f32 := broadcastInDim S8192x1 ![] bcast_S_S8192x1 (constant S_ .f32 b)

/-- The means of the rows. -/
def means (s : FVec Ideal S8192x1024 .f32) : FVec Ideal S8192x1 .f32 :=
  Host.divf (broadcastInDim S8192x1 ![0] bcast_S8192_S8192x1_0 (Host.reduceAdd s (constant S_ .f32 0x00000000#32) reducesTo_S8192x1024_S8192_d1 h_S_)) (column 0x44800000#32)

/-- The residual sum. -/
def total (x d : FVec Ideal S8192x1024 .f32) : FVec Ideal S8192x1024 .f32 :=
  addf (mulf (broadcastInDim S8192x1024 ![] bcast_S_S8192x1024 (constant S_ .f32 0x3FD744FD#32)) x) d

/-- The rows less their means. -/
def centred (s : FVec Ideal S8192x1024 .f32) : FVec Ideal S8192x1024 .f32 :=
  subf s (broadcastInDim S8192x1024 ![0, 1] bcast_S8192x1_S8192x1024_0_1 (means s))

/-- The normed rows. -/
def rows (s : FVec Ideal S8192x1024 .f32) (g b : FVec Ideal S1x1024 .f32) : FVec Ideal S8192x1024 .f32 :=
  addf (mulf (mulf (centred s) (broadcastInDim S8192x1024 ![0, 1] bcast_S8192x1_S8192x1024_0_1
    (Host.rsqrt (addf (means (mulf (centred s) (centred s))) (column 0x3727C5AC#32)))))
    (broadcastInDim S8192x1024 ![0, 1] bcast_S1x1024_S8192x1024_0_1 g)) (broadcastInDim S8192x1024 ![0, 1] bcast_S1x1024_S8192x1024_0_1 b)

/-- The reference's result. -/
def whole (n : FVec Ideal S8192x1024 .f32) (p : FVec Ideal S8192x256 .f32) (wg : FVec Ideal S1024x1024 .bf16) (wp : FVec Ideal S256x1024 .bf16) :
    FVec Ideal S8192x1024 .f32 :=
  addf n (mulf (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (Host.dotGeneral dot_S8192x1024_S1024x1024_S8192x1024_1_0_0_1_n_n none n (extf .f32 wg bitsLt_bf16_f32))))))
    (Host.dotGeneral dot_S8192x256_S256x1024_S8192x1024_1_0_0_1_n_n none p (extf .f32 wp bitsLt_bf16_f32)))

theorem res (m : (ℓ : Loc nD τ sig) → Buf (Elt Ideal) ℓ) (c : Dev nD) :
    Cert.EmbeddedPlainIdeal.Value.res_main_v36 (F := Ideal) m c
      = whole (rows (total (m ((c.tc : Thread nD τ).loc main_arg0)) (m ((c.tc : Thread nD τ).loc main_arg1))) (m ((c.tc : Thread nD τ).loc main_arg3))
          (m ((c.tc : Thread nD τ).loc main_arg4))) (m ((c.tc : Thread nD τ).loc main_arg2)) (m ((c.tc : Thread nD τ).loc main_arg5))
          (m ((c.tc : Thread nD τ).loc main_arg6)) := by
  unfold Cert.EmbeddedPlainIdeal.Value.res_main_v36
  rfl

theorem means_eq (s : FVec Ideal S8192x1024 .f32) (r : Fin 8192) : (means s (ValueIdx.ix2 r 0) : EReal) = mean fun k => s (ValueIdx.ix2 r k) := by
  unfold means column
  pointwise
  rfl

theorem centred_eq (s : FVec Ideal S8192x1024 .f32) (r : Fin 8192) (q : Fin 1024) :
    (centred s (ValueIdx.ix2 r q) : EReal) = s (ValueIdx.ix2 r q) - mean fun k => s (ValueIdx.ix2 r k) := by
  refine Eq.trans ?_ (congrArg (fun z : EReal => (s (ValueIdx.ix2 r q) : EReal) - z) (means_eq s r))
  unfold centred
  pointwise
  rfl

theorem rows_at (s : FVec Ideal S8192x1024 .f32) (g b : FVec Ideal S1x1024 .f32) (r : Fin 8192) (q : Fin 1024) :
    (rows s g b (ValueIdx.ix2 r q) : EReal) = (centred s (ValueIdx.ix2 r q) : EReal)
      * Ideal.rsqrt ((means (mulf (centred s) (centred s)) (ValueIdx.ix2 r 0) : EReal) + eps) * g (ValueIdx.ix2 0 q) + b (ValueIdx.ix2 0 q) := by
  unfold rows column
  pointwise
  rfl

theorem rows_eq (s : FVec Ideal S8192x1024 .f32) (g b : FVec Ideal S1x1024 .f32) (r : Fin 8192) (q : Fin 1024) :
    (rows s g b (ValueIdx.ix2 r q) : EReal)
      = layerNorm (fun k => s (ValueIdx.ix2 r k)) (fun k => g (ValueIdx.ix2 0 k)) (fun k => b (ValueIdx.ix2 0 k)) q := by
  rw [rows_at, means_eq, centred_eq]
  unfold layerNorm
  have h : (fun k => (mulf (centred s) (centred s) (ValueIdx.ix2 r k) : EReal))
      = fun k => (s (ValueIdx.ix2 r k) - mean fun k => s (ValueIdx.ix2 r k)) * (s (ValueIdx.ix2 r k) - mean fun k => s (ValueIdx.ix2 r k)) :=
    funext fun k => congrArg₂ (fun a b : EReal => a * b) (centred_eq s r k) (centred_eq s r k)
  rw [h]

theorem total_eq (x d : FVec Ideal S8192x1024 .f32) (y : S8192x1024.Idx) : (total x d y : EReal) = alpha * x y + d y := by
  unfold total
  pointwise
  rfl

theorem whole_eq (n : FVec Ideal S8192x1024 .f32) (p : FVec Ideal S8192x256 .f32) (wg : FVec Ideal S1024x1024 .bf16) (wp : FVec Ideal S256x1024 .bf16)
    (y : S8192x1024.Idx) : (whole n p wg wp y : EReal) = (n y : EReal) + Ideal.logistic (prod n wg (y 0) (y 1)) * prod p wp (y 0) (y 1) := by
  refine congrArg (fun z : EReal => (n y : EReal) + z) (congrArg₂ (fun a b : EReal => a * b) ?_ (dot_eq p wp y))
  refine Eq.trans ?_ (congrArg Ideal.logistic (dot_eq n wg y))
  exact logistic_eq _

theorem host_eq (x d : FVec Ideal S8192x1024 .f32) (p : FVec Ideal S8192x256 .f32) (g b : FVec Ideal S1x1024 .f32) (wg : FVec Ideal S1024x1024 .bf16)
    (wp : FVec Ideal S256x1024 .bf16) : whole (rows (total x d) g b) p wg wp = outs x d p g b wg wp := by
  funext y
  obtain ⟨r, q, rfl⟩ : ∃ (r : Fin 8192) (q : Fin 1024), y = ValueIdx.ix2 r q := ⟨y 0, y 1, ValueIdx.eq_ix2 y⟩
  have hr : ∀ k, (rows (total x d) g b (ValueIdx.ix2 r k) : EReal) = normed x d g b r k := fun k => by
    rw [rows_eq]
    unfold normed
    simp only [total_eq]
  refine (whole_eq _ p wg wp _).trans ?_
  refine congrArg₂ (fun a b : EReal => a + b) (hr q) (congrArg (fun z : EReal => Ideal.logistic z * prod p wp r q) ?_)
  exact Finset.sum_congr rfl fun k _ => congrArg (fun z : EReal => z * (wg (ValueIdx.ix2 k q) : EReal)) (hr k)

end

/-- Kernel and reference, launched on the same arrays: both terminate, and their results agree. -/
theorem agree : Cert.algebraic_EmbeddedIdeal_EmbeddedPlainIdeal := by
  intro m g m' g' _ h
  refine ⟨fun c => outs (X m c) (Dn m c) (P m c) (G m c) (B m c) (WG m c) (WP m c), ?_, ?_⟩
  · exact (θ_run Cert.EmbeddedIdeal.defs _ _).mono (fun r hr c => ⟨(hr c).1.trans (final m c), (hr c).2⟩)
      (Cert.EmbeddedIdeal.Value.run_blocks (F := Ideal) m g)
  · refine (θ_run Cert.EmbeddedPlainIdeal.defs _ _).mono (fun r hr c => ⟨(hr c).1.trans ?_, (hr c).2⟩)
      (Cert.EmbeddedPlainIdeal.Value.run (F := Ideal) m' g')
    refine (res m' c).trans ((host_eq _ _ _ _ _ _ _).trans ?_)
    rw [(h c).1, (h c).2.1, (h c).2.2.1, (h c).2.2.2.1, (h c).2.2.2.2.1, (h c).2.2.2.2.2.1, (h c).2.2.2.2.2.2]

end Cert.EmbeddedValue

end
-- ==== Proof.MixedValue.lean ====
/-
  The middle of a layer: the first mixer's heads, each over its root mean square, gated; their product, beside the second mixer's, with
  the output projection; and the norm of the residual sum. A grid point computes 256 rows, each from the same row of its arguments.
-/
module

public import proofs.«01_k».proof.Defs
public import proofs.«01_k».proof.Proof.Norms
public import proofs.«01_k».proof.Proof.Gen.MixedIdeal.Value
public import proofs.«01_k».proof.Proof.Gen.MixedPlainIdeal.Run
public import Idealize.ShloMosaic.Lib.Pointwise

@[expose] public section

noncomputable section

namespace Cert.MixedValue

open Idealize.ShloMosaic Idealize.ShloMosaic.TcCoe Idealize.SL.Sem Cert.Gating Cert.Norms
open Idealize.ShloMosaic.Pipeline (Dat)

/-- A row of the two mixers side by side: the first over its heads' root mean squares, with gain `g`, gated by `z`. -/
def pair (o z u g : Fin 512 → EReal) (k : Fin 1024) : EReal :=
  if h : k.val < 512 then unit o ⟨k.val, h⟩ * g ⟨k.val, h⟩ * (z ⟨k.val, h⟩ * Ideal.logistic (z ⟨k.val, h⟩))
  else u ⟨k.val - 512, by have := k.isLt; omega⟩

/-- A row of the layer's middle, from the row's arguments. -/
def result (o z u : Fin 512 → EReal) (x : Fin 1024 → EReal) (gain : FVec Ideal ⟨2, ![1, 512]⟩ .f32) (w : FVec Ideal ⟨2, ![1024, 1024]⟩ .bf16)
    (g b : FVec Ideal ⟨2, ![1, 1024]⟩ .f32) (q : Fin 1024) : EReal :=
  layerNorm (fun q => alpha * x q + ∑ k : Fin 1024, pair o z u (fun k => gain (ValueIdx.ix2 0 k)) k * w (ValueIdx.ix2 k q))
    (fun k => g (ValueIdx.ix2 0 k)) (fun k => b (ValueIdx.ix2 0 k)) q

/-- Column `k` of the gate's part of the projection. -/
def gateCol (k : Fin 512) : Fin 3072 := ⟨1536 + k.val, by have := k.isLt; omega⟩

/-- The layer's middle as an array. -/
def outs (o : FVec Ideal ⟨2, ![8192, 512]⟩ .f32) (h : FVec Ideal ⟨2, ![8192, 3072]⟩ .f32) (u : FVec Ideal ⟨2, ![8192, 512]⟩ .f32)
    (x : FVec Ideal ⟨2, ![8192, 1024]⟩ .f32) (gain : FVec Ideal ⟨2, ![1, 512]⟩ .f32) (w : FVec Ideal ⟨2, ![1024, 1024]⟩ .bf16)
    (g b : FVec Ideal ⟨2, ![1, 1024]⟩ .f32) : FVec Ideal ⟨2, ![8192, 1024]⟩ .f32 := fun y =>
  result (fun k => o (ValueIdx.ix2 (y 0) k)) (fun k => h (ValueIdx.ix2 (y 0) (gateCol k))) (fun k => u (ValueIdx.ix2 (y 0) k))
    (fun k => x (ValueIdx.ix2 (y 0) k)) gain w g b (y 1)

section
open Cert.MixedIdeal Cert.MixedIdeal.Gen Cert.MixedIdeal.Value

/-- A head's block over its root mean squares. -/
def piece (v : FVec Ideal S256x128 .f32) : FVec Ideal S256x128 .f32 :=
  mulf v (broadcastTo S256x128 (rsqrt (addf (divf (shapeCast S256x1 (multiReduction .add [1] S256 (mulf v v) 0x00000000#32 reduces_S256x128_S256 (.inl rfl) rfl)
    shapeCasts_S256_S256x1) (broadcast S256x1 (Scalar.ofBits .f32 0x43000000#32))) (broadcast S256x1 (Scalar.ofBits .f32 0x358637BD#32))))
    broadcasts_S256x1_S256x128)

/-- The four heads side by side. -/
def units (o : Vec Ideal S256x512 .f32) : FVec Ideal S256x512 .f32 :=
  concatenate S256x512 1 [⟨S256x128, piece (extractStridedSlice S256x128 ![0, 0] o slices_S256x512_o0_0_S256x128)⟩,
    ⟨S256x128, piece (extractStridedSlice S256x128 ![0, 128] o slices_S256x512_o0_128_S256x128)⟩,
    ⟨S256x128, piece (extractStridedSlice S256x128 ![0, 256] o slices_S256x512_o0_256_S256x128)⟩,
    ⟨S256x128, piece (extractStridedSlice S256x128 ![0, 384] o slices_S256x512_o0_384_S256x128)⟩]
    concatenates_S256x128_S256x128_S256x128_S256x128_S256x512_d1

/-- The two mixers side by side. -/
def pairs (n : FVec Ideal S256x512 .f32) (z u : Vec Ideal S256x512 .f32) (gain : Vec Ideal S1x512 .f32) : FVec Ideal S256x1024 .f32 :=
  concatenate S256x1024 1 [⟨S256x512, mulf (mulf n (broadcastTo S256x512 gain broadcasts_S1x512_S256x512)) (mulf z (logistic z))⟩, ⟨S256x512, u⟩]
    concatenates_S256x512_S256x512_S256x1024_d1

/-- The residual sum. -/
def sums (p : FVec Ideal S256x1024 .f32) (x : Vec Ideal S256x1024 .f32) (w : Vec Ideal S1024x1024 .bf16) : FVec Ideal S256x1024 .f32 :=
  addf (mulf (broadcast S256x1024 (Scalar.ofBits .f32 0x3FD744FD#32)) x)
    (matmul (φ₁ := .bf16) (φ₂ := .bf16) dot_S256x1024_S1024x1024_S256x1024_1_0_0_1_n_n none (truncf .bf16 p bitsLt_bf16_f32) w (constant S256x1024 .f32 0x00000000#32))

/-- The means of a block's rows. -/
def blockMeans (s : FVec Ideal S256x1024 .f32) : FVec Ideal S256x1 .f32 :=
  divf (shapeCast S256x1 (multiReduction .add [1] S256 s 0x00000000#32 reduces_S256x1024_S256 (.inl rfl) rfl) shapeCasts_S256_S256x1)
    (broadcast S256x1 (Scalar.ofBits .f32 0x44800000#32))

/-- A block's rows less their means. -/
def blockCentred (s : FVec Ideal S256x1024 .f32) : FVec Ideal S256x1024 .f32 :=
  subf s (broadcastTo S256x1024 (blockMeans s) broadcasts_S256x1_S256x1024)

/-- A block's rows, normed. -/
def blockRows (s : FVec Ideal S256x1024 .f32) (g b : Vec Ideal S1x1024 .f32) : FVec Ideal S256x1024 .f32 :=
  addf (mulf (mulf (blockCentred s) (broadcastTo S256x1024 (rsqrt (addf (blockMeans (mulf (blockCentred s) (blockCentred s)))
    (broadcast S256x1 (Scalar.ofBits .f32 0x3727C5AC#32)))) broadcasts_S256x1_S256x1024)) (broadcastTo S256x1024 g broadcasts_S1x1024_S256x1024))
    (broadcastTo S256x1024 b broadcasts_S1x1024_S256x1024)

theorem out_eq (o z u : FVec Ideal S256x512 .f32) (x : FVec Ideal S256x1024 .f32) (gain : FVec Ideal S1x512 .f32) (w : FVec Ideal S1024x1024 .bf16)
    (g b : FVec Ideal S1x1024 .f32) : out0_8 (F := Ideal) o z u x gain w g b = blockRows (sums (pairs (units o) z u gain) x w) g b := by
  unfold out0_8
  rw [View.canon_unit_zero hz2]
  repeat rw [View.ld_unit_zero hz2]
  rfl

theorem piece_eq (v : FVec Ideal S256x128 .f32) (r : Fin 256) (d : Fin 128) :
    (piece v (ValueIdx.ix2 r d) : EReal)
      = v (ValueIdx.ix2 r d) * Ideal.rsqrt (Ideal.div (∑ e : Fin 128, (v (ValueIdx.ix2 r e) : EReal) * v (ValueIdx.ix2 r e)) len + tiny) := by
  unfold piece
  pointwise
  rfl

/-- A piece cut from feature `n` on, at the head that begins there. -/
theorem piece_unit (o : Vec Ideal S256x512 .f32) (v : FVec Ideal S256x128 .f32) (r : Fin 256) (k : Fin 512) (d : Fin 128) (n : ℕ) (hn : n + 128 ≤ 512)
    (hv : ∀ e : Fin 128, (v (ValueIdx.ix2 r e) : EReal) = o (ValueIdx.ix2 r ⟨n + e.val, by have := e.isLt; omega⟩)) (h0 : n = k.val / 128 * 128)
    (hk : n + d.val = k.val) : (piece v (ValueIdx.ix2 r d) : EReal) = unit (fun k => o (ValueIdx.ix2 r k)) k := by
  subst h0
  have e : (⟨k.val / 128 * 128 + d.val, by have := d.isLt; omega⟩ : Fin 512) = k := Fin.ext hk
  rw [piece_eq, unit]
  simp only [hv, e]
  rfl

theorem units_eq (o : Vec Ideal S256x512 .f32) (r : Fin 256) (k : Fin 512) :
    (units o (ValueIdx.ix2 r k) : EReal) = unit (fun k => o (ValueIdx.ix2 r k)) k := by
  have hk := k.isLt
  have e0 : (ValueIdx.ix2 r k : S256x512.Idx) 0 = r := rfl
  have e1 : (ValueIdx.ix2 r k : S256x512.Idx) 1 = k := rfl
  unfold units
  pointwise
  simp only [e0, e1, dite_true]
  split_ifs
  all_goals first | exact absurd rfl ‹¬((1 : Fin 2) : ℕ) = ((1 : Fin 2) : ℕ)› | skip
  · exact piece_unit o _ r k _ 0 (by omega) (fun e => by pointwise; rfl) (by omega) (by dsimp only; omega)
  · exact piece_unit o _ r k _ 128 (by omega) (fun e => by pointwise; rfl) (by omega) (by dsimp only; omega)
  · exact piece_unit o _ r k _ 256 (by omega) (fun e => by pointwise; rfl) (by omega) (by dsimp only; omega)
  · exact piece_unit o _ r k _ 384 (by omega) (fun e => by pointwise; rfl) (by omega) (by dsimp only; omega)

theorem pairs_eq (n : FVec Ideal S256x512 .f32) (z u : Vec Ideal S256x512 .f32) (gain : Vec Ideal S1x512 .f32) (r : Fin 256) (k : Fin 1024)
    (o : Fin 512 → EReal) (hn : ∀ k, (n (ValueIdx.ix2 r k) : EReal) = unit o k) :
    (pairs n z u gain (ValueIdx.ix2 r k) : EReal)
      = pair o (fun k => z (ValueIdx.ix2 r k)) (fun k => u (ValueIdx.ix2 r k)) (fun k => gain (ValueIdx.ix2 0 k)) k := by
  have e0 : (ValueIdx.ix2 r k : S256x1024.Idx) 0 = r := rfl
  have e1 : (ValueIdx.ix2 r k : S256x1024.Idx) 1 = k := rfl
  unfold pairs pair
  pointwise
  simp only [e0, e1, dite_true]
  split_ifs
  all_goals first | exact absurd rfl ‹¬((1 : Fin 2) : ℕ) = ((1 : Fin 2) : ℕ)› | skip
  · rw [← hn]
    rfl
  · rfl

theorem sums_eq (p : FVec Ideal S256x1024 .f32) (x : Vec Ideal S256x1024 .f32) (w : Vec Ideal S1024x1024 .bf16) (r : Fin 256) (q : Fin 1024) :
    (sums p x w (ValueIdx.ix2 r q) : EReal) = alpha * x (ValueIdx.ix2 r q) + ∑ k : Fin 1024, (p (ValueIdx.ix2 r k) : EReal) * w (ValueIdx.ix2 k q) :=
  congrArg (fun z : EReal => alpha * (x (ValueIdx.ix2 r q) : EReal) + z) (matmul_eq (φ := .f32) (ψ := .bf16) p w (ValueIdx.ix2 r q))

theorem blockMeans_eq (s : FVec Ideal S256x1024 .f32) (r : Fin 256) : (blockMeans s (ValueIdx.ix2 r 0) : EReal) = mean fun k => s (ValueIdx.ix2 r k) := by
  unfold blockMeans
  pointwise
  rfl

theorem blockCentred_eq (s : FVec Ideal S256x1024 .f32) (r : Fin 256) (q : Fin 1024) :
    (blockCentred s (ValueIdx.ix2 r q) : EReal) = s (ValueIdx.ix2 r q) - mean fun k => s (ValueIdx.ix2 r k) := by
  refine Eq.trans ?_ (congrArg (fun z : EReal => (s (ValueIdx.ix2 r q) : EReal) - z) (blockMeans_eq s r))
  unfold blockCentred
  pointwise
  rfl

theorem blockRows_at (s : FVec Ideal S256x1024 .f32) (g b : Vec Ideal S1x1024 .f32) (r : Fin 256) (q : Fin 1024) :
    (blockRows s g b (ValueIdx.ix2 r q) : EReal) = (blockCentred s (ValueIdx.ix2 r q) : EReal)
      * Ideal.rsqrt ((blockMeans (mulf (blockCentred s) (blockCentred s)) (ValueIdx.ix2 r 0) : EReal) + eps) * g (ValueIdx.ix2 0 q) + b (ValueIdx.ix2 0 q) := by
  unfold blockRows
  pointwise
  rfl

theorem blockRows_eq (s : FVec Ideal S256x1024 .f32) (g b : Vec Ideal S1x1024 .f32) (r : Fin 256) (q : Fin 1024) :
    (blockRows s g b (ValueIdx.ix2 r q) : EReal)
      = layerNorm (fun k => s (ValueIdx.ix2 r k)) (fun k => g (ValueIdx.ix2 0 k)) (fun k => b (ValueIdx.ix2 0 k)) q := by
  rw [blockRows_at, blockMeans_eq, blockCentred_eq]
  unfold layerNorm
  have h : (fun k => (mulf (blockCentred s) (blockCentred s) (ValueIdx.ix2 r k) : EReal))
      = fun k => (s (ValueIdx.ix2 r k) - mean fun k => s (ValueIdx.ix2 r k)) * (s (ValueIdx.ix2 r k) - mean fun k => s (ValueIdx.ix2 r k)) :=
    funext fun k => congrArg₂ (fun a b : EReal => a * b) (blockCentred_eq s r k) (blockCentred_eq s r k)
  rw [h]

/-- What a block of the result holds in row `r`. -/
theorem block_eq (o z u : FVec Ideal S256x512 .f32) (x : FVec Ideal S256x1024 .f32) (gain : FVec Ideal S1x512 .f32) (w : FVec Ideal S1024x1024 .bf16)
    (g b : FVec Ideal S1x1024 .f32) (r : Fin 256) (q : Fin 1024) : (blockRows (sums (pairs (units o) z u gain) x w) g b (ValueIdx.ix2 r q) : EReal)
      = result (fun k => o (ValueIdx.ix2 r k)) (fun k => z (ValueIdx.ix2 r k)) (fun k => u (ValueIdx.ix2 r k)) (fun k => x (ValueIdx.ix2 r k)) gain w g b q := by
  rw [blockRows_eq]
  unfold result
  simp only [sums_eq, pairs_eq _ z u gain r _ _ (fun k => units_eq o r k)]

theorem index_0 : ∀ t : Fin grid0.N, win0_0.index t = ![t.val, 0] := by decide +kernel
theorem index_1 : ∀ t : Fin grid0.N, win0_1.index t = ![t.val, 3] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![t.val, 0] := by decide +kernel

variable (m : (ℓ : Loc nD τ sig) → Buf (Elt Ideal) ℓ) (c : Dev nD)

abbrev O : FVec Ideal S8192x512 .f32 := m ((c : Thread nD τ).loc main_arg0)
abbrev Hb : FVec Ideal S8192x3072 .f32 := m ((c : Thread nD τ).loc main_arg1)
abbrev U : FVec Ideal S8192x512 .f32 := m ((c : Thread nD τ).loc main_arg2)
abbrev X : FVec Ideal S8192x1024 .f32 := m ((c : Thread nD τ).loc main_arg3)
abbrev Gn : FVec Ideal S1x512 .f32 := m ((c : Thread nD τ).loc main_arg4)
abbrev W : FVec Ideal S1024x1024 .bf16 := m ((c : Thread nD τ).loc main_arg5)
abbrev G : FVec Ideal S1x1024 .f32 := m ((c : Thread nD τ).loc main_arg6)
abbrev B : FVec Ideal S1x1024 .f32 := m ((c : Thread nD τ).loc main_arg7)

variable (t : Fin cfg0.N)

/-- Row `r` of block `t`, in the array. -/
def row (r : Fin 256) : Fin 8192 := ⟨t.val * 256 + r.val, by have h : t.val < 32 := t.isLt; have h0 := r.isLt; omega⟩

theorem emb_8 (r : Fin 256) (q : Fin 1024) : (win0_8.blk t).view.emb (ValueIdx.ix2 r q) = ValueIdx.ix2 (row t r) q := by
  unfold row
  blk_ext [index_8]

/-- What the blocks of point `t` hold, by the array's index. -/
theorem blk_o (r : Fin 256) (k : Fin 512) : (iblk m c 0 t : FVec Ideal S256x512 .f32) (ValueIdx.ix2 r k) = O m c (ValueIdx.ix2 (row t r) k) := by
  refine congrArg (O m c) ?_
  unfold row
  blk_ext [index_0]

theorem blk_z (r : Fin 256) (k : Fin 512) : (iblk m c 1 t : FVec Ideal S256x512 .f32) (ValueIdx.ix2 r k) = Hb m c (ValueIdx.ix2 (row t r) (gateCol k)) := by
  refine congrArg (Hb m c) ?_
  unfold row gateCol
  blk_ext [index_1]

theorem blk_u (r : Fin 256) (k : Fin 512) : (iblk m c 2 t : FVec Ideal S256x512 .f32) (ValueIdx.ix2 r k) = U m c (ValueIdx.ix2 (row t r) k) := by
  refine congrArg (U m c) ?_
  unfold row
  blk_ext [index_2]

theorem blk_x (r : Fin 256) (k : Fin 1024) : (iblk m c 3 t : FVec Ideal S256x1024 .f32) (ValueIdx.ix2 r k) = X m c (ValueIdx.ix2 (row t r) k) := by
  refine congrArg (X m c) ?_
  unfold row
  blk_ext [index_3]

theorem blk_gain : (iblk m c 4 t : FVec Ideal S1x512 .f32) = Gn m c := by
  funext y
  refine congrArg (Gn m c) ?_
  blk_ext [index_4]

theorem blk_w : (iblk m c 5 t : FVec Ideal S1024x1024 .bf16) = W m c := by
  funext y
  refine congrArg (W m c) ?_
  blk_ext [index_5]

theorem blk_g : (iblk m c 6 t : FVec Ideal S1x1024 .f32) = G m c := by
  funext y
  refine congrArg (G m c) ?_
  blk_ext [index_6]

theorem blk_b : (iblk m c 7 t : FVec Ideal S1x1024 .f32) = B m c := by
  funext y
  refine congrArg (B m c) ?_
  blk_ext [index_7]

/-- The array after the last point. -/
theorem final : (dats m 0 c).arrAt 8 cfg0.N = outs (O m c) (Hb m c) (U m c) (X m c) (Gn m c) (W m c) (G m c) (B m c) := by
  refine (dats m 0 c).arrAt_eq_of_covers 8 _ (by decide +kernel) fun t _ y => ?_
  refine (congrFun ((after0_8 m c t).trans (out_eq _ _ _ _ _ _ _ _)) y).trans ?_
  obtain ⟨r, q, rfl⟩ : ∃ (r : Fin 256) (q : Fin 1024), y = ValueIdx.ix2 r q := ⟨y 0, y 1, ValueIdx.eq_ix2 y⟩
  rw [blk_gain, blk_w, blk_g, blk_b]
  refine ((block_eq _ _ _ _ _ _ _ _ r q).trans ?_).trans
    (congrArg (outs (O m c) (Hb m c) (U m c) (X m c) (Gn m c) (W m c) (G m c) (B m c)) (emb_8 t r q).symm)
  simp only [blk_o, blk_z, blk_u, blk_x]
  rfl

end

section
open Cert.MixedPlainIdeal Cert.MixedPlainIdeal.Gen

/-- A column that repeats one word. -/
def column (b : BitVec 32) : FVec Ideal S8192x1 .f32 := broadcastInDim S8192x1 ![] bcast_S_S8192x1 (constant S_ .f32 b)

/-- The means of the rows. -/
def means (s : FVec Ideal S8192x1024 .f32) : FVec Ideal S8192x1 .f32 :=
  Host.divf (broadcastInDim S8192x1 ![0] bcast_S8192_S8192x1_0 (Host.reduceAdd s (constant S_ .f32 0x00000000#32) reducesTo_S8192x1024_S8192_d1 h_S_)) (column 0x44800000#32)

/-- The rows less their means. -/
def centred (s : FVec Ideal S8192x1024 .f32) : FVec Ideal S8192x1024 .f32 :=
  subf s (broadcastInDim S8192x1024 ![0, 1] bcast_S8192x1_S8192x1024_0_1 (means s))

/-- The normed rows. -/
def rows (s : FVec Ideal S8192x1024 .f32) (g b : FVec Ideal S1x1024 .f32) : FVec Ideal S8192x1024 .f32 :=
  addf (mulf (mulf (centred s) (broadcastInDim S8192x1024 ![0, 1] bcast_S8192x1_S8192x1024_0_1
    (Host.rsqrt (addf (means (mulf (centred s) (centred s))) (column 0x3727C5AC#32)))))
    (broadcastInDim S8192x1024 ![0, 1] bcast_S1x1024_S8192x1024_0_1 g)) (broadcastInDim S8192x1024 ![0, 1] bcast_S1x1024_S8192x1024_0_1 b)

theorem means_eq (s : FVec Ideal S8192x1024 .f32) (r : Fin 8192) : (means s (ValueIdx.ix2 r 0) : EReal) = mean fun k => s (ValueIdx.ix2 r k) := by
  unfold means column
  pointwise
  rfl

theorem centred_eq (s : FVec Ideal S8192x1024 .f32) (r : Fin 8192) (q : Fin 1024) :
    (centred s (ValueIdx.ix2 r q) : EReal) = s (ValueIdx.ix2 r q) - mean fun k => s (ValueIdx.ix2 r k) := by
  refine Eq.trans ?_ (congrArg (fun z : EReal => (s (ValueIdx.ix2 r q) : EReal) - z) (means_eq s r))
  unfold centred
  pointwise
  rfl

theorem rows_at (s : FVec Ideal S8192x1024 .f32) (g b : FVec Ideal S1x1024 .f32) (r : Fin 8192) (q : Fin 1024) :
    (rows s g b (ValueIdx.ix2 r q) : EReal) = (centred s (ValueIdx.ix2 r q) : EReal)
      * Ideal.rsqrt ((means (mulf (centred s) (centred s)) (ValueIdx.ix2 r 0) : EReal) + eps) * g (ValueIdx.ix2 0 q) + b (ValueIdx.ix2 0 q) := by
  unfold rows column
  pointwise
  rfl

theorem rows_eq (s : FVec Ideal S8192x1024 .f32) (g b : FVec Ideal S1x1024 .f32) (r : Fin 8192) (q : Fin 1024) :
    (rows s g b (ValueIdx.ix2 r q) : EReal)
      = layerNorm (fun k => s (ValueIdx.ix2 r k)) (fun k => g (ValueIdx.ix2 0 k)) (fun k => b (ValueIdx.ix2 0 k)) q := by
  rw [rows_at, means_eq, centred_eq]
  unfold layerNorm
  have h : (fun k => (mulf (centred s) (centred s) (ValueIdx.ix2 r k) : EReal))
      = fun k => (s (ValueIdx.ix2 r k) - mean fun k => s (ValueIdx.ix2 r k)) * (s (ValueIdx.ix2 r k) - mean fun k => s (ValueIdx.ix2 r k)) :=
    funext fun k => congrArg₂ (fun a b : EReal => a * b) (centred_eq s r k) (centred_eq s r k)
  rw [h]

/-- The array as four heads. -/
def heads (o : FVec Ideal S8192x512 .f32) : FVec Ideal S8192x4x128 .f32 := shapeCast _ o shapeCasts_S8192x512_S8192x4x128

/-- Each head over its root mean square. -/
def hostUnits (o : FVec Ideal S8192x4x128 .f32) : FVec Ideal S8192x4x128 .f32 :=
  mulf o (broadcastInDim S8192x4x128 ![0, 1, 2] bcast_S8192x4x1_S8192x4x128_0_1_2 (Host.rsqrt (addf (Host.divf (broadcastInDim S8192x4x1 ![0, 1] bcast_S8192x4_S8192x4x1_0_1
    (Host.reduceAdd (mulf o o) (constant S_ .f32 0x00000000#32) reducesTo_S8192x4x128_S8192x4_d2 h_S_)) (broadcastInDim S8192x4x1 ![] bcast_S_S8192x4x1 (constant S_ .f32 0x43000000#32)))
    (broadcastInDim S8192x4x1 ![] bcast_S_S8192x4x1 (constant S_ .f32 0x358637BD#32)))))

/-- The gate times its logistic. -/
def hostGate (z : FVec Ideal S8192x4x128 .f32) : FVec Ideal S8192x4x128 .f32 :=
  mulf z (Host.divf (broadcastInDim S8192x4x128 ![] bcast_S_S8192x4x128 (constant S_ .f32 0x3F800000#32))
    (addf (broadcastInDim S8192x4x128 ![] bcast_S_S8192x4x128 (constant S_ .f32 0x3F800000#32)) (Host.exp (Host.negf z))))

/-- The two mixers side by side. -/
def hostPairs (o u : FVec Ideal S8192x512 .f32) (z : FVec Ideal S8192x512 .f32) (gain : FVec Ideal S1x512 .f32) : FVec Ideal S8192x1024 .f32 :=
  concatenate S8192x1024 1 [⟨S8192x512, shapeCast _ (mulf (mulf (hostUnits (heads o)) (broadcastInDim S8192x4x128 ![0, 1, 2] bcast_S1x4x128_S8192x4x128_0_1_2
    (broadcastInDim S1x4x128 ![1, 2] bcast_S4x128_S1x4x128_1_2 (shapeCast _ gain shapeCasts_S1x512_S4x128)))) (hostGate (heads z))) shapeCasts_S8192x4x128_S8192x512⟩,
    ⟨S8192x512, u⟩] concatenates_S8192x512_S8192x512_S8192x1024_d1

/-- The residual sum. -/
def hostSums (p x : FVec Ideal S8192x1024 .f32) (w : FVec Ideal S1024x1024 .bf16) : FVec Ideal S8192x1024 .f32 :=
  addf (mulf (broadcastInDim S8192x1024 ![] bcast_S_S8192x1024 (constant S_ .f32 0x3FD744FD#32)) x)
    (Host.dotGeneral dot_S8192x1024_S1024x1024_S8192x1024_1_0_0_1_n_n none p (extf .f32 w bitsLt_bf16_f32))

theorem res (m : (ℓ : Loc nD τ sig) → Buf (Elt Ideal) ℓ) (c : Dev nD) :
    Cert.MixedPlainIdeal.Value.res_main_v47 (F := Ideal) m c
      = rows (hostSums (hostPairs (m ((c.tc : Thread nD τ).loc main_arg0)) (m ((c.tc : Thread nD τ).loc main_arg2))
          (extractStridedSlice S8192x512 ![0, 1536] (m ((c.tc : Thread nD τ).loc main_arg1)) slices_S8192x3072_S8192x512_0_1536) (m ((c.tc : Thread nD τ).loc main_arg4)))
          (m ((c.tc : Thread nD τ).loc main_arg3)) (m ((c.tc : Thread nD τ).loc main_arg5))) (m ((c.tc : Thread nD τ).loc main_arg6))
          (m ((c.tc : Thread nD τ).loc main_arg7)) := by
  unfold Cert.MixedPlainIdeal.Value.res_main_v47
  rfl

/-- Head and place of a feature. -/
def headOf (k : Fin 512) : Fin 4 := ⟨k.val / 128, by have := k.isLt; omega⟩
def placeOf (k : Fin 512) : Fin 128 := ⟨k.val % 128, Nat.mod_lt _ (by omega)⟩
def at' (h : Fin 4) (d : Fin 128) : Fin 512 := ⟨h.val * 128 + d.val, by have := h.isLt; have := d.isLt; omega⟩

theorem heads_eq (o : FVec Ideal S8192x512 .f32) (r : Fin 8192) (h : Fin 4) (d : Fin 128) : heads o (ValueIdx.ix3 r h d) = o (ValueIdx.ix2 r (at' h d)) := by
  unfold heads
  pointwise
  refine congrArg (fun n : Fin 512 => o (ValueIdx.ix2 r n)) (Fin.ext ?_)
  unfold at'
  dsimp only
  try omega

theorem hostUnits_eq (o : FVec Ideal S8192x4x128 .f32) (r : Fin 8192) (h : Fin 4) (d : Fin 128) :
    (hostUnits o (ValueIdx.ix3 r h d) : EReal)
      = o (ValueIdx.ix3 r h d) * Ideal.rsqrt (Ideal.div (∑ e : Fin 128, (o (ValueIdx.ix3 r h e) : EReal) * o (ValueIdx.ix3 r h e)) len + tiny) := by
  unfold hostUnits
  pointwise
  rfl

theorem hostGate_eq (z : FVec Ideal S8192x4x128 .f32) (y : S8192x4x128.Idx) : (hostGate z y : EReal) = z y * Ideal.logistic (z y) :=
  congrArg (fun s : EReal => (z y : EReal) * s) (logistic_eq (z y))

theorem hostUnits_unit (o : FVec Ideal S8192x512 .f32) (r : Fin 8192) (k : Fin 512) :
    (hostUnits (heads o) (ValueIdx.ix3 r (headOf k) (placeOf k)) : EReal) = unit (fun k => o (ValueIdx.ix2 r k)) k := by
  have h : at' (headOf k) (placeOf k) = k := Fin.ext (by unfold at' headOf placeOf; dsimp only; omega)
  have hm : ∀ d, at' (headOf k) d = mate k d := fun d => Fin.ext (by unfold at' headOf mate; dsimp only)
  rw [hostUnits_eq, unit]
  simp only [heads_eq, h, hm]

theorem hostPairs_at (o u z : FVec Ideal S8192x512 .f32) (gain : FVec Ideal S1x512 .f32) (r : Fin 8192) (k : Fin 1024) :
    (hostPairs o u z gain (ValueIdx.ix2 r k) : EReal)
      = if h : k.val < 512 then (hostUnits (heads o) (ValueIdx.ix3 r (headOf ⟨k.val, h⟩) (placeOf ⟨k.val, h⟩)) : EReal) * gain (ValueIdx.ix2 0 ⟨k.val, h⟩)
          * hostGate (heads z) (ValueIdx.ix3 r (headOf ⟨k.val, h⟩) (placeOf ⟨k.val, h⟩))
        else u (ValueIdx.ix2 r ⟨k.val - 512, by have := k.isLt; omega⟩) := by
  have e0 : (ValueIdx.ix2 r k : S8192x1024.Idx) 0 = r := rfl
  have e1 : (ValueIdx.ix2 r k : S8192x1024.Idx) 1 = k := rfl
  unfold hostPairs
  pointwise
  simp only [e0, e1, dite_true]
  split_ifs
  all_goals first | exact absurd rfl ‹¬((1 : Fin 2) : ℕ) = ((1 : Fin 2) : ℕ)› | skip
  · exact congrArg (fun n : Fin 512 => (hostUnits (heads o) (ValueIdx.ix3 r (headOf ⟨k.val, by omega⟩) (placeOf ⟨k.val, by omega⟩)) : EReal)
      * gain (ValueIdx.ix2 0 n) * hostGate (heads z) (ValueIdx.ix3 r (headOf ⟨k.val, by omega⟩) (placeOf ⟨k.val, by omega⟩)))
      (Fin.ext (show k.val / 128 * 128 + k.val % 128 = k.val by omega))
  · rfl

theorem hostPairs_eq (o u z : FVec Ideal S8192x512 .f32) (gain : FVec Ideal S1x512 .f32) (r : Fin 8192) (k : Fin 1024) :
    (hostPairs o u z gain (ValueIdx.ix2 r k) : EReal)
      = pair (fun k => o (ValueIdx.ix2 r k)) (fun k => z (ValueIdx.ix2 r k)) (fun k => u (ValueIdx.ix2 r k)) (fun k => gain (ValueIdx.ix2 0 k)) k := by
  have h' : ∀ k, at' (headOf k) (placeOf k) = k := fun k => Fin.ext (by unfold at' headOf placeOf; dsimp only; omega)
  rw [hostPairs_at]
  unfold pair
  split_ifs with h
  · rw [hostUnits_unit, hostGate_eq, heads_eq, h']
  · rfl

theorem hostSums_eq (p x : FVec Ideal S8192x1024 .f32) (w : FVec Ideal S1024x1024 .bf16) (r : Fin 8192) (q : Fin 1024) :
    (hostSums p x w (ValueIdx.ix2 r q) : EReal) = alpha * x (ValueIdx.ix2 r q) + ∑ k : Fin 1024, (p (ValueIdx.ix2 r k) : EReal) * w (ValueIdx.ix2 k q) :=
  congrArg (fun z : EReal => alpha * (x (ValueIdx.ix2 r q) : EReal) + z) (dot_eq p w (ValueIdx.ix2 r q))

theorem slice_eq (h : FVec Ideal S8192x3072 .f32) (r : Fin 8192) (k : Fin 512) :
    extractStridedSlice S8192x512 ![0, 1536] h slices_S8192x3072_S8192x512_0_1536 (ValueIdx.ix2 r k) = h (ValueIdx.ix2 r (gateCol k)) := by
  pointwise
  refine congrArg (fun n : Fin 3072 => h (ValueIdx.ix2 r n)) (Fin.ext ?_)
  unfold gateCol
  dsimp only
  try omega

theorem host_eq (o : FVec Ideal S8192x512 .f32) (h : FVec Ideal S8192x3072 .f32) (u : FVec Ideal S8192x512 .f32) (x : FVec Ideal S8192x1024 .f32)
    (gain : FVec Ideal S1x512 .f32) (w : FVec Ideal S1024x1024 .bf16) (g b : FVec Ideal S1x1024 .f32) :
    rows (hostSums (hostPairs o u (extractStridedSlice S8192x512 ![0, 1536] h slices_S8192x3072_S8192x512_0_1536) gain) x w) g b = outs o h u x gain w g b := by
  funext y
  obtain ⟨r, q, rfl⟩ : ∃ (r : Fin 8192) (q : Fin 1024), y = ValueIdx.ix2 r q := ⟨y 0, y 1, ValueIdx.eq_ix2 y⟩
  refine (rows_eq _ g b r q).trans ?_
  simp only [hostSums_eq, hostPairs_eq, slice_eq]
  rfl

end

/-- Kernel and reference, launched on the same arrays: both terminate, and their results agree. -/
theorem agree : Cert.algebraic_MixedIdeal_MixedPlainIdeal := by
  intro m g m' g' _ h
  refine ⟨fun c => outs (O m c) (Hb m c) (U m c) (X m c) (Gn m c) (W m c) (G m c) (B m c), ?_, ?_⟩
  · exact (θ_run Cert.MixedIdeal.defs _ _).mono (fun r hr c => ⟨(hr c).1.trans (final m c), (hr c).2⟩)
      (Cert.MixedIdeal.Value.run_blocks (F := Ideal) m g)
  · refine (θ_run Cert.MixedPlainIdeal.defs _ _).mono (fun r hr c => ⟨(hr c).1.trans ?_, (hr c).2⟩)
      (Cert.MixedPlainIdeal.Value.run (F := Ideal) m' g')
    refine (res m' c).trans ((host_eq _ _ _ _ _ _ _ _).trans ?_)
    rw [(h c).1, (h c).2.1, (h c).2.2.1, (h c).2.2.2.1, (h c).2.2.2.2.1, (h c).2.2.2.2.2.1, (h c).2.2.2.2.2.2.1, (h c).2.2.2.2.2.2.2]

end Cert.MixedValue

end
-- ==== Proof.ProjectValue.lean ====
/-
  A layer's combined input projection: the product of its input with the packed weights. A grid point computes 512 rows and half of
  the columns; the sums over the 1024 features are whole in each point.
-/
module

public import proofs.«01_k».proof.Defs
public import proofs.«01_k».proof.Proof.Gating
public import proofs.«01_k».proof.Proof.Gen.ProjectIdeal.Value
public import proofs.«01_k».proof.Proof.Gen.ProjectPlainIdeal.Run

@[expose] public section

noncomputable section

namespace Cert.ProjectValue

open Idealize.ShloMosaic Idealize.ShloMosaic.TcCoe Idealize.SL.Sem Cert.Gating
open Idealize.ShloMosaic.Pipeline (Dat)

/-- The product as an array. -/
def lin {R K C : Nat} (a : FVec Ideal ⟨2, ![R, K]⟩ .f32) (w : FVec Ideal ⟨2, ![K, C]⟩ .bf16) : FVec Ideal ⟨2, ![R, C]⟩ .f32 :=
  fun y => prod a w (y 0) (y 1)

section
open Cert.ProjectIdeal Cert.ProjectIdeal.Gen Cert.ProjectIdeal.Value

theorem out_eq (a : FVec Ideal S512x1024 .f32) (w : FVec Ideal S1024x1536 .bf16) : out0_2 (F := Ideal) a w = lin a w := by
  unfold out0_2
  rw [View.canon_unit_zero hz2, View.ld_unit_zero hz2, View.ld_unit_zero hz2]
  funext y
  exact matmul_eq a w y

theorem index_0 : ∀ t : Fin grid0.N, win0_0.index t = ![t.val / 2, 0] := by decide +kernel
theorem index_1 : ∀ t : Fin grid0.N, win0_1.index t = ![0, t.val % 2] := by decide +kernel
theorem index_2 : ∀ t : Fin grid0.N, win0_2.index t = ![t.val / 2, t.val % 2] := by decide +kernel

variable (m : (ℓ : Loc nD τ sig) → Buf (Elt Ideal) ℓ) (c : Dev nD)

abbrev A : FVec Ideal S8192x1024 .f32 := m ((c : Thread nD τ).loc main_arg0)
abbrev W : FVec Ideal S1024x3072 .bf16 := m ((c : Thread nD τ).loc main_arg1)

variable (t : Fin cfg0.N)

/-- Where element `y` of block `t` lies in the array. -/
def place (y : S512x1536.Idx) : S8192x3072.Idx :=
  ValueIdx.ix2 ⟨t.val / 2 * 512 + (y 0).val, by have h : t.val < 32 := t.isLt; have h0 : (y 0).val < 512 := (y 0).isLt; omega⟩
    ⟨t.val % 2 * 1536 + (y 1).val, by have h1 : (y 1).val < 1536 := (y 1).isLt; omega⟩

theorem emb_2 (y : S512x1536.Idx) : (win0_2.blk t).view.emb y = place t y := by
  unfold place
  blk_ext [index_2]

/-- What the blocks of point `t` hold, by the array's index. -/
theorem blk_a (y : S512x1536.Idx) (k : Fin 1024) :
    (iblk m c 0 t : FVec Ideal S512x1024 .f32) (ValueIdx.ix2 (y 0) k) = A m c (ValueIdx.ix2 (place t y 0) k) := by
  refine congrArg (A m c) ?_
  unfold place
  blk_ext [index_0]

theorem blk_w (y : S512x1536.Idx) (k : Fin 1024) :
    (iblk m c 1 t : FVec Ideal S1024x1536 .bf16) (ValueIdx.ix2 k (y 1)) = W m c (ValueIdx.ix2 k (place t y 1)) := by
  refine congrArg (W m c) ?_
  unfold place
  blk_ext [index_1]

/-- The array after the last point. -/
theorem final : (dats m 0 c).arrAt 2 cfg0.N = lin (A m c) (W m c) := by
  refine (dats m 0 c).arrAt_eq_of_covers 2 _ (by decide +kernel) fun t _ y => ?_
  refine (congrFun ((after0_2 m c t).trans (out_eq _ _)) y).trans ?_
  exact (prod_congr (fun k => blk_a m c t y k) (fun k => blk_w m c t y k)).trans (congrArg (lin (A m c) (W m c)) (emb_2 t y).symm)

end

/-- Kernel and reference, launched on the same arrays: both terminate, and their results agree. -/
theorem agree : Cert.algebraic_ProjectIdeal_ProjectPlainIdeal := by
  intro m g m' g' _ h
  refine ⟨fun c => lin (A m c) (W m c), ?_, ?_⟩
  · exact (θ_run Cert.ProjectIdeal.defs _ _).mono (fun r hr c => ⟨(hr c).1.trans (final m c), (hr c).2⟩)
      (Cert.ProjectIdeal.Value.run_blocks (F := Ideal) m g)
  · refine (θ_run Cert.ProjectPlainIdeal.defs _ _).mono (fun r hr c => ⟨(hr c).1.trans ?_, (hr c).2⟩)
      (Cert.ProjectPlainIdeal.Value.run (F := Ideal) m' g')
    refine (funext fun y => dot_eq _ _ y : _ = fun y => prod _ _ (y 0) (y 1)).trans ?_
    rw [(h c).1, (h c).2]
    rfl

end Cert.ProjectValue

end
-- ==== Proof.lean ====
/- The proof of the claims: each follows from one run proved for any float values, or from the agreement of two such runs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Weights
public import proofs.«01_k».proof.Proof.Gen.WeightsIdeal
public import proofs.«01_k».proof.Proof.Gen.AllWeightsIdeal
public import proofs.«01_k».proof.Proof.Gen.AllWeights
public import proofs.«01_k».proof.Proof.Gen.Conv
public import proofs.«01_k».proof.Proof.Gen.ConvIdeal
public import proofs.«01_k».proof.Proof.Gen.AllConvIdeal
public import proofs.«01_k».proof.Proof.Gen.AllConv
public import proofs.«01_k».proof.Proof.Gen.GradIn
public import proofs.«01_k».proof.Proof.Gen.GradInIdeal
public import proofs.«01_k».proof.Proof.Gen.GradInIdeal.Value
public import proofs.«01_k».proof.Proof.Gen.GradInPlainIdeal
public import proofs.«01_k».proof.Proof.Gen.GradInPlainIdeal.Run
public import proofs.«01_k».proof.Proof.Gen.Loss
public import proofs.«01_k».proof.Proof.Gen.LossIdeal
public import proofs.«01_k».proof.Proof.Gen.LossIdeal.Value
public import proofs.«01_k».proof.Proof.Gen.LossPlainIdeal
public import proofs.«01_k».proof.Proof.Gen.LossPlainIdeal.Run
public import proofs.«01_k».proof.Proof.Gen.GradDown
public import proofs.«01_k».proof.Proof.Gen.GradDownIdeal
public import proofs.«01_k».proof.Proof.Gen.GradDownIdeal.Value
public import proofs.«01_k».proof.Proof.Gen.GradDownPlainIdeal
public import proofs.«01_k».proof.Proof.Gen.GradDownPlainIdeal.Run
public import proofs.«01_k».proof.Proof.GradDownValue
public import proofs.«01_k».proof.Proof.Gen.GradProj
public import proofs.«01_k».proof.Proof.Gen.GradProjIdeal
public import proofs.«01_k».proof.Proof.Gen.GradProjIdeal.Value
public import proofs.«01_k».proof.Proof.Gen.GradProjPlainIdeal
public import proofs.«01_k».proof.Proof.Gen.GradProjPlainIdeal.Run
public import proofs.«01_k».proof.Proof.GradProjValue
public import proofs.«01_k».proof.Proof.Gen.GradPart
public import proofs.«01_k».proof.Proof.Gen.GradPartIdeal
public import proofs.«01_k».proof.Proof.Gen.GradPartIdeal.Value
public import proofs.«01_k».proof.Proof.Gen.GradPartPlainIdeal
public import proofs.«01_k».proof.Proof.Gen.GradPartPlainIdeal.Run
public import proofs.«01_k».proof.Proof.GradPartValue
public import proofs.«01_k».proof.Proof.Gen.Latent
public import proofs.«01_k».proof.Proof.Gen.Latent.Frame
public import proofs.«01_k».proof.Proof.Gen.LatentIdeal
public import proofs.«01_k».proof.Proof.Gen.LatentIdeal.Value
public import proofs.«01_k».proof.Proof.Gen.LatentPlainIdeal
public import proofs.«01_k».proof.Proof.Gen.LatentPlainIdeal.Run
public import proofs.«01_k».proof.Proof.LatentValue
public import proofs.«01_k».proof.Proof.Gen.GradGate
public import proofs.«01_k».proof.Proof.Gen.GradGateIdeal
public import proofs.«01_k».proof.Proof.Gen.GradGateIdeal.Value
public import proofs.«01_k».proof.Proof.Gen.GradGatePlainIdeal
public import proofs.«01_k».proof.Proof.Gen.GradGatePlainIdeal.Run
public import proofs.«01_k».proof.Proof.Gen.Gated
public import proofs.«01_k».proof.Proof.Gen.Attention
public import proofs.«01_k».proof.Proof.Gen.Attention.Frame
public import proofs.«01_k».proof.Proof.Gen.AttentionIdeal
public import proofs.«01_k».proof.Proof.Gen.AttentionIdeal.Value
public import proofs.«01_k».proof.Proof.Gen.AttentionPlainIdeal
public import proofs.«01_k».proof.Proof.Gen.AttentionPlainIdeal.Run
public import proofs.«01_k».proof.Proof.Gen.GatedIdeal
public import proofs.«01_k».proof.Proof.Gen.GatedIdeal.Value
public import proofs.«01_k».proof.Proof.Gen.GatedPlainIdeal
public import proofs.«01_k».proof.Proof.Gen.GatedPlainIdeal.Run
public import proofs.«01_k».proof.Proof.Gen.Down
public import proofs.«01_k».proof.Proof.Gen.DownIdeal
public import proofs.«01_k».proof.Proof.Gen.DownIdeal.Value
public import proofs.«01_k».proof.Proof.Gen.DownPlainIdeal
public import proofs.«01_k».proof.Proof.Gen.DownPlainIdeal.Run
public import proofs.«01_k».proof.Proof.Gen.GatedBack
public import proofs.«01_k».proof.Proof.Gen.GatedBackIdeal
public import proofs.«01_k».proof.Proof.Gen.GatedBackIdeal.Value
public import proofs.«01_k».proof.Proof.Gen.GatedBackPlainIdeal
public import proofs.«01_k».proof.Proof.Gen.GatedBackPlainIdeal.Run
public import proofs.«01_k».proof.Proof.Gen.Project
public import proofs.«01_k».proof.Proof.Gen.ProjectIdeal
public import proofs.«01_k».proof.Proof.Gen.ProjectIdeal.Value
public import proofs.«01_k».proof.Proof.Gen.ProjectPlainIdeal
public import proofs.«01_k».proof.Proof.Gen.ProjectPlainIdeal.Run
public import proofs.«01_k».proof.Proof.Gen.Mixed
public import proofs.«01_k».proof.Proof.Gen.MixedIdeal
public import proofs.«01_k».proof.Proof.Gen.MixedIdeal.Value
public import proofs.«01_k».proof.Proof.Gen.MixedPlainIdeal
public import proofs.«01_k».proof.Proof.Gen.MixedPlainIdeal.Run
public import proofs.«01_k».proof.Proof.Gen.Embedded
public import proofs.«01_k».proof.Proof.Gen.EmbeddedIdeal
public import proofs.«01_k».proof.Proof.Gen.EmbeddedIdeal.Value
public import proofs.«01_k».proof.Proof.Gen.EmbeddedPlainIdeal
public import proofs.«01_k».proof.Proof.Gen.EmbeddedPlainIdeal.Run
public import proofs.«01_k».proof.Proof.Gen.Short
public import proofs.«01_k».proof.Proof.Gen.ShortIdeal
public import proofs.«01_k».proof.Proof.Gen.ShortIdeal.Value
public import proofs.«01_k».proof.Proof.Gen.ShortPlainIdeal
public import proofs.«01_k».proof.Proof.Gen.ShortPlainIdeal.Run
public import proofs.«01_k».proof.Proof.Gathered
public import proofs.«01_k».proof.Proof.Claim
public import proofs.«01_k».proof.Proof.GradIn
public import proofs.«01_k».proof.Proof.LossValue
public import proofs.«01_k».proof.Proof.GatedValue
public import proofs.«01_k».proof.Proof.DownValue
public import proofs.«01_k».proof.Proof.BackValue
public import proofs.«01_k».proof.Proof.GradGateValue
public import proofs.«01_k».proof.Proof.AttentionValue
public import proofs.«01_k».proof.Proof.ShortValue
public import proofs.«01_k».proof.Proof.EmbeddedValue
public import proofs.«01_k».proof.Proof.MixedValue
public import proofs.«01_k».proof.Proof.ProjectValue

@[expose] public section

noncomputable section

namespace Cert.Proof

open Idealize.ShloMosaic Idealize.SL.Sem

/-! ## The gradient exchange and the update of the rows -/

/-- The two programs' bodies are one text: over words they are the same. -/
theorem bodies : Cert.Kernel.defs₀ (F := Bits) = Cert.KernelIdeal.defs₀ (F := Bits) := by
  funext p ℓ a
  cases p with
  | tc =>
    match ℓ, a with
    | 0, _ => rfl
    | 1, _ => rfl
  | scScalar _ => rfl
  | scVector _ _ => rfl

theorem table : Cert.Kernel.defs (F := Bits) = Cert.KernelIdeal.defs (F := Bits) :=
  congrArg (Pipeline.defs (Cert.KernelIdeal.pcfgs (F := Bits))) bodies

theorem frame_kernel : Cert.quiescent_Kernel := fun m ρ _ => by
  have h := Cert.Exchange.frame (F := Bits) m ρ
  rw [← table] at h
  exact (θ_run Cert.Kernel.defs _ _).mono (fun _ h => ⟨fun c => h.1 c, h.2⟩) h

theorem frame_ideal : Cert.quiescent_KernelIdeal := fun m ρ _ => Cert.Exchange.frame (F := Ideal) m ρ

theorem frame_refIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-! ## The gather of the weights -/

theorem frame_weights : Cert.quiescent_Weights := fun m ρ _ =>
  (θ_run Cert.WeightsIdeal.defs _ _).mono (fun _ h => ⟨fun c => (h.1 c).2, h.2⟩) (Cert.GatherWeights.run_main (F := Bits) m ρ)

theorem frame_weightsIdeal : Cert.quiescent_WeightsIdeal := fun m ρ _ =>
  (θ_run Cert.WeightsIdeal.defs _ _).mono (fun _ h => ⟨fun c => (h.1 c).2, h.2⟩) (Cert.GatherWeights.run_main (F := Ideal) m ρ)

theorem frame_weightsRefIdeal : Cert.quiescent_AllWeightsIdeal := fun m ρ _ =>
  (θ_run Cert.AllWeightsIdeal.defs _ _).mono (fun r h => ⟨fun c => (h c).2, sem_eq_zero_of_no_sems (by decide) r.2⟩)
    (Cert.AllWeightsIdeal.Value.run (F := Ideal) m ρ)

theorem frame_weightsRef : Cert.quiescent_AllWeights := fun m ρ _ =>
  (θ_run Cert.AllWeightsIdeal.defs _ _).mono (fun r h => ⟨fun c => (h c).2, sem_eq_zero_of_no_sems (by decide) r.2⟩)
    (Cert.AllWeightsIdeal.Value.run (F := Bits) m ρ)

theorem algebraic_weights : Cert.algebraic_WeightsIdeal_AllWeightsIdeal := fun m g m' g' _ h => Cert.Gathered.weights (F := Ideal) m g m' g' h

theorem bitexact_weights : Cert.bitexact_Weights_AllWeights := fun m g m' g' _ h => Cert.Gathered.weights (F := Bits) m g m' g' h

/-! ## The gather of the convolution weights -/

theorem frame_conv : Cert.quiescent_Conv := fun m ρ _ =>
  (θ_run Cert.ConvIdeal.defs _ _).mono (fun _ h => ⟨fun c => (h.1 c).2, h.2⟩) (Cert.GatherConv.run_main (F := Bits) m ρ)

theorem frame_convIdeal : Cert.quiescent_ConvIdeal := fun m ρ _ =>
  (θ_run Cert.ConvIdeal.defs _ _).mono (fun _ h => ⟨fun c => (h.1 c).2, h.2⟩) (Cert.GatherConv.run_main (F := Ideal) m ρ)

theorem frame_convRefIdeal : Cert.quiescent_AllConvIdeal := fun m ρ _ =>
  (θ_run Cert.AllConvIdeal.defs _ _).mono (fun r h => ⟨fun c => (h c).2, sem_eq_zero_of_no_sems (by decide) r.2⟩)
    (Cert.AllConvIdeal.Value.run (F := Ideal) m ρ)

theorem frame_convRef : Cert.quiescent_AllConv := fun m ρ _ =>
  (θ_run Cert.AllConvIdeal.defs _ _).mono (fun r h => ⟨fun c => (h c).2, sem_eq_zero_of_no_sems (by decide) r.2⟩)
    (Cert.AllConvIdeal.Value.run (F := Bits) m ρ)

theorem algebraic_conv : Cert.algebraic_ConvIdeal_AllConvIdeal := fun m g m' g' _ h => Cert.Gathered.conv (F := Ideal) m g m' g' h

theorem bitexact_conv : Cert.bitexact_Conv_AllConv := fun m g m' g' _ h => Cert.Gathered.conv (F := Bits) m g m' g' h

/-! ## The gradient at the trunk's input -/

theorem bodies_gradIn : Cert.GradIn.defs₀ (F := Bits) = Cert.GradInIdeal.defs₀ (F := Bits) := by
  funext p ℓ a
  cases p with
  | tc =>
    match ℓ, a with
    | 0, _ => rfl
  | scScalar _ => rfl
  | scVector _ _ => rfl

theorem table_gradIn : Cert.GradIn.defs (F := Bits) = Cert.GradInIdeal.defs (F := Bits) :=
  congrArg (Pipeline.defs (Cert.GradInIdeal.pcfgs (F := Bits))) bodies_gradIn

theorem frame_gradIn : Cert.quiescent_GradIn := fun m ρ _ => by
  have h := Cert.GradInIdeal.Gen.frame (F := Bits) m ρ
  rw [← table_gradIn] at h
  exact (θ_run Cert.GradIn.defs _ _).mono (fun _ h => ⟨fun c => h.1 c, h.2⟩) h

theorem frame_gradInIdeal : Cert.quiescent_GradInIdeal := fun m ρ _ => Cert.GradInIdeal.Gen.frame (F := Ideal) m ρ

theorem frame_gradInRefIdeal : Cert.quiescent_GradInPlainIdeal := fun m ρ _ =>
  (θ_run Cert.GradInPlainIdeal.defs _ _).mono (fun r h => ⟨fun c => (h c).2, sem_eq_zero_of_no_sems (by decide) r.2⟩)
    (Cert.GradInPlainIdeal.Value.run (F := Ideal) m ρ)

/-! ## The loss -/

theorem bodies_loss : Cert.Loss.defs₀ (F := Bits) = Cert.LossIdeal.defs₀ (F := Bits) := by
  funext p ℓ a
  cases p with
  | tc =>
    match ℓ, a with
    | 0, _ => rfl
  | scScalar _ => rfl
  | scVector _ _ => rfl

theorem table_loss : Cert.Loss.defs (F := Bits) = Cert.LossIdeal.defs (F := Bits) :=
  congrArg (Pipeline.defs (Cert.LossIdeal.pcfgs (F := Bits))) bodies_loss

theorem frame_loss : Cert.quiescent_Loss := fun m ρ _ => by
  have h := Cert.LossIdeal.Gen.frame (F := Bits) m ρ
  rw [← table_loss] at h
  exact (θ_run Cert.Loss.defs _ _).mono (fun _ h => ⟨fun c => h.1 c, h.2⟩) h

theorem frame_lossIdeal : Cert.quiescent_LossIdeal := fun m ρ _ => Cert.LossIdeal.Gen.frame (F := Ideal) m ρ

theorem frame_lossRefIdeal : Cert.quiescent_LossPlainIdeal := fun m ρ _ =>
  (θ_run Cert.LossPlainIdeal.defs _ _).mono (fun r h => ⟨fun c => (h c).2.2, sem_eq_zero_of_no_sems (by decide) r.2⟩)
    (Cert.LossPlainIdeal.Value.run (F := Ideal) m ρ)

/-! ## The gate, the product with it and its two factors -/

theorem bodies_gated : Cert.Gated.defs₀ (F := Bits) = Cert.GatedIdeal.defs₀ (F := Bits) := by
  funext p ℓ a
  cases p with
  | tc =>
    match ℓ, a with
    | 0, _ => rfl
  | scScalar _ => rfl
  | scVector _ _ => rfl

theorem table_gated : Cert.Gated.defs (F := Bits) = Cert.GatedIdeal.defs (F := Bits) :=
  congrArg (Pipeline.defs (Cert.GatedIdeal.pcfgs (F := Bits))) bodies_gated

theorem frame_gated : Cert.quiescent_Gated := fun m ρ _ => by
  have h := Cert.GatedIdeal.Gen.frame (F := Bits) m ρ
  rw [← table_gated] at h
  exact (θ_run Cert.Gated.defs _ _).mono (fun _ h => ⟨fun c => h.1 c, h.2⟩) h

theorem frame_gatedIdeal : Cert.quiescent_GatedIdeal := fun m ρ _ => Cert.GatedIdeal.Gen.frame (F := Ideal) m ρ

theorem frame_gatedRefIdeal : Cert.quiescent_GatedPlainIdeal := fun m ρ _ =>
  (θ_run Cert.GatedPlainIdeal.defs _ _).mono (fun r h => ⟨fun c => (h c).2.2.2, sem_eq_zero_of_no_sems (by decide) r.2⟩)
    (Cert.GatedPlainIdeal.Value.run (F := Ideal) m ρ)

/-! ## The projection back -/

theorem bodies_down : Cert.Down.defs₀ (F := Bits) = Cert.DownIdeal.defs₀ (F := Bits) := by
  funext p ℓ a
  cases p with
  | tc =>
    match ℓ, a with
    | 0, _ => rfl
  | scScalar _ => rfl
  | scVector _ _ => rfl

theorem table_down : Cert.Down.defs (F := Bits) = Cert.DownIdeal.defs (F := Bits) :=
  congrArg (Pipeline.defs (Cert.DownIdeal.pcfgs (F := Bits))) bodies_down

theorem frame_down : Cert.quiescent_Down := fun m ρ _ => by
  have h := Cert.DownIdeal.Gen.frame (F := Bits) m ρ
  rw [← table_down] at h
  exact (θ_run Cert.Down.defs _ _).mono (fun _ h => ⟨fun c => h.1 c, h.2⟩) h

theorem frame_downIdeal : Cert.quiescent_DownIdeal := fun m ρ _ => Cert.DownIdeal.Gen.frame (F := Ideal) m ρ

theorem frame_downRefIdeal : Cert.quiescent_DownPlainIdeal := fun m ρ _ =>
  (θ_run Cert.DownPlainIdeal.defs _ _).mono (fun r h => ⟨fun c => (h c).2, sem_eq_zero_of_no_sems (by decide) r.2⟩)
    (Cert.DownPlainIdeal.Value.run (F := Ideal) m ρ)

/-! ## The gradients at the gate -/

theorem bodies_gatedBack : Cert.GatedBack.defs₀ (F := Bits) = Cert.GatedBackIdeal.defs₀ (F := Bits) := by
  funext p ℓ a
  cases p with
  | tc =>
    match ℓ, a with
    | 0, _ => rfl
  | scScalar _ => rfl
  | scVector _ _ => rfl

theorem table_gatedBack : Cert.GatedBack.defs (F := Bits) = Cert.GatedBackIdeal.defs (F := Bits) :=
  congrArg (Pipeline.defs (Cert.GatedBackIdeal.pcfgs (F := Bits))) bodies_gatedBack

theorem frame_gatedBack : Cert.quiescent_GatedBack := fun m ρ _ => by
  have h := Cert.GatedBackIdeal.Gen.frame (F := Bits) m ρ
  rw [← table_gatedBack] at h
  exact (θ_run Cert.GatedBack.defs _ _).mono (fun _ h => ⟨fun c => h.1 c, h.2⟩) h

theorem frame_gatedBackIdeal : Cert.quiescent_GatedBackIdeal := fun m ρ _ => Cert.GatedBackIdeal.Gen.frame (F := Ideal) m ρ

theorem frame_gatedBackRefIdeal : Cert.quiescent_GatedBackPlainIdeal := fun m ρ _ =>
  (θ_run Cert.GatedBackPlainIdeal.defs _ _).mono (fun r h => ⟨fun c => (h c).2.2, sem_eq_zero_of_no_sems (by decide) r.2⟩)
    (Cert.GatedBackPlainIdeal.Value.run (F := Ideal) m ρ)

/-! ## The gradient of the gate's weights -/

theorem bodies_gradGate : Cert.GradGate.defs₀ (F := Bits) = Cert.GradGateIdeal.defs₀ (F := Bits) := by
  funext p ℓ a
  cases p with
  | tc =>
    match ℓ, a with
    | 0, _ => rfl
  | scScalar _ => rfl
  | scVector _ _ => rfl

theorem table_gradGate : Cert.GradGate.defs (F := Bits) = Cert.GradGateIdeal.defs (F := Bits) :=
  congrArg (Pipeline.defs (Cert.GradGateIdeal.pcfgs (F := Bits))) bodies_gradGate

theorem frame_gradGate : Cert.quiescent_GradGate := fun m ρ _ => by
  have h := Cert.GradGateIdeal.Gen.frame (F := Bits) m ρ
  rw [← table_gradGate] at h
  exact (θ_run Cert.GradGate.defs _ _).mono (fun _ h => ⟨fun c => h.1 c, h.2⟩) h

theorem frame_gradGateIdeal : Cert.quiescent_GradGateIdeal := fun m ρ _ => Cert.GradGateIdeal.Gen.frame (F := Ideal) m ρ

theorem frame_gradGateRefIdeal : Cert.quiescent_GradGatePlainIdeal := fun m ρ _ =>
  (θ_run Cert.GradGatePlainIdeal.defs _ _).mono (fun r h => ⟨fun c => (h c).2, sem_eq_zero_of_no_sems (by decide) r.2⟩)
    (Cert.GradGatePlainIdeal.Value.run (F := Ideal) m ρ)

/-! ## The attention -/

theorem frame_attention : Cert.quiescent_Attention := fun m ρ _ => Cert.Attention.Gen.frame (F := Bits) m ρ

theorem frame_attentionIdeal : Cert.quiescent_AttentionIdeal := fun m ρ _ => Cert.AttentionIdeal.Gen.frame (F := Ideal) m ρ

theorem frame_attentionRefIdeal : Cert.quiescent_AttentionPlainIdeal := fun m ρ _ =>
  (θ_run Cert.AttentionPlainIdeal.defs _ _).mono (fun r h => ⟨fun c => (h c).2.2, sem_eq_zero_of_no_sems (by decide) r.2⟩)
    (Cert.AttentionPlainIdeal.Value.run (F := Ideal) m ρ)

/-- The shape facts of the precondition. -/
theorem facts_real_scores : Cert.Pre_real_scores.Facts where
  bitsLt_bf16_f32 := by decide
  bcast_S_S8192x1024 := by decide
  reducesTo_S8192x1024_S_d0_1 := by decide
  h_S_ := by decide

theorem frame_attentionIdealReal [hPre_real_scores : Cert.Pre_real_scores.Facts] : Cert.quiescent_AttentionIdeal_pre_real_scores :=
  fun m ρ _ => Cert.AttentionIdeal.Gen.frame (F := Ideal) m ρ

theorem frame_attentionRefIdealReal [hPre_real_scores : Cert.Pre_real_scores.Facts] : Cert.quiescent_AttentionPlainIdeal_pre_real_scores := fun m ρ _ =>
  (θ_run Cert.AttentionPlainIdeal.defs _ _).mono (fun r h => ⟨fun c => (h c).2.2, sem_eq_zero_of_no_sems (by decide) r.2⟩)
    (Cert.AttentionPlainIdeal.Value.run (F := Ideal) m ρ)

theorem preserves_attention : Cert.preserves_Attention_AttentionIdeal :=
  IdealRules.named_const.statement Cert.AttentionIdeal.κ "mask" .f32 0xF149F2CA#32 ⊥ rfl

/-! ## The projection in -/

theorem bodies_project : Cert.Project.defs₀ (F := Bits) = Cert.ProjectIdeal.defs₀ (F := Bits) := by
  funext p ℓ a
  cases p with
  | tc =>
    match ℓ, a with
    | 0, _ => rfl
  | scScalar _ => rfl
  | scVector _ _ => rfl

theorem table_project : Cert.Project.defs (F := Bits) = Cert.ProjectIdeal.defs (F := Bits) :=
  congrArg (Pipeline.defs (Cert.ProjectIdeal.pcfgs (F := Bits))) bodies_project

theorem frame_project : Cert.quiescent_Project := fun m ρ _ => by
  have h := Cert.ProjectIdeal.Gen.frame (F := Bits) m ρ
  rw [← table_project] at h
  exact (θ_run Cert.Project.defs _ _).mono (fun _ h => ⟨fun c => h.1 c, h.2⟩) h

theorem frame_projectIdeal : Cert.quiescent_ProjectIdeal := fun m ρ _ => Cert.ProjectIdeal.Gen.frame (F := Ideal) m ρ

theorem frame_projectRefIdeal : Cert.quiescent_ProjectPlainIdeal := fun m ρ _ =>
  (θ_run Cert.ProjectPlainIdeal.defs _ _).mono (fun r h => ⟨fun c => (h c).2, sem_eq_zero_of_no_sems (by decide) r.2⟩)
    (Cert.ProjectPlainIdeal.Value.run (F := Ideal) m ρ)

/-! ## The projection out and the first norm -/

theorem bodies_mixed : Cert.Mixed.defs₀ (F := Bits) = Cert.MixedIdeal.defs₀ (F := Bits) := by
  funext p ℓ a
  cases p with
  | tc =>
    match ℓ, a with
    | 0, _ => rfl
  | scScalar _ => rfl
  | scVector _ _ => rfl

theorem table_mixed : Cert.Mixed.defs (F := Bits) = Cert.MixedIdeal.defs (F := Bits) :=
  congrArg (Pipeline.defs (Cert.MixedIdeal.pcfgs (F := Bits))) bodies_mixed

theorem frame_mixed : Cert.quiescent_Mixed := fun m ρ _ => by
  have h := Cert.MixedIdeal.Gen.frame (F := Bits) m ρ
  rw [← table_mixed] at h
  exact (θ_run Cert.Mixed.defs _ _).mono (fun _ h => ⟨fun c => h.1 c, h.2⟩) h

theorem frame_mixedIdeal : Cert.quiescent_MixedIdeal := fun m ρ _ => Cert.MixedIdeal.Gen.frame (F := Ideal) m ρ

theorem frame_mixedRefIdeal : Cert.quiescent_MixedPlainIdeal := fun m ρ _ =>
  (θ_run Cert.MixedPlainIdeal.defs _ _).mono (fun r h => ⟨fun c => (h c).2, sem_eq_zero_of_no_sems (by decide) r.2⟩)
    (Cert.MixedPlainIdeal.Value.run (F := Ideal) m ρ)

/-! ## The second norm and the embedding -/

theorem bodies_embedded : Cert.Embedded.defs₀ (F := Bits) = Cert.EmbeddedIdeal.defs₀ (F := Bits) := by
  funext p ℓ a
  cases p with
  | tc =>
    match ℓ, a with
    | 0, _ => rfl
  | scScalar _ => rfl
  | scVector _ _ => rfl

theorem table_embedded : Cert.Embedded.defs (F := Bits) = Cert.EmbeddedIdeal.defs (F := Bits) :=
  congrArg (Pipeline.defs (Cert.EmbeddedIdeal.pcfgs (F := Bits))) bodies_embedded

theorem frame_embedded : Cert.quiescent_Embedded := fun m ρ _ => by
  have h := Cert.EmbeddedIdeal.Gen.frame (F := Bits) m ρ
  rw [← table_embedded] at h
  exact (θ_run Cert.Embedded.defs _ _).mono (fun _ h => ⟨fun c => h.1 c, h.2⟩) h

theorem frame_embeddedIdeal : Cert.quiescent_EmbeddedIdeal := fun m ρ _ => Cert.EmbeddedIdeal.Gen.frame (F := Ideal) m ρ

theorem frame_embeddedRefIdeal : Cert.quiescent_EmbeddedPlainIdeal := fun m ρ _ =>
  (θ_run Cert.EmbeddedPlainIdeal.defs _ _).mono (fun r h => ⟨fun c => (h c).2, sem_eq_zero_of_no_sems (by decide) r.2⟩)
    (Cert.EmbeddedPlainIdeal.Value.run (F := Ideal) m ρ)

/-! ## The short convolution -/

theorem bodies_short : Cert.Short.defs₀ (F := Bits) = Cert.ShortIdeal.defs₀ (F := Bits) := by
  funext p ℓ a
  cases p with
  | tc =>
    match ℓ, a with
    | 0, _ => rfl
  | scScalar _ => rfl
  | scVector _ _ => rfl

theorem table_short : Cert.Short.defs (F := Bits) = Cert.ShortIdeal.defs (F := Bits) :=
  congrArg (Pipeline.defs (Cert.ShortIdeal.pcfgs (F := Bits))) bodies_short

theorem frame_short : Cert.quiescent_Short := fun m ρ _ => by
  have h := Cert.ShortIdeal.Gen.frame (F := Bits) m ρ
  rw [← table_short] at h
  exact (θ_run Cert.Short.defs _ _).mono (fun _ h => ⟨fun c => h.1 c, h.2⟩) h

theorem frame_shortIdeal : Cert.quiescent_ShortIdeal := fun m ρ _ => Cert.ShortIdeal.Gen.frame (F := Ideal) m ρ

theorem frame_shortRefIdeal : Cert.quiescent_ShortPlainIdeal := fun m ρ _ =>
  (θ_run Cert.ShortPlainIdeal.defs _ _).mono (fun r h => ⟨fun c => (h c).2.2.2.2.2, sem_eq_zero_of_no_sems (by decide) r.2⟩)
    (Cert.ShortPlainIdeal.Value.run (F := Ideal) m ρ)

/-! ## The gradient of the down product's weights -/

theorem bodies_gradDown : Cert.GradDown.defs₀ (F := Bits) = Cert.GradDownIdeal.defs₀ (F := Bits) := by
  funext p ℓ a
  cases p with
  | tc =>
    match ℓ, a with
    | 0, _ => rfl
  | scScalar _ => rfl
  | scVector _ _ => rfl

theorem table_gradDown : Cert.GradDown.defs (F := Bits) = Cert.GradDownIdeal.defs (F := Bits) :=
  congrArg (Pipeline.defs (Cert.GradDownIdeal.pcfgs (F := Bits))) bodies_gradDown

theorem frame_gradDown : Cert.quiescent_GradDown := fun m ρ _ => by
  have h := Cert.GradDownIdeal.Gen.frame (F := Bits) m ρ
  rw [← table_gradDown] at h
  exact (θ_run Cert.GradDown.defs _ _).mono (fun _ h => ⟨fun c => h.1 c, h.2⟩) h

theorem frame_gradDownIdeal : Cert.quiescent_GradDownIdeal := fun m ρ _ => Cert.GradDownIdeal.Gen.frame (F := Ideal) m ρ

theorem frame_gradDownRefIdeal : Cert.quiescent_GradDownPlainIdeal := fun m ρ _ =>
  (θ_run Cert.GradDownPlainIdeal.defs _ _).mono (fun r h => ⟨fun c => (h c).2, sem_eq_zero_of_no_sems (by decide) r.2⟩)
    (Cert.GradDownPlainIdeal.Value.run (F := Ideal) m ρ)

/-! ## The gradient of the projection's weights -/

theorem bodies_gradProj : Cert.GradProj.defs₀ (F := Bits) = Cert.GradProjIdeal.defs₀ (F := Bits) := by
  funext p ℓ a
  cases p with
  | tc =>
    match ℓ, a with
    | 0, _ => rfl
  | scScalar _ => rfl
  | scVector _ _ => rfl

theorem table_gradProj : Cert.GradProj.defs (F := Bits) = Cert.GradProjIdeal.defs (F := Bits) :=
  congrArg (Pipeline.defs (Cert.GradProjIdeal.pcfgs (F := Bits))) bodies_gradProj

theorem frame_gradProj : Cert.quiescent_GradProj := fun m ρ _ => by
  have h := Cert.GradProjIdeal.Gen.frame (F := Bits) m ρ
  rw [← table_gradProj] at h
  exact (θ_run Cert.GradProj.defs _ _).mono (fun _ h => ⟨fun c => h.1 c, h.2⟩) h

theorem frame_gradProjIdeal : Cert.quiescent_GradProjIdeal := fun m ρ _ => Cert.GradProjIdeal.Gen.frame (F := Ideal) m ρ

theorem frame_gradProjRefIdeal : Cert.quiescent_GradProjPlainIdeal := fun m ρ _ =>
  (θ_run Cert.GradProjPlainIdeal.defs _ _).mono (fun r h => ⟨fun c => (h c).2, sem_eq_zero_of_no_sems (by decide) r.2⟩)
    (Cert.GradProjPlainIdeal.Value.run (F := Ideal) m ρ)

/-! ## The gradient at the feed-forward part's input, by way of the gate -/

theorem bodies_gradPart : Cert.GradPart.defs₀ (F := Bits) = Cert.GradPartIdeal.defs₀ (F := Bits) := by
  funext p ℓ a
  cases p with
  | tc =>
    match ℓ, a with
    | 0, _ => rfl
  | scScalar _ => rfl
  | scVector _ _ => rfl

theorem table_gradPart : Cert.GradPart.defs (F := Bits) = Cert.GradPartIdeal.defs (F := Bits) :=
  congrArg (Pipeline.defs (Cert.GradPartIdeal.pcfgs (F := Bits))) bodies_gradPart

theorem frame_gradPart : Cert.quiescent_GradPart := fun m ρ _ => by
  have h := Cert.GradPartIdeal.Gen.frame (F := Bits) m ρ
  rw [← table_gradPart] at h
  exact (θ_run Cert.GradPart.defs _ _).mono (fun _ h => ⟨fun c => h.1 c, h.2⟩) h

theorem frame_gradPartIdeal : Cert.quiescent_GradPartIdeal := fun m ρ _ => Cert.GradPartIdeal.Gen.frame (F := Ideal) m ρ

theorem frame_gradPartRefIdeal : Cert.quiescent_GradPartPlainIdeal := fun m ρ _ =>
  (θ_run Cert.GradPartPlainIdeal.defs _ _).mono (fun r h => ⟨fun c => (h c).2, sem_eq_zero_of_no_sems (by decide) r.2⟩)
    (Cert.GradPartPlainIdeal.Value.run (F := Ideal) m ρ)

/-! ## The latent attention's queries, keys and values -/

theorem frame_latent : Cert.quiescent_Latent := fun m ρ _ => Cert.Latent.Gen.frame (F := Bits) m ρ

theorem frame_latentIdeal : Cert.quiescent_LatentIdeal := fun m ρ _ => Cert.LatentIdeal.Gen.frame (F := Ideal) m ρ

theorem frame_latentRefIdeal : Cert.quiescent_LatentPlainIdeal := fun m ρ _ =>
  (θ_run Cert.LatentPlainIdeal.defs _ _).mono (fun r h => ⟨fun c => (h c).2.2.2, sem_eq_zero_of_no_sems (by decide) r.2⟩)
    (Cert.LatentPlainIdeal.Value.run (F := Ideal) m ρ)

theorem preserves_latent : Cert.preserves_Latent_LatentIdeal :=
  IdealRules.named_const.statement Cert.LatentIdeal.κ "share" .f32 0x3B2AAAAB#32 ((1 / 384 : ℝ) : EReal) rfl

/-! ## All claims -/

theorem claim : Cert.Claim := ⟨Cert.Kernel.Gen.facts, Cert.KernelIdeal.Gen.facts, Cert.ReferenceIdeal.Gen.facts, Cert.Weights.Gen.facts, Cert.WeightsIdeal.Gen.facts, Cert.AllWeightsIdeal.Gen.facts, Cert.AllWeights.Gen.facts, Cert.Conv.Gen.facts, Cert.ConvIdeal.Gen.facts, Cert.AllConvIdeal.Gen.facts, Cert.AllConv.Gen.facts,
  Cert.GradIn.Gen.facts, Cert.GradInIdeal.Gen.facts, Cert.GradInPlainIdeal.Gen.facts, Cert.Loss.Gen.facts, Cert.LossIdeal.Gen.facts, Cert.LossPlainIdeal.Gen.facts,
  Cert.Gated.Gen.facts, Cert.GatedIdeal.Gen.facts, Cert.GatedPlainIdeal.Gen.facts,
  Cert.Down.Gen.facts, Cert.DownIdeal.Gen.facts, Cert.DownPlainIdeal.Gen.facts,
  Cert.GatedBack.Gen.facts, Cert.GatedBackIdeal.Gen.facts, Cert.GatedBackPlainIdeal.Gen.facts,
  Cert.GradGate.Gen.facts, Cert.GradGateIdeal.Gen.facts, Cert.GradGatePlainIdeal.Gen.facts,
  Cert.Attention.Gen.facts, Cert.AttentionIdeal.Gen.facts, Cert.AttentionPlainIdeal.Gen.facts,
  Cert.Project.Gen.facts, Cert.ProjectIdeal.Gen.facts, Cert.ProjectPlainIdeal.Gen.facts,
  Cert.Mixed.Gen.facts, Cert.MixedIdeal.Gen.facts, Cert.MixedPlainIdeal.Gen.facts,
  Cert.Embedded.Gen.facts, Cert.EmbeddedIdeal.Gen.facts, Cert.EmbeddedPlainIdeal.Gen.facts,
  Cert.Short.Gen.facts, Cert.ShortIdeal.Gen.facts, Cert.ShortPlainIdeal.Gen.facts,
  Cert.GradDown.Gen.facts, Cert.GradDownIdeal.Gen.facts, Cert.GradDownPlainIdeal.Gen.facts,
  Cert.GradProj.Gen.facts, Cert.GradProjIdeal.Gen.facts, Cert.GradProjPlainIdeal.Gen.facts,
  Cert.GradPart.Gen.facts, Cert.GradPartIdeal.Gen.facts, Cert.GradPartPlainIdeal.Gen.facts,
  Cert.Latent.Gen.facts, Cert.LatentIdeal.Gen.facts, Cert.LatentPlainIdeal.Gen.facts,
  facts_real_scores,
  frame_kernel, frame_ideal, frame_refIdeal,
  frame_weights, frame_weightsIdeal, frame_weightsRefIdeal, frame_weightsRef,
  frame_conv, frame_convIdeal, frame_convRefIdeal, frame_convRef,
  frame_gradIn, frame_gradInIdeal, frame_gradInRefIdeal, frame_loss, frame_lossIdeal, frame_lossRefIdeal,
  frame_gated, frame_gatedIdeal, frame_gatedRefIdeal,
  frame_down, frame_downIdeal, frame_downRefIdeal,
  frame_gatedBack, frame_gatedBackIdeal, frame_gatedBackRefIdeal,
  frame_gradGate, frame_gradGateIdeal, frame_gradGateRefIdeal,
  frame_attention, frame_attentionIdeal, frame_attentionIdealReal (hPre_real_scores := facts_real_scores),
  frame_attentionRefIdeal, frame_attentionRefIdealReal (hPre_real_scores := facts_real_scores),
  frame_project, frame_projectIdeal, frame_projectRefIdeal,
  frame_mixed, frame_mixedIdeal, frame_mixedRefIdeal,
  frame_embedded, frame_embeddedIdeal, frame_embeddedRefIdeal,
  frame_short, frame_shortIdeal, frame_shortRefIdeal,
  frame_gradDown, frame_gradDownIdeal, frame_gradDownRefIdeal,
  frame_gradProj, frame_gradProjIdeal, frame_gradProjRefIdeal,
  frame_gradPart, frame_gradPartIdeal, frame_gradPartRefIdeal,
  frame_latent, frame_latentIdeal, frame_latentRefIdeal,
  trivial, Cert.Exchange.agree, trivial, algebraic_weights, bitexact_weights, trivial, algebraic_conv, bitexact_conv,
  trivial, Cert.InputGrad.agree, trivial, Cert.LossValue.agree,
  trivial, Cert.GatedValue.agree, trivial, Cert.DownValue.agree, trivial, Cert.BackValue.agree, trivial, Cert.GateWeights.agree,
  preserves_attention, Cert.AttentionValue.agree (hPre_real_scores := facts_real_scores),
  trivial, Cert.ProjectValue.agree,
  trivial, Cert.MixedValue.agree,
  trivial, Cert.EmbeddedValue.agree,
  trivial, Cert.ShortValue.agree,
  trivial, Cert.DownWeights.agree,
  trivial, Cert.ProjWeights.agree,
  trivial, Cert.PartGrad.agree,
  preserves_latent, Cert.LatentValue.agree⟩

end Cert.Proof

end
